-- ==== Defs.lean ====
def Pre_Kernel [hPre_groups_in_order : Cert.Pre_groups_in_order.Facts] (m : (ℓ : Loc Cert.Kernel.nD Cert.Kernel.τ Cert.Kernel.sig) → Buf (Elt Bits) ℓ) : Prop :=
  ∀ c : Dev Cert.Kernel.nD,
    (Cert.Pre_groups_in_order.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_groups_in_order : Cert.Pre_groups_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_groups_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_groups_in_order : Cert.Pre_groups_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] [hPre_groups_in_order : Cert.Pre_groups_in_order.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_groups_in_order : Cert.Pre_groups_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] [hPre_groups_in_order : Cert.Pre_groups_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_groups_in_order : Cert.Pre_groups_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v145) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_groups_in_order : Cert.Pre_groups_in_order.Facts),
    quiescent_Kernel (hKernel := hKernel) (hPre_groups_in_order := hPre_groups_in_order)
    ∧ quiescent_KernelIdeal (hKernelIdeal := hKernelIdeal) (hPre_groups_in_order := hPre_groups_in_order)
    ∧ quiescent_ReferenceIdeal (hReferenceIdeal := hReferenceIdeal) (hPre_groups_in_order := hPre_groups_in_order)
    ∧ preserves_Kernel_KernelIdeal
    ∧ algebraic_KernelIdeal_ReferenceIdeal (hKernelIdeal := hKernelIdeal) (hReferenceIdeal := hReferenceIdeal) (hPre_groups_in_order := hPre_groups_in_order)
-- ==== Pre_groups_in_order.lean ====
abbrev S8192 : Shape := ⟨1, ![8192]⟩
abbrev S66048x128 : Shape := ⟨2, ![66048, 128]⟩
abbrev S2064x128 : Shape := ⟨2, ![2064, 128]⟩
abbrev S_ : Shape := ⟨0, ![]⟩
abbrev S256x256 : Shape := ⟨2, ![256, 256]⟩
abbrev S768x256 : Shape := ⟨2, ![768, 256]⟩
abbrev S256x128 : Shape := ⟨2, ![256, 128]⟩
abbrev S128 : Shape := ⟨1, ![128]⟩
abbrev S1x256 : Shape := ⟨2, ![1, 256]⟩
abbrev S1x128 : Shape := ⟨2, ![1, 128]⟩
abbrev S1 : Shape := ⟨1, ![1]⟩
abbrev S8191 : Shape := ⟨1, ![8191]⟩

class Facts : Prop where
  bcast_S_S8192 : S_.BroadcastsInDim S8192 (![] : Fin 0 → Fin S8192.rank)
  bcast_S_S1 : S_.BroadcastsInDim S1 (![] : Fin 0 → Fin S1.rank)
  slices_S8192_S8191_0 : S8192.Slices ![0] S8191
  concatenates_S1_S8191_S8192_d0 : Shape.Concatenates [S1, S8191] S8192 0

variable [Facts]

def fn_where {F : FTy → Type} [FloatOps F] (arg0 : IVec S8192 1) (arg1 : IVec S8192 32) (arg2 : IVec S8192 32) : IVec S8192 32 :=
  let v0 : IVec S8192 32 := select arg0 arg1 arg2
  v0

def fn_part2 {F : FTy → Type} [FloatOps F] (main_v1 : IVec S8192 32) (main_v9 : IVec S8192 1) (main_v24 : IVec S8192 1) (main_v33 : IVec S8192 32) : IVec S8192 1 :=
  let main_v34 : IVec S8192 1 := cmpi .eq main_v1 main_v33
  let main_v35 : IVec S8192 1 := andi main_v24 main_v34
  let main_v36 : IVec S8192 1 := noti main_v9
  let main_c_13 : IVec S_ 32 := constantI S_ 32 1023#32
  let main_v37 : IVec S8192 32 := broadcastInDim S8192 ![] bcast_S_S8192 main_c_13
  let main_v38 : IVec S8192 1 := cmpi .sge main_v1 main_v37
  let main_v39 : IVec S8192 1 := ori main_v36 main_v38
  let main_v40 : IVec S8192 1 := andi main_v35 main_v39
  main_v40

def fn_part1 {F : FTy → Type} [FloatOps F] (main_arg0 : IVec S8192 32) (main_v1 : IVec S8192 32) (main_v4 : IVec S8192 32) (main_v9 : IVec S8192 1) (main_v12 : IVec S_ 1) (main_v14 : IVec S8192 32) (main_v15 : IVec S8192 32) : IVec S8192 1 :=
  let main_v16 : IVec S8192 1 := cmpi .sle main_v14 main_v15
  let main_v17 : IVec S8192 1 := broadcastInDim S8192 ![] bcast_S_S8192 main_v12
  let main_v18 : IVec S8192 1 := andi main_v17 main_v16
  let main_c_7 : IVec S_ 32 := constantI S_ 32 0#32
  let main_v19 : IVec S8192 32 := broadcastInDim S8192 ![] bcast_S_S8192 main_c_7
  let main_v20 : IVec S8192 1 := cmpi .sge main_v1 main_v19
  let main_v21 : IVec S8192 1 := andi main_v18 main_v20
  let main_c_8 : IVec S_ 32 := constantI S_ 32 1024#32
  let main_v22 : IVec S8192 32 := broadcastInDim S8192 ![] bcast_S_S8192 main_c_8
  let main_v23 : IVec S8192 1 := cmpi .sle main_v1 main_v22
  let main_v24 : IVec S8192 1 := andi main_v21 main_v23
  let main_c_9 : IVec S_ 32 := constantI S_ 32 224#32
  let main_v25 : IVec S8192 32 := broadcastInDim S8192 ![] bcast_S_S8192 main_c_9
  let main_v26 : IVec S8192 32 := andi main_arg0 main_v25
  let main_c_10 : IVec S_ 32 := constantI S_ 32 0#32
  let main_v27 : IVec S8192 32 := broadcastInDim S8192 ![] bcast_S_S8192 main_c_10
  let main_v28 : IVec S8192 1 := cmpi .eq main_v26 main_v27
  let main_c_11 : IVec S_ 32 := constantI S_ 32 1#32
  let main_v29 : IVec S8192 32 := broadcastInDim S8192 ![] bcast_S_S8192 main_c_11
  let main_v30 : IVec S8192 32 := addi main_v4 main_v29
  let main_c_12 : IVec S_ 32 := constantI S_ 32 1024#32
  let main_v31 : IVec S8192 32 := broadcastInDim S8192 ![] bcast_S_S8192 main_c_12
  let main_v32 : IVec S8192 32 := minsi main_v30 main_v31
  let main_v33 : IVec S8192 32 := fn_where (F := F) main_v28 main_v32 main_v4
  fn_part2 (F := F) main_v1 main_v9 main_v24 main_v33

def fn {F : FTy → Type} [FloatOps F] (main_arg0 : IVec S8192 32) (main_arg1 : IVec S66048x128 32) (main_arg2 : IVec S2064x128 32) (main_arg3 : IVec S66048x128 32) (main_arg4 : IVec S2064x128 32) (main_arg5 : IVec S_ 32) (main_arg6 : FVec F S256x256 .bf16) (main_arg7 : FVec F S768x256 .bf16) (main_arg8 : FVec F S256x128 .bf16) (main_arg9 : FVec F S128 .bf16) (main_arg10 : FVec F S1x256 .f32) (main_arg11 : FVec F S1x256 .f32) (main_arg12 : FVec F S1x128 .f32) : IVec S8192 1 :=
  let main_c : IVec S_ 32 := constantI S_ 32 8#32
  let main_v0 : IVec S8192 32 := broadcastInDim S8192 ![] bcast_S_S8192 main_c
  let main_v1 : IVec S8192 32 := Host.shrsi main_arg0 main_v0
  let main_c_0 : IVec S_ 32 := constantI S_ 32 4294967295#32
  let main_v2 : IVec S1 32 := broadcastInDim S1 ![] bcast_S_S1 main_c_0
  let main_v3 : IVec S8191 32 := (extractStridedSlice S8191 ![0] · slices_S8192_S8191_0) main_v1
  let main_v4 : IVec S8192 32 := (fun a b => concatenate S8192 0 [⟨S1, a⟩, ⟨S8191, b⟩] concatenates_S1_S8191_S8192_d0) main_v2 main_v3
  let main_v5 : IVec S8192 32 := iotaInDim S8192 32 0
  let main_c_1 : IVec S_ 32 := constantI S_ 32 64#32
  let main_v6 : IVec S_ 32 := muli main_arg5 main_c_1
  let main_c_2 : IVec S_ 32 := constantI S_ 32 1#32
  let main_v7 : IVec S_ 32 := subi main_v6 main_c_2
  let main_v8 : IVec S8192 32 := broadcastInDim S8192 ![] bcast_S_S8192 main_v7
  let main_v9 : IVec S8192 1 := cmpi .eq main_v5 main_v8
  let main_c_3 : IVec S_ 32 := constantI S_ 32 1#32
  let main_v10 : IVec S_ 1 := cmpi .sge main_arg5 main_c_3
  let main_c_4 : IVec S_ 32 := constantI S_ 32 128#32
  let main_v11 : IVec S_ 1 := cmpi .sle main_arg5 main_c_4
  let main_v12 : IVec S_ 1 := andi main_v10 main_v11
  let main_c_5 : IVec S_ 32 := constantI S_ 32 31#32
  let main_v13 : IVec S8192 32 := broadcastInDim S8192 ![] bcast_S_S8192 main_c_5
  let main_v14 : IVec S8192 32 := andi main_arg0 main_v13
  let main_c_6 : IVec S_ 32 := constantI S_ 32 16#32
  let main_v15 : IVec S8192 32 := broadcastInDim S8192 ![] bcast_S_S8192 main_c_6
  fn_part1 (F := F) main_arg0 main_v1 main_v4 main_v9 main_v12 main_v14 main_v15
-- ==== Kernel.lean ====
abbrev S8192 : Shape := ⟨1, ![8192]⟩
abbrev S66048x128 : Shape := ⟨2, ![66048, 128]⟩
abbrev S2064x128 : Shape := ⟨2, ![2064, 128]⟩
abbrev S_ : Shape := ⟨0, ![]⟩
abbrev S256x256 : Shape := ⟨2, ![256, 256]⟩
abbrev S768x256 : Shape := ⟨2, ![768, 256]⟩
abbrev S256x128 : Shape := ⟨2, ![256, 128]⟩
abbrev S128 : Shape := ⟨1, ![128]⟩
abbrev S1x256 : Shape := ⟨2, ![1, 256]⟩
abbrev S1x128 : Shape := ⟨2, ![1, 128]⟩
abbrev S128x1 : Shape := ⟨2, ![128, 1]⟩
abbrev S128x128 : Shape := ⟨2, ![128, 128]⟩
abbrev S128x256 : Shape := ⟨2, ![128, 256]⟩
abbrev S1024x256 : Shape := ⟨2, ![1024, 256]⟩
abbrev S1024x128 : Shape := ⟨2, ![1024, 128]⟩
abbrev S512x128 : Shape := ⟨2, ![512, 128]⟩
abbrev S16x128 : Shape := ⟨2, ![16, 128]⟩
abbrev S1032x128 : Shape := ⟨2, ![1032, 128]⟩
abbrev S2x1024x128 : Shape := ⟨3, ![2, 1024, 128]⟩
abbrev S6x1024x128 : Shape := ⟨3, ![6, 1024, 128]⟩
abbrev S272x128 : Shape := ⟨2, ![272, 128]⟩
abbrev S3x8200x128 : Shape := ⟨3, ![3, 8200, 128]⟩
abbrev S3x8x128 : Shape := ⟨3, ![3, 8, 128]⟩
abbrev S8x128 : Shape := ⟨2, ![8, 128]⟩
abbrev S32x128 : Shape := ⟨2, ![32, 128]⟩
abbrev S8x128x1 : Shape := ⟨3, ![8, 128, 1]⟩
abbrev S1x16x128 : Shape := ⟨3, ![1, 16, 128]⟩
abbrev S1x256x128 : Shape := ⟨3, ![1, 256, 128]⟩
abbrev S1x8x128 : Shape := ⟨3, ![1, 8, 128]⟩
abbrev S1 : Shape := ⟨1, ![1]⟩
abbrev S256x768 : Shape := ⟨2, ![256, 768]⟩

abbrev nBuf : Space → Nat
  | .hbm => 20
  | .vmem => 26
  | .smem => 2
  | _ => 0

abbrev bufTy : (tb : Table) → Fin (tcTables nBuf tb) → BufTy
  | .hbm, ⟨0, _⟩ => ⟨S66048x128, .i32⟩
  | .hbm, ⟨1, _⟩ => ⟨S2064x128, .i32⟩
  | .hbm, ⟨2, _⟩ => ⟨S66048x128, .i32⟩
  | .hbm, ⟨3, _⟩ => ⟨S2064x128, .i32⟩
  | .hbm, ⟨4, _⟩ => ⟨S256x256, .bf16⟩
  | .hbm, ⟨5, _⟩ => ⟨S768x256, .bf16⟩
  | .hbm, ⟨6, _⟩ => ⟨S256x128, .bf16⟩
  | .hbm, ⟨7, _⟩ => ⟨S128, .bf16⟩
  | .hbm, ⟨8, _⟩ => ⟨S1x256, .f32⟩
  | .hbm, ⟨9, _⟩ => ⟨S1x256, .f32⟩
  | .hbm, ⟨10, _⟩ => ⟨S1x128, .f32⟩
  | .hbm, ⟨11, _⟩ => ⟨S128x1, .bf16⟩
  | .hbm, ⟨12, _⟩ => ⟨S128x128, .bf16⟩
  | .hbm, ⟨13, _⟩ => ⟨S_, .bf16⟩
  | .hbm, ⟨14, _⟩ => ⟨S128x128, .bf16⟩
  | .hbm, ⟨15, _⟩ => ⟨S128x256, .bf16⟩
  | .hbm, ⟨16, _⟩ => ⟨S128x256, .bf16⟩
  | .hbm, ⟨17, _⟩ => ⟨S256x256, .bf16⟩
  | .hbm, ⟨18, _⟩ => ⟨S1024x256, .bf16⟩
  | .hbm, ⟨19, _⟩ => ⟨S1024x128, .f32⟩
  | .local _ .vmem, ⟨0, _⟩ => ⟨S512x128, .i32⟩
  | .local _ .vmem, ⟨1, _⟩ => ⟨S512x128, .i32⟩
  | .local _ .vmem, ⟨2, _⟩ => ⟨S16x128, .i32⟩
  | .local _ .vmem, ⟨3, _⟩ => ⟨S16x128, .i32⟩
  | .local _ .vmem, ⟨4, _⟩ => ⟨S512x128, .i32⟩
  | .local _ .vmem, ⟨5, _⟩ => ⟨S16x128, .i32⟩
  | .local _ .vmem, ⟨6, _⟩ => ⟨S256x256, .bf16⟩
  | .local _ .vmem, ⟨7, _⟩ => ⟨S768x256, .bf16⟩
  | .local _ .vmem, ⟨8, _⟩ => ⟨S256x128, .bf16⟩
  | .local _ .vmem, ⟨9, _⟩ => ⟨S256x256, .bf16⟩
  | .local _ .vmem, ⟨10, _⟩ => ⟨S1x256, .f32⟩
  | .local _ .vmem, ⟨11, _⟩ => ⟨S1x256, .f32⟩
  | .local _ .vmem, ⟨12, _⟩ => ⟨S1x128, .f32⟩
  | .local _ .vmem, ⟨13, _⟩ => ⟨S1024x256, .bf16⟩
  | .local _ .vmem, ⟨14, _⟩ => ⟨S1024x128, .f32⟩
  | .local _ .vmem, ⟨15, _⟩ => ⟨S1032x128, .bf16⟩
  | .local _ .vmem, ⟨16, _⟩ => ⟨S1032x128, .bf16⟩
  | .local _ .vmem, ⟨17, _⟩ => ⟨S2x1024x128, .bf16⟩
  | .local _ .vmem, ⟨18, _⟩ => ⟨S1032x128, .f32⟩
  | .local _ .vmem, ⟨19, _⟩ => ⟨S1032x128, .f32⟩
  | .local _ .vmem, ⟨20, _⟩ => ⟨S6x1024x128, .bf16⟩
  | .local _ .vmem, ⟨21, _⟩ => ⟨S272x128, .i32⟩
  | .local _ .vmem, ⟨22, _⟩ => ⟨S3x8200x128, .f32⟩
  | .local _ .vmem, ⟨23, _⟩ => ⟨S3x8x128, .f32⟩
  | .local _ .vmem, ⟨24, _⟩ => ⟨S256x256, .f32⟩
  | .local _ .vmem, ⟨25, _⟩ => ⟨S256x128, .f32⟩
  | .local _ .smem, ⟨0, _⟩ => ⟨S_, .i32⟩
  | .local _ .smem, ⟨1, _⟩ => ⟨S8192, .i32⟩
  | _, _ => ⟨S66048x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_arg9 : Ref sig .tc := ⟨.hbm, 7, rfl⟩
abbrev main_arg10 : Ref sig .tc := ⟨.hbm, 8, rfl⟩
abbrev main_arg11 : Ref sig .tc := ⟨.hbm, 9, rfl⟩
abbrev main_arg12 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_arg5 : Ref sig .tc := ⟨.smem, 0, rfl⟩
abbrev main_arg0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_scratch10 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14

abbrev nD : Nat := 1
abbrev τ : Topo := Topo.v7x

variable {F : FTy → Type} [FloatOps F]

abbrev grid0 : Pipeline.Grid := ⟨1, ![0], ![true]⟩

abbrev pre0 : Pipeline.Prefetch sig := ⟨2, ![main_arg5.idx, main_arg0.idx], fun | 0 => main_arg5.names | 1 => main_arg0.names | ⟨_ + 2, h⟩ => absurd h (Nat.not_lt.2 (Nat.le_add_left _ _)), fun | 0 => rfl | 1 => rfl | ⟨_ + 2, h⟩ => absurd h (Nat.not_lt.2 (Nat.le_add_left _ _))⟩

def dynb0 (pf : pre0.Contents (Elt F)) : grid0.Bounds := ![(pf 0 fun a => a.elim0).toNat]

@[reducible] def k0_t1_loop : Scf.Loop 32 :=
  let c0_i32_23 : BitVec 32 := 0#32
  let c17_i32 : BitVec 32 := 17#32
  let v31 : BitVec 32 := Scalar.addi c0_i32_23 c17_i32
  let c1_i32_24 : BitVec 32 := 1#32
  ⟨c0_i32_23, v31, c1_i32_24⟩
def k0_mult1 (k0_t1 : Fin k0_t1_loop.trips) : BitVec 32 :=
  let c0_i32_45 : BitVec 32 := 0#32
  let c0_i32_23 : BitVec 32 := 0#32
  let c1_i32_24 : BitVec 32 := 1#32
  let arg26 : BitVec 32 := Scf.iv c0_i32_23 c1_i32_24 k0_t1
  let c1_i32_44 : BitVec 32 := 1#32
  let v50 : BitVec 32 := Scalar.muli arg26 c1_i32_44
  let v51 : BitVec 32 := Scalar.addi c0_i32_45 v50
  let c16_i32_47 : BitVec 32 := 16#32
  let v59 : BitVec 32 := Scalar.muli v51 c16_i32_47
  let c0_i32_48 : BitVec 32 := 0#32
  let v60 : BitVec 32 := Scalar.addi v59 c0_i32_48
  v60
def k0_off1 (k0_t1 : Fin k0_t1_loop.trips) (c0_i32_48 : BitVec 32) : Fin 2 → Nat :=
  let c0_i32_45 : BitVec 32 := 0#32
  let c0_i32_23 : BitVec 32 := 0#32
  let c1_i32_24 : BitVec 32 := 1#32
  let arg26 : BitVec 32 := Scf.iv c0_i32_23 c1_i32_24 k0_t1
  let c1_i32_44 : BitVec 32 := 1#32
  let v50 : BitVec 32 := Scalar.muli arg26 c1_i32_44
  let v51 : BitVec 32 := Scalar.addi c0_i32_45 v50
  let c16_i32_47 : BitVec 32 := 16#32
  let v59 : BitVec 32 := Scalar.muli v51 c16_i32_47
  let v60 : BitVec 32 := Scalar.addi v59 c0_i32_48
  let v61 : BitVec 32 := v60
  let v62 : Index := Scalar.indexCast v61
  let c0_49 : Index := 0#32
  ![v62.toNat, 0]
def k0_mult2 (k0_t1 : Fin k0_t1_loop.trips) : BitVec 32 :=
  let c0_i32_45 : BitVec 32 := 0#32
  let c0_i32_23 : BitVec 32 := 0#32
  let c1_i32_24 : BitVec 32 := 1#32
  let arg26 : BitVec 32 := Scf.iv c0_i32_23 c1_i32_24 k0_t1
  let c1_i32_44 : BitVec 32 := 1#32
  let v50 : BitVec 32 := Scalar.muli arg26 c1_i32_44
  let v51 : BitVec 32 := Scalar.addi c0_i32_45 v50
  let c16_i32_51 : BitVec 32 := 16#32
  let v73 : BitVec 32 := Scalar.muli v51 c16_i32_51
  let c8_i32_52 : BitVec 32 := 8#32
  let v74 : BitVec 32 := Scalar.addi v73 c8_i32_52
  v74
@[reducible] def k0_t2_loop : Scf.Loop 32 :=
  let c0_i32_26 : BitVec 32 := 0#32
  let c16_i32 : BitVec 32 := 16#32
  let v32 : BitVec 32 := Scalar.addi c0_i32_26 c16_i32
  let c1_i32_27 : BitVec 32 := 1#32
  ⟨c0_i32_26, v32, c1_i32_27⟩
def k0_off2 (k0_t2 : Fin k0_t2_loop.trips) : Fin 2 → Nat :=
  let c0_i32_45 : BitVec 32 := 0#32
  let c0_i32_26 : BitVec 32 := 0#32
  let c1_i32_27 : BitVec 32 := 1#32
  let arg26 : BitVec 32 := Scf.iv c0_i32_26 c1_i32_27 k0_t2
  let c1_i32_44 : BitVec 32 := 1#32
  let v50 : BitVec 32 := Scalar.muli arg26 c1_i32_44
  let v51 : BitVec 32 := Scalar.addi c0_i32_45 v50
  let v52 : Index := Scalar.indexCast v51
  let c0_46 : Index := 0#32
  ![v52.toNat, 0]
def k0_off3 (k0_t2 : Fin k0_t2_loop.trips) (c0_i32_48 : BitVec 32) : Fin 2 → Nat :=
  let c0_i32_45 : BitVec 32 := 0#32
  let c0_i32_26 : BitVec 32 := 0#32
  let c1_i32_27 : BitVec 32 := 1#32
  let arg26 : BitVec 32 := Scf.iv c0_i32_26 c1_i32_27 k0_t2
  let c1_i32_44 : BitVec 32 := 1#32
  let v50 : BitVec 32 := Scalar.muli arg26 c1_i32_44
  let v51 : BitVec 32 := Scalar.addi c0_i32_45 v50
  let c4_i32_47 : BitVec 32 := 4#32
  let v54 : BitVec 32 := Scalar.muli v51 c4_i32_47
  let v55 : BitVec 32 := Scalar.addi v54 c0_i32_48
  let c8_i32 : BitVec 32 := 8#32
  let v56 : BitVec 32 := Scalar.muli v55 c8_i32
  let v57 : Index := Scalar.indexCast v56
  let c0_49 : Index := 0#32
  ![v57.toNat, 0]
def k0_mult3 (k0_t2 : Fin k0_t2_loop.trips) : BitVec 32 :=
  let c0_i32_45 : BitVec 32 := 0#32
  let c0_i32_26 : BitVec 32 := 0#32
  let c1_i32_27 : BitVec 32 := 1#32
  let arg26 : BitVec 32 := Scf.iv c0_i32_26 c1_i32_27 k0_t2
  let c1_i32_44 : BitVec 32 := 1#32
  let v50 : BitVec 32 := Scalar.muli arg26 c1_i32_44
  let v51 : BitVec 32 := Scalar.addi c0_i32_45 v50
  let c4_i32_47 : BitVec 32 := 4#32
  let v54 : BitVec 32 := Scalar.muli v51 c4_i32_47
  let c0_i32_48 : BitVec 32 := 0#32
  let v55 : BitVec 32 := Scalar.addi v54 c0_i32_48
  let c16_i32_59 : BitVec 32 := 16#32
  let v105 : BitVec 32 := Scalar.muli v55 c16_i32_59
  v105
def k0_off4 (k0_t2 : Fin k0_t2_loop.trips) (c0_i32_48 : BitVec 32) : Fin 3 → Nat :=
  let c0_60 : Index := 0#32
  let c0_i32_45 : BitVec 32 := 0#32
  let c0_i32_26 : BitVec 32 := 0#32
  let c1_i32_27 : BitVec 32 := 1#32
  let arg26 : BitVec 32 := Scf.iv c0_i32_26 c1_i32_27 k0_t2
  let c1_i32_44 : BitVec 32 := 1#32
  let v50 : BitVec 32 := Scalar.muli arg26 c1_i32_44
  let v51 : BitVec 32 := Scalar.addi c0_i32_45 v50
  let c4_i32_47 : BitVec 32 := 4#32
  let v54 : BitVec 32 := Scalar.muli v51 c4_i32_47
  let v55 : BitVec 32 := Scalar.addi v54 c0_i32_48
  let c16_i32_59 : BitVec 32 := 16#32
  let v105 : BitVec 32 := Scalar.muli v55 c16_i32_59
  let v106 : BitVec 32 := v105
  let v107 : Index := Scalar.indexCast v106
  let c0_61 : Index := 0#32
  ![0, v107.toNat, 0]
def k0_mult4 (k0_t2 : Fin k0_t2_loop.trips) : BitVec 32 :=
  let c0_i32_45 : BitVec 32 := 0#32
  let c0_i32_26 : BitVec 32 := 0#32
  let c1_i32_27 : BitVec 32 := 1#32
  let arg26 : BitVec 32 := Scf.iv c0_i32_26 c1_i32_27 k0_t2
  let c1_i32_44 : BitVec 32 := 1#32
  let v50 : BitVec 32 := Scalar.muli arg26 c1_i32_44
  let v51 : BitVec 32 := Scalar.addi c0_i32_45 v50
  let c4_i32_47 : BitVec 32 := 4#32
  let v54 : BitVec 32 := Scalar.muli v51 c4_i32_47
  let c0_i32_48 : BitVec 32 := 0#32
  let v55 : BitVec 32 := Scalar.addi v54 c0_i32_48
  let c16_i32_62 : BitVec 32 := 16#32
  let v111 : BitVec 32 := Scalar.muli v55 c16_i32_62
  v111
def k0_off5 (k0_t2 : Fin k0_t2_loop.trips) (c0_i32_48 : BitVec 32) : Fin 2 → Nat :=
  let c0_i32_45 : BitVec 32 := 0#32
  let c0_i32_26 : BitVec 32 := 0#32
  let c1_i32_27 : BitVec 32 := 1#32
  let arg26 : BitVec 32 := Scf.iv c0_i32_26 c1_i32_27 k0_t2
  let c1_i32_44 : BitVec 32 := 1#32
  let v50 : BitVec 32 := Scalar.muli arg26 c1_i32_44
  let v51 : BitVec 32 := Scalar.addi c0_i32_45 v50
  let c4_i32_47 : BitVec 32 := 4#32
  let v54 : BitVec 32 := Scalar.muli v51 c4_i32_47
  let v55 : BitVec 32 := Scalar.addi v54 c0_i32_48
  let c16_i32_62 : BitVec 32 := 16#32
  let v111 : BitVec 32 := Scalar.muli v55 c16_i32_62
  let v112 : BitVec 32 := v111
  let v113 : Index := Scalar.indexCast v112
  let c0_63 : Index := 0#32
  ![v113.toNat, 0]
def k0_mult5 (k0_t2 : Fin k0_t2_loop.trips) : BitVec 32 :=
  let c0_i32_45 : BitVec 32 := 0#32
  let c0_i32_26 : BitVec 32 := 0#32
  let c1_i32_27 : BitVec 32 := 1#32
  let arg26 : BitVec 32 := Scf.iv c0_i32_26 c1_i32_27 k0_t2
  let c1_i32_44 : BitVec 32 := 1#32
  let v50 : BitVec 32 := Scalar.muli arg26 c1_i32_44
  let v51 : BitVec 32 := Scalar.addi c0_i32_45 v50
  let c4_i32_47 : BitVec 32 := 4#32
  let v54 : BitVec 32 := Scalar.muli v51 c4_i32_47
  let c0_i32_48 : BitVec 32 := 0#32
  let v55 : BitVec 32 := Scalar.addi v54 c0_i32_48
  let c16_i32_64 : BitVec 32 := 16#32
  let v117 : BitVec 32 := Scalar.muli v55 c16_i32_64
  v117
def k0_off6 (k0_t2 : Fin k0_t2_loop.trips) (c0_i32_48 : BitVec 32) : Fin 3 → Nat :=
  let c1_65 : Index := 1#32
  let c0_i32_45 : BitVec 32 := 0#32
  let c0_i32_26 : BitVec 32 := 0#32
  let c1_i32_27 : BitVec 32 := 1#32
  let arg26 : BitVec 32 := Scf.iv c0_i32_26 c1_i32_27 k0_t2
  let c1_i32_44 : BitVec 32 := 1#32
  let v50 : BitVec 32 := Scalar.muli arg26 c1_i32_44
  let v51 : BitVec 32 := Scalar.addi c0_i32_45 v50
  let c4_i32_47 : BitVec 32 := 4#32
  let v54 : BitVec 32 := Scalar.muli v51 c4_i32_47
  let v55 : BitVec 32 := Scalar.addi v54 c0_i32_48
  let c16_i32_64 : BitVec 32 := 16#32
  let v117 : BitVec 32 := Scalar.muli v55 c16_i32_64
  let v118 : BitVec 32 := v117
  let v119 : Index := Scalar.indexCast v118
  let c0_66 : Index := 0#32
  ![1, v119.toNat, 0]
def k0_mult6 (k0_t2 : Fin k0_t2_loop.trips) : BitVec 32 :=
  let c0_i32_45 : BitVec 32 := 0#32
  let c0_i32_26 : BitVec 32 := 0#32
  let c1_i32_27 : BitVec 32 := 1#32
  let arg26 : BitVec 32 := Scf.iv c0_i32_26 c1_i32_27 k0_t2
  let c1_i32_44 : BitVec 32 := 1#32
  let v50 : BitVec 32 := Scalar.muli arg26 c1_i32_44
  let v51 : BitVec 32 := Scalar.addi c0_i32_45 v50
  let c4_i32_47 : BitVec 32 := 4#32
  let v54 : BitVec 32 := Scalar.muli v51 c4_i32_47
  let c0_i32_48 : BitVec 32 := 0#32
  let v55 : BitVec 32 := Scalar.addi v54 c0_i32_48
  let c16_i32_67 : BitVec 32 := 16#32
  let v123 : BitVec 32 := Scalar.muli v55 c16_i32_67
  v123
def k0_mult7 (k0_t2 : Fin k0_t2_loop.trips) : BitVec 32 :=
  let c0_i32_45 : BitVec 32 := 0#32
  let c0_i32_26 : BitVec 32 := 0#32
  let c1_i32_27 : BitVec 32 := 1#32
  let arg26 : BitVec 32 := Scf.iv c0_i32_26 c1_i32_27 k0_t2
  let c1_i32_44 : BitVec 32 := 1#32
  let v50 : BitVec 32 := Scalar.muli arg26 c1_i32_44
  let v51 : BitVec 32 := Scalar.addi c0_i32_45 v50
  let c4_i32_69 : BitVec 32 := 4#32
  let v129 : BitVec 32 := Scalar.muli v51 c4_i32_69
  let c1_i32_70 : BitVec 32 := 1#32
  let v130 : BitVec 32 := Scalar.addi v129 c1_i32_70
  let c16_i32_84 : BitVec 32 := 16#32
  let v180 : BitVec 32 := Scalar.muli v130 c16_i32_84
  v180
def k0_mult8 (k0_t2 : Fin k0_t2_loop.trips) : BitVec 32 :=
  let c0_i32_45 : BitVec 32 := 0#32
  let c0_i32_26 : BitVec 32 := 0#32
  let c1_i32_27 : BitVec 32 := 1#32
  let arg26 : BitVec 32 := Scf.iv c0_i32_26 c1_i32_27 k0_t2
  let c1_i32_44 : BitVec 32 := 1#32
  let v50 : BitVec 32 := Scalar.muli arg26 c1_i32_44
  let v51 : BitVec 32 := Scalar.addi c0_i32_45 v50
  let c4_i32_69 : BitVec 32 := 4#32
  let v129 : BitVec 32 := Scalar.muli v51 c4_i32_69
  let c1_i32_70 : BitVec 32 := 1#32
  let v130 : BitVec 32 := Scalar.addi v129 c1_i32_70
  let c16_i32_87 : BitVec 32 := 16#32
  let v186 : BitVec 32 := Scalar.muli v130 c16_i32_87
  v186
def k0_mult9 (k0_t2 : Fin k0_t2_loop.trips) : BitVec 32 :=
  let c0_i32_45 : BitVec 32 := 0#32
  let c0_i32_26 : BitVec 32 := 0#32
  let c1_i32_27 : BitVec 32 := 1#32
  let arg26 : BitVec 32 := Scf.iv c0_i32_26 c1_i32_27 k0_t2
  let c1_i32_44 : BitVec 32 := 1#32
  let v50 : BitVec 32 := Scalar.muli arg26 c1_i32_44
  let v51 : BitVec 32 := Scalar.addi c0_i32_45 v50
  let c4_i32_69 : BitVec 32 := 4#32
  let v129 : BitVec 32 := Scalar.muli v51 c4_i32_69
  let c1_i32_70 : BitVec 32 := 1#32
  let v130 : BitVec 32 := Scalar.addi v129 c1_i32_70
  let c16_i32_89 : BitVec 32 := 16#32
  let v192 : BitVec 32 := Scalar.muli v130 c16_i32_89
  v192
def k0_mult10 (k0_t2 : Fin k0_t2_loop.trips) : BitVec 32 :=
  let c0_i32_45 : BitVec 32 := 0#32
  let c0_i32_26 : BitVec 32 := 0#32
  let c1_i32_27 : BitVec 32 := 1#32
  let arg26 : BitVec 32 := Scf.iv c0_i32_26 c1_i32_27 k0_t2
  let c1_i32_44 : BitVec 32 := 1#32
  let v50 : BitVec 32 := Scalar.muli arg26 c1_i32_44
  let v51 : BitVec 32 := Scalar.addi c0_i32_45 v50
  let c4_i32_69 : BitVec 32 := 4#32
  let v129 : BitVec 32 := Scalar.muli v51 c4_i32_69
  let c1_i32_70 : BitVec 32 := 1#32
  let v130 : BitVec 32 := Scalar.addi v129 c1_i32_70
  let c16_i32_92 : BitVec 32 := 16#32
  let v198 : BitVec 32 := Scalar.muli v130 c16_i32_92
  v198
def k0_mult11 (k0_t2 : Fin k0_t2_loop.trips) : BitVec 32 :=
  let c0_i32_45 : BitVec 32 := 0#32
  let c0_i32_26 : BitVec 32 := 0#32
  let c1_i32_27 : BitVec 32 := 1#32
  let arg26 : BitVec 32 := Scf.iv c0_i32_26 c1_i32_27 k0_t2
  let c1_i32_44 : BitVec 32 := 1#32
  let v50 : BitVec 32 := Scalar.muli arg26 c1_i32_44
  let v51 : BitVec 32 := Scalar.addi c0_i32_45 v50
  let c4_i32_94 : BitVec 32 := 4#32
  let v204 : BitVec 32 := Scalar.muli v51 c4_i32_94
  let c2_i32_95 : BitVec 32 := 2#32
  let v205 : BitVec 32 := Scalar.addi v204 c2_i32_95
  let c16_i32_109 : BitVec 32 := 16#32
  let v255 : BitVec 32 := Scalar.muli v205 c16_i32_109
  v255
def k0_mult12 (k0_t2 : Fin k0_t2_loop.trips) : BitVec 32 :=
  let c0_i32_45 : BitVec 32 := 0#32
  let c0_i32_26 : BitVec 32 := 0#32
  let c1_i32_27 : BitVec 32 := 1#32
  let arg26 : BitVec 32 := Scf.iv c0_i32_26 c1_i32_27 k0_t2
  let c1_i32_44 : BitVec 32 := 1#32
  let v50 : BitVec 32 := Scalar.muli arg26 c1_i32_44
  let v51 : BitVec 32 := Scalar.addi c0_i32_45 v50
  let c4_i32_94 : BitVec 32 := 4#32
  let v204 : BitVec 32 := Scalar.muli v51 c4_i32_94
  let c2_i32_95 : BitVec 32 := 2#32
  let v205 : BitVec 32 := Scalar.addi v204 c2_i32_95
  let c16_i32_112 : BitVec 32 := 16#32
  let v261 : BitVec 32 := Scalar.muli v205 c16_i32_112
  v261
def k0_mult13 (k0_t2 : Fin k0_t2_loop.trips) : BitVec 32 :=
  let c0_i32_45 : BitVec 32 := 0#32
  let c0_i32_26 : BitVec 32 := 0#32
  let c1_i32_27 : BitVec 32 := 1#32
  let arg26 : BitVec 32 := Scf.iv c0_i32_26 c1_i32_27 k0_t2
  let c1_i32_44 : BitVec 32 := 1#32
  let v50 : BitVec 32 := Scalar.muli arg26 c1_i32_44
  let v51 : BitVec 32 := Scalar.addi c0_i32_45 v50
  let c4_i32_94 : BitVec 32 := 4#32
  let v204 : BitVec 32 := Scalar.muli v51 c4_i32_94
  let c2_i32_95 : BitVec 32 := 2#32
  let v205 : BitVec 32 := Scalar.addi v204 c2_i32_95
  let c16_i32_114 : BitVec 32 := 16#32
  let v267 : BitVec 32 := Scalar.muli v205 c16_i32_114
  v267
def k0_mult14 (k0_t2 : Fin k0_t2_loop.trips) : BitVec 32 :=
  let c0_i32_45 : BitVec 32 := 0#32
  let c0_i32_26 : BitVec 32 := 0#32
  let c1_i32_27 : BitVec 32 := 1#32
  let arg26 : BitVec 32 := Scf.iv c0_i32_26 c1_i32_27 k0_t2
  let c1_i32_44 : BitVec 32 := 1#32
  let v50 : BitVec 32 := Scalar.muli arg26 c1_i32_44
  let v51 : BitVec 32 := Scalar.addi c0_i32_45 v50
  let c4_i32_94 : BitVec 32 := 4#32
  let v204 : BitVec 32 := Scalar.muli v51 c4_i32_94
  let c2_i32_95 : BitVec 32 := 2#32
  let v205 : BitVec 32 := Scalar.addi v204 c2_i32_95
  let c16_i32_117 : BitVec 32 := 16#32
  let v273 : BitVec 32 := Scalar.muli v205 c16_i32_117
  v273
def k0_mult15 (k0_t2 : Fin k0_t2_loop.trips) : BitVec 32 :=
  let c0_i32_45 : BitVec 32 := 0#32
  let c0_i32_26 : BitVec 32 := 0#32
  let c1_i32_27 : BitVec 32 := 1#32
  let arg26 : BitVec 32 := Scf.iv c0_i32_26 c1_i32_27 k0_t2
  let c1_i32_44 : BitVec 32 := 1#32
  let v50 : BitVec 32 := Scalar.muli arg26 c1_i32_44
  let v51 : BitVec 32 := Scalar.addi c0_i32_45 v50
  let c4_i32_119 : BitVec 32 := 4#32
  let v279 : BitVec 32 := Scalar.muli v51 c4_i32_119
  let c3_i32 : BitVec 32 := 3#32
  let v280 : BitVec 32 := Scalar.addi v279 c3_i32
  let c16_i32_133 : BitVec 32 := 16#32
  let v330 : BitVec 32 := Scalar.muli v280 c16_i32_133
  v330
def k0_mult16 (k0_t2 : Fin k0_t2_loop.trips) : BitVec 32 :=
  let c0_i32_45 : BitVec 32 := 0#32
  let c0_i32_26 : BitVec 32 := 0#32
  let c1_i32_27 : BitVec 32 := 1#32
  let arg26 : BitVec 32 := Scf.iv c0_i32_26 c1_i32_27 k0_t2
  let c1_i32_44 : BitVec 32 := 1#32
  let v50 : BitVec 32 := Scalar.muli arg26 c1_i32_44
  let v51 : BitVec 32 := Scalar.addi c0_i32_45 v50
  let c4_i32_119 : BitVec 32 := 4#32
  let v279 : BitVec 32 := Scalar.muli v51 c4_i32_119
  let c3_i32 : BitVec 32 := 3#32
  let v280 : BitVec 32 := Scalar.addi v279 c3_i32
  let c16_i32_136 : BitVec 32 := 16#32
  let v336 : BitVec 32 := Scalar.muli v280 c16_i32_136
  v336
def k0_mult17 (k0_t2 : Fin k0_t2_loop.trips) : BitVec 32 :=
  let c0_i32_45 : BitVec 32 := 0#32
  let c0_i32_26 : BitVec 32 := 0#32
  let c1_i32_27 : BitVec 32 := 1#32
  let arg26 : BitVec 32 := Scf.iv c0_i32_26 c1_i32_27 k0_t2
  let c1_i32_44 : BitVec 32 := 1#32
  let v50 : BitVec 32 := Scalar.muli arg26 c1_i32_44
  let v51 : BitVec 32 := Scalar.addi c0_i32_45 v50
  let c4_i32_119 : BitVec 32 := 4#32
  let v279 : BitVec 32 := Scalar.muli v51 c4_i32_119
  let c3_i32 : BitVec 32 := 3#32
  let v280 : BitVec 32 := Scalar.addi v279 c3_i32
  let c16_i32_138 : BitVec 32 := 16#32
  let v342 : BitVec 32 := Scalar.muli v280 c16_i32_138
  v342
def k0_mult18 (k0_t2 : Fin k0_t2_loop.trips) : BitVec 32 :=
  let c0_i32_45 : BitVec 32 := 0#32
  let c0_i32_26 : BitVec 32 := 0#32
  let c1_i32_27 : BitVec 32 := 1#32
  let arg26 : BitVec 32 := Scf.iv c0_i32_26 c1_i32_27 k0_t2
  let c1_i32_44 : BitVec 32 := 1#32
  let v50 : BitVec 32 := Scalar.muli arg26 c1_i32_44
  let v51 : BitVec 32 := Scalar.addi c0_i32_45 v50
  let c4_i32_119 : BitVec 32 := 4#32
  let v279 : BitVec 32 := Scalar.muli v51 c4_i32_119
  let c3_i32 : BitVec 32 := 3#32
  let v280 : BitVec 32 := Scalar.addi v279 c3_i32
  let c16_i32_141 : BitVec 32 := 16#32
  let v348 : BitVec 32 := Scalar.muli v280 c16_i32_141
  v348
@[reducible] def k0_t3_loop : Scf.Loop 32 :=
  let c0_i32_40 : BitVec 32 := 0#32
  let c4_i32_41 : BitVec 32 := 4#32
  let v49 : BitVec 32 := Scalar.addi c0_i32_40 c4_i32_41
  let c1_i32_42 : BitVec 32 := 1#32
  ⟨c0_i32_40, v49, c1_i32_42⟩
def k0_mult19 (k0_t3 : Fin k0_t3_loop.trips) : BitVec 32 :=
  let c0_i32_45 : BitVec 32 := 0#32
  let c0_i32_40 : BitVec 32 := 0#32
  let c1_i32_42 : BitVec 32 := 1#32
  let arg26 : BitVec 32 := Scf.iv c0_i32_40 c1_i32_42 k0_t3
  let c1_i32_44 : BitVec 32 := 1#32
  let v50 : BitVec 32 := Scalar.muli arg26 c1_i32_44
  let v51 : BitVec 32 := Scalar.addi c0_i32_45 v50
  let c256_i32 : BitVec 32 := 256#32
  let v52 : BitVec 32 := Scalar.muli v51 c256_i32
  v52
def k0_off7 (k0_t3 : Fin k0_t3_loop.trips) : Fin 3 → Nat :=
  let c0_46 : Index := 0#32
  let c0_i32_45 : BitVec 32 := 0#32
  let c0_i32_40 : BitVec 32 := 0#32
  let c1_i32_42 : BitVec 32 := 1#32
  let arg26 : BitVec 32 := Scf.iv c0_i32_40 c1_i32_42 k0_t3
  let c1_i32_44 : BitVec 32 := 1#32
  let v50 : BitVec 32 := Scalar.muli arg26 c1_i32_44
  let v51 : BitVec 32 := Scalar.addi c0_i32_45 v50
  let c256_i32 : BitVec 32 := 256#32
  let v52 : BitVec 32 := Scalar.muli v51 c256_i32
  let v53 : BitVec 32 := v52
  let v54 : Index := Scalar.indexCast v53
  let c0_47 : Index := 0#32
  ![0, v54.toNat, 0]
def k0_mult20 (k0_t3 : Fin k0_t3_loop.trips) : BitVec 32 :=
  let c0_i32_45 : BitVec 32 := 0#32
  let c0_i32_40 : BitVec 32 := 0#32
  let c1_i32_42 : BitVec 32 := 1#32
  let arg26 : BitVec 32 := Scf.iv c0_i32_40 c1_i32_42 k0_t3
  let c1_i32_44 : BitVec 32 := 1#32
  let v50 : BitVec 32 := Scalar.muli arg26 c1_i32_44
  let v51 : BitVec 32 := Scalar.addi c0_i32_45 v50
  let c256_i32_48 : BitVec 32 := 256#32
  let v57 : BitVec 32 := Scalar.muli v51 c256_i32_48
  v57
def k0_off8 (k0_t3 : Fin k0_t3_loop.trips) : Fin 3 → Nat :=
  let c1_49 : Index := 1#32
  let c0_i32_45 : BitVec 32 := 0#32
  let c0_i32_40 : BitVec 32 := 0#32
  let c1_i32_42 : BitVec 32 := 1#32
  let arg26 : BitVec 32 := Scf.iv c0_i32_40 c1_i32_42 k0_t3
  let c1_i32_44 : BitVec 32 := 1#32
  let v50 : BitVec 32 := Scalar.muli arg26 c1_i32_44
  let v51 : BitVec 32 := Scalar.addi c0_i32_45 v50
  let c256_i32_48 : BitVec 32 := 256#32
  let v57 : BitVec 32 := Scalar.muli v51 c256_i32_48
  let v58 : BitVec 32 := v57
  let v59 : Index := Scalar.indexCast v58
  let c0_50 : Index := 0#32
  ![1, v59.toNat, 0]
def k0_off9 (k0_t3 : Fin k0_t3_loop.trips) : Fin 2 → Nat :=
  let c0_i32_45 : BitVec 32 := 0#32
  let c0_i32_40 : BitVec 32 := 0#32
  let c1_i32_42 : BitVec 32 := 1#32
  let arg26 : BitVec 32 := Scf.iv c0_i32_40 c1_i32_42 k0_t3
  let c1_i32_44 : BitVec 32 := 1#32
  let v50 : BitVec 32 := Scalar.muli arg26 c1_i32_44
  let v51 : BitVec 32 := Scalar.addi c0_i32_45 v50
  let c256_i32_56 : BitVec 32 := 256#32
  let v69 : BitVec 32 := Scalar.muli v51 c256_i32_56
  let v70 : Index := Scalar.indexCast v69
  let c0_57 : Index := 0#32
  ![v70.toNat, 0]
@[reducible] def k0_t4_loop : Scf.Loop 32 :=
  let c0_i32_7 : BitVec 32 := 0#32
  let c4_i32 : BitVec 32 := 4#32
  let v13 : BitVec 32 := Scalar.addi c0_i32_7 c4_i32
  let c1_i32_8 : BitVec 32 := 1#32
  ⟨c0_i32_7, v13, c1_i32_8⟩
@[reducible] def k0_t5_loop : Scf.Loop 32 :=
  let c0_i32_20 : BitVec 32 := 0#32
  let c16_i32_21 : BitVec 32 := 16#32
  let v28 : BitVec 32 := Scalar.addi c0_i32_20 c16_i32_21
  let c1_i32_22 : BitVec 32 := 1#32
  ⟨c0_i32_20, v28, c1_i32_22⟩
def k0_off10 (arg0 : BitVec 32) (k0_t4 : Fin k0_t4_loop.trips) (k0_t5 : Fin k0_t5_loop.trips) : Fin 1 → Nat :=
  let c64_i32 : BitVec 32 := 64#32
  let v99 : BitVec 32 := Scalar.muli arg0 c64_i32
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c0_i32_63 : BitVec 32 := 0#32
  let c0_i32_20 : BitVec 32 := 0#32
  let c1_i32_22 : BitVec 32 := 1#32
  let arg30 : BitVec 32 := Scf.iv c0_i32_20 c1_i32_22 k0_t5
  let c1_i32_62 : BitVec 32 := 1#32
  let v96 : BitVec 32 := Scalar.muli arg30 c1_i32_62
  let v97 : BitVec 32 := Scalar.addi c0_i32_63 v96
  let v98 : BitVec 32 := Scalar.addi v27 v97
  let v100 : BitVec 32 := Scalar.addi v99 v98
  let v101 : Index := Scalar.indexCast v100
  ![v101.toNat]

def k0_off11 (k0_t4 : Fin k0_t4_loop.trips) (k0_t5 : Fin k0_t5_loop.trips) : Fin 2 → Nat :=
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c0_i32_63 : BitVec 32 := 0#32
  let c0_i32_20 : BitVec 32 := 0#32
  let c1_i32_22 : BitVec 32 := 1#32
  let arg30 : BitVec 32 := Scf.iv c0_i32_20 c1_i32_22 k0_t5
  let c1_i32_62 : BitVec 32 := 1#32
  let v96 : BitVec 32 := Scalar.muli arg30 c1_i32_62
  let v97 : BitVec 32 := Scalar.addi c0_i32_63 v96
  let v98 : BitVec 32 := Scalar.addi v27 v97
  let c0_i32_67 : BitVec 32 := 0#32
  let v107 : BitVec 1 := Scalar.cmpi .sgt v98 c0_i32_67
  let v108 : BitVec 32 := Scalar.extui v107
  let c0_i32_68 : BitVec 32 := 0#32
  let v109 : BitVec 1 := Scalar.cmpi .slt v98 c0_i32_68
  let v110 : BitVec 32 := Scalar.extui v109
  let v111 : BitVec 32 := Scalar.subi v108 v110
  let c4_i32_66 : BitVec 32 := 4#32
  let c0_i32_69 : BitVec 32 := 0#32
  let v112 : BitVec 1 := Scalar.cmpi .sgt c4_i32_66 c0_i32_69
  let v113 : BitVec 32 := Scalar.extui v112
  let c0_i32_70 : BitVec 32 := 0#32
  let v114 : BitVec 1 := Scalar.cmpi .slt c4_i32_66 c0_i32_70
  let v115 : BitVec 32 := Scalar.extui v114
  let v116 : BitVec 32 := Scalar.subi v113 v115
  let v117 : BitVec 1 := Scalar.cmpi .ne v111 v116
  let v118 : BitVec 32 := Scalar.remsi v98 c4_i32_66
  let c0_i32_71 : BitVec 32 := 0#32
  let v119 : BitVec 1 := Scalar.cmpi .ne v118 c0_i32_71
  let v120 : BitVec 1 := Scalar.andi v117 v119
  let v106 : BitVec 32 := Scalar.divsi v98 c4_i32_66
  let c1_i32_72 : BitVec 32 := 1#32
  let v121 : BitVec 32 := Scalar.subi v106 c1_i32_72
  let v122 : BitVec 32 := Scalar.select v120 v121 v106
  let v123 : Index := Scalar.indexCast v122
  let c0_73 : Index := 0#32
  ![v123.toNat, 0]
def k0_mult21 (k0_t4 : Fin k0_t4_loop.trips) (k0_t5 : Fin k0_t5_loop.trips) : BitVec 32 :=
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c0_i32_63 : BitVec 32 := 0#32
  let c0_i32_20 : BitVec 32 := 0#32
  let c1_i32_22 : BitVec 32 := 1#32
  let arg30 : BitVec 32 := Scf.iv c0_i32_20 c1_i32_22 k0_t5
  let c1_i32_62 : BitVec 32 := 1#32
  let v96 : BitVec 32 := Scalar.muli arg30 c1_i32_62
  let v97 : BitVec 32 := Scalar.addi c0_i32_63 v96
  let v98 : BitVec 32 := Scalar.addi v27 v97
  let c8_i32 : BitVec 32 := 8#32
  let v127 : BitVec 32 := Scalar.muli v98 c8_i32
  v127
def k0_off12 (k0_t4 : Fin k0_t4_loop.trips) (k0_t5 : Fin k0_t5_loop.trips) : Fin 2 → Nat :=
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c0_i32_63 : BitVec 32 := 0#32
  let c0_i32_20 : BitVec 32 := 0#32
  let c1_i32_22 : BitVec 32 := 1#32
  let arg30 : BitVec 32 := Scf.iv c0_i32_20 c1_i32_22 k0_t5
  let c1_i32_62 : BitVec 32 := 1#32
  let v96 : BitVec 32 := Scalar.muli arg30 c1_i32_62
  let v97 : BitVec 32 := Scalar.addi c0_i32_63 v96
  let v98 : BitVec 32 := Scalar.addi v27 v97
  let c8_i32 : BitVec 32 := 8#32
  let v127 : BitVec 32 := Scalar.muli v98 c8_i32
  let v128 : BitVec 32 := v127
  let v129 : Index := Scalar.indexCast v128
  let c0_74 : Index := 0#32
  ![v129.toNat, 0]
def k0_mult22 (k0_t5 : Fin k0_t5_loop.trips) : BitVec 32 :=
  let c0_i32_63 : BitVec 32 := 0#32
  let c0_i32_20 : BitVec 32 := 0#32
  let c1_i32_22 : BitVec 32 := 1#32
  let arg30 : BitVec 32 := Scf.iv c0_i32_20 c1_i32_22 k0_t5
  let c1_i32_62 : BitVec 32 := 1#32
  let v96 : BitVec 32 := Scalar.muli arg30 c1_i32_62
  let v97 : BitVec 32 := Scalar.addi c0_i32_63 v96
  let c16_i32_89 : BitVec 32 := 16#32
  let v189 : BitVec 32 := Scalar.muli v97 c16_i32_89
  v189
def k0_off13 (v102 : BitVec 32) : Fin 2 → Nat :=
  let c8_i32_90 : BitVec 32 := 8#32
  let v191 : BitVec 32 := Scalar.shrsi v102 c8_i32_90
  let v192 : Index := Scalar.indexCast v191
  let c0_91 : Index := 0#32
  ![v192.toNat, 0]

def k0_chk2 (v102 : BitVec 32) : Prop :=
  (∀ a, (k0_off13 v102) a + S1x128.size a ≤ S1032x128.size a)
theorem k0_off13_inb : ∀ (v102 : BitVec 32) (k0_hw2 : k0_chk2 v102), ∀ a, (k0_off13 v102) a + S1x128.size a ≤ S1032x128.size a := fun v102 k0_hw2 => k0_hw2

def k0_mult23 (k0_t4 : Fin k0_t4_loop.trips) (k0_t5 : Fin k0_t5_loop.trips) : BitVec 32 :=
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c0_i32_63 : BitVec 32 := 0#32
  let c0_i32_20 : BitVec 32 := 0#32
  let c1_i32_22 : BitVec 32 := 1#32
  let arg30 : BitVec 32 := Scf.iv c0_i32_20 c1_i32_22 k0_t5
  let c1_i32_62 : BitVec 32 := 1#32
  let v96 : BitVec 32 := Scalar.muli arg30 c1_i32_62
  let v97 : BitVec 32 := Scalar.addi c0_i32_63 v96
  let v98 : BitVec 32 := Scalar.addi v27 v97
  let c16_i32_92 : BitVec 32 := 16#32
  let v196 : BitVec 32 := Scalar.muli v98 c16_i32_92
  v196
def k0_off14 (k0_t4 : Fin k0_t4_loop.trips) (k0_t5 : Fin k0_t5_loop.trips) : Fin 3 → Nat :=
  let c0_93 : Index := 0#32
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c0_i32_63 : BitVec 32 := 0#32
  let c0_i32_20 : BitVec 32 := 0#32
  let c1_i32_22 : BitVec 32 := 1#32
  let arg30 : BitVec 32 := Scf.iv c0_i32_20 c1_i32_22 k0_t5
  let c1_i32_62 : BitVec 32 := 1#32
  let v96 : BitVec 32 := Scalar.muli arg30 c1_i32_62
  let v97 : BitVec 32 := Scalar.addi c0_i32_63 v96
  let v98 : BitVec 32 := Scalar.addi v27 v97
  let c16_i32_92 : BitVec 32 := 16#32
  let v196 : BitVec 32 := Scalar.muli v98 c16_i32_92
  let v197 : BitVec 32 := v196
  let v198 : Index := Scalar.indexCast v197
  let c0_94 : Index := 0#32
  ![0, v198.toNat, 0]
def k0_off15 (k0_t4 : Fin k0_t4_loop.trips) (k0_t5 : Fin k0_t5_loop.trips) : Fin 3 → Nat :=
  let c2_95 : Index := 2#32
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c0_i32_63 : BitVec 32 := 0#32
  let c0_i32_20 : BitVec 32 := 0#32
  let c1_i32_22 : BitVec 32 := 1#32
  let arg30 : BitVec 32 := Scf.iv c0_i32_20 c1_i32_22 k0_t5
  let c1_i32_62 : BitVec 32 := 1#32
  let v96 : BitVec 32 := Scalar.muli arg30 c1_i32_62
  let v97 : BitVec 32 := Scalar.addi c0_i32_63 v96
  let v98 : BitVec 32 := Scalar.addi v27 v97
  let c16_i32_92 : BitVec 32 := 16#32
  let v196 : BitVec 32 := Scalar.muli v98 c16_i32_92
  let v197 : BitVec 32 := v196
  let v203 : Index := Scalar.indexCast v197
  let c0_96 : Index := 0#32
  ![2, v203.toNat, 0]
def k0_off16 (k0_t4 : Fin k0_t4_loop.trips) (k0_t5 : Fin k0_t5_loop.trips) : Fin 3 → Nat :=
  let c4_97 : Index := 4#32
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c0_i32_63 : BitVec 32 := 0#32
  let c0_i32_20 : BitVec 32 := 0#32
  let c1_i32_22 : BitVec 32 := 1#32
  let arg30 : BitVec 32 := Scf.iv c0_i32_20 c1_i32_22 k0_t5
  let c1_i32_62 : BitVec 32 := 1#32
  let v96 : BitVec 32 := Scalar.muli arg30 c1_i32_62
  let v97 : BitVec 32 := Scalar.addi c0_i32_63 v96
  let v98 : BitVec 32 := Scalar.addi v27 v97
  let c16_i32_92 : BitVec 32 := 16#32
  let v196 : BitVec 32 := Scalar.muli v98 c16_i32_92
  let v197 : BitVec 32 := v196
  let v208 : Index := Scalar.indexCast v197
  let c0_98 : Index := 0#32
  ![4, v208.toNat, 0]
def k0_off17 (k0_t5 : Fin k0_t5_loop.trips) : Fin 2 → Nat :=
  let c0_i32_63 : BitVec 32 := 0#32
  let c0_i32_20 : BitVec 32 := 0#32
  let c1_i32_22 : BitVec 32 := 1#32
  let arg30 : BitVec 32 := Scf.iv c0_i32_20 c1_i32_22 k0_t5
  let c1_i32_62 : BitVec 32 := 1#32
  let v96 : BitVec 32 := Scalar.muli arg30 c1_i32_62
  let v97 : BitVec 32 := Scalar.addi c0_i32_63 v96
  let c16_i32_89 : BitVec 32 := 16#32
  let v189 : BitVec 32 := Scalar.muli v97 c16_i32_89
  let v190 : BitVec 32 := v189
  let v217 : Index := Scalar.indexCast v190
  let c0_101 : Index := 0#32
  ![v217.toNat, 0]
def k0_mult24 (k0_t4 : Fin k0_t4_loop.trips) (k0_t5 : Fin k0_t5_loop.trips) : BitVec 32 :=
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c0_i32_63 : BitVec 32 := 0#32
  let c0_i32_20 : BitVec 32 := 0#32
  let c1_i32_22 : BitVec 32 := 1#32
  let arg30 : BitVec 32 := Scf.iv c0_i32_20 c1_i32_22 k0_t5
  let c1_i32_62 : BitVec 32 := 1#32
  let v96 : BitVec 32 := Scalar.muli arg30 c1_i32_62
  let v97 : BitVec 32 := Scalar.addi c0_i32_63 v96
  let v98 : BitVec 32 := Scalar.addi v27 v97
  let c16_i32_104 : BitVec 32 := 16#32
  let v226 : BitVec 32 := Scalar.muli v98 c16_i32_104
  v226
def k0_off18 (k0_t4 : Fin k0_t4_loop.trips) (k0_t5 : Fin k0_t5_loop.trips) : Fin 3 → Nat :=
  let c1_105 : Index := 1#32
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c0_i32_63 : BitVec 32 := 0#32
  let c0_i32_20 : BitVec 32 := 0#32
  let c1_i32_22 : BitVec 32 := 1#32
  let arg30 : BitVec 32 := Scf.iv c0_i32_20 c1_i32_22 k0_t5
  let c1_i32_62 : BitVec 32 := 1#32
  let v96 : BitVec 32 := Scalar.muli arg30 c1_i32_62
  let v97 : BitVec 32 := Scalar.addi c0_i32_63 v96
  let v98 : BitVec 32 := Scalar.addi v27 v97
  let c16_i32_104 : BitVec 32 := 16#32
  let v226 : BitVec 32 := Scalar.muli v98 c16_i32_104
  let v227 : BitVec 32 := v226
  let v228 : Index := Scalar.indexCast v227
  let c0_106 : Index := 0#32
  ![1, v228.toNat, 0]
def k0_off19 (k0_t4 : Fin k0_t4_loop.trips) (k0_t5 : Fin k0_t5_loop.trips) : Fin 3 → Nat :=
  let c3_107 : Index := 3#32
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c0_i32_63 : BitVec 32 := 0#32
  let c0_i32_20 : BitVec 32 := 0#32
  let c1_i32_22 : BitVec 32 := 1#32
  let arg30 : BitVec 32 := Scf.iv c0_i32_20 c1_i32_22 k0_t5
  let c1_i32_62 : BitVec 32 := 1#32
  let v96 : BitVec 32 := Scalar.muli arg30 c1_i32_62
  let v97 : BitVec 32 := Scalar.addi c0_i32_63 v96
  let v98 : BitVec 32 := Scalar.addi v27 v97
  let c16_i32_104 : BitVec 32 := 16#32
  let v226 : BitVec 32 := Scalar.muli v98 c16_i32_104
  let v227 : BitVec 32 := v226
  let v233 : Index := Scalar.indexCast v227
  let c0_108 : Index := 0#32
  ![3, v233.toNat, 0]
def k0_off20 (k0_t4 : Fin k0_t4_loop.trips) (k0_t5 : Fin k0_t5_loop.trips) : Fin 3 → Nat :=
  let c5_109 : Index := 5#32
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c0_i32_63 : BitVec 32 := 0#32
  let c0_i32_20 : BitVec 32 := 0#32
  let c1_i32_22 : BitVec 32 := 1#32
  let arg30 : BitVec 32 := Scf.iv c0_i32_20 c1_i32_22 k0_t5
  let c1_i32_62 : BitVec 32 := 1#32
  let v96 : BitVec 32 := Scalar.muli arg30 c1_i32_62
  let v97 : BitVec 32 := Scalar.addi c0_i32_63 v96
  let v98 : BitVec 32 := Scalar.addi v27 v97
  let c16_i32_104 : BitVec 32 := 16#32
  let v226 : BitVec 32 := Scalar.muli v98 c16_i32_104
  let v227 : BitVec 32 := v226
  let v238 : Index := Scalar.indexCast v227
  let c0_110 : Index := 0#32
  ![5, v238.toNat, 0]
def k0_off21 (k0_t5 : Fin k0_t5_loop.trips) : Fin 2 → Nat :=
  let c0_i32_63 : BitVec 32 := 0#32
  let c0_i32_20 : BitVec 32 := 0#32
  let c1_i32_22 : BitVec 32 := 1#32
  let arg30 : BitVec 32 := Scf.iv c0_i32_20 c1_i32_22 k0_t5
  let c1_i32_62 : BitVec 32 := 1#32
  let v96 : BitVec 32 := Scalar.muli arg30 c1_i32_62
  let v97 : BitVec 32 := Scalar.addi c0_i32_63 v96
  let c16_i32_89 : BitVec 32 := 16#32
  let v189 : BitVec 32 := Scalar.muli v97 c16_i32_89
  let v190 : BitVec 32 := v189
  let v247 : Index := Scalar.indexCast v190
  let c128_113 : Index := 128#32
  ![v247.toNat, 128]
def k0_mult25 (k0_t4 : Fin k0_t4_loop.trips) : BitVec 32 :=
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c16_i32_24 : BitVec 32 := 16#32
  let v29 : BitVec 32 := Scalar.muli v27 c16_i32_24
  v29
def k0_off22 (k0_t4 : Fin k0_t4_loop.trips) : Fin 3 → Nat :=
  let c0_25 : Index := 0#32
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c16_i32_24 : BitVec 32 := 16#32
  let v29 : BitVec 32 := Scalar.muli v27 c16_i32_24
  let v30 : BitVec 32 := v29
  let v31 : Index := Scalar.indexCast v30
  let c0_26 : Index := 0#32
  ![0, v31.toNat, 0]
def k0_mult26 (k0_t4 : Fin k0_t4_loop.trips) : BitVec 32 :=
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c16_i32_27 : BitVec 32 := 16#32
  let v34 : BitVec 32 := Scalar.muli v27 c16_i32_27
  v34
def k0_off23 (k0_t4 : Fin k0_t4_loop.trips) : Fin 3 → Nat :=
  let c1_28 : Index := 1#32
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c16_i32_27 : BitVec 32 := 16#32
  let v34 : BitVec 32 := Scalar.muli v27 c16_i32_27
  let v35 : BitVec 32 := v34
  let v36 : Index := Scalar.indexCast v35
  let c0_29 : Index := 0#32
  ![1, v36.toNat, 0]
def k0_mult27 (k0_t4 : Fin k0_t4_loop.trips) : BitVec 32 :=
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c16_i32_30 : BitVec 32 := 16#32
  let v39 : BitVec 32 := Scalar.muli v27 c16_i32_30
  v39
def k0_off24 (k0_t4 : Fin k0_t4_loop.trips) : Fin 3 → Nat :=
  let c2_31 : Index := 2#32
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c16_i32_30 : BitVec 32 := 16#32
  let v39 : BitVec 32 := Scalar.muli v27 c16_i32_30
  let v40 : BitVec 32 := v39
  let v41 : Index := Scalar.indexCast v40
  let c0_32 : Index := 0#32
  ![2, v41.toNat, 0]
def k0_mult28 (k0_t4 : Fin k0_t4_loop.trips) : BitVec 32 :=
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c16_i32_33 : BitVec 32 := 16#32
  let v44 : BitVec 32 := Scalar.muli v27 c16_i32_33
  v44
def k0_off25 (k0_t4 : Fin k0_t4_loop.trips) : Fin 3 → Nat :=
  let c3 : Index := 3#32
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c16_i32_33 : BitVec 32 := 16#32
  let v44 : BitVec 32 := Scalar.muli v27 c16_i32_33
  let v45 : BitVec 32 := v44
  let v46 : Index := Scalar.indexCast v45
  let c0_34 : Index := 0#32
  ![3, v46.toNat, 0]
def k0_mult29 (k0_t4 : Fin k0_t4_loop.trips) : BitVec 32 :=
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c16_i32_35 : BitVec 32 := 16#32
  let v49 : BitVec 32 := Scalar.muli v27 c16_i32_35
  v49
def k0_off26 (k0_t4 : Fin k0_t4_loop.trips) : Fin 3 → Nat :=
  let c4 : Index := 4#32
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c16_i32_35 : BitVec 32 := 16#32
  let v49 : BitVec 32 := Scalar.muli v27 c16_i32_35
  let v50 : BitVec 32 := v49
  let v51 : Index := Scalar.indexCast v50
  let c0_36 : Index := 0#32
  ![4, v51.toNat, 0]
def k0_mult30 (k0_t4 : Fin k0_t4_loop.trips) : BitVec 32 :=
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c16_i32_37 : BitVec 32 := 16#32
  let v54 : BitVec 32 := Scalar.muli v27 c16_i32_37
  v54
def k0_off27 (k0_t4 : Fin k0_t4_loop.trips) : Fin 3 → Nat :=
  let c5 : Index := 5#32
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c16_i32_37 : BitVec 32 := 16#32
  let v54 : BitVec 32 := Scalar.muli v27 c16_i32_37
  let v55 : BitVec 32 := v54
  let v56 : Index := Scalar.indexCast v55
  let c0_38 : Index := 0#32
  ![5, v56.toNat, 0]
@[reducible] def k0_t6_loop : Scf.Loop 32 :=
  let c0_i32_58 : BitVec 32 := 0#32
  let c16_i32_59 : BitVec 32 := 16#32
  let v94 : BitVec 32 := Scalar.addi c0_i32_58 c16_i32_59
  let c1_i32_60 : BitVec 32 := 1#32
  ⟨c0_i32_58, v94, c1_i32_60⟩
def k0_off28 (arg0 : BitVec 32) (k0_t4 : Fin k0_t4_loop.trips) (k0_t6 : Fin k0_t6_loop.trips) : Fin 1 → Nat :=
  let c64_i32 : BitVec 32 := 64#32
  let v97 : BitVec 32 := Scalar.muli arg0 c64_i32
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c0_i32_58 : BitVec 32 := 0#32
  let c1_i32_60 : BitVec 32 := 1#32
  let arg30 : BitVec 32 := Scf.iv c0_i32_58 c1_i32_60 k0_t6
  let v96 : BitVec 32 := Scalar.addi v27 arg30
  let v98 : BitVec 32 := Scalar.addi v97 v96
  let v99 : Index := Scalar.indexCast v98
  ![v99.toNat]

def k0_chk1 (arg0 : BitVec 32) : Prop :=
  (∀ (k0_t4 : Fin k0_t4_loop.trips) (k0_t5 : Fin k0_t5_loop.trips), ∀ a, (k0_off10 arg0 k0_t4 k0_t5) a + S1.size a ≤ S8192.size a) ∧
  (∀ (k0_t4 : Fin k0_t4_loop.trips) (k0_t6 : Fin k0_t6_loop.trips), ∀ a, (k0_off28 arg0 k0_t4 k0_t6) a + S1.size a ≤ S8192.size a)
theorem k0_off10_inb : ∀ (arg0 : BitVec 32) (k0_hw1 : k0_chk1 arg0) (k0_t4 : Fin k0_t4_loop.trips) (k0_t5 : Fin k0_t5_loop.trips), ∀ a, (k0_off10 arg0 k0_t4 k0_t5) a + S1.size a ≤ S8192.size a := fun arg0 k0_hw1 k0_t4 k0_t5 => k0_hw1.1 k0_t4 k0_t5
theorem k0_off28_inb : ∀ (arg0 : BitVec 32) (k0_hw1 : k0_chk1 arg0) (k0_t4 : Fin k0_t4_loop.trips) (k0_t6 : Fin k0_t6_loop.trips), ∀ a, (k0_off28 arg0 k0_t4 k0_t6) a + S1.size a ≤ S8192.size a := fun arg0 k0_hw1 k0_t4 k0_t6 => k0_hw1.2 k0_t4 k0_t6

def k0_mult31 (k0_t4 : Fin k0_t4_loop.trips) (k0_t6 : Fin k0_t6_loop.trips) : BitVec 32 :=
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c0_i32_58 : BitVec 32 := 0#32
  let c1_i32_60 : BitVec 32 := 1#32
  let arg30 : BitVec 32 := Scf.iv c0_i32_58 c1_i32_60 k0_t6
  let v96 : BitVec 32 := Scalar.addi v27 arg30
  let c16_i32_64 : BitVec 32 := 16#32
  let v107 : BitVec 32 := Scalar.muli v96 c16_i32_64
  v107
def k0_off29 (k0_t4 : Fin k0_t4_loop.trips) (k0_t6 : Fin k0_t6_loop.trips) : Fin 3 → Nat :=
  let c0_65 : Index := 0#32
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c0_i32_58 : BitVec 32 := 0#32
  let c1_i32_60 : BitVec 32 := 1#32
  let arg30 : BitVec 32 := Scf.iv c0_i32_58 c1_i32_60 k0_t6
  let v96 : BitVec 32 := Scalar.addi v27 arg30
  let c16_i32_64 : BitVec 32 := 16#32
  let v107 : BitVec 32 := Scalar.muli v96 c16_i32_64
  let v108 : BitVec 32 := v107
  let v109 : Index := Scalar.indexCast v108
  let c0_66 : Index := 0#32
  ![0, v109.toNat, 0]
def k0_off30 (k0_t4 : Fin k0_t4_loop.trips) (k0_t6 : Fin k0_t6_loop.trips) : Fin 3 → Nat :=
  let c1_67 : Index := 1#32
  let c0_i32_7 : BitVec 32 := 0#32
  let c1_i32_8 : BitVec 32 := 1#32
  let arg26 : BitVec 32 := Scf.iv c0_i32_7 c1_i32_8 k0_t4
  let c16_i32 : BitVec 32 := 16#32
  let v27 : BitVec 32 := Scalar.muli arg26 c16_i32
  let c0_i32_58 : BitVec 32 := 0#32
  let c1_i32_60 : BitVec 32 := 1#32
  let arg30 : BitVec 32 := Scf.iv c0_i32_58 c1_i32_60 k0_t6
  let v96 : BitVec 32 := Scalar.addi v27 arg30
  let c16_i32_64 : BitVec 32 := 16#32
  let v107 : BitVec 32 := Scalar.muli v96 c16_i32_64
  let v108 : BitVec 32 := v107
  let v113 : Index := Scalar.indexCast v108
  let c0_68 : Index := 0#32
  ![1, v113.toNat, 0]
def k0_mult32 (k0_t6 : Fin k0_t6_loop.trips) : BitVec 32 :=
  let c0_i32_58 : BitVec 32 := 0#32
  let c1_i32_60 : BitVec 32 := 1#32
  let arg30 : BitVec 32 := Scf.iv c0_i32_58 c1_i32_60 k0_t6
  let c16_i32_69 : BitVec 32 := 16#32
  let v117 : BitVec 32 := Scalar.muli arg30 c16_i32_69
  let c0_i32_70 : BitVec 32 := 0#32
  let v118 : BitVec 32 := Scalar.addi v117 c0_i32_70
  v118
def k0_off31 (k0_t6 : Fin k0_t6_loop.trips) : Fin 2 → Nat :=
  let c0_i32_58 : BitVec 32 := 0#32
  let c1_i32_60 : BitVec 32 := 1#32
  let arg30 : BitVec 32 := Scf.iv c0_i32_58 c1_i32_60 k0_t6
  let c16_i32_69 : BitVec 32 := 16#32
  let v117 : BitVec 32 := Scalar.muli arg30 c16_i32_69
  let c0_i32_70 : BitVec 32 := 0#32
  let v118 : BitVec 32 := Scalar.addi v117 c0_i32_70
  let v119 : BitVec 32 := v118
  let v120 : Index := Scalar.indexCast v119
  let c0_71 : Index := 0#32
  ![v120.toNat, 0]
def k0_off32 (v100 : BitVec 32) (c0_i32_73 : BitVec 32) : Fin 2 → Nat :=
  let c31_i32 : BitVec 32 := 31#32
  let v106 : BitVec 32 := Scalar.andi v100 c31_i32
  let c16_i32_72 : BitVec 32 := 16#32
  let v122 : BitVec 32 := Scalar.muli v106 c16_i32_72
  let v123 : BitVec 32 := Scalar.addi v122 c0_i32_73
  let v124 : Index := Scalar.indexCast v123
  let c0_74 : Index := 0#32
  ![v124.toNat, 0]

def k0_mult33 (k0_t6 : Fin k0_t6_loop.trips) : BitVec 32 :=
  let c0_i32_58 : BitVec 32 := 0#32
  let c1_i32_60 : BitVec 32 := 1#32
  let arg30 : BitVec 32 := Scf.iv c0_i32_58 c1_i32_60 k0_t6
  let c16_i32_76 : BitVec 32 := 16#32
  let v134 : BitVec 32 := Scalar.muli arg30 c16_i32_76
  let c8_i32 : BitVec 32 := 8#32
  let v135 : BitVec 32 := Scalar.addi v134 c8_i32
  v135
def k0_off33 (k0_t6 : Fin k0_t6_loop.trips) : Fin 2 → Nat :=
  let c0_i32_58 : BitVec 32 := 0#32
  let c1_i32_60 : BitVec 32 := 1#32
  let arg30 : BitVec 32 := Scf.iv c0_i32_58 c1_i32_60 k0_t6
  let c16_i32_76 : BitVec 32 := 16#32
  let v134 : BitVec 32 := Scalar.muli arg30 c16_i32_76
  let c8_i32 : BitVec 32 := 8#32
  let v135 : BitVec 32 := Scalar.addi v134 c8_i32
  let v136 : BitVec 32 := v135
  let v137 : Index := Scalar.indexCast v136
  let c0_77 : Index := 0#32
  ![v137.toNat, 0]
def k0_off34 (v100 : BitVec 32) : Fin 3 → Nat :=
  let c0_87 : Index := 0#32
  let c8_i32_85 : BitVec 32 := 8#32
  let v163 : BitVec 32 := Scalar.shrsi v100 c8_i32_85
  let c8_i32_86 : BitVec 32 := 8#32
  let v164 : BitVec 32 := Scalar.muli v163 c8_i32_86
  let v165 : Index := Scalar.indexCast v164
  let c0_88 : Index := 0#32
  ![0, v165.toNat, 0]
def k0_off35 (v100 : BitVec 32) : Fin 3 → Nat :=
  let c1_89 : Index := 1#32
  let c8_i32_85 : BitVec 32 := 8#32
  let v163 : BitVec 32 := Scalar.shrsi v100 c8_i32_85
  let c8_i32_86 : BitVec 32 := 8#32
  let v164 : BitVec 32 := Scalar.muli v163 c8_i32_86
  let v169 : Index := Scalar.indexCast v164
  let c0_90 : Index := 0#32
  ![1, v169.toNat, 0]
def k0_off36 (v100 : BitVec 32) : Fin 3 → Nat :=
  let c2_91 : Index := 2#32
  let c8_i32_85 : BitVec 32 := 8#32
  let v163 : BitVec 32 := Scalar.shrsi v100 c8_i32_85
  let c8_i32_86 : BitVec 32 := 8#32
  let v164 : BitVec 32 := Scalar.muli v163 c8_i32_86
  let v173 : Index := Scalar.indexCast v164
  let c0_92 : Index := 0#32
  ![2, v173.toNat, 0]

def k0_chk3 (v100 : BitVec 32) : Prop :=
  (∀ (r : Fin 2), ∀ a, (k0_off32 v100 (BitVec.ofNat 32 (8 * r.val))) a + S8x128.size a ≤ S272x128.size a) ∧
  (∀ a, (k0_off34 v100) a + S1x8x128.size a ≤ S3x8200x128.size a) ∧
  (∀ a, (k0_off35 v100) a + S1x8x128.size a ≤ S3x8200x128.size a) ∧
  (∀ a, (k0_off36 v100) a + S1x8x128.size a ≤ S3x8200x128.size a)
theorem k0_off32_inb : ∀ (v100 : BitVec 32) (k0_hw3 : k0_chk3 v100), ∀ (r : Fin 2), ∀ a, (k0_off32 v100 (BitVec.ofNat 32 (8 * r.val))) a + S8x128.size a ≤ S272x128.size a := fun v100 k0_hw3 r => k0_hw3.1 r
theorem k0_off34_inb : ∀ (v100 : BitVec 32) (k0_hw3 : k0_chk3 v100), ∀ a, (k0_off34 v100) a + S1x8x128.size a ≤ S3x8200x128.size a := fun v100 k0_hw3 => k0_hw3.2.1
theorem k0_off35_inb : ∀ (v100 : BitVec 32) (k0_hw3 : k0_chk3 v100), ∀ a, (k0_off35 v100) a + S1x8x128.size a ≤ S3x8200x128.size a := fun v100 k0_hw3 => k0_hw3.2.2.1
theorem k0_off36_inb : ∀ (v100 : BitVec 32) (k0_hw3 : k0_chk3 v100), ∀ a, (k0_off36 v100) a + S1x8x128.size a ≤ S3x8200x128.size a := fun v100 k0_hw3 => k0_hw3.2.2.2

@[reducible] def k0_t7_loop : Scf.Loop 32 :=
  let c0_i32_20 : BitVec 32 := 0#32
  let c64_i32 : BitVec 32 := 64#32
  let v27 : BitVec 32 := Scalar.addi c0_i32_20 c64_i32
  let c1_i32_21 : BitVec 32 := 1#32
  ⟨c0_i32_20, v27, c1_i32_21⟩
def k0_off37 (k0_t7 : Fin k0_t7_loop.trips) (c0_i32_25 : BitVec 32) (c0_i32_27 : BitVec 32) : Fin 3 → Nat :=
  let c0_28 : Index := 0#32
  let c0_i32_24 : BitVec 32 := 0#32
  let c0_i32_20 : BitVec 32 := 0#32
  let c1_i32_21 : BitVec 32 := 1#32
  let arg26 : BitVec 32 := Scf.iv c0_i32_20 c1_i32_21 k0_t7
  let c1_i32_23 : BitVec 32 := 1#32
  let v28 : BitVec 32 := Scalar.muli arg26 c1_i32_23
  let v29 : BitVec 32 := Scalar.addi c0_i32_24 v28
  let c2_i32 : BitVec 32 := 2#32
  let v30 : BitVec 32 := Scalar.muli v29 c2_i32
  let v31 : BitVec 32 := Scalar.addi v30 c0_i32_25
  let c8_i32 : BitVec 32 := 8#32
  let v32 : BitVec 32 := Scalar.muli v31 c8_i32
  let c8_i32_26 : BitVec 32 := 8#32
  let v33 : BitVec 32 := Scalar.muli v32 c8_i32_26
  let v34 : BitVec 32 := Scalar.addi v33 c0_i32_27
  let v35 : Index := Scalar.indexCast v34
  let c0_29 : Index := 0#32
  ![0, v35.toNat, 0]
def k0_off38 (k0_t7 : Fin k0_t7_loop.trips) (c0_i32_25 : BitVec 32) (c0_i32_47 : BitVec 32) : Fin 3 → Nat :=
  let c1_48 : Index := 1#32
  let c0_i32_24 : BitVec 32 := 0#32
  let c0_i32_20 : BitVec 32 := 0#32
  let c1_i32_21 : BitVec 32 := 1#32
  let arg26 : BitVec 32 := Scf.iv c0_i32_20 c1_i32_21 k0_t7
  let c1_i32_23 : BitVec 32 := 1#32
  let v28 : BitVec 32 := Scalar.muli arg26 c1_i32_23
  let v29 : BitVec 32 := Scalar.addi c0_i32_24 v28
  let c2_i32 : BitVec 32 := 2#32
  let v30 : BitVec 32 := Scalar.muli v29 c2_i32
  let v31 : BitVec 32 := Scalar.addi v30 c0_i32_25
  let c8_i32 : BitVec 32 := 8#32
  let v32 : BitVec 32 := Scalar.muli v31 c8_i32
  let c8_i32_26 : BitVec 32 := 8#32
  let v33 : BitVec 32 := Scalar.muli v32 c8_i32_26
  let v73 : BitVec 32 := Scalar.addi v33 c0_i32_47
  let v74 : Index := Scalar.indexCast v73
  let c0_49 : Index := 0#32
  ![1, v74.toNat, 0]
def k0_off39 (k0_t7 : Fin k0_t7_loop.trips) (c0_i32_25 : BitVec 32) (c0_i32_71 : BitVec 32) : Fin 3 → Nat :=
  let c2_72 : Index := 2#32
  let c0_i32_24 : BitVec 32 := 0#32
  let c0_i32_20 : BitVec 32 := 0#32
  let c1_i32_21 : BitVec 32 := 1#32
  let arg26 : BitVec 32 := Scf.iv c0_i32_20 c1_i32_21 k0_t7
  let c1_i32_23 : BitVec 32 := 1#32
  let v28 : BitVec 32 := Scalar.muli arg26 c1_i32_23
  let v29 : BitVec 32 := Scalar.addi c0_i32_24 v28
  let c2_i32 : BitVec 32 := 2#32
  let v30 : BitVec 32 := Scalar.muli v29 c2_i32
  let v31 : BitVec 32 := Scalar.addi v30 c0_i32_25
  let c8_i32 : BitVec 32 := 8#32
  let v32 : BitVec 32 := Scalar.muli v31 c8_i32
  let c8_i32_26 : BitVec 32 := 8#32
  let v33 : BitVec 32 := Scalar.muli v32 c8_i32_26
  let v112 : BitVec 32 := Scalar.addi v33 c0_i32_71
  let v113 : Index := Scalar.indexCast v112
  let c0_73 : Index := 0#32
  ![2, v113.toNat, 0]
def k0_mult34 (k0_t7 : Fin k0_t7_loop.trips) : BitVec 32 :=
  let c0_i32_24 : BitVec 32 := 0#32
  let c0_i32_20 : BitVec 32 := 0#32
  let c1_i32_21 : BitVec 32 := 1#32
  let arg26 : BitVec 32 := Scf.iv c0_i32_20 c1_i32_21 k0_t7
  let c1_i32_23 : BitVec 32 := 1#32
  let v28 : BitVec 32 := Scalar.muli arg26 c1_i32_23
  let v29 : BitVec 32 := Scalar.addi c0_i32_24 v28
  let c16_i32 : BitVec 32 := 16#32
  let v272 : BitVec 32 := Scalar.muli v29 c16_i32
  v272
def k0_off40 (k0_t7 : Fin k0_t7_loop.trips) : Fin 2 → Nat :=
  let c0_i32_24 : BitVec 32 := 0#32
  let c0_i32_20 : BitVec 32 := 0#32
  let c1_i32_21 : BitVec 32 := 1#32
  let arg26 : BitVec 32 := Scf.iv c0_i32_20 c1_i32_21 k0_t7
  let c1_i32_23 : BitVec 32 := 1#32
  let v28 : BitVec 32 := Scalar.muli arg26 c1_i32_23
  let v29 : BitVec 32 := Scalar.addi c0_i32_24 v28
  let c16_i32 : BitVec 32 := 16#32
  let v272 : BitVec 32 := Scalar.muli v29 c16_i32
  let v273 : BitVec 32 := v272
  let v276 : Index := Scalar.indexCast v273
  let c0_171 : Index := 0#32
  ![v276.toNat, 0]
def k0_off41 (k0_t7 : Fin k0_t7_loop.trips) : Fin 2 → Nat :=
  let c0_i32_24 : BitVec 32 := 0#32
  let c0_i32_20 : BitVec 32 := 0#32
  let c1_i32_21 : BitVec 32 := 1#32
  let arg26 : BitVec 32 := Scf.iv c0_i32_20 c1_i32_21 k0_t7
  let c1_i32_23 : BitVec 32 := 1#32
  let v28 : BitVec 32 := Scalar.muli arg26 c1_i32_23
  let v29 : BitVec 32 := Scalar.addi c0_i32_24 v28
  let c16_i32 : BitVec 32 := 16#32
  let v272 : BitVec 32 := Scalar.muli v29 c16_i32
  let v273 : BitVec 32 := v272
  let v280 : Index := Scalar.indexCast v273
  let c128 : Index := 128#32
  ![v280.toNat, 128]
def k0_off42 (k0_t7 : Fin k0_t7_loop.trips) : Fin 2 → Nat :=
  let c0_i32_24 : BitVec 32 := 0#32
  let c0_i32_20 : BitVec 32 := 0#32
  let c1_i32_21 : BitVec 32 := 1#32
  let arg26 : BitVec 32 := Scf.iv c0_i32_20 c1_i32_21 k0_t7
  let c1_i32_23 : BitVec 32 := 1#32
  let v28 : BitVec 32 := Scalar.muli arg26 c1_i32_23
  let v29 : BitVec 32 := Scalar.addi c0_i32_24 v28
  let c16_i32 : BitVec 32 := 16#32
  let v272 : BitVec 32 := Scalar.muli v29 c16_i32
  let v273 : BitVec 32 := v272
  let v283 : Index := Scalar.indexCast v273
  let c0_172 : Index := 0#32
  ![v283.toNat, 0]
def k0_cond2 (arg0 : BitVec 32) (v0 : BitVec 32) : BitVec 1 :=
  let c1_i32 : BitVec 32 := 1#32
  let v1 : BitVec 32 := Scalar.subi v0 c1_i32
  let v24 : BitVec 1 := Scalar.cmpi .eq arg0 v1
  let v25 : BitVec 32 := Scalar.extui v24
  let c0_i32_19 : BitVec 32 := 0#32
  let v26 : BitVec 1 := Scalar.cmpi .ne v25 c0_i32_19
  v26

def cc0_transform_0 (b : grid0.Bounds) (i : (grid0.at b).Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (b : grid0.Bounds) (i : (grid0.at b).Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (b : grid0.Bounds) (i : (grid0.at b).Coords) : Fin 2 → Nat :=
  let arg0 : BitVec 32 := BitVec.ofNat 32 (i 0).val
  let c128_i32 : BitVec 32 := 128#32
  let c0_i32 : BitVec 32 := 0#32
  let c0_i32_0 : BitVec 32 := 0#32
  ![c128_i32.toNat, c0_i32.toNat]

def cc0_transform_3 (b : grid0.Bounds) (i : (grid0.at b).Coords) : Fin 2 → Nat :=
  let arg0 : BitVec 32 := BitVec.ofNat 32 (i 0).val
  let c128_i32 : BitVec 32 := 128#32
  let c0_i32 : BitVec 32 := 0#32
  let c0_i32_0 : BitVec 32 := 0#32
  ![c128_i32.toNat, c0_i32.toNat]

def cc0_transform_4 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192 : Shape := ⟨1, ![8192]⟩
abbrev S66048x128 : Shape := ⟨2, ![66048, 128]⟩
abbrev S2064x128 : Shape := ⟨2, ![2064, 128]⟩
abbrev S_ : Shape := ⟨0, ![]⟩
abbrev S256x256 : Shape := ⟨2, ![256, 256]⟩
abbrev S768x256 : Shape := ⟨2, ![768, 256]⟩
abbrev S256x128 : Shape := ⟨2, ![256, 128]⟩
abbrev S128 : Shape := ⟨1, ![128]⟩
abbrev S1x256 : Shape := ⟨2, ![1, 256]⟩
abbrev S1x128 : Shape := ⟨2, ![1, 128]⟩
abbrev S8192x1 : Shape := ⟨2, ![8192, 1]⟩
abbrev S1024 : Shape := ⟨1, ![1024]⟩
abbrev S1x1024 : Shape := ⟨2, ![1, 1024]⟩
abbrev S8192x1024 : Shape := ⟨2, ![8192, 1024]⟩
abbrev S65536x128 : Shape := ⟨2, ![65536, 128]⟩
abbrev S2048x128 : Shape := ⟨2, ![2048, 128]⟩
abbrev S4 : Shape := ⟨1, ![4]⟩
abbrev S8192x2x4x1x128 : Shape := ⟨5, ![8192, 2, 4, 1, 128]⟩
abbrev S1x1x1x4x1 : Shape := ⟨5, ![1, 1, 1, 4, 1]⟩
abbrev S8192x2x4x4x128 : Shape := ⟨5, ![8192, 2, 4, 4, 128]⟩
abbrev S8192x2x16x128 : Shape := ⟨4, ![8192, 2, 16, 128]⟩
abbrev S8192x16x2x128 : Shape := ⟨4, ![8192, 16, 2, 128]⟩
abbrev S8192x8x2x2 : Shape := ⟨4, ![8192, 8, 2, 2]⟩
abbrev S8192x8x2x2x2 : Shape := ⟨5, ![8192, 8, 2, 2, 2]⟩
abbrev S8192x16x2x2 : Shape := ⟨4, ![8192, 16, 2, 2]⟩
abbrev S8192x1x1x1 : Shape := ⟨4, ![8192, 1, 1, 1]⟩
abbrev S8192x16x256 : Shape := ⟨3, ![8192, 16, 256]⟩
abbrev S8192x16x2x2x1 : Shape := ⟨5, ![8192, 16, 2, 2, 1]⟩
abbrev S8192x16x2x2x64 : Shape := ⟨5, ![8192, 16, 2, 2, 64]⟩
abbrev S512x128 : Shape := ⟨2, ![512, 128]⟩
abbrev S16x128 : Shape := ⟨2, ![16, 128]⟩
abbrev S64x2x4x1x128 : Shape := ⟨5, ![64, 2, 4, 1, 128]⟩
abbrev S64x2x4x4x128 : Shape := ⟨5, ![64, 2, 4, 4, 128]⟩
abbrev S64x2x16x128 : Shape := ⟨4, ![64, 2, 16, 128]⟩
abbrev S64x16x2x128 : Shape := ⟨4, ![64, 16, 2, 128]⟩
abbrev S64x8x2x2 : Shape := ⟨4, ![64, 8, 2, 2]⟩
abbrev S64x8x2x2x2 : Shape := ⟨5, ![64, 8, 2, 2, 2]⟩
abbrev S64x16x2x2 : Shape := ⟨4, ![64, 16, 2, 2]⟩
abbrev S64x16x256 : Shape := ⟨3, ![64, 16, 256]⟩
abbrev S64x16x2x2x1 : Shape := ⟨5, ![64, 16, 2, 2, 1]⟩
abbrev S64x16x2x2x64 : Shape := ⟨5, ![64, 16, 2, 2, 64]⟩
abbrev S1024x256 : Shape := ⟨2, ![1024, 256]⟩
abbrev S8192x256 : Shape := ⟨2, ![8192, 256]⟩
abbrev S8192x1x256 : Shape := ⟨3, ![8192, 1, 256]⟩
abbrev S8192x16x768 : Shape := ⟨3, ![8192, 16, 768]⟩
abbrev S1x1x256 : Shape := ⟨3, ![1, 1, 256]⟩
abbrev S8192x16x128 : Shape := ⟨3, ![8192, 16, 128]⟩
abbrev S1x1x128 : Shape := ⟨3, ![1, 1, 128]⟩
abbrev S8192x16 : Shape := ⟨2, ![8192, 16]⟩
abbrev S8192x16x1 : Shape := ⟨3, ![8192, 16, 1]⟩
abbrev S16 : Shape := ⟨1, ![16]⟩
abbrev S1x16 : Shape := ⟨2, ![1, 16]⟩
abbrev S8192x128 : Shape := ⟨2, ![8192, 128]⟩
abbrev S1024x128 : Shape := ⟨2, ![1024, 128]⟩

abbrev nBuf : Space → Nat
  | .hbm => 183
  | .vmem => 0
  | .smem => 0
  | _ => 0

abbrev hbmTy0_0 (i : Nat) : BufTy := match i % 128 with
  | 0 => ⟨S8192, .i32⟩
  | 1 => ⟨S66048x128, .i32⟩
  | 2 => ⟨S2064x128, .i32⟩
  | 3 => ⟨S66048x128, .i32⟩
  | 4 => ⟨S2064x128, .i32⟩
  | 5 => ⟨S_, .i32⟩
  | 6 => ⟨S256x256, .bf16⟩
  | 7 => ⟨S768x256, .bf16⟩
  | 8 => ⟨S256x128, .bf16⟩
  | 9 => ⟨S128, .bf16⟩
  | 10 => ⟨S1x256, .f32⟩
  | 11 => ⟨S1x256, .f32⟩
  | 12 => ⟨S1x128, .f32⟩
  | 13 => ⟨S_, .i32⟩
  | 14 => ⟨S8192, .i32⟩
  | 15 => ⟨S8192, .i32⟩
  | 16 => ⟨S_, .i32⟩
  | 17 => ⟨S8192, .i32⟩
  | 18 => ⟨S8192, .i32⟩
  | 19 => ⟨S_, .i32⟩
  | 20 => ⟨S8192, .i32⟩
  | 21 => ⟨S8192, .i32⟩
  | 22 => ⟨S_, .i32⟩
  | 23 => ⟨S8192, .i32⟩
  | 24 => ⟨S8192, .i32⟩
  | 25 => ⟨S8192x1, .i32⟩
  | 26 => ⟨S1024, .i32⟩
  | 27 => ⟨S1x1024, .i32⟩
  | 28 => ⟨S8192x1024, .i32⟩
  | 29 => ⟨S8192x1024, .i32⟩
  | 30 => ⟨S8192x1024, .i1⟩
  | 31 => ⟨S8192, .i32⟩
  | 32 => ⟨S_, .i32⟩
  | 33 => ⟨S_, .i32⟩
  | 34 => ⟨S8192, .i32⟩
  | 35 => ⟨S8192, .i1⟩
  | 36 => ⟨S8192x1, .i1⟩
  | 37 => ⟨S8192x1024, .i1⟩
  | 38 => ⟨S8192x1024, .i1⟩
  | 39 => ⟨S8192x1024, .f32⟩
  | 40 => ⟨S65536x128, .i32⟩
  | 41 => ⟨S2048x128, .i32⟩
  | 42 => ⟨S4, .i32⟩
  | 43 => ⟨S_, .i32⟩
  | 44 => ⟨S4, .i32⟩
  | 45 => ⟨S4, .i32⟩
  | 46 => ⟨S8192x2x4x1x128, .i32⟩
  | 47 => ⟨S_, .i32⟩
  | 48 => ⟨S4, .i32⟩
  | 49 => ⟨S4, .i32⟩
  | 50 => ⟨S1x1x1x4x1, .i32⟩
  | 51 => ⟨S8192x2x4x4x128, .i32⟩
  | 52 => ⟨S8192x2x4x4x128, .i32⟩
  | 53 => ⟨S8192x2x4x4x128, .i32⟩
  | 54 => ⟨S_, .i32⟩
  | 55 => ⟨S8192x2x4x4x128, .i32⟩
  | 56 => ⟨S8192x2x4x4x128, .i32⟩
  | 57 => ⟨S8192x2x4x4x128, .f32⟩
  | 58 => ⟨S8192x2x4x4x128, .bf16⟩
  | 59 => ⟨S8192x2x16x128, .bf16⟩
  | 60 => ⟨S8192x16x2x128, .bf16⟩
  | 61 => ⟨S8192x8x2x2, .i32⟩
  | 62 => ⟨S8192x8x2x2x2, .bf16⟩
  | 63 => ⟨S8192x8x2x2x2, .bf16⟩
  | 64 => ⟨S8192x16x2x2, .bf16⟩
  | 65 => ⟨S_, .i32⟩
  | 66 => ⟨S8192, .i32⟩
  | 67 => ⟨S8192, .i1⟩
  | 68 => ⟨S8192x1x1x1, .i1⟩
  | 69 => ⟨S_, .bf16⟩
  | 70 => ⟨S8192x16x2x2, .i1⟩
  | 71 => ⟨S8192x16x2x2, .bf16⟩
  | 72 => ⟨S8192x16x2x2, .bf16⟩
  | 73 => ⟨S8192x16x256, .bf16⟩
  | 74 => ⟨S8192x16x2x2x1, .bf16⟩
  | 75 => ⟨S8192x16x2x2x64, .bf16⟩
  | 76 => ⟨S8192x16x256, .bf16⟩
  | 77 => ⟨S8192x16x256, .bf16⟩
  | 78 => ⟨S512x128, .i32⟩
  | 79 => ⟨S16x128, .i32⟩
  | 80 => ⟨S4, .i32⟩
  | 81 => ⟨S_, .i32⟩
  | 82 => ⟨S4, .i32⟩
  | 83 => ⟨S4, .i32⟩
  | 84 => ⟨S64x2x4x1x128, .i32⟩
  | 85 => ⟨S_, .i32⟩
  | 86 => ⟨S4, .i32⟩
  | 87 => ⟨S4, .i32⟩
  | 88 => ⟨S1x1x1x4x1, .i32⟩
  | 89 => ⟨S64x2x4x4x128, .i32⟩
  | 90 => ⟨S64x2x4x4x128, .i32⟩
  | 91 => ⟨S64x2x4x4x128, .i32⟩
  | 92 => ⟨S_, .i32⟩
  | 93 => ⟨S64x2x4x4x128, .i32⟩
  | 94 => ⟨S64x2x4x4x128, .i32⟩
  | 95 => ⟨S64x2x4x4x128, .f32⟩
  | 96 => ⟨S64x2x4x4x128, .bf16⟩
  | 97 => ⟨S64x2x16x128, .bf16⟩
  | 98 => ⟨S64x16x2x128, .bf16⟩
  | 99 => ⟨S64x8x2x2, .i32⟩
  | 100 => ⟨S64x8x2x2x2, .bf16⟩
  | 101 => ⟨S64x8x2x2x2, .bf16⟩
  | 102 => ⟨S64x16x2x2, .bf16⟩
  | 103 => ⟨S64x16x256, .bf16⟩
  | 104 => ⟨S64x16x2x2x1, .bf16⟩
  | 105 => ⟨S64x16x2x2x64, .bf16⟩
  | 106 => ⟨S64x16x256, .bf16⟩
  | 107 => ⟨S64x16x256, .bf16⟩
  | 108 => ⟨S1024x256, .bf16⟩
  | 109 => ⟨S1024x256, .f32⟩
  | 110 => ⟨S1024x256, .f32⟩
  | 111 => ⟨S1024x256, .f32⟩
  | 112 => ⟨S8192x1024, .bf16⟩
  | 113 => ⟨S8192x256, .f32⟩
  | 114 => ⟨S8192x256, .bf16⟩
  | 115 => ⟨S8192x256, .f32⟩
  | 116 => ⟨S8192x1x256, .bf16⟩
  | 117 => ⟨S8192x16x256, .bf16⟩
  | 118 => ⟨S8192x16x256, .bf16⟩
  | 119 => ⟨S8192x16x256, .bf16⟩
  | 120 => ⟨S8192x16x768, .bf16⟩
  | 121 => ⟨S8192x16x256, .f32⟩
  | 122 => ⟨S8192x1x256, .f32⟩
  | 123 => ⟨S8192x16x256, .f32⟩
  | 124 => ⟨S8192x16x256, .f32⟩
  | 125 => ⟨S_, .f32⟩
  | 126 => ⟨S8192x16x256, .f32⟩
  | 127 => ⟨S8192x16x256, .i1⟩
  | _ => ⟨S8192, .i32⟩

abbrev hbmTy0_1 (i : Nat) : BufTy := match i % 128 with
  | 0 => ⟨S1x1x256, .f32⟩
  | 1 => ⟨S8192x16x256, .f32⟩
  | 2 => ⟨S8192x16x256, .f32⟩
  | 3 => ⟨S8192x16x256, .f32⟩
  | 4 => ⟨S8192x16x256, .bf16⟩
  | 5 => ⟨S8192x16x128, .f32⟩
  | 6 => ⟨S_, .f32⟩
  | 7 => ⟨S8192x16x128, .f32⟩
  | 8 => ⟨S8192x16x128, .i1⟩
  | 9 => ⟨S1x1x128, .f32⟩
  | 10 => ⟨S8192x16x128, .f32⟩
  | 11 => ⟨S8192x16x128, .f32⟩
  | 12 => ⟨S8192x16x128, .f32⟩
  | 13 => ⟨S8192x16x128, .bf16⟩
  | 14 => ⟨S8192x16, .f32⟩
  | 15 => ⟨S8192x16x1, .f32⟩
  | 16 => ⟨S8192x16x256, .f32⟩
  | 17 => ⟨S8192x16x256, .f32⟩
  | 18 => ⟨S8192x16x256, .f32⟩
  | 19 => ⟨S_, .f32⟩
  | 20 => ⟨S8192x256, .f32⟩
  | 21 => ⟨S1024x256, .f32⟩
  | 22 => ⟨S1024x256, .bf16⟩
  | 23 => ⟨S16, .i32⟩
  | 24 => ⟨S1x16, .i32⟩
  | 25 => ⟨S8192x1, .i32⟩
  | 26 => ⟨S8192x16, .i32⟩
  | 27 => ⟨S8192x16, .i32⟩
  | 28 => ⟨S8192x16, .i1⟩
  | 29 => ⟨S8192x16x1, .i1⟩
  | 30 => ⟨S8192x1, .i32⟩
  | 31 => ⟨S_, .i32⟩
  | 32 => ⟨S8192x1, .i32⟩
  | 33 => ⟨S8192x1, .i32⟩
  | 34 => ⟨S1x16, .i32⟩
  | 35 => ⟨S8192x16, .i32⟩
  | 36 => ⟨S8192x16, .i32⟩
  | 37 => ⟨S8192x16, .i32⟩
  | 38 => ⟨S8192x16x1, .i32⟩
  | 39 => ⟨S128, .i32⟩
  | 40 => ⟨S1x1x128, .i32⟩
  | 41 => ⟨S8192x16x128, .i32⟩
  | 42 => ⟨S8192x16x128, .i32⟩
  | 43 => ⟨S8192x16x128, .i1⟩
  | 44 => ⟨S8192x16x128, .i1⟩
  | 45 => ⟨S8192x16x128, .i1⟩
  | 46 => ⟨S8192x16x1, .f32⟩
  | 47 => ⟨S_, .f32⟩
  | 48 => ⟨S_, .f32⟩
  | 49 => ⟨S8192x16x128, .f32⟩
  | 50 => ⟨S8192x16x128, .f32⟩
  | 51 => ⟨S8192x16x128, .f32⟩
  | 52 => ⟨S_, .f32⟩
  | 53 => ⟨S8192x128, .f32⟩
  | 54 => ⟨S1024x128, .f32⟩
  | _ => ⟨S8192, .i32⟩

abbrev hbmTy (i : Nat) : BufTy := match i / 128 with
  | 0 => hbmTy0_0 i
  | 1 => hbmTy0_1 i
  | _ => ⟨S8192, .i32⟩

abbrev bufTy : (tb : Table) → Fin (tcTables nBuf tb) → BufTy
  | .hbm, ⟨i, _⟩ => hbmTy i
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_c_1 : Ref sig .tc := ⟨.hbm, 19, rfl⟩
abbrev main_v4 : Ref sig .tc := ⟨.hbm, 20, rfl⟩
abbrev main_v5 : Ref sig .tc := ⟨.hbm, 21, rfl⟩
abbrev main_c_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst : Ref sig .tc := ⟨.hbm, 69, rfl⟩
abbrev main_call0_v0 : Ref sig .tc := ⟨.hbm, 70, rfl⟩
abbrev main_call0_v1 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_8 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_9 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_10 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_11 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_12 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_13 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_c_14 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_cst_15 : Ref sig .tc := ⟨.hbm, 175, rfl⟩
abbrev main_call3_v0 : Ref sig .tc := ⟨.hbm, 176, rfl⟩
abbrev main_call3_v1 : Ref sig .tc := ⟨.hbm, 177, rfl⟩
abbrev main_call3_v2 : Ref sig .tc := ⟨.hbm, 178, rfl⟩
abbrev main_v143 : Ref sig .tc := ⟨.hbm, 179, rfl⟩
abbrev main_cst_16 : Ref sig .tc := ⟨.hbm, 180, rfl⟩
abbrev main_v144 : Ref sig .tc := ⟨.hbm, 181, rfl⟩
abbrev main_v145 : Ref sig .tc := ⟨.hbm, 182, rfl⟩

abbrev nD : Nat := 1
abbrev τ : Topo := Topo.v7x

variable {F : FTy → Type} [FloatOps F]
-- ==== Proof.Feat.lean ====
module

public import proofs.«01_k».proof.Proof.Gen.KernelIdeal.Skeleton
public import proofs.«01_k».proof.Proof.Gen.KernelIdeal.Loops
public import proofs.«01_k».proof.Proof.Gen.KernelIdeal.Launch
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What one trip of the feature loop holds: what it reads at its contents, what it writes at any. -/
abbrev Trip5 (c : Dev nD) (arg1 : Memref sig .tc .smem S8192 .i32) (arg2 : Memref sig .tc .vmem S512x128 .i32) (arg3 : Memref sig .tc .vmem S16x128 .i32) (arg15 : Memref sig .tc .vmem S1032x128 .bf16) (arg16 : Memref sig .tc .vmem S1032x128 .bf16) (arg18 : Memref sig .tc .vmem S1032x128 .f32) (arg19 : Memref sig .tc .vmem S1032x128 .f32) (arg20 : Memref sig .tc .vmem S6x1024x128 .bf16) (arg24 : Memref sig .tc .vmem S256x256 .f32) (X1 : BufTy.Contents (Elt F) arg1.view.ty) (X2 : BufTy.Contents (Elt F) arg2.view.ty) (X3 : BufTy.Contents (Elt F) arg3.view.ty) (X15 : BufTy.Contents (Elt F) arg15.view.ty) (X16 : BufTy.Contents (Elt F) arg16.view.ty) (X18 : BufTy.Contents (Elt F) arg18.view.ty) (X19 : BufTy.Contents (Elt F) arg19.view.ty) (f20 : BufTy.Contents (Elt F) arg20.view.ty) (f24 : BufTy.Contents (Elt F) arg24.view.ty) : sProp 𝕄 :=
  iprop((arg1.view.loc (c : Thread nD τ) ↦[arg1.view.set]{fullShare.right} X1) ∗ (arg2.view.loc (c : Thread nD τ) ↦[arg2.view.set]{fullShare} X2) ∗ (arg3.view.loc (c : Thread nD τ) ↦[arg3.view.set]{fullShare} X3) ∗ (arg15.view.loc (c : Thread nD τ) ↦[arg15.view.set]{fullShare} X15) ∗ (arg16.view.loc (c : Thread nD τ) ↦[arg16.view.set]{fullShare} X16) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} f20) ∗ (arg24.view.loc (c : Thread nD τ) ↦[arg24.view.set]{fullShare} f24))

set_option maxHeartbeats 4000000 in
/-- ONE TRIP of the feature loop, the word it reads of the table in range. -/
@[irreducible] def trip5 (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (c0_i32_7 c1_i32_8 : BitVec 32) (k0_t4 : Fin k0_t4_loop.trips) (v27 : BitVec 32) (X1 : BufTy.Contents (Elt F) arg1.view.ty) (X2 : BufTy.Contents (Elt F) arg2.view.ty) (X3 : BufTy.Contents (Elt F) arg3.view.ty) (X15 : BufTy.Contents (Elt F) arg15.view.ty) (X16 : BufTy.Contents (Elt F) arg16.view.ty) (X18 : BufTy.Contents (Elt F) arg18.view.ty) (X19 : BufTy.Contents (Elt F) arg19.view.ty)
    (hw : ∀ (r : LoadRect S8192) (x), k0_chk2 (View.readAt (Elt F) arg1.view r X1 x)) (k : Fin k0_t5_loop.trips) :
    Σ' (L20 : List (View.Piece (Elt F) S6x1024x128 .bf16)), { L24 : List (View.Piece (Elt F) S256x256 .f32) // ∀ (E : Set ℕ) (f20 : BufTy.Contents (Elt F) arg20.view.ty) (f24 : BufTy.Contents (Elt F) arg24.view.ty),
      Trip5 (F := F) c arg1 arg2 arg3 arg15 arg16 arg18 arg19 arg20 arg24 X1 X2 X3 X15 X16 X18 X19 f20 f24
      ⊢ wp frame (wpE (defs₀ (F := F)) 𝒱 (c : Thread nD τ) bd) E (k0_t5_body (F := F) b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 c0_i32_7 c1_i32_8 k0_t4 v27 k PUnit.unit)
          (fun _ => Trip5 (F := F) c arg1 arg2 arg3 arg15 arg16 arg18 arg19 arg20 arg24 X1 X2 X3 X15 X16 X18 X19 (arg20.view.writes (Elt F) f20 L20) (arg24.view.writes (Elt F) f24 L24)) } := by
  have hk : k.val < 16 := Nat.lt_of_lt_of_le k.isLt k0_t5_abs.2.1
  refine ⟨?_, ?_, fun E f20 f24 => ?run⟩
  case run =>
    unfold k0_t5_body
    iintro ⟨H1, H2, H3, H15, H16, H18, H19, H20, H24⟩
    sl_exec (disch := exact hw _ _)
    sl_step
    sl_close

/-- What the loop has written before trip `k`, newest first. -/
def st5 (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (c0_i32_7 c1_i32_8 : BitVec 32) (k0_t4 : Fin k0_t4_loop.trips) (v27 : BitVec 32) (X1 : BufTy.Contents (Elt F) arg1.view.ty) (X2 : BufTy.Contents (Elt F) arg2.view.ty) (X3 : BufTy.Contents (Elt F) arg3.view.ty) (X15 : BufTy.Contents (Elt F) arg15.view.ty) (X16 : BufTy.Contents (Elt F) arg16.view.ty) (X18 : BufTy.Contents (Elt F) arg18.view.ty) (X19 : BufTy.Contents (Elt F) arg19.view.ty)
    (hw : ∀ (r : LoadRect S8192) (x), k0_chk2 (View.readAt (Elt F) arg1.view r X1 x)) : ℕ → List (View.Piece (Elt F) S6x1024x128 .bf16) × List (View.Piece (Elt F) S256x256 .f32)
  | 0 => ([], [])
  | k + 1 =>
    if h : k < k0_t5_loop.trips then
      let q := trip5 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 c0_i32_7 c1_i32_8 k0_t4 v27 X1 X2 X3 X15 X16 X18 X19 hw ⟨k, h⟩
      let s := st5 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 c0_i32_7 c1_i32_8 k0_t4 v27 X1 X2 X3 X15 X16 X18 X19 hw k
      (q.1 ++ s.1, q.2.1 ++ s.2)
    else st5 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 c0_i32_7 c1_i32_8 k0_t4 v27 X1 X2 X3 X15 X16 X18 X19 hw k

theorem st5_succ (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (c0_i32_7 c1_i32_8 : BitVec 32) (k0_t4 : Fin k0_t4_loop.trips) (v27 : BitVec 32) (X1 : BufTy.Contents (Elt F) arg1.view.ty) (X2 : BufTy.Contents (Elt F) arg2.view.ty) (X3 : BufTy.Contents (Elt F) arg3.view.ty) (X15 : BufTy.Contents (Elt F) arg15.view.ty) (X16 : BufTy.Contents (Elt F) arg16.view.ty) (X18 : BufTy.Contents (Elt F) arg18.view.ty) (X19 : BufTy.Contents (Elt F) arg19.view.ty)
    (hw : ∀ (r : LoadRect S8192) (x), k0_chk2 (View.readAt (Elt F) arg1.view r X1 x)) (k : Fin k0_t5_loop.trips) :
    st5 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 c0_i32_7 c1_i32_8 k0_t4 v27 X1 X2 X3 X15 X16 X18 X19 hw (k.val + 1)
      = ((trip5 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 c0_i32_7 c1_i32_8 k0_t4 v27 X1 X2 X3 X15 X16 X18 X19 hw k).1 ++ (st5 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 c0_i32_7 c1_i32_8 k0_t4 v27 X1 X2 X3 X15 X16 X18 X19 hw k.val).1, (trip5 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 c0_i32_7 c1_i32_8 k0_t4 v27 X1 X2 X3 X15 X16 X18 X19 hw k).2.1 ++ (st5 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 c0_i32_7 c1_i32_8 k0_t4 v27 X1 X2 X3 X15 X16 X18 X19 hw k.val).2) := by
  rw [st5, dif_pos k.isLt]

/-- Before trip `k` of the feature loop: what it reads at its contents, what it writes at the pieces so far. -/
abbrev inv5 (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (c0_i32_7 c1_i32_8 : BitVec 32) (k0_t4 : Fin k0_t4_loop.trips) (v27 : BitVec 32) (X1 : BufTy.Contents (Elt F) arg1.view.ty) (X2 : BufTy.Contents (Elt F) arg2.view.ty) (X3 : BufTy.Contents (Elt F) arg3.view.ty) (X15 : BufTy.Contents (Elt F) arg15.view.ty) (X16 : BufTy.Contents (Elt F) arg16.view.ty) (X18 : BufTy.Contents (Elt F) arg18.view.ty) (X19 : BufTy.Contents (Elt F) arg19.view.ty)
    (hw : ∀ (r : LoadRect S8192) (x), k0_chk2 (View.readAt (Elt F) arg1.view r X1 x)) (G20 : BufTy.Contents (Elt F) arg20.view.ty) (G24 : BufTy.Contents (Elt F) arg24.view.ty) (k : ℕ) (_u : PUnit) : sProp 𝕄 :=
  iprop((arg1.view.loc (c : Thread nD τ) ↦[arg1.view.set]{fullShare.right} X1) ∗ (arg2.view.loc (c : Thread nD τ) ↦[arg2.view.set]{fullShare} X2) ∗ (arg3.view.loc (c : Thread nD τ) ↦[arg3.view.set]{fullShare} X3) ∗ (arg15.view.loc (c : Thread nD τ) ↦[arg15.view.set]{fullShare} X15) ∗ (arg16.view.loc (c : Thread nD τ) ↦[arg16.view.set]{fullShare} X16) ∗ (arg18.view.loc (c : Thread nD τ) ↦[arg18.view.set]{fullShare} X18) ∗ (arg19.view.loc (c : Thread nD τ) ↦[arg19.view.set]{fullShare} X19) ∗ (∃ f, (arg20.view.loc (c : Thread nD τ) ↦[arg20.view.set]{fullShare} f) ∗ ⌜f = arg20.view.writes (Elt F) G20 (st5 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 c0_i32_7 c1_i32_8 k0_t4 v27 X1 X2 X3 X15 X16 X18 X19 hw k).1⌝) ∗ (∃ f, (arg24.view.loc (c : Thread nD τ) ↦[arg24.view.set]{fullShare} f) ∗ ⌜f = arg24.view.writes (Elt F) G24 (st5 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 c0_i32_7 c1_i32_8 k0_t4 v27 X1 X2 X3 X15 X16 X18 X19 hw k).2⌝))

set_option warn.classDefReducibility false in
/-- The feature loop by its invariant. -/
@[sl_loop] def loopInv5 (E : Set ℕ) (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (c0_i32_7 c1_i32_8 : BitVec 32) (k0_t4 : Fin k0_t4_loop.trips) (v27 : BitVec 32) (X1 : BufTy.Contents (Elt F) arg1.view.ty) (X2 : BufTy.Contents (Elt F) arg2.view.ty) (X3 : BufTy.Contents (Elt F) arg3.view.ty) (X15 : BufTy.Contents (Elt F) arg15.view.ty) (X16 : BufTy.Contents (Elt F) arg16.view.ty) (X18 : BufTy.Contents (Elt F) arg18.view.ty) (X19 : BufTy.Contents (Elt F) arg19.view.ty)
    (hw : ∀ (r : LoadRect S8192) (x), k0_chk2 (View.readAt (Elt F) arg1.view r X1 x)) (G20 : BufTy.Contents (Elt F) arg20.view.ty) (G24 : BufTy.Contents (Elt F) arg24.view.ty) :
    LoopInvTy_k0_t5 (F := F) Unit ℕ (UR sig nD τ) ℕ 𝒱 c bd E b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 c0_i32_7 c1_i32_8 k0_t4 v27 where
  inv := inv5 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 c0_i32_7 c1_i32_8 k0_t4 v27 X1 X2 X3 X15 X16 X18 X19 hw G20 G24
  step k acc := by
    iintro ⟨H1, H2, H3, H15, H16, H18, H19, ⟨%f20, H20, %h20⟩, ⟨%f24, H24, %h24⟩⟩
    iapply (wp_wand_r Idealize.ShloMosaic.frame (wpE (defs₀ (F := F)) 𝒱 (c : Thread nD τ) bd) E)
    isplitl [H1 H2 H3 H15 H16 H18 H19 H20 H24]
    · iapply ((trip5 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 c0_i32_7 c1_i32_8 k0_t4 v27 X1 X2 X3 X15 X16 X18 X19 hw k).2.2 E f20 f24)
      isplitl [H1]; · iexact H1
      isplitl [H2]; · iexact H2
      isplitl [H3]; · iexact H3
      isplitl [H15]; · iexact H15
      isplitl [H16]; · iexact H16
      isplitl [H18]; · iexact H18
      isplitl [H19]; · iexact H19
      isplitl [H20]; · iexact H20
      iexact H24
    · iintro %_ ⟨H1, H2, H3, H15, H16, H18, H19, H20, H24⟩
      isplitl [H1]; · iexact H1
      isplitl [H2]; · iexact H2
      isplitl [H3]; · iexact H3
      isplitl [H15]; · iexact H15
      isplitl [H16]; · iexact H16
      isplitl [H18]; · iexact H18
      isplitl [H19]; · iexact H19
      rw [st5_succ]
      isplitl [H20]
      · iexists _; isplitl [H20]; · iexact H20
        ipureintro; rw [h20, ← View.writes_append]
      iexists _; isplitl [H24]; · iexact H24
      ipureintro; rw [h24, ← View.writes_append]

/-- What one trip of the group loop holds. -/
abbrev Trip6 (c : Dev nD) (arg1 : Memref sig .tc .smem S8192 .i32) (arg20 : Memref sig .tc .vmem S6x1024x128 .bf16) (arg21 : Memref sig .tc .vmem S272x128 .i32) (arg25 : Memref sig .tc .vmem S256x128 .f32) (arg22 : Memref sig .tc .vmem S3x8200x128 .f32) (X1 : BufTy.Contents (Elt F) arg1.view.ty) (X20 : BufTy.Contents (Elt F) arg20.view.ty) (X21 : BufTy.Contents (Elt F) arg21.view.ty) (X25 : BufTy.Contents (Elt F) arg25.view.ty) (f22 : BufTy.Contents (Elt F) arg22.view.ty) : sProp 𝕄 :=
  iprop((arg1.view.loc (c : Thread nD τ) ↦[arg1.view.set]{fullShare.right} X1) ∗ (arg20.view.loc (c : Thread nD τ) ↦[arg20.view.set]{fullShare} X20) ∗ (arg21.view.loc (c : Thread nD τ) ↦[arg21.view.set]{fullShare} X21) ∗ (arg25.view.loc (c : Thread nD τ) ↦[arg25.view.set]{fullShare} X25) ∗ (arg22.view.loc (c : Thread nD τ) ↦[arg22.view.set]{fullShare} f22))

set_option maxHeartbeats 4000000 in
/-- ONE TRIP of the group loop, the word it reads of the table in range. -/
@[irreducible] def trip6 (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (k0_t4 : Fin k0_t4_loop.trips) (arg27 arg28 arg29 : FVec F S8x128 .f32) (v27 : BitVec 32) (v59 : FVec F S256x768 .bf16) (X1 : BufTy.Contents (Elt F) arg1.view.ty) (X20 : BufTy.Contents (Elt F) arg20.view.ty) (X21 : BufTy.Contents (Elt F) arg21.view.ty) (X25 : BufTy.Contents (Elt F) arg25.view.ty)
    (hw3 : ∀ (r : LoadRect S8192) (x), k0_chk3 (View.readAt (Elt F) arg1.view r X1 x)) (k : Fin k0_t6_loop.trips) (acc : FVec F S8x128 .f32 × FVec F S8x128 .f32 × FVec F S8x128 .f32) :
    Σ' (acc' : FVec F S8x128 .f32 × FVec F S8x128 .f32 × FVec F S8x128 .f32), { L22 : List (View.Piece (Elt F) S3x8200x128 .f32) // ∀ (E : Set ℕ) (f22 : BufTy.Contents (Elt F) arg22.view.ty),
      Trip6 (F := F) c arg1 arg20 arg21 arg25 arg22 X1 X20 X21 X25 f22
      ⊢ wp frame (wpE (defs₀ (F := F)) 𝒱 (c : Thread nD τ) bd) E (k0_t6_body (F := F) b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 k0_t4 arg27 arg28 arg29 v27 v59 k acc)
          (fun r => iprop(⌜r = acc'⌝ ∗ Trip6 (F := F) c arg1 arg20 arg21 arg25 arg22 X1 X20 X21 X25 (arg22.view.writes (Elt F) f22 L22))) } := by
  have hk : k.val < 16 := Nat.lt_of_lt_of_le k.isLt k0_t6_abs.2.1
  refine ⟨?_, ?_, fun E f22 => ?run⟩
  case run =>
    unfold k0_t6_body
    iintro ⟨H1, H20, H21, H25, H22⟩
    sl_exec (disch := exact hw3 _ _)
    sl_step
    isplitl []
    · ipureintro; rfl
    sl_close

/-- The carried sums and what the loop has written before trip `k`. -/
def st6 (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (k0_t4 : Fin k0_t4_loop.trips) (arg27 arg28 arg29 : FVec F S8x128 .f32) (v27 : BitVec 32) (v59 : FVec F S256x768 .bf16) (X1 : BufTy.Contents (Elt F) arg1.view.ty) (X20 : BufTy.Contents (Elt F) arg20.view.ty) (X21 : BufTy.Contents (Elt F) arg21.view.ty) (X25 : BufTy.Contents (Elt F) arg25.view.ty)
    (hw3 : ∀ (r : LoadRect S8192) (x), k0_chk3 (View.readAt (Elt F) arg1.view r X1 x)) (a₀ : FVec F S8x128 .f32 × FVec F S8x128 .f32 × FVec F S8x128 .f32) : ℕ → (FVec F S8x128 .f32 × FVec F S8x128 .f32 × FVec F S8x128 .f32) × List (View.Piece (Elt F) S3x8200x128 .f32)
  | 0 => (a₀, [])
  | k + 1 =>
    if h : k < k0_t6_loop.trips then
      let s := st6 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 k0_t4 arg27 arg28 arg29 v27 v59 X1 X20 X21 X25 hw3 a₀ k
      let q := trip6 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 k0_t4 arg27 arg28 arg29 v27 v59 X1 X20 X21 X25 hw3 ⟨k, h⟩ s.1
      (q.1, q.2.1 ++ s.2)
    else st6 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 k0_t4 arg27 arg28 arg29 v27 v59 X1 X20 X21 X25 hw3 a₀ k

theorem st6_succ (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (k0_t4 : Fin k0_t4_loop.trips) (arg27 arg28 arg29 : FVec F S8x128 .f32) (v27 : BitVec 32) (v59 : FVec F S256x768 .bf16) (X1 : BufTy.Contents (Elt F) arg1.view.ty) (X20 : BufTy.Contents (Elt F) arg20.view.ty) (X21 : BufTy.Contents (Elt F) arg21.view.ty) (X25 : BufTy.Contents (Elt F) arg25.view.ty)
    (hw3 : ∀ (r : LoadRect S8192) (x), k0_chk3 (View.readAt (Elt F) arg1.view r X1 x)) (a₀ : FVec F S8x128 .f32 × FVec F S8x128 .f32 × FVec F S8x128 .f32) (k : Fin k0_t6_loop.trips) :
    st6 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 k0_t4 arg27 arg28 arg29 v27 v59 X1 X20 X21 X25 hw3 a₀ (k.val + 1)
      = ((trip6 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 k0_t4 arg27 arg28 arg29 v27 v59 X1 X20 X21 X25 hw3 k (st6 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 k0_t4 arg27 arg28 arg29 v27 v59 X1 X20 X21 X25 hw3 a₀ k.val).1).1,
         (trip6 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 k0_t4 arg27 arg28 arg29 v27 v59 X1 X20 X21 X25 hw3 k (st6 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 k0_t4 arg27 arg28 arg29 v27 v59 X1 X20 X21 X25 hw3 a₀ k.val).1).2.1 ++ (st6 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 k0_t4 arg27 arg28 arg29 v27 v59 X1 X20 X21 X25 hw3 a₀ k.val).2) := by
  rw [st6, dif_pos k.isLt]

/-- Before trip `k` of the group loop. -/
abbrev inv6 (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (k0_t4 : Fin k0_t4_loop.trips) (arg27 arg28 arg29 : FVec F S8x128 .f32) (v27 : BitVec 32) (v59 : FVec F S256x768 .bf16) (X1 : BufTy.Contents (Elt F) arg1.view.ty) (X20 : BufTy.Contents (Elt F) arg20.view.ty) (X21 : BufTy.Contents (Elt F) arg21.view.ty) (X25 : BufTy.Contents (Elt F) arg25.view.ty)
    (hw3 : ∀ (r : LoadRect S8192) (x), k0_chk3 (View.readAt (Elt F) arg1.view r X1 x)) (a₀ : FVec F S8x128 .f32 × FVec F S8x128 .f32 × FVec F S8x128 .f32) (G22 : BufTy.Contents (Elt F) arg22.view.ty) (k : ℕ) (acc : FVec F S8x128 .f32 × FVec F S8x128 .f32 × FVec F S8x128 .f32) : sProp 𝕄 :=
  iprop((arg1.view.loc (c : Thread nD τ) ↦[arg1.view.set]{fullShare.right} X1) ∗ (arg20.view.loc (c : Thread nD τ) ↦[arg20.view.set]{fullShare} X20) ∗ (arg21.view.loc (c : Thread nD τ) ↦[arg21.view.set]{fullShare} X21) ∗ (arg25.view.loc (c : Thread nD τ) ↦[arg25.view.set]{fullShare} X25) ∗ (∃ f, (arg22.view.loc (c : Thread nD τ) ↦[arg22.view.set]{fullShare} f) ∗ ⌜f = arg22.view.writes (Elt F) G22 (st6 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 k0_t4 arg27 arg28 arg29 v27 v59 X1 X20 X21 X25 hw3 a₀ k).2⌝) ∗ ⌜acc = (st6 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 k0_t4 arg27 arg28 arg29 v27 v59 X1 X20 X21 X25 hw3 a₀ k).1⌝)

set_option warn.classDefReducibility false in
/-- The group loop by its invariant. -/
@[sl_loop] def loopInv6 (E : Set ℕ) (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (k0_t4 : Fin k0_t4_loop.trips) (arg27 arg28 arg29 : FVec F S8x128 .f32) (v27 : BitVec 32) (v59 : FVec F S256x768 .bf16) (X1 : BufTy.Contents (Elt F) arg1.view.ty) (X20 : BufTy.Contents (Elt F) arg20.view.ty) (X21 : BufTy.Contents (Elt F) arg21.view.ty) (X25 : BufTy.Contents (Elt F) arg25.view.ty)
    (hw3 : ∀ (r : LoadRect S8192) (x), k0_chk3 (View.readAt (Elt F) arg1.view r X1 x)) (a₀ : FVec F S8x128 .f32 × FVec F S8x128 .f32 × FVec F S8x128 .f32) (G22 : BufTy.Contents (Elt F) arg22.view.ty) :
    LoopInvTy_k0_t6 (F := F) Unit ℕ (UR sig nD τ) ℕ 𝒱 c bd E b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 k0_t4 arg27 arg28 arg29 v27 v59 a₀ where
  inv := inv6 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 k0_t4 arg27 arg28 arg29 v27 v59 X1 X20 X21 X25 hw3 a₀ G22
  step k acc := by
    iintro ⟨H1, H20, H21, H25, ⟨%f22, H22, %h22⟩, %hacc⟩
    iapply (wp_wand_r Idealize.ShloMosaic.frame (wpE (defs₀ (F := F)) 𝒱 (c : Thread nD τ) bd) E)
    isplitl [H1 H20 H21 H25 H22]
    · iapply ((trip6 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 k0_t4 arg27 arg28 arg29 v27 v59 X1 X20 X21 X25 hw3 k acc).2.2 E f22)
      isplitl [H1]; · iexact H1
      isplitl [H20]; · iexact H20
      isplitl [H21]; · iexact H21
      isplitl [H25]; · iexact H25
      iexact H22
    · iintro %r ⟨%hr, H1, H20, H21, H25, H22⟩
      isplitl [H1]; · iexact H1
      isplitl [H20]; · iexact H20
      isplitl [H21]; · iexact H21
      isplitl [H25]; · iexact H25
      rw [st6_succ, ← hacc]
      isplitl [H22]
      · iexists _; isplitl [H22]; · iexact H22
        ipureintro; rw [h22, ← View.writes_append]
      ipureintro; exact hr

end Cert.Proof.KernelIdeal

end
-- ==== Proof.Tile.lean ====
module

public import proofs.«01_k».proof.Proof.Feat
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What one tile holds. -/
abbrev Trip4 (c : Dev nD) (arg1 : Memref sig .tc .smem S8192 .i32) (arg2 : Memref sig .tc .vmem S512x128 .i32) (arg3 : Memref sig .tc .vmem S16x128 .i32) (arg7 : Memref sig .tc .vmem S768x256 .bf16) (arg8 : Memref sig .tc .vmem S256x128 .bf16) (arg9 : Memref sig .tc .vmem S256x256 .bf16) (arg11 : Memref sig .tc .vmem S1x256 .f32) (arg12 : Memref sig .tc .vmem S1x128 .f32) (arg15 : Memref sig .tc .vmem S1032x128 .bf16) (arg16 : Memref sig .tc .vmem S1032x128 .bf16) (arg18 : Memref sig .tc .vmem S1032x128 .f32) (arg19 : Memref sig .tc .vmem S1032x128 .f32) (arg21 : Memref sig .tc .vmem S272x128 .i32) (arg20 : Memref sig .tc .vmem S6x1024x128 .bf16) (arg22 : Memref sig .tc .vmem S3x8200x128 .f32) (arg24 : Memref sig .tc .vmem S256x256 .f32) (arg25 : Memref sig .tc .vmem S256x128 .f32) (X1 : BufTy.Contents (Elt F) arg1.view.ty) (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) (X11 : BufTy.Contents (Elt F) arg11.view.ty) (X12 : BufTy.Contents (Elt F) arg12.view.ty) (X15 : BufTy.Contents (Elt F) arg15.view.ty) (X16 : BufTy.Contents (Elt F) arg16.view.ty) (X18 : BufTy.Contents (Elt F) arg18.view.ty) (X19 : BufTy.Contents (Elt F) arg19.view.ty) (X21 : BufTy.Contents (Elt F) arg21.view.ty) (g20 : BufTy.Contents (Elt F) arg20.view.ty) (g22 : BufTy.Contents (Elt F) arg22.view.ty) (g24 : BufTy.Contents (Elt F) arg24.view.ty) (g25 : BufTy.Contents (Elt F) arg25.view.ty) : sProp 𝕄 :=
  iprop((arg1.view.loc (c : Thread nD τ) ↦[arg1.view.set]{fullShare.right} X1) ∗ (arg2.view.loc (c : Thread nD τ) ↦[arg2.view.set]{fullShare} X2) ∗ (arg3.view.loc (c : Thread nD τ) ↦[arg3.view.set]{fullShare} X3) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg11.view.loc (c : Thread nD τ) ↦[arg11.view.set]{fullShare} X11) ∗ (arg12.view.loc (c : Thread nD τ) ↦[arg12.view.set]{fullShare} X12) ∗ (arg15.view.loc (c : Thread nD τ) ↦[arg15.view.set]{fullShare} X15) ∗ (arg16.view.loc (c : Thread nD τ) ↦[arg16.view.set]{fullShare} X16) ∗ (arg18.view.loc (c : Thread nD τ) ↦[arg18.view.set]{fullShare} X18) ∗ (arg19.view.loc (c : Thread nD τ) ↦[arg19.view.set]{fullShare} X19) ∗ (arg21.view.loc (c : Thread nD τ) ↦[arg21.view.set]{fullShare} X21) ∗ (arg20.view.loc (c : Thread nD τ) ↦[arg20.view.set]{fullShare} g20) ∗ (arg22.view.loc (c : Thread nD τ) ↦[arg22.view.set]{fullShare} g22) ∗ (arg24.view.loc (c : Thread nD τ) ↦[arg24.view.set]{fullShare} g24) ∗ (arg25.view.loc (c : Thread nD τ) ↦[arg25.view.set]{fullShare} g25))

set_option maxHeartbeats 16000000 in
/-- ONE TILE: the features of its groups, the products, and the group loop. -/
@[irreducible] def trip4 (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (X1 : BufTy.Contents (Elt F) arg1.view.ty) (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) (X11 : BufTy.Contents (Elt F) arg11.view.ty) (X12 : BufTy.Contents (Elt F) arg12.view.ty) (X15 : BufTy.Contents (Elt F) arg15.view.ty) (X16 : BufTy.Contents (Elt F) arg16.view.ty) (X18 : BufTy.Contents (Elt F) arg18.view.ty) (X19 : BufTy.Contents (Elt F) arg19.view.ty) (X21 : BufTy.Contents (Elt F) arg21.view.ty)
    (hw : ∀ (r : LoadRect S8192) (x), k0_chk2 (View.readAt (Elt F) arg1.view r X1 x)) (hw3 : ∀ (r : LoadRect S8192) (x), k0_chk3 (View.readAt (Elt F) arg1.view r X1 x)) (k : Fin k0_t4_loop.trips) (acc : FVec F S8x128 .f32 × FVec F S8x128 .f32 × FVec F S8x128 .f32) (g20 : BufTy.Contents (Elt F) arg20.view.ty) (g22 : BufTy.Contents (Elt F) arg22.view.ty) (g24 : BufTy.Contents (Elt F) arg24.view.ty) (g25 : BufTy.Contents (Elt F) arg25.view.ty) :
    Σ' (acc' : FVec F S8x128 .f32 × FVec F S8x128 .f32 × FVec F S8x128 .f32) (o20 : BufTy.Contents (Elt F) arg20.view.ty) (o22 : BufTy.Contents (Elt F) arg22.view.ty) (o24 : BufTy.Contents (Elt F) arg24.view.ty), { o25 : BufTy.Contents (Elt F) arg25.view.ty // ∀ (E : Set ℕ),
      Trip4 (F := F) c arg1 arg2 arg3 arg7 arg8 arg9 arg11 arg12 arg15 arg16 arg18 arg19 arg21 arg20 arg22 arg24 arg25 X1 X2 X3 X7 X8 X9 X11 X12 X15 X16 X18 X19 X21 g20 g22 g24 g25
      ⊢ wp frame (wpE (defs₀ (F := F)) 𝒱 (c : Thread nD τ) bd) E (k0_t4_body (F := F) b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 k acc)
          (fun r => iprop(⌜r = acc'⌝ ∗ Trip4 (F := F) c arg1 arg2 arg3 arg7 arg8 arg9 arg11 arg12 arg15 arg16 arg18 arg19 arg21 arg20 arg22 arg24 arg25 X1 X2 X3 X7 X8 X9 X11 X12 X15 X16 X18 X19 X21 o20 o22 o24 o25)) } := by
  have hk : k.val < 4 := Nat.lt_of_lt_of_le k.isLt k0_t4_abs.2.1
  refine ⟨?_, ?_, ?_, ?_, ?_, fun E => ?run⟩
  case run =>
    unfold k0_t4_body
    iintro ⟨H1, H2, H3, H7, H8, H9, H11, H12, H15, H16, H18, H19, H21, H20, H22, H24, H25⟩
    sl_exec
    sl_step
    isplitl []
    · ipureintro; rfl
    sl_close

/-- The carried sums and the scratch contents before tile `k`. -/
def st4 (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (X1 : BufTy.Contents (Elt F) arg1.view.ty) (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) (X11 : BufTy.Contents (Elt F) arg11.view.ty) (X12 : BufTy.Contents (Elt F) arg12.view.ty) (X15 : BufTy.Contents (Elt F) arg15.view.ty) (X16 : BufTy.Contents (Elt F) arg16.view.ty) (X18 : BufTy.Contents (Elt F) arg18.view.ty) (X19 : BufTy.Contents (Elt F) arg19.view.ty) (X21 : BufTy.Contents (Elt F) arg21.view.ty)
    (hw : ∀ (r : LoadRect S8192) (x), k0_chk2 (View.readAt (Elt F) arg1.view r X1 x)) (hw3 : ∀ (r : LoadRect S8192) (x), k0_chk3 (View.readAt (Elt F) arg1.view r X1 x)) (a₀ : FVec F S8x128 .f32 × FVec F S8x128 .f32 × FVec F S8x128 .f32) (g20 : BufTy.Contents (Elt F) arg20.view.ty) (g22 : BufTy.Contents (Elt F) arg22.view.ty) (g24 : BufTy.Contents (Elt F) arg24.view.ty) (g25 : BufTy.Contents (Elt F) arg25.view.ty) : ℕ → (FVec F S8x128 .f32 × FVec F S8x128 .f32 × FVec F S8x128 .f32) × BufTy.Contents (Elt F) arg20.view.ty × BufTy.Contents (Elt F) arg22.view.ty × BufTy.Contents (Elt F) arg24.view.ty × BufTy.Contents (Elt F) arg25.view.ty
  | 0 => (a₀, g20, g22, g24, g25)
  | k + 1 =>
    if h : k < k0_t4_loop.trips then
      let s := st4 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 X15 X16 X18 X19 X21 hw hw3 a₀ g20 g22 g24 g25 k
      let q := trip4 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 X15 X16 X18 X19 X21 hw hw3 ⟨k, h⟩ s.1 s.2.1 s.2.2.1 s.2.2.2.1 s.2.2.2.2
      (q.1, q.2.1, q.2.2.1, q.2.2.2.1, q.2.2.2.2.1)
    else st4 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 X15 X16 X18 X19 X21 hw hw3 a₀ g20 g22 g24 g25 k

theorem st4_succ (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (X1 : BufTy.Contents (Elt F) arg1.view.ty) (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) (X11 : BufTy.Contents (Elt F) arg11.view.ty) (X12 : BufTy.Contents (Elt F) arg12.view.ty) (X15 : BufTy.Contents (Elt F) arg15.view.ty) (X16 : BufTy.Contents (Elt F) arg16.view.ty) (X18 : BufTy.Contents (Elt F) arg18.view.ty) (X19 : BufTy.Contents (Elt F) arg19.view.ty) (X21 : BufTy.Contents (Elt F) arg21.view.ty)
    (hw : ∀ (r : LoadRect S8192) (x), k0_chk2 (View.readAt (Elt F) arg1.view r X1 x)) (hw3 : ∀ (r : LoadRect S8192) (x), k0_chk3 (View.readAt (Elt F) arg1.view r X1 x)) (a₀ : FVec F S8x128 .f32 × FVec F S8x128 .f32 × FVec F S8x128 .f32) (g20 : BufTy.Contents (Elt F) arg20.view.ty) (g22 : BufTy.Contents (Elt F) arg22.view.ty) (g24 : BufTy.Contents (Elt F) arg24.view.ty) (g25 : BufTy.Contents (Elt F) arg25.view.ty) (k : Fin k0_t4_loop.trips) :
    st4 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 X15 X16 X18 X19 X21 hw hw3 a₀ g20 g22 g24 g25 (k.val + 1)
      = (let s := st4 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 X15 X16 X18 X19 X21 hw hw3 a₀ g20 g22 g24 g25 k.val
         let q := trip4 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 X15 X16 X18 X19 X21 hw hw3 k s.1 s.2.1 s.2.2.1 s.2.2.2.1 s.2.2.2.2
         (q.1, q.2.1, q.2.2.1, q.2.2.2.1, q.2.2.2.2.1)) := by
  rw [st4, dif_pos k.isLt]

/-- Before tile `k`. -/
abbrev inv4 (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (X1 : BufTy.Contents (Elt F) arg1.view.ty) (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) (X11 : BufTy.Contents (Elt F) arg11.view.ty) (X12 : BufTy.Contents (Elt F) arg12.view.ty) (X15 : BufTy.Contents (Elt F) arg15.view.ty) (X16 : BufTy.Contents (Elt F) arg16.view.ty) (X18 : BufTy.Contents (Elt F) arg18.view.ty) (X19 : BufTy.Contents (Elt F) arg19.view.ty) (X21 : BufTy.Contents (Elt F) arg21.view.ty)
    (hw : ∀ (r : LoadRect S8192) (x), k0_chk2 (View.readAt (Elt F) arg1.view r X1 x)) (hw3 : ∀ (r : LoadRect S8192) (x), k0_chk3 (View.readAt (Elt F) arg1.view r X1 x)) (a₀ : FVec F S8x128 .f32 × FVec F S8x128 .f32 × FVec F S8x128 .f32) (g20 : BufTy.Contents (Elt F) arg20.view.ty) (g22 : BufTy.Contents (Elt F) arg22.view.ty) (g24 : BufTy.Contents (Elt F) arg24.view.ty) (g25 : BufTy.Contents (Elt F) arg25.view.ty) (k : ℕ) (acc : FVec F S8x128 .f32 × FVec F S8x128 .f32 × FVec F S8x128 .f32) : sProp 𝕄 :=
  iprop((arg1.view.loc (c : Thread nD τ) ↦[arg1.view.set]{fullShare.right} X1) ∗ (arg2.view.loc (c : Thread nD τ) ↦[arg2.view.set]{fullShare} X2) ∗ (arg3.view.loc (c : Thread nD τ) ↦[arg3.view.set]{fullShare} X3) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg11.view.loc (c : Thread nD τ) ↦[arg11.view.set]{fullShare} X11) ∗ (arg12.view.loc (c : Thread nD τ) ↦[arg12.view.set]{fullShare} X12) ∗ (arg15.view.loc (c : Thread nD τ) ↦[arg15.view.set]{fullShare} X15) ∗ (arg16.view.loc (c : Thread nD τ) ↦[arg16.view.set]{fullShare} X16) ∗ (arg18.view.loc (c : Thread nD τ) ↦[arg18.view.set]{fullShare} X18) ∗ (arg19.view.loc (c : Thread nD τ) ↦[arg19.view.set]{fullShare} X19) ∗ (arg21.view.loc (c : Thread nD τ) ↦[arg21.view.set]{fullShare} X21) ∗ (∃ f, (arg20.view.loc (c : Thread nD τ) ↦[arg20.view.set]{fullShare} f) ∗ ⌜f = (st4 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 X15 X16 X18 X19 X21 hw hw3 a₀ g20 g22 g24 g25 k).2.1⌝) ∗ (∃ f, (arg22.view.loc (c : Thread nD τ) ↦[arg22.view.set]{fullShare} f) ∗ ⌜f = (st4 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 X15 X16 X18 X19 X21 hw hw3 a₀ g20 g22 g24 g25 k).2.2.1⌝) ∗ (∃ f, (arg24.view.loc (c : Thread nD τ) ↦[arg24.view.set]{fullShare} f) ∗ ⌜f = (st4 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 X15 X16 X18 X19 X21 hw hw3 a₀ g20 g22 g24 g25 k).2.2.2.1⌝) ∗ (∃ f, (arg25.view.loc (c : Thread nD τ) ↦[arg25.view.set]{fullShare} f) ∗ ⌜f = (st4 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 X15 X16 X18 X19 X21 hw hw3 a₀ g20 g22 g24 g25 k).2.2.2.2⌝) ∗ ⌜acc = (st4 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 X15 X16 X18 X19 X21 hw hw3 a₀ g20 g22 g24 g25 k).1⌝)

set_option warn.classDefReducibility false in
/-- The tile loop by its invariant. -/
@[sl_loop] def loopInv4 (E : Set ℕ) (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (X1 : BufTy.Contents (Elt F) arg1.view.ty) (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) (X11 : BufTy.Contents (Elt F) arg11.view.ty) (X12 : BufTy.Contents (Elt F) arg12.view.ty) (X15 : BufTy.Contents (Elt F) arg15.view.ty) (X16 : BufTy.Contents (Elt F) arg16.view.ty) (X18 : BufTy.Contents (Elt F) arg18.view.ty) (X19 : BufTy.Contents (Elt F) arg19.view.ty) (X21 : BufTy.Contents (Elt F) arg21.view.ty)
    (hw : ∀ (r : LoadRect S8192) (x), k0_chk2 (View.readAt (Elt F) arg1.view r X1 x)) (hw3 : ∀ (r : LoadRect S8192) (x), k0_chk3 (View.readAt (Elt F) arg1.view r X1 x)) (a₀ : FVec F S8x128 .f32 × FVec F S8x128 .f32 × FVec F S8x128 .f32) (g20 : BufTy.Contents (Elt F) arg20.view.ty) (g22 : BufTy.Contents (Elt F) arg22.view.ty) (g24 : BufTy.Contents (Elt F) arg24.view.ty) (g25 : BufTy.Contents (Elt F) arg25.view.ty) :
    LoopInvTy_k0_t4 (F := F) Unit ℕ (UR sig nD τ) ℕ 𝒱 c bd E b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 a₀ where
  inv := inv4 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 X15 X16 X18 X19 X21 hw hw3 a₀ g20 g22 g24 g25
  step k acc := by
    iintro ⟨H1, H2, H3, H7, H8, H9, H11, H12, H15, H16, H18, H19, H21, ⟨%f20, H20, %h20⟩, ⟨%f22, H22, %h22⟩, ⟨%f24, H24, %h24⟩, ⟨%f25, H25, %h25⟩, %hacc⟩
    subst h20 h22 h24 h25 hacc
    iapply (wp_wand_r Idealize.ShloMosaic.frame (wpE (defs₀ (F := F)) 𝒱 (c : Thread nD τ) bd) E)
    isplitl [H1 H2 H3 H7 H8 H9 H11 H12 H15 H16 H18 H19 H21 H20 H22 H24 H25]
    · iapply ((trip4 (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 X15 X16 X18 X19 X21 hw hw3 k _ _ _ _ _).2.2.2.2.2 E)
      isplitl [H1]; · iexact H1
      isplitl [H2]; · iexact H2
      isplitl [H3]; · iexact H3
      isplitl [H7]; · iexact H7
      isplitl [H8]; · iexact H8
      isplitl [H9]; · iexact H9
      isplitl [H11]; · iexact H11
      isplitl [H12]; · iexact H12
      isplitl [H15]; · iexact H15
      isplitl [H16]; · iexact H16
      isplitl [H18]; · iexact H18
      isplitl [H19]; · iexact H19
      isplitl [H21]; · iexact H21
      isplitl [H20]; · iexact H20
      isplitl [H22]; · iexact H22
      isplitl [H24]; · iexact H24
      iexact H25
    · iintro %r ⟨%hr, H1, H2, H3, H7, H8, H9, H11, H12, H15, H16, H18, H19, H21, H20, H22, H24, H25⟩
      isplitl [H1]; · iexact H1
      isplitl [H2]; · iexact H2
      isplitl [H3]; · iexact H3
      isplitl [H7]; · iexact H7
      isplitl [H8]; · iexact H8
      isplitl [H9]; · iexact H9
      isplitl [H11]; · iexact H11
      isplitl [H12]; · iexact H12
      isplitl [H15]; · iexact H15
      isplitl [H16]; · iexact H16
      isplitl [H18]; · iexact H18
      isplitl [H19]; · iexact H19
      isplitl [H21]; · iexact H21
      rw [st4_succ]
      isplitl [H20]
      · iexists _; isplitl [H20]; · iexact H20
        ipureintro; rfl
      isplitl [H22]
      · iexists _; isplitl [H22]; · iexact H22
        ipureintro; rfl
      isplitl [H24]
      · iexists _; isplitl [H24]; · iexact H24
        ipureintro; rfl
      isplitl [H25]
      · iexists _; isplitl [H25]; · iexact H25
        ipureintro; rfl
      ipureintro; exact hr

end Cert.Proof.KernelIdeal

end
-- ==== Proof.Body.lean ====
module

public import proofs.«01_k».proof.Proof.Tile
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the body holds: the table at half a share, every other buffer. -/
abbrev BodyRes (c : Dev nD) (arg1 : Memref sig .tc .smem S8192 .i32) (arg2 : Memref sig .tc .vmem S512x128 .i32) (arg3 : Memref sig .tc .vmem S16x128 .i32) (arg4 : Memref sig .tc .vmem S512x128 .i32) (arg5 : Memref sig .tc .vmem S16x128 .i32) (arg6 : Memref sig .tc .vmem S256x256 .bf16) (arg7 : Memref sig .tc .vmem S768x256 .bf16) (arg8 : Memref sig .tc .vmem S256x128 .bf16) (arg9 : Memref sig .tc .vmem S256x256 .bf16) (arg10 : Memref sig .tc .vmem S1x256 .f32) (arg11 : Memref sig .tc .vmem S1x256 .f32) (arg12 : Memref sig .tc .vmem S1x128 .f32) (arg13 : Memref sig .tc .vmem S1024x256 .bf16) (arg14 : Memref sig .tc .vmem S1024x128 .f32) (arg15 : Memref sig .tc .vmem S1032x128 .bf16) (arg16 : Memref sig .tc .vmem S1032x128 .bf16) (arg17 : Memref sig .tc .vmem S2x1024x128 .bf16) (arg18 : Memref sig .tc .vmem S1032x128 .f32) (arg19 : Memref sig .tc .vmem S1032x128 .f32) (arg20 : Memref sig .tc .vmem S6x1024x128 .bf16) (arg21 : Memref sig .tc .vmem S272x128 .i32) (arg22 : Memref sig .tc .vmem S3x8200x128 .f32) (arg23 : Memref sig .tc .vmem S3x8x128 .f32) (arg24 : Memref sig .tc .vmem S256x256 .f32) (arg25 : Memref sig .tc .vmem S256x128 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (g13 : BufTy.Contents (Elt F) arg13.view.ty) (g14 : BufTy.Contents (Elt F) arg14.view.ty) (g15 : BufTy.Contents (Elt F) arg15.view.ty) (g16 : BufTy.Contents (Elt F) arg16.view.ty) (g17 : BufTy.Contents (Elt F) arg17.view.ty) (g18 : BufTy.Contents (Elt F) arg18.view.ty) (g19 : BufTy.Contents (Elt F) arg19.view.ty) (g20 : BufTy.Contents (Elt F) arg20.view.ty) (g21 : BufTy.Contents (Elt F) arg21.view.ty) (g22 : BufTy.Contents (Elt F) arg22.view.ty) (g23 : BufTy.Contents (Elt F) arg23.view.ty) (g24 : BufTy.Contents (Elt F) arg24.view.ty) (g25 : BufTy.Contents (Elt F) arg25.view.ty) : sProp 𝕄 :=
  iprop((arg1.view.loc (c : Thread nD τ) ↦[arg1.view.set]{fullShare.right} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22) ∗ (arg23.view.loc (c : Thread nD τ) ↦[arg23.view.set]{fullShare} g23) ∗ (arg24.view.loc (c : Thread nD τ) ↦[arg24.view.set]{fullShare} g24) ∗ (arg25.view.loc (c : Thread nD τ) ↦[arg25.view.set]{fullShare} g25))

set_option maxHeartbeats 40000000 in
/-- The body at a point: not the first, not the last. -/
@[irreducible] def bodyNN (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (g13 : BufTy.Contents (Elt F) arg13.view.ty) (g14 : BufTy.Contents (Elt F) arg14.view.ty) (g15 : BufTy.Contents (Elt F) arg15.view.ty) (g16 : BufTy.Contents (Elt F) arg16.view.ty) (g17 : BufTy.Contents (Elt F) arg17.view.ty) (g18 : BufTy.Contents (Elt F) arg18.view.ty) (g19 : BufTy.Contents (Elt F) arg19.view.ty) (g20 : BufTy.Contents (Elt F) arg20.view.ty) (g21 : BufTy.Contents (Elt F) arg21.view.ty) (g22 : BufTy.Contents (Elt F) arg22.view.ty) (g23 : BufTy.Contents (Elt F) arg23.view.ty) (g24 : BufTy.Contents (Elt F) arg24.view.ty) (g25 : BufTy.Contents (Elt F) arg25.view.ty)
    (hw : ∀ (r : LoadRect S8192) (x), k0_chk2 (View.readAt (Elt F) arg1.view r X1 x)) (hw3 : ∀ (r : LoadRect S8192) (x), k0_chk3 (View.readAt (Elt F) arg1.view r X1 x))
    (hc1 : ¬ (Scalar.cmpi .ne (Scalar.extui (Scalar.cmpi .eq arg0 0#32)) 0#32 = 1#1)) (hc2 : ¬ (k0_cond2 arg0 (BitVec.ofNat 32 (b 0)) = 1#1)) :
    Σ' (o13 : BufTy.Contents (Elt F) arg13.view.ty) (o14 : BufTy.Contents (Elt F) arg14.view.ty) (o15 : BufTy.Contents (Elt F) arg15.view.ty) (o16 : BufTy.Contents (Elt F) arg16.view.ty) (o17 : BufTy.Contents (Elt F) arg17.view.ty) (o18 : BufTy.Contents (Elt F) arg18.view.ty) (o19 : BufTy.Contents (Elt F) arg19.view.ty) (o20 : BufTy.Contents (Elt F) arg20.view.ty) (o21 : BufTy.Contents (Elt F) arg21.view.ty) (o22 : BufTy.Contents (Elt F) arg22.view.ty) (o23 : BufTy.Contents (Elt F) arg23.view.ty) (o24 : BufTy.Contents (Elt F) arg24.view.ty), { o25 : BufTy.Contents (Elt F) arg25.view.ty // ∀ (E : Set ℕ),
      iprop(BodyRes (F := F) c arg1 arg2 arg3 arg4 arg5 arg6 arg7 arg8 arg9 arg10 arg11 arg12 arg13 arg14 arg15 arg16 arg17 arg18 arg19 arg20 arg21 arg22 arg23 arg24 arg25 X1 X2 X3 X4 X5 X6 X7 X8 X9 X10 X11 X12 g13 g14 g15 g16 g17 g18 g19 g20 g21 g22 g23 g24 g25)
      ⊢ wp frame (wpE (defs₀ (F := F)) 𝒱 (c : Thread nD τ) bd) E (cc0_activation_unit (F := F) b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25)
          (fun _ => iprop(BodyRes (F := F) c arg1 arg2 arg3 arg4 arg5 arg6 arg7 arg8 arg9 arg10 arg11 arg12 arg13 arg14 arg15 arg16 arg17 arg18 arg19 arg20 arg21 arg22 arg23 arg24 arg25 X1 X2 X3 X4 X5 X6 X7 X8 X9 X10 X11 X12 o13 o14 o15 o16 o17 o18 o19 o20 o21 o22 o23 o24 o25)) } := by
  refine ⟨?_, ?_, ?_, ?_, ?_, ?_, ?_, ?_, ?_, ?_, ?_, ?_, ?_, fun E => ?run⟩
  case run =>
    rw [cc0_activation_unit_eq_skeleton]; unfold cc0_activation_unit_skel
    iintro ⟨H1, H2, H3, H4, H5, H6, H7, H8, H9, H10, H11, H12, H13, H14, H15, H16, H17, H18, H19, H20, H21, H22, H23, H24, H25⟩
    sl_exec
    sl_step
    sl_close

set_option maxHeartbeats 40000000 in
/-- The body at a point: not the first, the last. -/
@[irreducible] def bodyNL (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (g13 : BufTy.Contents (Elt F) arg13.view.ty) (g14 : BufTy.Contents (Elt F) arg14.view.ty) (g15 : BufTy.Contents (Elt F) arg15.view.ty) (g16 : BufTy.Contents (Elt F) arg16.view.ty) (g17 : BufTy.Contents (Elt F) arg17.view.ty) (g18 : BufTy.Contents (Elt F) arg18.view.ty) (g19 : BufTy.Contents (Elt F) arg19.view.ty) (g20 : BufTy.Contents (Elt F) arg20.view.ty) (g21 : BufTy.Contents (Elt F) arg21.view.ty) (g22 : BufTy.Contents (Elt F) arg22.view.ty) (g23 : BufTy.Contents (Elt F) arg23.view.ty) (g24 : BufTy.Contents (Elt F) arg24.view.ty) (g25 : BufTy.Contents (Elt F) arg25.view.ty)
    (hw : ∀ (r : LoadRect S8192) (x), k0_chk2 (View.readAt (Elt F) arg1.view r X1 x)) (hw3 : ∀ (r : LoadRect S8192) (x), k0_chk3 (View.readAt (Elt F) arg1.view r X1 x))
    (hc1 : ¬ (Scalar.cmpi .ne (Scalar.extui (Scalar.cmpi .eq arg0 0#32)) 0#32 = 1#1)) (hc2 : (k0_cond2 arg0 (BitVec.ofNat 32 (b 0)) = 1#1)) :
    Σ' (o13 : BufTy.Contents (Elt F) arg13.view.ty) (o14 : BufTy.Contents (Elt F) arg14.view.ty) (o15 : BufTy.Contents (Elt F) arg15.view.ty) (o16 : BufTy.Contents (Elt F) arg16.view.ty) (o17 : BufTy.Contents (Elt F) arg17.view.ty) (o18 : BufTy.Contents (Elt F) arg18.view.ty) (o19 : BufTy.Contents (Elt F) arg19.view.ty) (o20 : BufTy.Contents (Elt F) arg20.view.ty) (o21 : BufTy.Contents (Elt F) arg21.view.ty) (o22 : BufTy.Contents (Elt F) arg22.view.ty) (o23 : BufTy.Contents (Elt F) arg23.view.ty) (o24 : BufTy.Contents (Elt F) arg24.view.ty), { o25 : BufTy.Contents (Elt F) arg25.view.ty // ∀ (E : Set ℕ),
      iprop(BodyRes (F := F) c arg1 arg2 arg3 arg4 arg5 arg6 arg7 arg8 arg9 arg10 arg11 arg12 arg13 arg14 arg15 arg16 arg17 arg18 arg19 arg20 arg21 arg22 arg23 arg24 arg25 X1 X2 X3 X4 X5 X6 X7 X8 X9 X10 X11 X12 g13 g14 g15 g16 g17 g18 g19 g20 g21 g22 g23 g24 g25)
      ⊢ wp frame (wpE (defs₀ (F := F)) 𝒱 (c : Thread nD τ) bd) E (cc0_activation_unit (F := F) b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25)
          (fun _ => iprop(BodyRes (F := F) c arg1 arg2 arg3 arg4 arg5 arg6 arg7 arg8 arg9 arg10 arg11 arg12 arg13 arg14 arg15 arg16 arg17 arg18 arg19 arg20 arg21 arg22 arg23 arg24 arg25 X1 X2 X3 X4 X5 X6 X7 X8 X9 X10 X11 X12 o13 o14 o15 o16 o17 o18 o19 o20 o21 o22 o23 o24 o25)) } := by
  refine ⟨?_, ?_, ?_, ?_, ?_, ?_, ?_, ?_, ?_, ?_, ?_, ?_, ?_, fun E => ?run⟩
  case run =>
    rw [cc0_activation_unit_eq_skeleton]; unfold cc0_activation_unit_skel
    iintro ⟨H1, H2, H3, H4, H5, H6, H7, H8, H9, H10, H11, H12, H13, H14, H15, H16, H17, H18, H19, H20, H21, H22, H23, H24, H25⟩
    sl_exec
    sl_step
    sl_close

set_option maxHeartbeats 40000000 in
/-- The body at a point: the first, not the last. -/
@[irreducible] def bodyFN (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (g13 : BufTy.Contents (Elt F) arg13.view.ty) (g14 : BufTy.Contents (Elt F) arg14.view.ty) (g15 : BufTy.Contents (Elt F) arg15.view.ty) (g16 : BufTy.Contents (Elt F) arg16.view.ty) (g17 : BufTy.Contents (Elt F) arg17.view.ty) (g18 : BufTy.Contents (Elt F) arg18.view.ty) (g19 : BufTy.Contents (Elt F) arg19.view.ty) (g20 : BufTy.Contents (Elt F) arg20.view.ty) (g21 : BufTy.Contents (Elt F) arg21.view.ty) (g22 : BufTy.Contents (Elt F) arg22.view.ty) (g23 : BufTy.Contents (Elt F) arg23.view.ty) (g24 : BufTy.Contents (Elt F) arg24.view.ty) (g25 : BufTy.Contents (Elt F) arg25.view.ty)
    (hw : ∀ (r : LoadRect S8192) (x), k0_chk2 (View.readAt (Elt F) arg1.view r X1 x)) (hw3 : ∀ (r : LoadRect S8192) (x), k0_chk3 (View.readAt (Elt F) arg1.view r X1 x))
    (hc1 : (Scalar.cmpi .ne (Scalar.extui (Scalar.cmpi .eq arg0 0#32)) 0#32 = 1#1)) (hc2 : ¬ (k0_cond2 arg0 (BitVec.ofNat 32 (b 0)) = 1#1)) :
    Σ' (o13 : BufTy.Contents (Elt F) arg13.view.ty) (o14 : BufTy.Contents (Elt F) arg14.view.ty) (o15 : BufTy.Contents (Elt F) arg15.view.ty) (o16 : BufTy.Contents (Elt F) arg16.view.ty) (o17 : BufTy.Contents (Elt F) arg17.view.ty) (o18 : BufTy.Contents (Elt F) arg18.view.ty) (o19 : BufTy.Contents (Elt F) arg19.view.ty) (o20 : BufTy.Contents (Elt F) arg20.view.ty) (o21 : BufTy.Contents (Elt F) arg21.view.ty) (o22 : BufTy.Contents (Elt F) arg22.view.ty) (o23 : BufTy.Contents (Elt F) arg23.view.ty) (o24 : BufTy.Contents (Elt F) arg24.view.ty), { o25 : BufTy.Contents (Elt F) arg25.view.ty // ∀ (E : Set ℕ),
      iprop(BodyRes (F := F) c arg1 arg2 arg3 arg4 arg5 arg6 arg7 arg8 arg9 arg10 arg11 arg12 arg13 arg14 arg15 arg16 arg17 arg18 arg19 arg20 arg21 arg22 arg23 arg24 arg25 X1 X2 X3 X4 X5 X6 X7 X8 X9 X10 X11 X12 g13 g14 g15 g16 g17 g18 g19 g20 g21 g22 g23 g24 g25)
      ⊢ wp frame (wpE (defs₀ (F := F)) 𝒱 (c : Thread nD τ) bd) E (cc0_activation_unit (F := F) b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25)
          (fun _ => iprop(BodyRes (F := F) c arg1 arg2 arg3 arg4 arg5 arg6 arg7 arg8 arg9 arg10 arg11 arg12 arg13 arg14 arg15 arg16 arg17 arg18 arg19 arg20 arg21 arg22 arg23 arg24 arg25 X1 X2 X3 X4 X5 X6 X7 X8 X9 X10 X11 X12 o13 o14 o15 o16 o17 o18 o19 o20 o21 o22 o23 o24 o25)) } := by
  refine ⟨?_, ?_, ?_, ?_, ?_, ?_, ?_, ?_, ?_, ?_, ?_, ?_, ?_, fun E => ?run⟩
  case run =>
    rw [cc0_activation_unit_eq_skeleton]; unfold cc0_activation_unit_skel
    iintro ⟨H1, H2, H3, H4, H5, H6, H7, H8, H9, H10, H11, H12, H13, H14, H15, H16, H17, H18, H19, H20, H21, H22, H23, H24, H25⟩
    sl_exec
    sl_step
    sl_close

set_option maxHeartbeats 40000000 in
/-- The body at a point: the first, the last. -/
@[irreducible] def bodyFL (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (g13 : BufTy.Contents (Elt F) arg13.view.ty) (g14 : BufTy.Contents (Elt F) arg14.view.ty) (g15 : BufTy.Contents (Elt F) arg15.view.ty) (g16 : BufTy.Contents (Elt F) arg16.view.ty) (g17 : BufTy.Contents (Elt F) arg17.view.ty) (g18 : BufTy.Contents (Elt F) arg18.view.ty) (g19 : BufTy.Contents (Elt F) arg19.view.ty) (g20 : BufTy.Contents (Elt F) arg20.view.ty) (g21 : BufTy.Contents (Elt F) arg21.view.ty) (g22 : BufTy.Contents (Elt F) arg22.view.ty) (g23 : BufTy.Contents (Elt F) arg23.view.ty) (g24 : BufTy.Contents (Elt F) arg24.view.ty) (g25 : BufTy.Contents (Elt F) arg25.view.ty)
    (hw : ∀ (r : LoadRect S8192) (x), k0_chk2 (View.readAt (Elt F) arg1.view r X1 x)) (hw3 : ∀ (r : LoadRect S8192) (x), k0_chk3 (View.readAt (Elt F) arg1.view r X1 x))
    (hc1 : (Scalar.cmpi .ne (Scalar.extui (Scalar.cmpi .eq arg0 0#32)) 0#32 = 1#1)) (hc2 : (k0_cond2 arg0 (BitVec.ofNat 32 (b 0)) = 1#1)) :
    Σ' (o13 : BufTy.Contents (Elt F) arg13.view.ty) (o14 : BufTy.Contents (Elt F) arg14.view.ty) (o15 : BufTy.Contents (Elt F) arg15.view.ty) (o16 : BufTy.Contents (Elt F) arg16.view.ty) (o17 : BufTy.Contents (Elt F) arg17.view.ty) (o18 : BufTy.Contents (Elt F) arg18.view.ty) (o19 : BufTy.Contents (Elt F) arg19.view.ty) (o20 : BufTy.Contents (Elt F) arg20.view.ty) (o21 : BufTy.Contents (Elt F) arg21.view.ty) (o22 : BufTy.Contents (Elt F) arg22.view.ty) (o23 : BufTy.Contents (Elt F) arg23.view.ty) (o24 : BufTy.Contents (Elt F) arg24.view.ty), { o25 : BufTy.Contents (Elt F) arg25.view.ty // ∀ (E : Set ℕ),
      iprop(BodyRes (F := F) c arg1 arg2 arg3 arg4 arg5 arg6 arg7 arg8 arg9 arg10 arg11 arg12 arg13 arg14 arg15 arg16 arg17 arg18 arg19 arg20 arg21 arg22 arg23 arg24 arg25 X1 X2 X3 X4 X5 X6 X7 X8 X9 X10 X11 X12 g13 g14 g15 g16 g17 g18 g19 g20 g21 g22 g23 g24 g25)
      ⊢ wp frame (wpE (defs₀ (F := F)) 𝒱 (c : Thread nD τ) bd) E (cc0_activation_unit (F := F) b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25)
          (fun _ => iprop(BodyRes (F := F) c arg1 arg2 arg3 arg4 arg5 arg6 arg7 arg8 arg9 arg10 arg11 arg12 arg13 arg14 arg15 arg16 arg17 arg18 arg19 arg20 arg21 arg22 arg23 arg24 arg25 X1 X2 X3 X4 X5 X6 X7 X8 X9 X10 X11 X12 o13 o14 o15 o16 o17 o18 o19 o20 o21 o22 o23 o24 o25)) } := by
  refine ⟨?_, ?_, ?_, ?_, ?_, ?_, ?_, ?_, ?_, ?_, ?_, ?_, ?_, fun E => ?run⟩
  case run =>
    rw [cc0_activation_unit_eq_skeleton]; unfold cc0_activation_unit_skel
    iintro ⟨H1, H2, H3, H4, H5, H6, H7, H8, H9, H10, H11, H12, H13, H14, H15, H16, H17, H18, H19, H20, H21, H22, H23, H24, H25⟩
    sl_exec
    sl_step
    sl_close

end Cert.Proof.KernelIdeal

end
-- ==== Proof.Step.lean ====
module

public import proofs.«01_k».proof.Proof.Body
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Tactic
public import Idealize.ShloMosaic.Lib.Pipeline.Frame

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents of the scratch buffers. -/
structure Scr (F : FTy → Type) [FloatOps F] where
  s0 : BufTy.Contents (Elt F) (Memref.whole cc0_scratch0).view.ty
  s1 : BufTy.Contents (Elt F) (Memref.whole cc0_scratch1).view.ty
  s2 : BufTy.Contents (Elt F) (Memref.whole cc0_scratch2).view.ty
  s3 : BufTy.Contents (Elt F) (Memref.whole cc0_scratch3).view.ty
  s4 : BufTy.Contents (Elt F) (Memref.whole cc0_scratch4).view.ty
  s5 : BufTy.Contents (Elt F) (Memref.whole cc0_scratch5).view.ty
  s6 : BufTy.Contents (Elt F) (Memref.whole cc0_scratch6).view.ty
  s7 : BufTy.Contents (Elt F) (Memref.whole cc0_scratch7).view.ty
  s8 : BufTy.Contents (Elt F) (Memref.whole cc0_scratch8).view.ty
  s9 : BufTy.Contents (Elt F) (Memref.whole cc0_scratch9).view.ty
  s10 : BufTy.Contents (Elt F) (Memref.whole cc0_scratch10).view.ty

theorem ex13 {α13 : Type} {α14 : Type} {α15 : Type} {α16 : Type} {α17 : Type} {α18 : Type} {α19 : Type} {α20 : Type} {α21 : Type} {α22 : Type} {α23 : Type} {α24 : Type} {α25 : Type} {Post : α13 → α14 → α15 → α16 → α17 → α18 → α19 → α20 → α21 → α22 → α23 → α24 → α25 → Prop} {Q : α13 → α14 → α15 → α16 → α17 → α18 → α19 → α20 → α21 → α22 → α23 → α24 → α25 → sProp 𝕄}
    {o13 : α13} {o14 : α14} {o15 : α15} {o16 : α16} {o17 : α17} {o18 : α18} {o19 : α19} {o20 : α20} {o21 : α21} {o22 : α22} {o23 : α23} {o24 : α24} {o25 : α25} (h : Post o13 o14 o15 o16 o17 o18 o19 o20 o21 o22 o23 o24 o25) :
    Q o13 o14 o15 o16 o17 o18 o19 o20 o21 o22 o23 o24 o25 ⊢ iprop(∃ o13 o14 o15 o16 o17 o18 o19 o20 o21 o22 o23 o24 o25, ⌜Post o13 o14 o15 o16 o17 o18 o19 o20 o21 o22 o23 o24 o25⌝ ∗ Q o13 o14 o15 o16 o17 o18 o19 o20 o21 o22 o23 o24 o25) := by
  iintro H
  iexists o13, o14, o15, o16, o17, o18, o19, o20, o21, o22, o23, o24, o25
  isplitr [H]
  · ipureintro; exact h
  · iexact H

/-- In each of the four cases of a point, `Post` holds of what the body leaves in the outputs and the scratch. -/
def BodyPosts (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (g13 : BufTy.Contents (Elt F) arg13.view.ty) (g14 : BufTy.Contents (Elt F) arg14.view.ty) (g15 : BufTy.Contents (Elt F) arg15.view.ty) (g16 : BufTy.Contents (Elt F) arg16.view.ty) (g17 : BufTy.Contents (Elt F) arg17.view.ty) (g18 : BufTy.Contents (Elt F) arg18.view.ty) (g19 : BufTy.Contents (Elt F) arg19.view.ty) (g20 : BufTy.Contents (Elt F) arg20.view.ty) (g21 : BufTy.Contents (Elt F) arg21.view.ty) (g22 : BufTy.Contents (Elt F) arg22.view.ty) (g23 : BufTy.Contents (Elt F) arg23.view.ty) (g24 : BufTy.Contents (Elt F) arg24.view.ty) (g25 : BufTy.Contents (Elt F) arg25.view.ty)
    (hw : ∀ (r : LoadRect S8192) (x), k0_chk2 (View.readAt (Elt F) arg1.view r X1 x)) (hw3 : ∀ (r : LoadRect S8192) (x), k0_chk3 (View.readAt (Elt F) arg1.view r X1 x))
    (Post : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg22.view.ty → BufTy.Contents (Elt F) arg23.view.ty → BufTy.Contents (Elt F) arg24.view.ty → BufTy.Contents (Elt F) arg25.view.ty → Prop) : Prop :=
  ( ∀ (h1 : (Scalar.cmpi .ne (Scalar.extui (Scalar.cmpi .eq arg0 0#32)) 0#32 = 1#1)) (h2 : (k0_cond2 arg0 (BitVec.ofNat 32 (b 0)) = 1#1)), Post (bodyFL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).1 (bodyFL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.1 (bodyFL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.1 (bodyFL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.1 (bodyFL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.1 (bodyFL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.1 (bodyFL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.1 (bodyFL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.1 (bodyFL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.2.1 (bodyFL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.2.2.1 (bodyFL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.2.2.2.1 (bodyFL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.2.2.2.2.1 (bodyFL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.2.2.2.2.2.1) ∧
  ( ∀ (h1 : (Scalar.cmpi .ne (Scalar.extui (Scalar.cmpi .eq arg0 0#32)) 0#32 = 1#1)) (h2 : ¬ (k0_cond2 arg0 (BitVec.ofNat 32 (b 0)) = 1#1)), Post (bodyFN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).1 (bodyFN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.1 (bodyFN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.1 (bodyFN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.1 (bodyFN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.1 (bodyFN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.1 (bodyFN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.1 (bodyFN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.1 (bodyFN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.2.1 (bodyFN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.2.2.1 (bodyFN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.2.2.2.1 (bodyFN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.2.2.2.2.1 (bodyFN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.2.2.2.2.2.1) ∧
  ( ∀ (h1 : ¬ (Scalar.cmpi .ne (Scalar.extui (Scalar.cmpi .eq arg0 0#32)) 0#32 = 1#1)) (h2 : (k0_cond2 arg0 (BitVec.ofNat 32 (b 0)) = 1#1)), Post (bodyNL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).1 (bodyNL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.1 (bodyNL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.1 (bodyNL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.1 (bodyNL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.1 (bodyNL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.1 (bodyNL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.1 (bodyNL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.1 (bodyNL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.2.1 (bodyNL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.2.2.1 (bodyNL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.2.2.2.1 (bodyNL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.2.2.2.2.1 (bodyNL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.2.2.2.2.2.1) ∧
  ( ∀ (h1 : ¬ (Scalar.cmpi .ne (Scalar.extui (Scalar.cmpi .eq arg0 0#32)) 0#32 = 1#1)) (h2 : ¬ (k0_cond2 arg0 (BitVec.ofNat 32 (b 0)) = 1#1)), Post (bodyNN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).1 (bodyNN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.1 (bodyNN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.1 (bodyNN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.1 (bodyNN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.1 (bodyNN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.1 (bodyNN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.1 (bodyNN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.1 (bodyNN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.2.1 (bodyNN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.2.2.1 (bodyNN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.2.2.2.1 (bodyNN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.2.2.2.2.1 (bodyNN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.2.2.2.2.2.1)

set_option maxHeartbeats 4000000 in
/-- The body at a point, what it leaves in the outputs and the scratch constrained by `Post`. -/
theorem body_wp (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (g13 : BufTy.Contents (Elt F) arg13.view.ty) (g14 : BufTy.Contents (Elt F) arg14.view.ty) (g15 : BufTy.Contents (Elt F) arg15.view.ty) (g16 : BufTy.Contents (Elt F) arg16.view.ty) (g17 : BufTy.Contents (Elt F) arg17.view.ty) (g18 : BufTy.Contents (Elt F) arg18.view.ty) (g19 : BufTy.Contents (Elt F) arg19.view.ty) (g20 : BufTy.Contents (Elt F) arg20.view.ty) (g21 : BufTy.Contents (Elt F) arg21.view.ty) (g22 : BufTy.Contents (Elt F) arg22.view.ty) (g23 : BufTy.Contents (Elt F) arg23.view.ty) (g24 : BufTy.Contents (Elt F) arg24.view.ty) (g25 : BufTy.Contents (Elt F) arg25.view.ty)
    (hw : ∀ (r : LoadRect S8192) (x), k0_chk2 (View.readAt (Elt F) arg1.view r X1 x)) (hw3 : ∀ (r : LoadRect S8192) (x), k0_chk3 (View.readAt (Elt F) arg1.view r X1 x))
    (Post : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg22.view.ty → BufTy.Contents (Elt F) arg23.view.ty → BufTy.Contents (Elt F) arg24.view.ty → BufTy.Contents (Elt F) arg25.view.ty → Prop)
    (hPost : BodyPosts (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 Post)
    (E : Set ℕ) :
    iprop(BodyRes (F := F) c arg1 arg2 arg3 arg4 arg5 arg6 arg7 arg8 arg9 arg10 arg11 arg12 arg13 arg14 arg15 arg16 arg17 arg18 arg19 arg20 arg21 arg22 arg23 arg24 arg25 X1 X2 X3 X4 X5 X6 X7 X8 X9 X10 X11 X12 g13 g14 g15 g16 g17 g18 g19 g20 g21 g22 g23 g24 g25)
      ⊢ wp frame (wpE (defs₀ (F := F)) 𝒱 (c : Thread nD τ) bd) E (cc0_activation_unit (F := F) b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25)
          (fun _ => iprop(∃ o13 o14 o15 o16 o17 o18 o19 o20 o21 o22 o23 o24 o25, ⌜Post o13 o14 o15 o16 o17 o18 o19 o20 o21 o22 o23 o24 o25⌝ ∗ BodyRes (F := F) c arg1 arg2 arg3 arg4 arg5 arg6 arg7 arg8 arg9 arg10 arg11 arg12 arg13 arg14 arg15 arg16 arg17 arg18 arg19 arg20 arg21 arg22 arg23 arg24 arg25 X1 X2 X3 X4 X5 X6 X7 X8 X9 X10 X11 X12 o13 o14 o15 o16 o17 o18 o19 o20 o21 o22 o23 o24 o25)) := by
  obtain ⟨hFL, hFN, hNL, hNN⟩ := hPost
  by_cases h1 : (Scalar.cmpi .ne (Scalar.extui (Scalar.cmpi .eq arg0 0#32)) 0#32 = 1#1)
  · by_cases h2 : (k0_cond2 arg0 (BitVec.ofNat 32 (b 0)) = 1#1)
    · exact ((bodyFL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.2.2.2.2.2.2 E).trans (wp_mono _ _ _ fun _ => ex13 (hFL h1 h2))
    · exact ((bodyFN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.2.2.2.2.2.2 E).trans (wp_mono _ _ _ fun _ => ex13 (hFN h1 h2))
  · by_cases h2 : (k0_cond2 arg0 (BitVec.ofNat 32 (b 0)) = 1#1)
    · exact ((bodyNL (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.2.2.2.2.2.2 E).trans (wp_mono _ _ _ fun _ => ex13 (hNL h1 h2))
    · exact ((bodyNN (F := F) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 h1 h2).2.2.2.2.2.2.2.2.2.2.2.2.2 E).trans (wp_mono _ _ _ fun _ => ex13 (hNN h1 h2))

/-- What the body leaves at a point, the windows' buffers given by what is read of them. -/
abbrev OwnPosts (c : Dev nD) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (X1 : BufTy.Contents (Elt F) arg1.view.ty) (Y2 : S512x128.Idx → Elt F .i32) (Y3 : S16x128.Idx → Elt F .i32) (Y4 : S512x128.Idx → Elt F .i32) (Y5 : S16x128.Idx → Elt F .i32) (Y6 : S256x256.Idx → Elt F .bf16) (Y7 : S768x256.Idx → Elt F .bf16) (Y8 : S256x128.Idx → Elt F .bf16) (Y9 : S256x256.Idx → Elt F .bf16) (Y10 : S1x256.Idx → Elt F .f32) (Y11 : S1x256.Idx → Elt F .f32) (Y12 : S1x128.Idx → Elt F .f32) (Y13 : S1024x256.Idx → Elt F .bf16) (Y14 : S1024x128.Idx → Elt F .f32) (g15 : BufTy.Contents (Elt F) arg15.view.ty) (g16 : BufTy.Contents (Elt F) arg16.view.ty) (g17 : BufTy.Contents (Elt F) arg17.view.ty) (g18 : BufTy.Contents (Elt F) arg18.view.ty) (g19 : BufTy.Contents (Elt F) arg19.view.ty) (g20 : BufTy.Contents (Elt F) arg20.view.ty) (g21 : BufTy.Contents (Elt F) arg21.view.ty) (g22 : BufTy.Contents (Elt F) arg22.view.ty) (g23 : BufTy.Contents (Elt F) arg23.view.ty) (g24 : BufTy.Contents (Elt F) arg24.view.ty) (g25 : BufTy.Contents (Elt F) arg25.view.ty)
    (hw : ∀ (r : LoadRect S8192) (x), k0_chk2 (View.readAt (Elt F) arg1.view r X1 x)) (hw3 : ∀ (r : LoadRect S8192) (x), k0_chk3 (View.readAt (Elt F) arg1.view r X1 x))
    (Post : (S1024x256.Idx → Elt F .bf16) → (S1024x128.Idx → Elt F .f32) → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg22.view.ty → BufTy.Contents (Elt F) arg23.view.ty → BufTy.Contents (Elt F) arg24.view.ty → BufTy.Contents (Elt F) arg25.view.ty → Prop) : Prop :=
  BodyPosts (F := F) Variants.none c none b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 (harg2.unread Y2) (harg3.unread Y3) (harg4.unread Y4) (harg5.unread Y5) (harg6.unread Y6) (harg7.unread Y7) (harg8.unread Y8) (harg9.unread Y9) (harg10.unread Y10) (harg11.unread Y11) (harg12.unread Y12) (harg13.unread Y13) (harg14.unread Y14) g15 g16 g17 g18 g19 g20 g21 g22 g23 g24 g25 hw hw3
    (fun o13 o14 o15 o16 o17 o18 o19 o20 o21 o22 o23 o24 o25 => Post (arg13.view.read (Elt F) o13) (arg14.view.read (Elt F) o14) o15 o16 o17 o18 o19 o20 o21 o22 o23 o24 o25)

set_option maxHeartbeats 4000000 in
/-- The body at a point, over what is read of the windows' buffers. -/
theorem body_owns (c : Dev nD) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (X1 : BufTy.Contents (Elt F) arg1.view.ty) (Y2 : S512x128.Idx → Elt F .i32) (Y3 : S16x128.Idx → Elt F .i32) (Y4 : S512x128.Idx → Elt F .i32) (Y5 : S16x128.Idx → Elt F .i32) (Y6 : S256x256.Idx → Elt F .bf16) (Y7 : S768x256.Idx → Elt F .bf16) (Y8 : S256x128.Idx → Elt F .bf16) (Y9 : S256x256.Idx → Elt F .bf16) (Y10 : S1x256.Idx → Elt F .f32) (Y11 : S1x256.Idx → Elt F .f32) (Y12 : S1x128.Idx → Elt F .f32) (Y13 : S1024x256.Idx → Elt F .bf16) (Y14 : S1024x128.Idx → Elt F .f32) (g15 : BufTy.Contents (Elt F) arg15.view.ty) (g16 : BufTy.Contents (Elt F) arg16.view.ty) (g17 : BufTy.Contents (Elt F) arg17.view.ty) (g18 : BufTy.Contents (Elt F) arg18.view.ty) (g19 : BufTy.Contents (Elt F) arg19.view.ty) (g20 : BufTy.Contents (Elt F) arg20.view.ty) (g21 : BufTy.Contents (Elt F) arg21.view.ty) (g22 : BufTy.Contents (Elt F) arg22.view.ty) (g23 : BufTy.Contents (Elt F) arg23.view.ty) (g24 : BufTy.Contents (Elt F) arg24.view.ty) (g25 : BufTy.Contents (Elt F) arg25.view.ty)
    (hw : ∀ (r : LoadRect S8192) (x), k0_chk2 (View.readAt (Elt F) arg1.view r X1 x)) (hw3 : ∀ (r : LoadRect S8192) (x), k0_chk3 (View.readAt (Elt F) arg1.view r X1 x))
    (Post : (S1024x256.Idx → Elt F .bf16) → (S1024x128.Idx → Elt F .f32) → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg22.view.ty → BufTy.Contents (Elt F) arg23.view.ty → BufTy.Contents (Elt F) arg24.view.ty → BufTy.Contents (Elt F) arg25.view.ty → Prop)
    (hPost : OwnPosts (F := F) c b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 Y2 Y3 Y4 Y5 Y6 Y7 Y8 Y9 Y10 Y11 Y12 Y13 Y14 g15 g16 g17 g18 g19 g20 g21 g22 g23 g24 g25 hw hw3 Post)
    (E : Set ℕ) :
    (iprop((arg1.view.loc (c : Thread nD τ) ↦[arg1.view.set]{fullShare.right} X1) ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare Y11 ∗ owns (c : Thread nD τ) arg12 fullShare Y12 ∗ owns (c : Thread nD τ) arg13 fullShare Y13 ∗ owns (c : Thread nD τ) arg14 fullShare Y14 ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22) ∗ (arg23.view.loc (c : Thread nD τ) ↦[arg23.view.set]{fullShare} g23) ∗ (arg24.view.loc (c : Thread nD τ) ↦[arg24.view.set]{fullShare} g24) ∗ (arg25.view.loc (c : Thread nD τ) ↦[arg25.view.set]{fullShare} g25)) : sProp 𝕄)
      ⊢ wp frame (wpE (defs₀ (F := F)) Variants.none (c : Thread nD τ) none) E (cc0_activation_unit (F := F) b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25)
          (fun _ => iprop((arg1.view.loc (c : Thread nD τ) ↦[arg1.view.set]{fullShare.right} X1) ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare Y11 ∗ owns (c : Thread nD τ) arg12 fullShare Y12
            ∗ ∃ Z13 Z14 o15 o16 o17 o18 o19 o20 o21 o22 o23 o24 o25, ⌜Post Z13 Z14 o15 o16 o17 o18 o19 o20 o21 o22 o23 o24 o25⌝ ∗ owns (c : Thread nD τ) arg13 fullShare Z13 ∗ owns (c : Thread nD τ) arg14 fullShare Z14 ∗ (arg15.view.loc (c : Thread nD τ) ↦[arg15.view.set]{fullShare} o15) ∗ (arg16.view.loc (c : Thread nD τ) ↦[arg16.view.set]{fullShare} o16) ∗ (arg17.view.loc (c : Thread nD τ) ↦[arg17.view.set]{fullShare} o17) ∗ (arg18.view.loc (c : Thread nD τ) ↦[arg18.view.set]{fullShare} o18) ∗ (arg19.view.loc (c : Thread nD τ) ↦[arg19.view.set]{fullShare} o19) ∗ (arg20.view.loc (c : Thread nD τ) ↦[arg20.view.set]{fullShare} o20) ∗ (arg21.view.loc (c : Thread nD τ) ↦[arg21.view.set]{fullShare} o21) ∗ (arg22.view.loc (c : Thread nD τ) ↦[arg22.view.set]{fullShare} o22) ∗ (arg23.view.loc (c : Thread nD τ) ↦[arg23.view.set]{fullShare} o23) ∗ (arg24.view.loc (c : Thread nD τ) ↦[arg24.view.set]{fullShare} o24) ∗ (arg25.view.loc (c : Thread nD τ) ↦[arg25.view.set]{fullShare} o25))) := by
  unfold owns
  iintro ⟨H1, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, H15, H16, H17, H18, H19, H20, H21, H22, H23, H24, H25⟩
  obtain rfl := harg2.eq_unread h2
  obtain rfl := harg3.eq_unread h3
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := harg10.eq_unread h10
  obtain rfl := harg11.eq_unread h11
  obtain rfl := harg12.eq_unread h12
  obtain rfl := harg13.eq_unread h13
  obtain rfl := harg14.eq_unread h14
  iapply (wp_wand_r Idealize.ShloMosaic.frame (wpE (defs₀ (F := F)) Variants.none (c : Thread nD τ) none) E)
  isplitl [H1 H2 H3 H4 H5 H6 H7 H8 H9 H10 H11 H12 H13 H14 H15 H16 H17 H18 H19 H20 H21 H22 H23 H24 H25]
  · iapply (body_wp (F := F) Variants.none c none b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 (harg2.unread Y2) (harg3.unread Y3) (harg4.unread Y4) (harg5.unread Y5) (harg6.unread Y6) (harg7.unread Y7) (harg8.unread Y8) (harg9.unread Y9) (harg10.unread Y10) (harg11.unread Y11) (harg12.unread Y12) (harg13.unread Y13) (harg14.unread Y14) g15 g16 g17 g18 g19 g20 g21 g22 g23 g24 g25 hw hw3 _ hPost E)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25
  · iintro %_ ⟨%o13, %o14, %o15, %o16, %o17, %o18, %o19, %o20, %o21, %o22, %o23, %o24, %o25, %hP, H1, H2, H3, H4, H5, H6, H7, H8, H9, H10, H11, H12, H13, H14, H15, H16, H17, H18, H19, H20, H21, H22, H23, H24, H25⟩
    isplitl [H1]; · iexact H1
    isplitl [H2]
    · iexists _; isplitr [H2]
      · ipureintro; exact h2
      · iexact H2
    isplitl [H3]
    · iexists _; isplitr [H3]
      · ipureintro; exact h3
      · iexact H3
    isplitl [H4]
    · iexists _; isplitr [H4]
      · ipureintro; exact h4
      · iexact H4
    isplitl [H5]
    · iexists _; isplitr [H5]
      · ipureintro; exact h5
      · iexact H5
    isplitl [H6]
    · iexists _; isplitr [H6]
      · ipureintro; exact h6
      · iexact H6
    isplitl [H7]
    · iexists _; isplitr [H7]
      · ipureintro; exact h7
      · iexact H7
    isplitl [H8]
    · iexists _; isplitr [H8]
      · ipureintro; exact h8
      · iexact H8
    isplitl [H9]
    · iexists _; isplitr [H9]
      · ipureintro; exact h9
      · iexact H9
    isplitl [H10]
    · iexists _; isplitr [H10]
      · ipureintro; exact h10
      · iexact H10
    isplitl [H11]
    · iexists _; isplitr [H11]
      · ipureintro; exact h11
      · iexact H11
    isplitl [H12]
    · iexists _; isplitr [H12]
      · ipureintro; exact h12
      · iexact H12
    iexists _, _, o15, o16, o17, o18, o19, o20, o21, o22, o23, o24, o25
    isplitr [H13 H14 H15 H16 H17 H18 H19 H20 H21 H22 H23 H24 H25]
    · ipureintro; exact hP
    isplitl [H13]
    · iexists _; isplitr [H13]
      · ipureintro; rfl
      · iexact H13
    isplitl [H14]
    · iexists _; isplitr [H14]
      · ipureintro; rfl
      · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

/-- The pipeline at the tables' contents. -/
abbrev cfgA (a : (p : Fin 1) → (pcfgs (F := F) p).Adm) : Pipeline.Cfg sig Λ₀ := Pipeline.pin (pcfgs (F := F)) a 0

/-- The scratch buffers at the contents `S`. -/
def scrOwn (c : Dev nD) (S : Scr F) : sProp 𝕄 :=
  iprop(((Memref.whole cc0_scratch0).view.loc (c : Thread nD τ) ↦[(Memref.whole cc0_scratch0).view.set]{fullShare} S.s0) ∗ ((Memref.whole cc0_scratch1).view.loc (c : Thread nD τ) ↦[(Memref.whole cc0_scratch1).view.set]{fullShare} S.s1) ∗ ((Memref.whole cc0_scratch2).view.loc (c : Thread nD τ) ↦[(Memref.whole cc0_scratch2).view.set]{fullShare} S.s2) ∗ ((Memref.whole cc0_scratch3).view.loc (c : Thread nD τ) ↦[(Memref.whole cc0_scratch3).view.set]{fullShare} S.s3) ∗ ((Memref.whole cc0_scratch4).view.loc (c : Thread nD τ) ↦[(Memref.whole cc0_scratch4).view.set]{fullShare} S.s4) ∗ ((Memref.whole cc0_scratch5).view.loc (c : Thread nD τ) ↦[(Memref.whole cc0_scratch5).view.set]{fullShare} S.s5) ∗ ((Memref.whole cc0_scratch6).view.loc (c : Thread nD τ) ↦[(Memref.whole cc0_scratch6).view.set]{fullShare} S.s6) ∗ ((Memref.whole cc0_scratch7).view.loc (c : Thread nD τ) ↦[(Memref.whole cc0_scratch7).view.set]{fullShare} S.s7) ∗ ((Memref.whole cc0_scratch8).view.loc (c : Thread nD τ) ↦[(Memref.whole cc0_scratch8).view.set]{fullShare} S.s8) ∗ ((Memref.whole cc0_scratch9).view.loc (c : Thread nD τ) ↦[(Memref.whole cc0_scratch9).view.set]{fullShare} S.s9) ∗ ((Memref.whole cc0_scratch10).view.loc (c : Thread nD τ) ↦[(Memref.whole cc0_scratch10).view.set]{fullShare} S.s10))

/-- What is carried between points: the scratch at contents of which `Inv` holds, the generator, the tables. -/
def carried (a : (p : Fin 1) → (pcfgs (F := F) p).Adm) (c : Dev nD) (Inv : Scr F → Prop) : sProp 𝕄 :=
  iprop((∃ S : Scr F, ⌜Inv S⌝ ∗ scrOwn c S) ∗ (∃ r, prngReg c r) ∗ Pipeline.ΦT (pcfgs (F := F) 0).pre (a 0).1 c)

/-- The proof data: the windows' arrays at the contents `V` at entry, the relation `aft` of what a point leaves in a
    window's buffer to what it found there, the invariant `Inv` of the scratch before a point. -/
def rdat (a : (p : Fin 1) → (pcfgs (F := F) p).Adm) (V : (c : Dev nD) → (b : Ref sig .tc) → Buf (Elt F) ((c.tc : Thread nD τ).loc b))
    (aft : (w : Fin 13) → Fin (cfgA a).N → (Y X : ((cfgA a).win w).block.Idx → Elt F ((cfgA a).win w).elt) → Prop)
    (Inv : ℕ → Scr F → Prop) (c : Dev nD) : Pipeline.RDat τ (Elt F) Unit ℕ (UR sig nD τ) ℕ (cfgA a) c where
  A w := V c (Pipeline.arrRef (cfgA a).spec w)
  after := aft
  Φ t := carried a c (Inv t.val)
  q _ := fullShare
  owed _ := 0

theorem scrOwn_intro (c : Dev nD) :
    (Pipeline.scopedRest (Ix := Unit) (Name := ℕ) (U := UR sig nD τ) (Lvl := ℕ) (Val := Elt F) spec0 c : sProp 𝕄) ⊢ iprop(∃ S : Scr F, scrOwn c S) := by
  rw [scopedRest0_eq]
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩⟩
  iexists (⟨f0, f1, f2, f3, f4, f5, f6, f7, f8, f9, f10⟩ : Scr F)
  unfold scrOwn
  simp only [Memref.view_whole, View.set_whole]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem scrOwn_elim (c : Dev nD) (S : Scr F) :
    (scrOwn c S : sProp 𝕄) ⊢ Pipeline.scopedRest (Ix := Unit) (Name := ℕ) (U := UR sig nD τ) (Lvl := ℕ) (Val := Elt F) spec0 c := by
  rw [scopedRest0_eq]
  unfold scrOwn
  simp only [Memref.view_whole, View.set_whole]
  iintro ⟨H0, H1, H2, H3, H4, H5, H6, H7, H8, H9, H10⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iexists _; iexact H10

end Cert.Proof.KernelIdeal

end
-- ==== Proof.Checks.lean ====
/- The side conditions of the kernel's accesses and of its windows, from the bounds on the group words. -/
module

public import proofs.«01_k».proof.Proof.Gen.KernelIdeal.Launch
public import Idealize.ShloMosaic.Lib.StableHlo.Predicate

@[expose] public section

namespace Cert.Proof.KernelIdeal

open Idealize.ShloMosaic Idealize.ShloMosaic.TcCoe
open Cert.KernelIdeal Cert.KernelIdeal.Gen

variable {F : FTy → Type} [FloatOps F]

/-- Every tile's table words lie inside the table. -/
theorem chk1_ofNat (t : ℕ) (ht : t < 128) : k0_chk1 (BitVec.ofNat 32 t) := by
  refine ⟨fun k4 k5 a => ?_, fun k4 k6 a => ?_⟩
  · have h4 : k4.val < 4 := lt_of_lt_of_le k4.isLt k0_t4_abs.2.1
    have h5 : k5.val < 16 := lt_of_lt_of_le k5.isLt k0_t5_abs.2.1
    have ha : a = 0 := Subsingleton.elim _ _
    subst ha
    simp only [k0_off10, Scalar.muli, Scalar.addi, Scalar.indexCast, Scf.iv, IntOp.muli, IntOp.addi, Matrix.cons_val_zero]
    simp only [BitVec.toNat_add, BitVec.toNat_mul, BitVec.toNat_ofNat]
    show _ + 1 ≤ 8192
    omega
  · have h4 : k4.val < 4 := lt_of_lt_of_le k4.isLt k0_t4_abs.2.1
    have h6 : k6.val < 16 := lt_of_lt_of_le k6.isLt k0_t6_abs.2.1
    have ha : a = 0 := Subsingleton.elim _ _
    subst ha
    simp only [k0_off28, Scalar.muli, Scalar.addi, Scalar.indexCast, Scf.iv, IntOp.muli, IntOp.addi, Matrix.cons_val_zero]
    simp only [BitVec.toNat_add, BitVec.toNat_mul, BitVec.toNat_ofNat]
    show _ + 1 ≤ 8192
    omega

/-- The target row of a group word is a row of the target table. -/
theorem chk2_of (w : BitVec 32) (h : (IntOp.shrsi .scalar w 8#32).toNat ≤ 1024) : k0_chk2 w := by
  intro a
  match a with
  | 0 =>
    show (IntOp.shrsi .scalar w 8#32).toNat + 1 ≤ 1032
    omega
  | 1 => show 0 + 128 ≤ 128; omega

/-- The accumulator rows and the index rows of a group word lie inside their buffers. -/
theorem chk3_of (w : BitVec 32) (h : (IntOp.shrsi .scalar w 8#32).toNat ≤ 1024) (hn : (w &&& 31#32).toNat ≤ 16) : k0_chk3 w := by
  have h8 : (IntOp.shrsi .scalar w 8#32 * 8#32).toNat + 8 ≤ 8200 := by
    rw [BitVec.toNat_mul]
    show (_ * 8) % 2 ^ 32 + 8 ≤ 8200
    omega
  refine ⟨fun r a => ?_, fun a => ?_, fun a => ?_, fun a => ?_⟩
  · match a with
    | 0 =>
      show ((w &&& 31#32) * 16#32 + BitVec.ofNat 32 (8 * r.val)).toNat + 8 ≤ 272
      have := r.isLt
      simp only [BitVec.toNat_add, BitVec.toNat_mul, BitVec.toNat_ofNat]
      omega
    | 1 => show 0 + 128 ≤ 128; omega
  all_goals
    match a with
    | 0 => first | (show 0 + 1 ≤ 3; omega) | (show 1 + 1 ≤ 3; omega) | (show 2 + 1 ≤ 3; omega)
    | 1 => exact h8
    | 2 => show 0 + 128 ≤ 128; omega

/-- The windows' side condition holds at every number of tiles the table has room for. -/
theorem ok0_of (pf : pre0.Contents (Elt F)) (h1 : 1 ≤ (pf 0 fun a => a.elim0).toNat) (h2 : (pf 0 fun a => a.elim0).toNat ≤ 128) : ok0 pf := by
  have hb : dynb0 pf = ![(pf 0 fun a => a.elim0).toNat] := rfl
  have hi : ∀ i : (grid0.at (dynb0 pf)).Coords, (i 0).val < 128 := fun i => by
    have := (i 0).isLt
    have hx : (grid0.at (dynb0 pf)).bound 0 = (pf 0 fun a => a.elim0).toNat := rfl
    omega
  refine ⟨?_, ?_, ?_, ?_, ?_, ?_, ?_, ?_, ?_, ?_, ?_, ?_, ?_, ?_⟩
  · show (List.ofFn ((grid0.at (dynb0 pf)).bound)).prod + 2 < 2 ^ 31
    have hx : List.ofFn ((grid0.at (dynb0 pf)).bound) = [(pf 0 fun a => a.elim0).toNat] := rfl
    rw [hx]; simp only [List.prod_singleton]; omega
  · intro i
    refine ⟨fun a => ?_, Or.inl rfl⟩
    have := hi i
    match a with
    | 0 =>
      show ((BitVec.ofNat 32 (i 0).val).toNat + 1) * 512 ≤ 66048
      rw [BitVec.toNat_ofNat]; omega
    | 1 => show (0 + 1) * 128 ≤ 128; omega
  · intro i
    refine ⟨fun a => ?_, Or.inl rfl⟩
    have := hi i
    match a with
    | 0 =>
      show ((BitVec.ofNat 32 (i 0).val).toNat + 1) * 16 ≤ 2064
      rw [BitVec.toNat_ofNat]; omega
    | 1 => show (0 + 1) * 128 ≤ 128; omega
  · exact fun i => ⟨fun a => match a with | 0 => (by omega : (128 + 1) * 512 ≤ 66048) | 1 => (by omega : (0 + 1) * 128 ≤ 128), Or.inl rfl⟩
  · exact fun i => ⟨fun a => match a with | 0 => (by omega : (128 + 1) * 16 ≤ 2064) | 1 => (by omega : (0 + 1) * 128 ≤ 128), Or.inl rfl⟩
  all_goals
    intro i
    refine ⟨fun a => match a with | 0 => (by exact Nat.le_refl _) | 1 => (by exact Nat.le_refl _), ?_⟩
    first
      | exact Or.inl rfl
      | exact Or.inr (Or.inr ⟨Nat.le_refl 2, rfl, rfl, rfl⟩)

end Cert.Proof.KernelIdeal
-- ==== Proof.PreFacts.lean ====
/- What the precondition says of the group words and of the number of tiles. -/
module

public import proofs.«01_k».proof.Proof.Gen.Pre_groups_in_order
public import Idealize.ShloMosaic.Lib.StableHlo.Predicate

@[expose] public section

namespace Cert.Proof

open Idealize.ShloMosaic Idealize.ShloMosaic.StableHlo.Predicate
open Cert.Pre_groups_in_order

theorem andi_one (a b : BitVec 1) : IntOp.andi a b = 1#1 ↔ a = 1#1 ∧ b = 1#1 := by
  revert a b; decide

theorem ori_one (a b : BitVec 1) : IntOp.ori a b = 1#1 ↔ a = 1#1 ∨ b = 1#1 := by
  revert a b; decide

/-- A word between zero and a small bound, both signed. -/
theorem toNat_le_of_sge_sle (a : BitVec 32) (n : ℕ) (hn : n < 2 ^ 31) (h0 : IntOp.cmpi .sge a 0#32 = 1#1)
    (h1 : IntOp.cmpi .sle a (BitVec.ofNat 32 n) = 1#1) : a.toNat ≤ n := by
  simp only [IntOp.cmpi, ofBool_eq_one_iff, BitVec.sle, decide_eq_true_eq, toInt_ofNat_small n hn] at h0 h1
  have h2 := BitVec.toInt_eq_toNat_cond a
  simp only [BitVec.toInt_zero, BitVec.ofNat_eq_ofNat] at h0
  have := a.isLt
  split at h2 <;> omega

/-- The facts, group word by group word. -/
theorem pre_facts {F : FTy → Type} [FloatOps F] (a0 : IVec S8192 32) (a1 : IVec S66048x128 32) (a2 : IVec S2064x128 32) (a3 : IVec S66048x128 32) (a4 : IVec S2064x128 32) (a5 : IVec S_ 32)
    (a6 : FVec F S256x256 .bf16) (a7 : FVec F S768x256 .bf16) (a8 : FVec F S256x128 .bf16) (a9 : FVec F S128 .bf16) (a10 a11 : FVec F S1x256 .f32) (a12 : FVec F S1x128 .f32)
    (h : fn (F := F) a0 a1 a2 a3 a4 a5 a6 a7 a8 a9 a10 a11 a12 = fun _ => 1#1) (j : S8192.Idx) :
    (1 ≤ (a5 fun a => a.elim0).toNat ∧ (a5 fun a => a.elim0).toNat ≤ 128)
    ∧ ((a0 j &&& 31#32).toNat ≤ 16) ∧ ((IntOp.shrsi .host (a0 j) 8#32).toNat ≤ 1024) := by
  have e := congrFun h j
  simp only [fn, fn_part1, fn_part2, fn_where, andi, ori, noti, cmpi, constantI, broadcastInDim, Host.shrsi] at e
  simp only [andi_one] at e
  have hS : ∀ f : S_.Idx, f = fun a => a.elim0 := fun f => funext fun a => a.elim0
  rw [hS (fun a : Fin 0 => _)] at e
  obtain ⟨⟨⟨⟨⟨⟨e1, e2⟩, e3⟩, e4⟩, e5⟩, -⟩, -⟩ := e
  refine ⟨?_, ?_, toNat_le_of_sge_sle _ 1024 (by decide) e4 e5⟩
  · have h0 : IntOp.cmpi .sge (a5 fun a => a.elim0) 0#32 = 1#1 := by
      simp only [IntOp.cmpi, ofBool_eq_one_iff, BitVec.sle, decide_eq_true_eq] at e1 ⊢
      exact le_trans (by decide) e1
    have h1 := toNat_le_of_sge_sle _ 128 (by decide) h0 e2
    exact ⟨(sge_iff_toNat (by omega) (by decide)).1 e1, h1⟩
  · have h1 : (a0 j &&& 31#32).toNat ≤ 31 := by
      rw [BitVec.toNat_and]; exact Nat.and_le_right
    exact (sle_iff_toNat (a := a0 j &&& 31#32) (b := 16#32) (by omega) (by decide)).1 e3

end Cert.Proof
-- ==== Proof.Run.lean ====
module

public import proofs.«01_k».proof.Proof.Step
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Tactic
public import Idealize.ShloMosaic.Lib.Pipeline.Frame
public import proofs.«01_k».proof.Proof.Checks
public import proofs.«01_k».proof.Proof.PreFacts

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (a : (p : Fin 1) → (pcfgs (F := F) p).Adm) (V : (c : Dev nD) → (b : Ref sig .tc) → Buf (Elt F) ((c.tc : Thread nD τ).loc b))
  (aft : (w : Fin 13) → Fin (cfgA a).N → (Y X : ((cfgA a).win w).block.Idx → Elt F ((cfgA a).win w).elt) → Prop) (Inv : ℕ → Scr F → Prop)

/-- The two tables, one by one. -/
theorem tables_eq (c : Dev nD) : (Pipeline.ΦT (Val := Elt F) (U := UR sig nD τ) (pcfgs (F := F) 0).pre (a 0).1 c : sProp 𝕄)
    = iprop(((c : Thread nD τ).loc main_arg5 ↦{fullShare.right} (a 0).1 0) ∗ ((c : Thread nD τ).loc main_arg0 ↦{fullShare.right} (a 0).1 1)) := by
  unfold Pipeline.ΦT Pipeline.prefHeld
  exact bigSep_univ_eq_bigSepL [(0 : Fin 2), (1 : Fin 2)] (by decide) (by decide) _

theorem whole_in (c : Dev nD) (b : Ref sig .tc) (q : PosShare TreeShare) (f : b.ty.Contents (Elt F)) :
    ((c : Thread nD τ).loc b ↦{q} f : sProp 𝕄) ⊢ (Memref.whole b).view.loc (c : Thread nD τ) ↦[(Memref.whole b).view.set]{q} f := by
  simp only [Memref.view_whole, View.set_whole]
  exact .rfl

theorem whole_out (c : Dev nD) (b : Ref sig .tc) (q : PosShare TreeShare) (f : b.ty.Contents (Elt F)) :
    ((Memref.whole b).view.loc (c : Thread nD τ) ↦[(Memref.whole b).view.set]{q} f : sProp 𝕄) ⊢ (c : Thread nD τ).loc b ↦{q} f := by
  simp only [Memref.view_whole, View.set_whole]
  exact .rfl

set_option maxHeartbeats 4000000 in
/-- The body obligation at every point, from what the body leaves. -/
theorem obligation (c : Dev nD) (hw : ∀ j, k0_chk2 ((a 0).1 1 j)) (hw3 : ∀ j, k0_chk3 ((a 0).1 1 j))
    (hN : ∀ t : Fin (cfgA a).N, k0_chk1 (BitVec.ofNat 32 ((cfgA a).grid.coords t 0).val))
    (haft : ∀ w : Fin 13, w.val < 11 → ∀ t Y, aft w t Y Y)
    (hstep : ∀ (t : Fin (cfgA a).N) (Y : (w : Fin 13) → ((cfgA a).win w).block.Idx → Elt F ((cfgA a).win w).elt) (S : Scr F), (∀ w, (rdat a V aft Inv c).Finds w t (Y w)) → Inv t.val S →
      OwnPosts (F := F) c (dynb0 (a 0).1) (Pipeline.Grid.Coords.static grid0 ((cfgA a).grid.coords t)) (BitVec.ofNat 32 ((cfgA a).grid.coords t 0).val) (Memref.whole main_arg0) (Memref.isWhole_whole _) (spec0_0.stage (((cfgA a).slots t) 0)) (hstage0_0 ((((cfgA a).slots t) 0).cast nbuf0_0)) (spec0_1.stage (((cfgA a).slots t) 1)) (hstage0_1 ((((cfgA a).slots t) 1).cast nbuf0_1)) (spec0_2.stage (((cfgA a).slots t) 2)) (hstage0_2 ((((cfgA a).slots t) 2).cast nbuf0_2)) (spec0_3.stage (((cfgA a).slots t) 3)) (hstage0_3 ((((cfgA a).slots t) 3).cast nbuf0_3)) (spec0_4.stage (((cfgA a).slots t) 4)) (hstage0_4 ((((cfgA a).slots t) 4).cast nbuf0_4)) (spec0_5.stage (((cfgA a).slots t) 5)) (hstage0_5 ((((cfgA a).slots t) 5).cast nbuf0_5)) (spec0_6.stage (((cfgA a).slots t) 6)) (hstage0_6 ((((cfgA a).slots t) 6).cast nbuf0_6)) (spec0_7.stage (((cfgA a).slots t) 7)) (hstage0_7 ((((cfgA a).slots t) 7).cast nbuf0_7)) (spec0_8.stage (((cfgA a).slots t) 8)) (hstage0_8 ((((cfgA a).slots t) 8).cast nbuf0_8)) (spec0_9.stage (((cfgA a).slots t) 9)) (hstage0_9 ((((cfgA a).slots t) 9).cast nbuf0_9)) (spec0_10.stage (((cfgA a).slots t) 10)) (hstage0_10 ((((cfgA a).slots t) 10).cast nbuf0_10)) (spec0_11.stage (((cfgA a).slots t) 11)) (hstage0_11 ((((cfgA a).slots t) 11).cast nbuf0_11)) (spec0_12.stage (((cfgA a).slots t) 12)) (hstage0_12 ((((cfgA a).slots t) 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (hN t) ((a 0).1 1) (Y 0) (Y 1) (Y 2) (Y 3) (Y 4) (Y 5) (Y 6) (Y 7) (Y 8) (Y 9) (Y 10) (Y 11) (Y 12) S.s0 S.s1 S.s2 S.s3 S.s4 S.s5 S.s6 S.s7 S.s8 S.s9 S.s10 (fun _ _ => hw _) (fun _ _ => hw3 _)
      (fun Z13 Z14 o15 o16 o17 o18 o19 o20 o21 o22 o23 o24 o25 => aft 11 t (Y 11) Z13 ∧ aft 12 t (Y 12) Z14 ∧ Inv (t.val + 1) ⟨o15, o16, o17, o18, o19, o20, o21, o22, o23, o24, o25⟩)) :
    (rdat a V aft Inv c).BodyObligation defs₀ Variants.none () Set.univ := by
  intro t Y hY
  rw [bigSep_W0, bigSep_W0]
  show iprop(carried a c (Inv t.val) ∗ _ ∗ _) ⊢ wp frame _ _ (cc0_activation_unit (F := F) (dynb0 (a 0).1) (Pipeline.Grid.Coords.static grid0 ((cfgA a).grid.coords t)) (BitVec.ofNat 32 ((cfgA a).grid.coords t 0).val) (Memref.whole main_arg0) (Memref.isWhole_whole _) (spec0_0.stage (((cfgA a).slots t) 0)) (hstage0_0 ((((cfgA a).slots t) 0).cast nbuf0_0)) (spec0_1.stage (((cfgA a).slots t) 1)) (hstage0_1 ((((cfgA a).slots t) 1).cast nbuf0_1)) (spec0_2.stage (((cfgA a).slots t) 2)) (hstage0_2 ((((cfgA a).slots t) 2).cast nbuf0_2)) (spec0_3.stage (((cfgA a).slots t) 3)) (hstage0_3 ((((cfgA a).slots t) 3).cast nbuf0_3)) (spec0_4.stage (((cfgA a).slots t) 4)) (hstage0_4 ((((cfgA a).slots t) 4).cast nbuf0_4)) (spec0_5.stage (((cfgA a).slots t) 5)) (hstage0_5 ((((cfgA a).slots t) 5).cast nbuf0_5)) (spec0_6.stage (((cfgA a).slots t) 6)) (hstage0_6 ((((cfgA a).slots t) 6).cast nbuf0_6)) (spec0_7.stage (((cfgA a).slots t) 7)) (hstage0_7 ((((cfgA a).slots t) 7).cast nbuf0_7)) (spec0_8.stage (((cfgA a).slots t) 8)) (hstage0_8 ((((cfgA a).slots t) 8).cast nbuf0_8)) (spec0_9.stage (((cfgA a).slots t) 9)) (hstage0_9 ((((cfgA a).slots t) 9).cast nbuf0_9)) (spec0_10.stage (((cfgA a).slots t) 10)) (hstage0_10 ((((cfgA a).slots t) 10).cast nbuf0_10)) (spec0_11.stage (((cfgA a).slots t) 11)) (hstage0_11 ((((cfgA a).slots t) 11).cast nbuf0_11)) (spec0_12.stage (((cfgA a).slots t) 12)) (hstage0_12 ((((cfgA a).slots t) 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _)) (fun _ => iprop(carried a c (Inv (t.val + 1)) ∗ _ ∗ _))
  unfold carried
  rw [tables_eq]
  iintro ⟨⟨⟨%S, %hS, HS⟩, Hp, Ht5, Ht0⟩, Ho, H2, H3, H4, H5, H6, H7, H8, H9, H10, H11, H12, H13, H14⟩
  unfold scrOwn
  icases HS with ⟨H15, H16, H17, H18, H19, H20, H21, H22, H23, H24, H25⟩
  iapply (wp_wand_r Idealize.ShloMosaic.frame (wpE (defs₀ (F := F)) Variants.none (c : Thread nD τ) none) Set.univ)
  isplitl [Ht0 H2 H3 H4 H5 H6 H7 H8 H9 H10 H11 H12 H13 H14 H15 H16 H17 H18 H19 H20 H21 H22 H23 H24 H25]
  · iapply (body_owns (F := F) c (dynb0 (a 0).1) (Pipeline.Grid.Coords.static grid0 ((cfgA a).grid.coords t)) (BitVec.ofNat 32 ((cfgA a).grid.coords t 0).val) (Memref.whole main_arg0) (Memref.isWhole_whole _) (spec0_0.stage (((cfgA a).slots t) 0)) (hstage0_0 ((((cfgA a).slots t) 0).cast nbuf0_0)) (spec0_1.stage (((cfgA a).slots t) 1)) (hstage0_1 ((((cfgA a).slots t) 1).cast nbuf0_1)) (spec0_2.stage (((cfgA a).slots t) 2)) (hstage0_2 ((((cfgA a).slots t) 2).cast nbuf0_2)) (spec0_3.stage (((cfgA a).slots t) 3)) (hstage0_3 ((((cfgA a).slots t) 3).cast nbuf0_3)) (spec0_4.stage (((cfgA a).slots t) 4)) (hstage0_4 ((((cfgA a).slots t) 4).cast nbuf0_4)) (spec0_5.stage (((cfgA a).slots t) 5)) (hstage0_5 ((((cfgA a).slots t) 5).cast nbuf0_5)) (spec0_6.stage (((cfgA a).slots t) 6)) (hstage0_6 ((((cfgA a).slots t) 6).cast nbuf0_6)) (spec0_7.stage (((cfgA a).slots t) 7)) (hstage0_7 ((((cfgA a).slots t) 7).cast nbuf0_7)) (spec0_8.stage (((cfgA a).slots t) 8)) (hstage0_8 ((((cfgA a).slots t) 8).cast nbuf0_8)) (spec0_9.stage (((cfgA a).slots t) 9)) (hstage0_9 ((((cfgA a).slots t) 9).cast nbuf0_9)) (spec0_10.stage (((cfgA a).slots t) 10)) (hstage0_10 ((((cfgA a).slots t) 10).cast nbuf0_10)) (spec0_11.stage (((cfgA a).slots t) 11)) (hstage0_11 ((((cfgA a).slots t) 11).cast nbuf0_11)) (spec0_12.stage (((cfgA a).slots t) 12)) (hstage0_12 ((((cfgA a).slots t) 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (hN t) ((a 0).1 1) (Y 0) (Y 1) (Y 2) (Y 3) (Y 4) (Y 5) (Y 6) (Y 7) (Y 8) (Y 9) (Y 10) (Y 11) (Y 12) S.s0 S.s1 S.s2 S.s3 S.s4 S.s5 S.s6 S.s7 S.s8 S.s9 S.s10 (fun _ _ => hw _) (fun _ _ => hw3 _) _ (hstep t Y S hY hS) Set.univ)
    isplitl [Ht0]
    · iapply (whole_in (F := F) c main_arg0 fullShare.right ((a 0).1 1)); iexact Ht0
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25
  · iintro %_ ⟨H1, H2, H3, H4, H5, H6, H7, H8, H9, H10, H11, H12, ⟨%Z13, %Z14, %o15, %o16, %o17, %o18, %o19, %o20, %o21, %o22, %o23, %o24, %o25, %hP, H13, H14, H15, H16, H17, H18, H19, H20, H21, H22, H23, H24, H25⟩⟩
    isplitl [H1 Ht5 Hp H15 H16 H17 H18 H19 H20 H21 H22 H23 H24 H25]
    · isplitl [H15 H16 H17 H18 H19 H20 H21 H22 H23 H24 H25]
      · iexists (⟨o15, o16, o17, o18, o19, o20, o21, o22, o23, o24, o25⟩ : Scr F)
        isplitr [H15 H16 H17 H18 H19 H20 H21 H22 H23 H24 H25]
        · ipureintro; exact hP.2.2
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        isplitl [H24]; · iexact H24
        iexact H25
      isplitl [Hp]; · iexact Hp
      isplitl [Ht5]; · iexact Ht5
      iapply (whole_out (F := F) c main_arg0 fullShare.right ((a 0).1 1)); iexact H1
    isplitl [Ho]; · iexact Ho
    isplitl [H2]
    · iexists (Y 0); isplitr [H2]
      · ipureintro; exact haft 0 (by decide) t _
      · iexact H2
    isplitl [H3]
    · iexists (Y 1); isplitr [H3]
      · ipureintro; exact haft 1 (by decide) t _
      · iexact H3
    isplitl [H4]
    · iexists (Y 2); isplitr [H4]
      · ipureintro; exact haft 2 (by decide) t _
      · iexact H4
    isplitl [H5]
    · iexists (Y 3); isplitr [H5]
      · ipureintro; exact haft 3 (by decide) t _
      · iexact H5
    isplitl [H6]
    · iexists (Y 4); isplitr [H6]
      · ipureintro; exact haft 4 (by decide) t _
      · iexact H6
    isplitl [H7]
    · iexists (Y 5); isplitr [H7]
      · ipureintro; exact haft 5 (by decide) t _
      · iexact H7
    isplitl [H8]
    · iexists (Y 6); isplitr [H8]
      · ipureintro; exact haft 6 (by decide) t _
      · iexact H8
    isplitl [H9]
    · iexists (Y 7); isplitr [H9]
      · ipureintro; exact haft 7 (by decide) t _
      · iexact H9
    isplitl [H10]
    · iexists (Y 8); isplitr [H10]
      · ipureintro; exact haft 8 (by decide) t _
      · iexact H10
    isplitl [H11]
    · iexists (Y 9); isplitr [H11]
      · ipureintro; exact haft 9 (by decide) t _
      · iexact H11
    isplitl [H12]
    · iexists (Y 10); isplitr [H12]
      · ipureintro; exact haft 10 (by decide) t _
      · iexact H12
    isplitl [H13]
    · iexists Z13; isplitr [H13]
      · ipureintro; exact hP.1
      · iexact H13
    · iexists Z14; isplitr [H14]
      · ipureintro; exact hP.2.1
      · iexact H14

end

end Cert.Proof.KernelIdeal

end
-- ==== Proof.Frame.lean ====
module

public import proofs.«01_k».proof.Proof.Run
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Tactic
public import Idealize.ShloMosaic.Lib.Pipeline.Frame
public import Idealize.ShloMosaic.Lib.StableHlo.RunRead

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (m : (ℓ : Loc nD τ sig) → Buf (Elt F) ℓ)

/-- The precondition, at every device. -/
abbrev PreAt : Prop := ∀ c : Dev nD, Cert.Pre_groups_in_order.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) = fun _ => 1#1

/-- The buffers' contents when the pipeline starts. -/
abbrev V₀ (c : Dev nD) (b : Ref sig .tc) : Buf (Elt F) ((c.tc : Thread nD τ).loc b) := StableHlo.after (hostOps0 (F := F)) (fun b => m (c, b)) b

/-- An argument is not written before it. -/
theorem V₀_arg (c : Dev nD) (b : Ref sig .tc) (hb : b ∉ [main_v0, main_v1, main_cst, main_v2, main_v3, main_v4, main_v5]) :
    V₀ m c b = m ((c.tc : Thread nD τ).loc b) :=
  StableHlo.after_unwritten (r := b) [main_v0, main_v1, main_cst, main_v2, main_v3, main_v4, main_v5] rfl hb _

/-- The tables' contents: the number of tiles, the group words. -/
abbrev pf₀ : pre0.Contents (Elt F) := fun k => V₀ m 0 (pre0.ref k)

theorem pf₀_0 : pf₀ m 0 = m (((0 : Dev nD).tc : Thread nD τ).loc main_arg5) := V₀_arg m 0 main_arg5 (by decide)
theorem pf₀_1 : pf₀ m 1 = m (((0 : Dev nD).tc : Thread nD τ).loc main_arg0) := V₀_arg m 0 main_arg0 (by decide)

variable (hpre : PreAt m)
include hpre

theorem n_bounds : 1 ≤ (pf₀ m 0 fun a => a.elim0).toNat ∧ (pf₀ m 0 fun a => a.elim0).toNat ≤ 128 := by
  rw [pf₀_0]
  exact (pre_facts _ _ _ _ _ _ _ _ _ _ _ _ _ (hpre 0) (fun _ => ⟨0, by decide +revert⟩)).1

theorem word_bounds (j : S8192.Idx) : ((show BitVec 32 from pf₀ m 1 j) &&& 31#32).toNat ≤ 16 ∧ (IntOp.shrsi .scalar (pf₀ m 1 j) 8#32).toNat ≤ 1024 := by
  rw [pf₀_1]
  exact (pre_facts _ _ _ _ _ _ _ _ _ _ _ _ _ (hpre 0) j).2

/-- The tables' contents are admissible. -/
def adm : (p : Fin 1) → (pcfgs (F := F) p).Adm := fun _ => ⟨pf₀ m, ok0_of _ (n_bounds m hpre).1 (n_bounds m hpre).2⟩

theorem coord_lt (t : Fin (cfgA (adm m hpre)).N) : ((cfgA (adm m hpre)).grid.coords t 0).val < 128 := by
  have h := ((cfgA (adm m hpre)).grid.coords t 0).isLt
  have hb : (cfgA (adm m hpre)).grid.bound 0 = (pf₀ m 0 fun a => a.elim0).toNat := rfl
  have := (n_bounds m hpre).2
  omega

theorem hk2 (j : S8192.Idx) : k0_chk2 (pf₀ m 1 j) := chk2_of _ (word_bounds m hpre j).2
theorem hk3 (j : S8192.Idx) : k0_chk3 (pf₀ m 1 j) := chk3_of _ (word_bounds m hpre j).2 (word_bounds m hpre j).1
theorem hk1 (t : Fin (cfgA (adm m hpre)).N) : k0_chk1 (BitVec.ofNat 32 ((cfgA (adm m hpre)).grid.coords t 0).val) := chk1_ofNat _ (coord_lt m hpre t)

set_option maxHeartbeats 4000000 in
/-- The launch, over a relation of what the points leave. -/
theorem launch (g : Dev nD → PrngReg)
    (aft : (w : Fin 13) → Fin (cfgA (adm m hpre)).N → (Y X : ((cfgA (adm m hpre)).win w).block.Idx → Elt F ((cfgA (adm m hpre)).win w).elt) → Prop)
    (Inv : ℕ → Scr F → Prop) (h0 : ∀ S, Inv 0 S)
    (hbody : ∀ c, (rdat (adm m hpre) (V₀ m) aft Inv c).BodyObligation defs₀ Variants.none () Set.univ) :
    θ_run (defs (F := F)) (onTc (τ := τ) (main (F := F))) ⟨m, fun _ => 0, g⟩
      (fun r => Pipeline.RDat.FramePost (cfgA (adm m hpre)) (rdat (adm m hpre) (V₀ m) aft Inv) (V₀ m) r ∧ r.2.sem = fun _ => 0) := by
  refine Pipeline.RDat.θ_run_frameP_track (pcfgs (F := F)) (adm m hpre) 0 launch0 defs₀ Variants.none (rdat (adm m hpre) (V₀ m) aft Inv) m g main
    hbody (fun c w => ?_) (fun _ _ => rfl) (V₀ m) (Pipeline.hmainP_prefix _ _ _ _ m main hostOps0 hostOps0_sub (StableHlo.forall_fresh_of_map rfl) main_chain)
    (fun _ _ => rfl) (fun c k => ?_) (fun c => ?_) (fun c => ?_) _ (fun r h => h)
  · exact Pipeline.RDat.share_full _ (fun _ => rfl) w
  · obtain rfl : c = 0 := Subsingleton.elim _ _
    rfl
  · show iprop(Pipeline.ΦA spec0 c ∗ Pipeline.ΦT _ _ c) ⊢ carried (adm m hpre) c (Inv 0)
    unfold Pipeline.ΦA carried
    iintro ⟨⟨HS, Hp⟩, HT⟩
    isplitl [HS]
    · ihave HS' := (scrOwn_intro (F := F) c) $$ HS
      icases HS' with ⟨%S, HS'⟩
      iexists S
      isplitr [HS']
      · ipureintro; exact h0 S
      · iexact HS'
    isplitl [Hp] <;> iassumption
  · show carried (adm m hpre) c (Inv (cfgA (adm m hpre)).N) ⊢ Pipeline.ΦA spec0 c
    unfold Pipeline.ΦA carried
    iintro ⟨⟨%S, %hS, HS⟩, Hp, HT⟩
    isplitl [HS]
    · iapply (scrOwn_elim (F := F) c S); iexact HS
    · iexact Hp

/-- The arguments end as they were. -/
theorem args_of_post (aft : (w : Fin 13) → Fin (cfgA (adm m hpre)).N → (Y X : ((cfgA (adm m hpre)).win w).block.Idx → Elt F ((cfgA (adm m hpre)).win w).elt) → Prop)
    (Inv : ℕ → Scr F → Prop) (r : PUnit × MemSt nD τ sig (Elt F))
    (h : Pipeline.RDat.FramePost (cfgA (adm m hpre)) (rdat (adm m hpre) (V₀ m) aft Inv) (V₀ m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  have hw := fun w hin => h.arr_in c w hin
  have hr := (h c).2
  exact ⟨(hr main_arg0 (by show main_arg0 ∈ Pipeline.restRefs sig spec0; decide)).trans (V₀_arg m c main_arg0 (by decide)), (hw 0 rfl).trans (V₀_arg m c main_arg1 (by decide)), (hw 1 rfl).trans (V₀_arg m c main_arg2 (by decide)), (hw 2 rfl).trans (V₀_arg m c main_arg3 (by decide)), (hw 3 rfl).trans (V₀_arg m c main_arg4 (by decide)), (hr main_arg5 (by show main_arg5 ∈ Pipeline.restRefs sig spec0; decide)).trans (V₀_arg m c main_arg5 (by decide)), (hw 4 rfl).trans (V₀_arg m c main_arg6 (by decide)), (hw 5 rfl).trans (V₀_arg m c main_arg7 (by decide)), (hw 6 rfl).trans (V₀_arg m c main_arg8 (by decide)), (hr main_arg9 (by show main_arg9 ∈ Pipeline.restRefs sig spec0; decide)).trans (V₀_arg m c main_arg9 (by decide)), (hw 8 rfl).trans (V₀_arg m c main_arg10 (by decide)), (hw 9 rfl).trans (V₀_arg m c main_arg11 (by decide)), (hw 10 rfl).trans (V₀_arg m c main_arg12 (by decide))⟩

set_option maxHeartbeats 4000000 in
/-- The kernel terminates, faults at nothing, leaves its arguments as they were and every semaphore at zero. -/
theorem frame (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) := by
  refine (θ_run _ _ _).mono (fun r h => ⟨fun c => args_of_post m hpre _ _ r h.1 c, h.2⟩)
    (launch m hpre g (fun _ _ _ _ => True) (fun _ _ => True) (fun _ => trivial)
      (fun c => obligation _ _ _ _ c (hk2 m hpre) (hk3 m hpre) (hk1 m hpre) (fun _ _ _ _ => trivial)
        (fun t Y S _ _ => ⟨fun _ _ => ⟨trivial, trivial, trivial⟩, fun _ _ => ⟨trivial, trivial, trivial⟩, fun _ _ => ⟨trivial, trivial, trivial⟩, fun _ _ => ⟨trivial, trivial, trivial⟩⟩)))

end

end Cert.Proof.KernelIdeal

end
-- ==== Proof.Machine.lean ====
/- The kernel as printed and the kernel read at the ideal instance are one program. -/
module

public import proofs.«01_k».proof.Defs
public import proofs.«01_k».proof.Proof.Gen.Kernel
public import proofs.«01_k».proof.Proof.Gen.KernelIdeal
public import proofs.«01_k».proof.Proof.Gen.Pre_groups_in_order
public import proofs.«01_k».proof.Proof.Frame

@[expose] public section

set_option maxRecDepth 100000

noncomputable section

namespace Cert.Proof

open Idealize.ShloMosaic Idealize.SL.Sem
variable {F : FTy → Type} [FloatOps F]
local instance : Cert.Kernel.Facts := Cert.Kernel.Gen.facts
local instance : Cert.Pre_groups_in_order.Facts := Cert.Pre_groups_in_order.Gen.facts
local instance : Cert.KernelIdeal.Facts := Cert.KernelIdeal.Gen.facts
set_option maxHeartbeats 4000000

/-- The kernel's function is one. -/
theorem body_same : @Cert.Kernel.cc0_activation_unit F _ _ = @Cert.KernelIdeal.cc0_activation_unit F _ _ := rfl

theorem defs₀_same : @Cert.Kernel.defs₀ F _ _ = @Cert.KernelIdeal.defs₀ F _ _ := by
  refine congrArg Defs.onTc (funext fun l => funext fun a => ?_)
  match l, a with
  | ⟨0, _⟩, ⟨b, p, s⟩ => rfl
  | ⟨_ + 1, h⟩, _ => exact absurd h (Nat.not_lt.2 (Nat.le_add_left _ _))

theorem defs_same : @Cert.Kernel.defs F _ _ = @Cert.KernelIdeal.defs F _ _ := congrArg (Pipeline.defs Cert.Kernel.pcfgs) defs₀_same

/-- The frame of the kernel as printed. -/
theorem frame_machine : Cert.quiescent_Kernel := by
  intro m g h
  rw [defs_same (F := Bits)]
  exact KernelIdeal.frame (F := Bits) m h g

end Cert.Proof

end
-- ==== Proof.Spec.lean ====
module

public import Idealize.ShloMosaic.Lib.Pointwise
public import Idealize.ShloMosaic.Lib.BitcastFour
public import Idealize.ShloMosaic.Lib.BitcastPair
public import proofs.«01_k».proof.Proof.Frame

@[expose] public section

noncomputable section

namespace Cert.Proof.Spec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Byte `j` of a word, a signed integer. -/
def byteAt (w : BitVec 32) (j : ℕ) : EReal := FloatOps.sitofp (F := Ideal) .bf16 (w.extractLsb' (8 * j) 8)

/-- Half `j` of a word, a bf16. -/
def halfAt (w : BitVec 32) (j : ℕ) : EReal := Ideal.ofBits .bf16 (w.extractLsb' (16 * j) 16)

/-- The activation: a slope of its own for negative values. -/
def act (z a : EReal) : EReal := if 0 ≤ z then z else a * z

/-- What the program is given, at indices in ℕ. -/
structure Env where
  tab : ℕ → BitVec 32
  hcode : ℕ → ℕ → BitVec 32
  hsc : ℕ → ℕ → BitVec 32
  tcode : ℕ → ℕ → BitVec 32
  tsc : ℕ → ℕ → BitVec 32
  w1t : ℕ → ℕ → EReal
  w1 : ℕ → ℕ → EReal
  w2 : ℕ → ℕ → EReal
  w3 : ℕ → EReal
  b1 : ℕ → EReal
  a1 : ℕ → EReal
  a2 : ℕ → EReal

namespace Env
variable (e : Env)

/-- The row, block and count of tokens of a group. -/
def row (g : ℕ) : ℕ := (e.tab g).toNat / 256
def blk (g : ℕ) : ℕ := (e.tab g).toNat / 32 % 8
def nv (g : ℕ) : ℕ := (e.tab g).toNat % 32

/-- Token `k` of history group `g` at column `c`. -/
def H (g k c : ℕ) : EReal :=
  byteAt (e.hcode (8 * g + 4 * (c / 128) + k / 4) (c % 128)) (k % 4)
    * (if 0 < e.nv g then halfAt (e.hsc (g / 4) (32 * (g % 4) + 4 * (k / 2) + c / 64)) (k % 2) else 0)

/-- The target of row `b` at column `c`. -/
def T (b c : ℕ) : EReal :=
  byteAt (e.tcode (8 * (b / 16) + 4 * (c / 128) + b % 16 / 4) (c % 128)) (b % 4)
    * halfAt (e.tsc (b / 16 / 4) (32 * (b / 16 % 4) + 4 * (b % 16 / 2) + c / 64)) (b % 2)

/-- The target's part of the first layer. -/
def C (b c : ℕ) : EReal := (∑ f ∈ Finset.range 256, e.T b f * e.w1t f c) + e.b1 c

/-- The features of a token: itself, less the target, times the target. -/
def X (g k f : ℕ) : EReal :=
  if f < 256 then e.H g k f else if f < 512 then e.H g k (f - 256) - e.T (e.row g) (f - 256) else e.H g k (f - 512) * e.T (e.row g) (f - 512)

def Y1 (g k c : ℕ) : EReal := act ((∑ f ∈ Finset.range 768, e.X g k f * e.w1 f c) + e.C (e.row g) c) (e.a1 c)
def Y2 (g k c : ℕ) : EReal := act (∑ f ∈ Finset.range 256, e.Y1 g k f * e.w2 f c) (e.a2 c)

/-- The score of a token. -/
def S (g k : ℕ) : EReal := ∑ f ∈ Finset.range 128, e.Y2 g k f * e.w3 f

/-- What a token adds to its row: its part of the interest's columns, its score at its own position. -/
def part (q g k l : ℕ) : EReal :=
  if q = 0 then e.S g k * e.H g k l else if q = 1 then e.S g k * e.H g k (128 + l)
  else if k < e.nv g ∧ l = 16 * e.blk g + k then e.S g k else 0

/-- The descriptors of the groups are in order. -/
structure InOrder (nt : ℕ) : Prop where
  nt_pos : 1 ≤ nt
  shr : ∀ g < 8192, (IntOp.shrsi .scalar (e.tab g) 8#32).toNat = e.row g
  nt_le : nt ≤ 128
  row_le : ∀ g < 8192, e.row g ≤ 1024
  nv_le : ∀ g < 8192, e.nv g ≤ 16
  first0 : e.blk 0 = 0
  row0 : e.row 0 = 0
  next : ∀ g, g + 1 < 8192 → e.blk (g + 1) = 0 → e.row (g + 1) = min (e.row g + 1) 1024
  same : ∀ g, g + 1 < 8192 → e.blk (g + 1) ≠ 0 → e.row (g + 1) = e.row g
  all : 1023 ≤ e.row (64 * nt - 1)

end Env

/-! ### Words read as bytes and halves -/

theorem sint8 {R r n : ℕ} (x : (⟨2, ![r, n]⟩ : Shape).Idx → BitVec 32)
    (h : (⟨2, ![r, n]⟩ : Shape).Bitcasts 32 ⟨2, ![R, n]⟩ 8) (k : Fin R) (l : Fin n) (p : Fin r) (hp : p.val = k.val / 4) :
    bitcast ⟨2, ![R, n]⟩ 8 x h (ix2 k l) = (x (ix2 p l)).extractLsb' (8 * (k.val % 4)) 8 := by
  apply BitVec.eq_of_getLsbD_eq
  intro i hi
  have hrow : Shape.row (s := ⟨2, ![R, n]⟩) (ix2 k l) = k.val := rfl
  rw [bitcast_getLsbD x h (ix2 k l) i hi (by decide), BitVec.getLsbD_extractLsb']
  have ep : (Shape.row (s := ⟨2, ![R, n]⟩) (ix2 k l) * 8 + i) / 32 = p.val := by rw [hrow]; omega
  have eq : (Shape.row (s := ⟨2, ![R, n]⟩) (ix2 k l) * 8 + i) % 32 = 8 * (k.val % 4) + i := by rw [hrow]; omega
  rw [eq, decide_eq_true hi, Bool.true_and]
  congr 2
  funext c
  match c with
  | ⟨0, _⟩ => exact Fin.ext ((h.srcIdx_row _ _ _ ⟨0, Nat.zero_lt_two⟩ rfl).trans ep)
  | ⟨1, _⟩ => exact Fin.ext (h.srcIdx_other _ _ _ ⟨1, Nat.one_lt_two⟩ (show ¬ (1 + 2 = 2) by decide))

theorem half16 {R r n : ℕ} (x : (⟨2, ![r, n]⟩ : Shape).Idx → BitVec 32)
    (h : (⟨2, ![r, n]⟩ : Shape).Bitcasts 32 ⟨2, ![R, n]⟩ 16) (k : Fin R) (l : Fin n) (p : Fin r) (hp : p.val = k.val / 2) :
    bitcast ⟨2, ![R, n]⟩ 16 x h (ix2 k l) = (x (ix2 p l)).extractLsb' (16 * (k.val % 2)) 16 := by
  apply BitVec.eq_of_getLsbD_eq
  intro i hi
  have hrow : Shape.row (s := ⟨2, ![R, n]⟩) (ix2 k l) = k.val := rfl
  rw [bitcast_getLsbD x h (ix2 k l) i hi (by decide), BitVec.getLsbD_extractLsb']
  have ep : (Shape.row (s := ⟨2, ![R, n]⟩) (ix2 k l) * 16 + i) / 32 = p.val := by rw [hrow]; omega
  have eq : (Shape.row (s := ⟨2, ![R, n]⟩) (ix2 k l) * 16 + i) % 32 = 16 * (k.val % 2) + i := by rw [hrow]; omega
  rw [eq, decide_eq_true hi, Bool.true_and]
  congr 2
  funext c
  match c with
  | ⟨0, _⟩ => exact Fin.ext ((h.srcIdx_row _ _ _ ⟨0, Nat.zero_lt_two⟩ rfl).trans ep)
  | ⟨1, _⟩ => exact Fin.ext (h.srcIdx_other _ _ _ ⟨1, Nat.one_lt_two⟩ (show ¬ (1 + 2 = 2) by decide))

end Cert.Proof.Spec

end
-- ==== Proof.Pays.lean ====
module

public import proofs.«01_k».proof.Proof.Spec
public import proofs.«01_k».proof.Proof.Frame
public import Idealize.ShloMosaic.Lib.WritesUnit
public import Idealize.ShloMosaic.Lib.Pointwise

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Spec

set_option maxRecDepth 16384

/-- Sixteen tokens' codes times their scales: the lower half of a packed block. -/
theorem deq_lo (x g : IVec S8x128 32) (h h' hs) (k : Fin 16) (l : Fin 128) :
    mulf (F := Ideal) (φ := .bf16) (extractStridedSlice S16x128 ![0, 0] (sitofp .bf16 (bitcast S32x128 8 x h)) hs)
      (bitcastToFloat .bf16 (bitcast S16x128 16 g h')) (ix2 k l)
      = byteAt (x (ix2 ⟨k.val / 4, by omega⟩ l)) (k.val % 4) * halfAt (g (ix2 ⟨k.val / 2, by omega⟩ l)) (k.val % 2) := by
  pointwise []
  refine congrArg₂ (· * ·) (congrArg _ (sint8 _ _ (⟨k.val, by omega⟩ : Fin 32) l _ rfl)) (congrArg _ (half16 _ _ _ _ _ rfl))

/-- The same of the upper half. -/
theorem deq_hi (x g : IVec S8x128 32) (h h' hs) (k : Fin 16) (l : Fin 128) :
    mulf (F := Ideal) (φ := .bf16) (extractStridedSlice S16x128 ![16, 0] (sitofp .bf16 (bitcast S32x128 8 x h)) hs)
      (bitcastToFloat .bf16 (bitcast S16x128 16 g h')) (ix2 k l)
      = byteAt (x (ix2 ⟨4 + k.val / 4, by omega⟩ l)) (k.val % 4) * halfAt (g (ix2 ⟨k.val / 2, by omega⟩ l)) (k.val % 2) := by
  pointwise []
  refine congrArg₂ (· * ·) (congrArg _ ((sint8 _ _ (⟨16 + k.val, by omega⟩ : Fin 32) l ⟨4 + k.val / 4, by omega⟩ (by show 4 + k.val / 4 = (16 + k.val) / 4; omega)).trans ?_)) (congrArg _ (half16 _ _ _ _ _ rfl))
  show BitVec.extractLsb' (8 * ((16 + k.val) % 4)) 8 _ = _
  rw [show (16 + k.val) % 4 = k.val % 4 by omega]

/-- The word of the scales that sublane `r` and lane `l` take, in the quarter `q`. -/
def gword (q hf : BitVec 32) (r l : ℕ) : BitVec 32 :=
  IntOp.addi (IntOp.addi (IntOp.addi q (IntOp.muli 4#32 (BitVec.ofNat 32 r))) hf) (IntOp.shrsi .vector (BitVec.ofNat 32 l) 6#32)

def gpick (w : BitVec 32) : BitVec 32 := Scalar.select (IntOp.cmpi .slt w 0#32) (IntOp.addi w 128#32) w

theorem gpick_eq : ∀ (q : Fin 4) (hf : Fin 2) (r : Fin 8) (l : Fin 128),
    (gpick (gword (BitVec.ofNat 32 (32 * q.val)) (BitVec.ofNat 32 (2 * hf.val)) r.val l.val)).toNat % 128 = 32 * q.val + 4 * r.val + 2 * hf.val + l.val / 64 := by
  decide +kernel

theorem gather_row (v : IVec S1x128 32) (idx : IVec S8x128 32) (r : Fin 8) (l : Fin 128) :
    dynamicGather 1 (k0_pay56 v) idx (ix2 r l) = v (ix2 0 ⟨(idx (ix2 r l)).toNat % 128, Nat.mod_lt _ (by decide)⟩) := by
  unfold dynamicGather
  pointwise [k0_pay56]

/-- The quarter of a row of scales that a group takes. -/
theorem quarter (q : Fin 4) (s : BitVec 32) (hs : s = BitVec.ofNat 32 q.val) :
    Scalar.muli 32#32 (Scalar.select (Scalar.andi (Scalar.xori (Scalar.cmpi .slt s 0#32) (Scalar.cmpi .slt 4#32 0#32)) (Scalar.cmpi .ne s 0#32)) (Scalar.addi s 4#32) s) = BitVec.ofNat 32 (32 * q.val) := by
  subst hs; revert q; decide +kernel

theorem pay57_apply (v : IVec S1x128 32) (x : Vec Ideal S8x128 .i32) (q : Fin 4) (s : BitVec 32) (hs : s = BitVec.ofNat 32 q.val) (k : Fin 16) (l : Fin 128) :
    k0_pay57 (F := Ideal) v x 4#32 s (ix2 k l)
      = byteAt (x (ix2 ⟨k.val / 4, by omega⟩ l)) (k.val % 4)
        * halfAt (v (ix2 0 ⟨32 * q.val + 4 * (k.val / 2) + l.val / 64, by omega⟩)) (k.val % 2) := by
  unfold k0_pay57 k0_pay55
  refine (deq_lo _ _ _ _ _ k l).trans (congrArg _ (congrArg (halfAt · _) ((gather_row _ _ _ _).trans (congrArg (fun i => v (ix2 0 i)) (Fin.ext ?_)))))
  have e := gpick_eq q 0 ⟨k.val / 2, by omega⟩ l
  rw [← quarter q s hs] at e
  pointwise []
  exact e

theorem pay60_apply (v : IVec S1x128 32) (x : Vec Ideal S8x128 .i32) (q : Fin 4) (s : BitVec 32) (hs : s = BitVec.ofNat 32 q.val) (k : Fin 16) (l : Fin 128) :
    k0_pay60 (F := Ideal) (k0_pay55 x) (k0_pay56 v) (k0_pay58 4#32 s) (k0_pay59 4#32 s) (ix2 k l)
      = byteAt (x (ix2 ⟨4 + k.val / 4, by omega⟩ l)) (k.val % 4)
        * halfAt (v (ix2 0 ⟨32 * q.val + 4 * (k.val / 2) + 2 + l.val / 64, by omega⟩)) (k.val % 2) := by
  unfold k0_pay60 k0_pay55
  refine (deq_hi _ _ _ _ _ k l).trans (congrArg _ (congrArg (halfAt · _) ((gather_row _ _ _ _).trans (congrArg (fun i => v (ix2 0 i)) (Fin.ext ?_)))))
  have e := gpick_eq q 1 ⟨k.val / 2, by omega⟩ l
  rw [← quarter q s hs] at e
  pointwise [k0_pay59, k0_pay58]
  exact e

theorem pay62_apply (v : FVec Ideal S16x128 .bf16) (k : Fin 16) (l : Fin 128) : k0_pay62 (F := Ideal) v (ix3 0 k l) = v (ix2 k l) := by
  pointwise [k0_pay62]
theorem pay63_apply (v : FVec Ideal S16x128 .bf16) (t : Vec Ideal S1x128 .bf16) (k : Fin 16) (l : Fin 128) : k0_pay63 (F := Ideal) v t (ix3 0 k l) = v (ix2 k l) - t (ix2 0 l) := by
  pointwise [k0_pay63, k0_pay61]
theorem pay64_apply (v : FVec Ideal S16x128 .bf16) (t : Vec Ideal S1x128 .bf16) (k : Fin 16) (l : Fin 128) : k0_pay64 (F := Ideal) v t (ix3 0 k l) = v (ix2 k l) * t (ix2 0 l) := by
  pointwise [k0_pay64, k0_pay61]
theorem pay77_apply (v : FVec Ideal S16x128 .bf16) (k : Fin 16) (l : Fin 128) : k0_pay77 (F := Ideal) v (ix3 0 k l) = v (ix2 k l) := by
  pointwise [k0_pay77]
theorem pay78_apply (v : FVec Ideal S16x128 .bf16) (t : Vec Ideal S1x128 .bf16) (k : Fin 16) (l : Fin 128) : k0_pay78 (F := Ideal) v t (ix3 0 k l) = v (ix2 k l) - t (ix2 0 l) := by
  pointwise [k0_pay78, k0_pay76]
theorem pay79_apply (v : FVec Ideal S16x128 .bf16) (t : Vec Ideal S1x128 .bf16) (k : Fin 16) (l : Fin 128) : k0_pay79 (F := Ideal) v t (ix3 0 k l) = v (ix2 k l) * t (ix2 0 l) := by
  pointwise [k0_pay79, k0_pay76]
theorem pay65_apply (t : Vec Ideal S1x128 .f32) (k : Fin 16) (l : Fin 128) : k0_pay65 (F := Ideal) t (ix2 k l) = t (ix2 0 l) := by
  pointwise [k0_pay65]
theorem pay80_apply (t : Vec Ideal S1x128 .f32) (k : Fin 16) (l : Fin 128) : k0_pay80 (F := Ideal) t (ix2 k l) = t (ix2 0 l) := by
  pointwise [k0_pay80]

end Cert.Proof.KernelIdeal

end
-- ==== Proof.Prod.lean ====
module

public import proofs.«01_k».proof.Proof.Pays

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Spec

set_option maxRecDepth 16384

theorem mul_ite_neg {p : Prop} [Decidable p] (h : ¬ p) (a b : EReal) : a * (if p then b else 0) = 0 := by rw [if_neg h, mul_zero]
theorem mul_ite_pos {p : Prop} [Decidable p] (h : p) (a b b' : EReal) (hb : b = b') : a * (if p then b else 0) = a * b' := by rw [if_pos h, hb]

theorem pay83_apply (v59 : FVec Ideal S256x768 .bf16) (v60 : Vec Ideal S768x256 .bf16) (v62 : Vec Ideal S256x256 .f32) (v64 : Vec Ideal S1x256 .f32) (v71 : Vec Ideal S256x128 .bf16) (v73 : Vec Ideal S1x128 .f32) (v83 : Vec Ideal S256x256 .bf16)
    (e : Env) (G k : ℕ) (r : Fin 128) (c : Fin 128)
    (hx : ∀ f : Fin 768, v59 (ix2 ⟨r.val, by omega⟩ f) = e.X G k f.val)
    (hc : ∀ f : Fin 256, v62 (ix2 ⟨r.val, by omega⟩ f) = e.C (e.row G) f.val)
    (h7 : ∀ (f : Fin 768) (c : Fin 256), v60 (ix2 f c) = e.w1 f.val c.val)
    (h11 : ∀ f : Fin 256, v64 (ix2 0 f) = e.a1 f.val)
    (h8 : ∀ (f : Fin 256) (c : Fin 128), v71 (ix2 f c) = e.w2 f.val c.val)
    (h12 : ∀ f : Fin 128, v73 (ix2 0 f) = e.a2 f.val)
    (h9 : ∀ f c : Fin 256, v83 (ix2 f c) = if f.val / 128 = c.val / 128 then e.w3 (f.val % 128) else 0) :
    k0_pay83 (F := Ideal) v59 v60 v62 v64 v71 v73 v83 (ix2 r c) = e.S G k := by
  pointwise [k0_pay83, k0_pay82]
  simp only [h7, h11, h8, h12, h9, hx, hc]
  unfold Env.S Env.Y2 Env.Y1 act
  simp only [Finset.sum_range]
  refine (congrArg₂ (· + ·) (Finset.sum_congr rfl fun x _ => ?_) (Finset.sum_eq_zero (fun x _ => mul_ite_neg (by have := x.isLt; have := c.isLt; omega) _ _))).trans (add_zero _)
  exact mul_ite_pos (by have := x.isLt; have := c.isLt; omega) _ _ _ (congrArg e.w3 (Nat.mod_eq_of_lt x.isLt))

theorem pay84_apply (v59 : FVec Ideal S256x768 .bf16) (v60 : Vec Ideal S768x256 .bf16) (v62 : Vec Ideal S256x256 .f32) (v64 : Vec Ideal S1x256 .f32) (v71 : Vec Ideal S256x128 .bf16) (v73 : Vec Ideal S1x128 .f32) (v83 : Vec Ideal S256x256 .bf16)
    (e : Env) (G k : ℕ) (r : Fin 128) (c : Fin 128)
    (hx : ∀ f : Fin 768, v59 (ix2 ⟨128 + r.val, by omega⟩ f) = e.X G k f.val)
    (hc : ∀ f : Fin 256, v62 (ix2 ⟨128 + r.val, by omega⟩ f) = e.C (e.row G) f.val)
    (h7 : ∀ (f : Fin 768) (c : Fin 256), v60 (ix2 f c) = e.w1 f.val c.val)
    (h11 : ∀ f : Fin 256, v64 (ix2 0 f) = e.a1 f.val)
    (h8 : ∀ (f : Fin 256) (c : Fin 128), v71 (ix2 f c) = e.w2 f.val c.val)
    (h12 : ∀ f : Fin 128, v73 (ix2 0 f) = e.a2 f.val)
    (h9 : ∀ f c : Fin 256, v83 (ix2 f c) = if f.val / 128 = c.val / 128 then e.w3 (f.val % 128) else 0) :
    k0_pay84 (F := Ideal) v59 v60 v62 v64 v71 v73 v83 (ix2 r c) = e.S G k := by
  pointwise [k0_pay84, k0_pay82]
  simp only [h7, h11, h8, h12, h9, hx, hc]
  unfold Env.S Env.Y2 Env.Y1 act
  simp only [Finset.sum_range]
  refine (congrArg₂ (· + ·) (Finset.sum_eq_zero (fun x _ => mul_ite_neg (by have := x.isLt; have := c.isLt; omega) _ _)) (Finset.sum_congr rfl fun x _ => ?_)).trans (zero_add _)
  exact mul_ite_pos (by have := x.isLt; have := c.isLt; omega) _ _ _ (congrArg e.w3 ((Nat.add_mod_left _ _).trans (Nat.mod_eq_of_lt x.isLt)))

/-- The planes side by side. -/
theorem pay81_apply (v : Fin 6 → Vec Ideal S1x256x128 .bf16) (r : Fin 256) (f : Fin 768) :
    k0_pay81 (F := Ideal) (v 0) (v 1) (v 2) (v 3) (v 4) (v 5) (ix2 r f) = v ⟨f.val / 128, by omega⟩ (ix3 0 r ⟨f.val % 128, Nat.mod_lt _ (by decide)⟩) := by
  obtain ⟨q, l, rfl⟩ : ∃ (q : Fin 6) (l : Fin 128), f = ⟨128 * q.val + l.val, by omega⟩ :=
    ⟨⟨f.val / 128, by omega⟩, ⟨f.val % 128, by omega⟩, Fin.ext (by show f.val = 128 * (f.val / 128) + f.val % 128; omega)⟩
  have e1 : (⟨(128 * q.val + l.val) / 128, by omega⟩ : Fin 6) = q := Fin.ext (by show (128 * q.val + l.val) / 128 = q.val; omega)
  have e2 : (⟨(128 * q.val + l.val) % 128, by omega⟩ : Fin 128) = l := Fin.ext (by show (128 * q.val + l.val) % 128 = l.val; omega)
  show _ = v ⟨(128 * q.val + l.val) / 128, _⟩ (ix3 0 r ⟨(128 * q.val + l.val) % 128, _⟩)
  rw [e1, e2]
  match q with
  | ⟨0, _⟩ =>
    pointwise [k0_pay81]
  | ⟨1, _⟩ =>
    pointwise [k0_pay81]
  | ⟨2, _⟩ =>
    pointwise [k0_pay81]
    rw [dif_neg (show ¬ 256 + l.val < 128 by omega), dif_neg (show ¬ 256 + l.val - 128 < 128 by omega), dif_pos (show 256 + l.val - 128 - 128 < 128 by have := l.isLt; omega)]
    exact congrArg (v 2) (congrArg (ix3 0 r) (Fin.ext (show 256 + l.val - 128 - 128 = l.val by omega)))
  | ⟨3, _⟩ =>
    pointwise [k0_pay81]
    rw [dif_neg (show ¬ 384 + l.val < 128 by omega), dif_neg (show ¬ 384 + l.val - 128 < 128 by omega), dif_neg (show ¬ 384 + l.val - 128 - 128 < 128 by omega), dif_pos (show 384 + l.val - 128 - 128 - 128 < 128 by have := l.isLt; omega)]
    exact congrArg (v 3) (congrArg (ix3 0 r) (Fin.ext (show 384 + l.val - 128 - 128 - 128 = l.val by omega)))
  | ⟨4, _⟩ =>
    pointwise [k0_pay81]
    rw [dif_neg (show ¬ 512 + l.val < 128 by omega), dif_neg (show ¬ 512 + l.val - 128 < 128 by omega), dif_neg (show ¬ 512 + l.val - 128 - 128 < 128 by omega), dif_neg (show ¬ 512 + l.val - 128 - 128 - 128 < 128 by omega), dif_pos (show 512 + l.val - 128 - 128 - 128 - 128 < 128 by have := l.isLt; omega)]
    exact congrArg (v 4) (congrArg (ix3 0 r) (Fin.ext (show 512 + l.val - 128 - 128 - 128 - 128 = l.val by omega)))
  | ⟨5, _⟩ =>
    pointwise [k0_pay81]
    rw [dif_neg (show ¬ 640 + l.val < 128 by omega), dif_neg (show ¬ 640 + l.val - 128 < 128 by omega), dif_neg (show ¬ 640 + l.val - 128 - 128 < 128 by omega), dif_neg (show ¬ 640 + l.val - 128 - 128 - 128 < 128 by omega), dif_neg (show ¬ 640 + l.val - 128 - 128 - 128 - 128 < 128 by omega)]
    exact congrArg (v 5) (congrArg (ix3 0 r) (Fin.ext (show 640 + l.val - 128 - 128 - 128 - 128 - 128 = l.val by omega)))

end Cert.Proof.KernelIdeal

end
-- ==== Proof.Reads.lean ====
module

public import proofs.«01_k».proof.Proof.Pays

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Spec

set_option maxRecDepth 16384

/-- A block of sixteen rows written into one feature plane: inside. -/
theorem plane_hit (v : View sig .tc .vmem S6x1024x128 .bf16) (f : v.ty.Contents (Elt Ideal)) {off : Fin 3 → ℕ} (inb) (w : _ → Elt Ideal .bf16) (L : List (View.Piece (Elt Ideal) S6x1024x128 .bf16))
    (a b : ℕ) (ho : off = ![a, b, 0]) (q : Fin 6) (ρ : Fin 1024) (l : Fin 128) (k : Fin 16) (hq : q.val = a) (hρ : ρ.val = b + k.val) :
    v.read (Elt Ideal) (v.writes (Elt Ideal) f (⟨Rect.unit (s := S6x1024x128) off S1x16x128.size inb, w⟩ :: L)) (ix3 q ρ l) = w (ix3 0 k l) := by
  refine View.read_writes_cons_unit_of_mem v f inb w L _ (ix3 (0 : Fin 1) k l) ho fun x => ?_
  match x with
  | ⟨0, _⟩ => exact hq
  | ⟨1, _⟩ => exact hρ
  | ⟨2, _⟩ => exact (Nat.zero_add _).symm

/-- A block of sixteen rows written into one feature plane: outside. -/
theorem plane_miss (v : View sig .tc .vmem S6x1024x128 .bf16) (f : v.ty.Contents (Elt Ideal)) {off : Fin 3 → ℕ} (inb) (w : _ → Elt Ideal .bf16) (L : List (View.Piece (Elt Ideal) S6x1024x128 .bf16))
    (a b : ℕ) (ho : off = ![a, b, 0]) (q : Fin 6) (ρ : Fin 1024) (l : Fin 128) (h : q.val ≠ a ∨ ρ.val < b ∨ b + 16 ≤ ρ.val) :
    v.read (Elt Ideal) (v.writes (Elt Ideal) f (⟨Rect.unit (s := S6x1024x128) off S1x16x128.size inb, w⟩ :: L)) (ix3 q ρ l)
      = v.read (Elt Ideal) (v.writes (Elt Ideal) f L) (ix3 q ρ l) := by
  rcases h with h | h
  · refine View.read_writes_cons_unit_of_not_mem v f inb w L _ ho 0 ?_
    show q.val < a ∨ a + 1 ≤ q.val
    omega
  · exact View.read_writes_cons_unit_of_not_mem v f inb w L _ ho 1 h

/-- Six blocks, one in each feature plane: inside. -/
theorem six_hit (v : View sig .tc .vmem S6x1024x128 .bf16) (f : v.ty.Contents (Elt Ideal)) (τ : Fin k0_t4_loop.trips) (g : Fin k0_t5_loop.trips) (w5 w3 w1 w4 w2 w0 : S1x16x128.Idx → Elt Ideal .bf16) (i5 i3 i1 i4 i2 i0)
    (q : Fin 6) (ρ : Fin 1024) (l : Fin 128) (k : Fin 16) (hρ : ρ.val = 256 * τ.val + 16 * g.val + k.val) :
    v.read (Elt Ideal) (v.writes (Elt Ideal) f [⟨Rect.unit (s := S6x1024x128) (k0_off20 τ g) S1x16x128.size i5, w5⟩, ⟨Rect.unit (s := S6x1024x128) (k0_off19 τ g) S1x16x128.size i3, w3⟩, ⟨Rect.unit (s := S6x1024x128) (k0_off18 τ g) S1x16x128.size i1, w1⟩,
      ⟨Rect.unit (s := S6x1024x128) (k0_off16 τ g) S1x16x128.size i4, w4⟩, ⟨Rect.unit (s := S6x1024x128) (k0_off15 τ g) S1x16x128.size i2, w2⟩, ⟨Rect.unit (s := S6x1024x128) (k0_off14 τ g) S1x16x128.size i0, w0⟩]) (ix3 q ρ l)
      = if q.val = 0 then w0 (ix3 0 k l) else if q.val = 1 then w1 (ix3 0 k l) else if q.val = 2 then w2 (ix3 0 k l) else if q.val = 3 then w3 (ix3 0 k l) else if q.val = 4 then w4 (ix3 0 k l) else w5 (ix3 0 k l) := by
  by_cases h5 : q.val = 5
  · rw [plane_hit v f i5 w5 _ 5 _ (k0_off20_eq τ g) q ρ l k h5 hρ]; simp [h5]
  rw [plane_miss v f i5 w5 _ 5 _ (k0_off20_eq τ g) q ρ l (.inl h5)]
  by_cases h3 : q.val = 3
  · rw [plane_hit v f i3 w3 _ 3 _ (k0_off19_eq τ g) q ρ l k h3 hρ]; simp [h3]
  rw [plane_miss v f i3 w3 _ 3 _ (k0_off19_eq τ g) q ρ l (.inl h3)]
  by_cases h1 : q.val = 1
  · rw [plane_hit v f i1 w1 _ 1 _ (k0_off18_eq τ g) q ρ l k h1 hρ]; simp [h1]
  rw [plane_miss v f i1 w1 _ 1 _ (k0_off18_eq τ g) q ρ l (.inl h1)]
  by_cases h4 : q.val = 4
  · rw [plane_hit v f i4 w4 _ 4 _ (k0_off16_eq τ g) q ρ l k h4 hρ]; simp [h4]
  rw [plane_miss v f i4 w4 _ 4 _ (k0_off16_eq τ g) q ρ l (.inl h4)]
  by_cases h2 : q.val = 2
  · rw [plane_hit v f i2 w2 _ 2 _ (k0_off15_eq τ g) q ρ l k h2 hρ]; simp [h2]
  rw [plane_miss v f i2 w2 _ 2 _ (k0_off15_eq τ g) q ρ l (.inl h2)]
  have h0 : q.val = 0 := by omega
  rw [plane_hit v f i0 w0 _ 0 _ (k0_off14_eq τ g) q ρ l k h0 hρ]; simp [h0]

/-- Six blocks, one in each feature plane: outside. -/
theorem six_miss (v : View sig .tc .vmem S6x1024x128 .bf16) (f : v.ty.Contents (Elt Ideal)) (τ : Fin k0_t4_loop.trips) (g : Fin k0_t5_loop.trips) (w5 w3 w1 w4 w2 w0 : S1x16x128.Idx → Elt Ideal .bf16) (i5 i3 i1 i4 i2 i0)
    (q : Fin 6) (ρ : Fin 1024) (l : Fin 128) (h : ρ.val < 256 * τ.val + 16 * g.val ∨ 256 * τ.val + 16 * g.val + 16 ≤ ρ.val) :
    v.read (Elt Ideal) (v.writes (Elt Ideal) f [⟨Rect.unit (s := S6x1024x128) (k0_off20 τ g) S1x16x128.size i5, w5⟩, ⟨Rect.unit (s := S6x1024x128) (k0_off19 τ g) S1x16x128.size i3, w3⟩, ⟨Rect.unit (s := S6x1024x128) (k0_off18 τ g) S1x16x128.size i1, w1⟩,
      ⟨Rect.unit (s := S6x1024x128) (k0_off16 τ g) S1x16x128.size i4, w4⟩, ⟨Rect.unit (s := S6x1024x128) (k0_off15 τ g) S1x16x128.size i2, w2⟩, ⟨Rect.unit (s := S6x1024x128) (k0_off14 τ g) S1x16x128.size i0, w0⟩]) (ix3 q ρ l)
      = v.read (Elt Ideal) f (ix3 q ρ l) := by
  rw [plane_miss v f i5 w5 _ _ _ (k0_off20_eq τ g) q ρ l (.inr h), plane_miss v f i3 w3 _ _ _ (k0_off19_eq τ g) q ρ l (.inr h), plane_miss v f i1 w1 _ _ _ (k0_off18_eq τ g) q ρ l (.inr h),
    plane_miss v f i4 w4 _ _ _ (k0_off16_eq τ g) q ρ l (.inr h), plane_miss v f i2 w2 _ _ _ (k0_off15_eq τ g) q ρ l (.inr h), plane_miss v f i0 w0 _ _ _ (k0_off14_eq τ g) q ρ l (.inr h)]
  rfl

theorem off10_eq : ∀ (t : Fin 128) (τ : Fin k0_t4_loop.trips) (g : Fin k0_t5_loop.trips), k0_off10 (BitVec.ofNat 32 t.val) τ g 0 = 64 * t.val + 16 * τ.val + g.val := by decide +kernel
theorem off11_eq : ∀ (τ : Fin k0_t4_loop.trips) (g : Fin k0_t5_loop.trips), k0_off11 τ g = ![(16 * τ.val + g.val) / 4, 0] := by decide +kernel

theorem trip5_miss  (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (c0_i32_7 c1_i32_8 : BitVec 32) (k0_t4 : Fin k0_t4_loop.trips) (v27 : BitVec 32) (X1 : BufTy.Contents (Elt Ideal) arg1.view.ty) (X2 : BufTy.Contents (Elt Ideal) arg2.view.ty) (X3 : BufTy.Contents (Elt Ideal) arg3.view.ty) (X15 : BufTy.Contents (Elt Ideal) arg15.view.ty) (X16 : BufTy.Contents (Elt Ideal) arg16.view.ty) (X18 : BufTy.Contents (Elt Ideal) arg18.view.ty) (X19 : BufTy.Contents (Elt Ideal) arg19.view.ty)
    (hw : ∀ (r : LoadRect S8192) (x), k0_chk2 (View.readAt (Elt Ideal) arg1.view r X1 x)) (k : Fin k0_t5_loop.trips)
    (f : BufTy.Contents (Elt Ideal) arg20.view.ty) (q : Fin 6) (ρ : Fin 1024) (l : Fin 128) (h : ρ.val < 256 * k0_t4.val + 16 * k.val ∨ 256 * k0_t4.val + 16 * k.val + 16 ≤ ρ.val) :
    arg20.view.read (Elt Ideal) (arg20.view.writes (Elt Ideal) f (trip5 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 c0_i32_7 c1_i32_8 k0_t4 v27 X1 X2 X3 X15 X16 X18 X19 hw k).1) (ix3 q ρ l) = arg20.view.read (Elt Ideal) f (ix3 q ρ l) := by
  unfold trip5
  exact six_miss _ _ _ _ _ _ _ _ _ _ _ _ _ _ _ _ _ _ _ h

/-- A load at unit strides reads the contents at the offset index. -/
theorem rd_unit {sp : Space} {S : Shape} {el : EltTy} (v : View sig .tc sp S el) (f : v.ty.Contents (Elt Ideal)) {off off' size : Fin S.rank → ℕ} (inb : ∀ a, off a + size a ≤ S.size a)
    (ho : off = off') (x : (Rect.unit (s := S) off size inb).toLoadRect.shape.Idx) (y : S.Idx) (hy : ∀ a, (y a).val = off' a + (x a).val) :
    v.readAt (Elt Ideal) (Rect.unit (s := S) off size inb).toLoadRect f x = v.read (Elt Ideal) f y := by
  subst ho
  refine congrArg (v.read (Elt Ideal) f) (funext fun a => Fin.ext ?_)
  show off a + 1 * (x a).val = (y a).val
  rw [hy a]; omega

theorem word5 (e : Env) (t : ℕ) (ht : t < 128) (arg0 : BitVec 32) (arg1 : Memref sig .tc .smem S8192 .i32) (X1 : BufTy.Contents (Elt Ideal) arg1.view.ty) (k0_hw1 : k0_chk1 arg0) (k0_t4 : Fin k0_t4_loop.trips) (k : Fin k0_t5_loop.trips)
    (ha0 : arg0 = BitVec.ofNat 32 t) (h1 : ∀ n : Fin 8192, arg1.view.read (Elt Ideal) X1 (ix1 n) = e.tab n.val) :
    trip5.sl.r (F := Ideal) arg0 arg1 k0_hw1 k0_t4 X1 k = e.tab (64 * t + 16 * k0_t4.val + k.val) := by
  have h4 : k0_t4.val < 4 := Nat.lt_of_lt_of_le k0_t4.isLt k0_t4_abs.2.1
  have h5 : k.val < 16 := Nat.lt_of_lt_of_le k.isLt k0_t5_abs.2.1
  unfold trip5.sl.r
  refine (rd_unit (S := S8192) arg1.view X1 _ rfl _ (ix1 ⟨64 * t + 16 * k0_t4.val + k.val, by omega⟩) fun a => ?_).trans (h1 _)
  obtain rfl : a = 0 := Subsingleton.elim _ _
  have := off10_eq ⟨t, ht⟩ k0_t4 k
  rw [← ha0] at this
  show 64 * t + 16 * k0_t4.val + k.val = k0_off10 arg0 k0_t4 k 0 + 0
  rw [this]; rfl

theorem lane4 : ∀ (k0_t4 : Fin k0_t4_loop.trips) (k : Fin k0_t5_loop.trips), trip5.sl.v118 (Scalar.muli (Scf.iv 0#32 1#32 k0_t4.val) 16#32) k = BitVec.ofNat 32 ((16 * k0_t4.val + k.val) % 4) := by
  decide +kernel

theorem nv_pos (w : BitVec 32) : Scalar.cmpi .sgt (Scalar.andi w 31#32) 0#32 = BitVec.ofBool (decide (0 < w.toNat % 32)) := by
  have h : (w &&& 31#32).toNat = w.toNat % 32 := by
    rw [BitVec.toNat_and]; exact Nat.and_two_pow_sub_one_eq_mod _ 5
  show IntOp.cmpi .sgt (w &&& 31#32) 0#32 = _
  have h2 := BitVec.toInt_eq_toNat_cond (w &&& 31#32)
  have h3 : (w &&& 31#32).toInt = (w.toNat % 32 : ℕ) := by rw [h2, h, if_pos (by omega)]
  unfold IntOp.cmpi
  simp only [BitVec.slt, h3]
  congr 1
  simp
  omega

theorem halfAt_mask (w : BitVec 32) (p : Prop) [Decidable p] (j : ℕ) : halfAt (IntOp.andi w (Scalar.select (BitVec.ofBool (decide p)) 4294967295#32 0#32)) j = if p then halfAt w j else 0 := by
  by_cases h : p
  · rw [if_pos h, decide_eq_true h]
    have : IntOp.andi w (Scalar.select (BitVec.ofBool true) 4294967295#32 0#32) = w := BitVec.and_allOnes
    rw [this]
  · rw [if_neg h, decide_eq_false h]
    have : IntOp.andi w (Scalar.select (BitVec.ofBool false) 4294967295#32 0#32) = 0#32 := BitVec.and_zero
    rw [this]
    unfold halfAt
    have : (0#32).extractLsb' (16 * j) 16 = 0#16 := by simp
    rw [this]
    exact Ideal.ofBits_zero _

/-- The word of scales of a group, its words zeroed where the group has no token. -/
theorem scale5 (e : Env) (t : ℕ) (ht : t < 128) (arg0 : BitVec 32) (arg1 : Memref sig .tc .smem S8192 .i32) (X1 : BufTy.Contents (Elt Ideal) arg1.view.ty) (arg3 : Memref sig .tc .vmem S16x128 .i32) (X3 : BufTy.Contents (Elt Ideal) arg3.view.ty)
    (k0_hw1 : k0_chk1 arg0) (k0_t4 : Fin k0_t4_loop.trips) (k : Fin k0_t5_loop.trips)
    (ha0 : arg0 = BitVec.ofNat 32 t) (h1 : ∀ n : Fin 8192, arg1.view.read (Elt Ideal) X1 (ix1 n) = e.tab n.val)
    (h3 : ∀ (r : Fin 16) (l : Fin 128), arg3.view.read (Elt Ideal) X3 (ix2 r l) = e.hsc (16 * t + r.val) l.val) (j : Fin 128) (h : ℕ) :
    halfAt (trip5.sl.v126 (F := Ideal) arg0 arg1 arg3 k0_hw1 k0_t4 X1 X3 k (ix2 0 j)) h
      = if 0 < e.nv (64 * t + 16 * k0_t4.val + k.val) then halfAt (e.hsc ((64 * t + 16 * k0_t4.val + k.val) / 4) j.val) h else 0 := by
  have h4 : k0_t4.val < 4 := Nat.lt_of_lt_of_le k0_t4.isLt k0_t4_abs.2.1
  have h5 : k.val < 16 := Nat.lt_of_lt_of_le k.isLt k0_t5_abs.2.1
  have e1 : View.readAt (Elt Ideal) arg3.view (Rect.unit (s := S16x128) (k0_off11 k0_t4 k) S1x128.size (k0_off11_inb k0_t4 k)).toLoadRect X3 (ix2 0 j) = e.hsc ((64 * t + 16 * k0_t4.val + k.val) / 4) j.val := by
    refine ((rd_unit (S := S16x128) arg3.view X3 _ (off11_eq k0_t4 k) _ (ix2 ⟨(16 * k0_t4.val + k.val) / 4, by omega⟩ j) fun a => ?_).trans (h3 _ _)).trans ?_
    · match a with
      | ⟨0, _⟩ => exact (Nat.add_zero _).symm
      | ⟨1, _⟩ => exact (Nat.zero_add _).symm
    · show e.hsc (16 * t + (16 * k0_t4.val + k.val) / 4) j.val = _
      congr 1; omega
  refine Eq.trans ?_ (halfAt_mask (e.hsc ((64 * t + 16 * k0_t4.val + k.val) / 4) j.val) (0 < e.nv (64 * t + 16 * k0_t4.val + k.val)) h)
  refine congrArg (halfAt · h) ?_
  refine congrArg₂ IntOp.andi e1 ?_
  show trip5.sl.v105 (F := Ideal) arg0 arg1 k0_hw1 k0_t4 X1 k = _
  refine congrArg (Scalar.select · _ _) ?_
  show Scalar.cmpi .sgt (Scalar.andi (trip5.sl.r (F := Ideal) arg0 arg1 k0_hw1 k0_t4 X1 k) 31#32) 0#32 = _
  rw [word5 e t ht arg0 arg1 X1 k0_hw1 k0_t4 k ha0 h1, nv_pos]
  rfl

theorem code5 (e : Env) (t : ℕ) (arg2 : Memref sig .tc .vmem S512x128 .i32) (X2 : BufTy.Contents (Elt Ideal) arg2.view.ty)
    (k0_t4 : Fin k0_t4_loop.trips) (k : Fin k0_t5_loop.trips)
    (h2 : ∀ (r : Fin 512) (l : Fin 128), arg2.view.read (Elt Ideal) X2 (ix2 r l) = e.hcode (512 * t + r.val) l.val) (r : Fin 8) (l : Fin 128) :
    trip5.sl.r_1 (F := Ideal) arg2 k0_t4 X2 k (ix2 r l) = e.hcode (8 * (64 * t + 16 * k0_t4.val + k.val) + r.val) l.val := by
  have h4 : k0_t4.val < 4 := Nat.lt_of_lt_of_le k0_t4.isLt k0_t4_abs.2.1
  have h5 : k.val < 16 := Nat.lt_of_lt_of_le k.isLt k0_t5_abs.2.1
  unfold trip5.sl.r_1
  refine ((rd_unit (S := S512x128) arg2.view X2 _ (k0_off12_eq k0_t4 k) _ (ix2 ⟨128 * k0_t4.val + 8 * k.val + r.val, by omega⟩ l) fun a => ?_).trans (h2 _ _)).trans ?_
  · match a with
    | ⟨0, _⟩ => rfl
    | ⟨1, _⟩ => exact (Nat.zero_add _).symm
  · show e.hcode (512 * t + (128 * k0_t4.val + 8 * k.val + r.val)) l.val = _
    congr 1; omega

/-- The row of a table that a word names. -/
theorem row5 {el : EltTy} (arg15 : Memref sig .tc .vmem S1032x128 el) (X15 : BufTy.Contents (Elt Ideal) arg15.view.ty) (w : BitVec 32) (inb) (b : ℕ) (hb : b < 1032) (hw : (IntOp.shrsi .scalar w 8#32).toNat = b) (l : Fin 128) :
    arg15.view.readAt (Elt Ideal) (Rect.unit (s := S1032x128) (k0_off13 w) S1x128.size inb).toLoadRect X15 (ix2 0 l) = arg15.view.read (Elt Ideal) X15 (ix2 ⟨b, hb⟩ l) := by
  refine rd_unit (S := S1032x128) arg15.view X15 _ (off' := ![b, 0]) ?_ _ _ fun a => ?_
  · subst hw; rfl
  · match a with
    | ⟨0, _⟩ => rfl
    | ⟨1, _⟩ => exact (Nat.zero_add _).symm

theorem trip5_hit  (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (c0_i32_7 c1_i32_8 : BitVec 32) (k0_t4 : Fin k0_t4_loop.trips) (v27 : BitVec 32) (X1 : BufTy.Contents (Elt Ideal) arg1.view.ty) (X2 : BufTy.Contents (Elt Ideal) arg2.view.ty) (X3 : BufTy.Contents (Elt Ideal) arg3.view.ty) (X15 : BufTy.Contents (Elt Ideal) arg15.view.ty) (X16 : BufTy.Contents (Elt Ideal) arg16.view.ty) (X18 : BufTy.Contents (Elt Ideal) arg18.view.ty) (X19 : BufTy.Contents (Elt Ideal) arg19.view.ty)
    (hw : ∀ (r : LoadRect S8192) (x), k0_chk2 (View.readAt (Elt Ideal) arg1.view r X1 x)) (k : Fin k0_t5_loop.trips)
    (e : Env) (t : ℕ) (ht : t < 128) (ha0 : arg0 = BitVec.ofNat 32 t)
    (h1 : ∀ n : Fin 8192, arg1.view.read (Elt Ideal) X1 (ix1 n) = e.tab n.val)
    (h2 : ∀ (r : Fin 512) (l : Fin 128), arg2.view.read (Elt Ideal) X2 (ix2 r l) = e.hcode (512 * t + r.val) l.val)
    (h3 : ∀ (r : Fin 16) (l : Fin 128), arg3.view.read (Elt Ideal) X3 (ix2 r l) = e.hsc (16 * t + r.val) l.val)
    (hv : v27 = Scalar.muli (Scf.iv 0#32 1#32 k0_t4.val) 16#32)
    (hs : ∀ g < 8192, (IntOp.shrsi .scalar (e.tab g) 8#32).toNat = e.row g)
    (h15 : ∀ (r : Fin 1032) (l : Fin 128), r.val < 1024 → arg15.view.read (Elt Ideal) X15 (ix2 r l) = e.T r.val l.val)
    (h16 : ∀ (r : Fin 1032) (l : Fin 128), r.val < 1024 → arg16.view.read (Elt Ideal) X16 (ix2 r l) = e.T r.val (128 + l.val))
    (h18 : ∀ (r : Fin 1032) (l : Fin 128), r.val < 1024 → arg18.view.read (Elt Ideal) X18 (ix2 r l) = e.C r.val l.val)
    (h19 : ∀ (r : Fin 1032) (l : Fin 128), r.val < 1024 → arg19.view.read (Elt Ideal) X19 (ix2 r l) = e.C r.val (128 + l.val))
 (f : BufTy.Contents (Elt Ideal) arg20.view.ty) (q : Fin 6) (ρ : Fin 1024) (l : Fin 128) (κ : Fin 16) (hρ : ρ.val = 256 * k0_t4.val + 16 * k.val + κ.val)
    (hq : q.val < 2 ∨ e.row (64 * t + 16 * k0_t4.val + k.val) < 1024) :
    arg20.view.read (Elt Ideal) (arg20.view.writes (Elt Ideal) f (trip5 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 c0_i32_7 c1_i32_8 k0_t4 v27 X1 X2 X3 X15 X16 X18 X19 hw k).1) (ix3 q ρ l) = e.X (64 * t + 16 * k0_t4.val + k.val) κ.val (128 * q.val + l.val) := by
  have h4 : k0_t4.val < 4 := Nat.lt_of_lt_of_le k0_t4.isLt k0_t4_abs.2.1
  have h5 : k.val < 16 := Nat.lt_of_lt_of_le k.isLt k0_t5_abs.2.1
  have hl := l.isLt
  subst hv
  unfold trip5
  refine (six_hit _ _ _ _ _ _ _ _ _ _ _ _ _ _ _ _ _ _ _ κ hρ).trans ?_
  simp only [pay62_apply, pay63_apply, pay64_apply, pay77_apply, pay78_apply, pay79_apply]
  have elo : k0_pay57 (F := Ideal) (trip5.sl.v126 (F := Ideal) arg0 arg1 arg3 k0_hw1 k0_t4 X1 X3 k) (trip5.sl.r_1 (F := Ideal) arg2 k0_t4 X2 k) 4#32 (trip5.sl.v118 (Scalar.muli (Scf.iv 0#32 1#32 k0_t4.val) 16#32) k) (ix2 κ l)
      = e.H (64 * t + 16 * k0_t4.val + k.val) κ.val l.val := by
    rw [pay57_apply _ _ ⟨(16 * k0_t4.val + k.val) % 4, Nat.mod_lt _ (by decide)⟩ _ (lane4 k0_t4 k), code5 e t arg2 X2 k0_t4 k h2, scale5 e t ht arg0 arg1 X1 arg3 X3 k0_hw1 k0_t4 k ha0 h1 h3]
    unfold Env.H
    have e1 : l.val / 128 = 0 := by omega
    have e2 : l.val % 128 = l.val := by omega
    have e3 : (64 * t + 16 * k0_t4.val + k.val) % 4 = (16 * k0_t4.val + k.val) % 4 := by omega
    rw [e1, e2, e3]
    rfl
  have ehi : k0_pay60 (F := Ideal) (k0_pay55 (trip5.sl.r_1 (F := Ideal) arg2 k0_t4 X2 k)) (k0_pay56 (trip5.sl.v126 (F := Ideal) arg0 arg1 arg3 k0_hw1 k0_t4 X1 X3 k)) (k0_pay58 4#32 (trip5.sl.v118 (Scalar.muli (Scf.iv 0#32 1#32 k0_t4.val) 16#32) k)) (k0_pay59 4#32 (trip5.sl.v118 (Scalar.muli (Scf.iv 0#32 1#32 k0_t4.val) 16#32) k)) (ix2 κ l)
      = e.H (64 * t + 16 * k0_t4.val + k.val) κ.val (128 + l.val) := by
    rw [pay60_apply _ _ ⟨(16 * k0_t4.val + k.val) % 4, Nat.mod_lt _ (by decide)⟩ _ (lane4 k0_t4 k), code5 e t arg2 X2 k0_t4 k h2, scale5 e t ht arg0 arg1 X1 arg3 X3 k0_hw1 k0_t4 k ha0 h1 h3]
    unfold Env.H
    have e1 : (128 + l.val) / 128 = 1 := by omega
    have e2 : (128 + l.val) % 128 = l.val := by omega
    have e3 : (64 * t + 16 * k0_t4.val + k.val) % 4 = (16 * k0_t4.val + k.val) % 4 := by omega
    have e4 : (128 + l.val) / 64 = 2 + l.val / 64 := by omega
    rw [e1, e2, e3, e4, ← Nat.add_assoc (32 * _ + _), ← Nat.add_assoc]
  unfold trip5.sl.r_4 trip5.sl.r_7 trip5.sl.r_2 trip5.sl.r_3 trip5.sl.r_5 trip5.sl.r_6
  rw [elo, ehi]
  unfold Env.X
  have hsh := hs (64 * t + 16 * k0_t4.val + k.val) (by omega)
  have hw := word5 e t ht arg0 arg1 X1 k0_hw1 k0_t4 k ha0 h1
  rw [← hw] at hsh
  rcases hq with hq | hrow
  · by_cases h0 : q.val = 0
    · rw [if_pos h0, h0, if_pos (by omega)]; congr 1; omega
    · have h1 : q.val = 1 := by omega
      rw [if_neg h0, if_pos h1, h1, if_pos (by omega)]
  have r15 := fun inb => (row5 arg15 X15 _ inb _ (by omega) hsh l).trans (h15 _ l hrow)
  have r16 := fun inb => (row5 arg16 X16 _ inb _ (by omega) hsh l).trans (h16 _ l hrow)
  rw [r15, r16]
  clear hρ
  have hq6 := q.isLt
  generalize q.val = qv at hq6 ⊢
  interval_cases qv
  · rw [if_pos rfl, if_pos (by omega)]; congr 1; omega
  · rw [if_neg (by decide), if_pos rfl, if_pos (by omega)]
  · rw [if_neg (by decide), if_neg (by decide), if_pos rfl, if_neg (by omega), if_pos (by omega)]
    have : 128 * 2 + l.val - 256 = l.val := by omega
    rw [this]
  · rw [if_neg (by decide), if_neg (by decide), if_neg (by decide), if_pos rfl, if_neg (by omega), if_pos (by omega)]
    have : 128 * 3 + l.val - 256 = 128 + l.val := by omega
    rw [this]
  · rw [if_neg (by decide), if_neg (by decide), if_neg (by decide), if_neg (by decide), if_pos rfl, if_neg (by omega), if_neg (by omega)]
    have : 128 * 4 + l.val - 512 = l.val := by omega
    rw [this]
  · rw [if_neg (by decide), if_neg (by decide), if_neg (by decide), if_neg (by decide), if_neg (by decide), if_neg (by omega), if_neg (by omega)]
    have : 128 * 5 + l.val - 512 = 128 + l.val := by omega
    rw [this]

/-- A half row block of the target's part of the first layer: inside and outside. -/
theorem half_hit (v : View sig .tc .vmem S256x256 .f32) (f : v.ty.Contents (Elt Ideal)) {off : Fin 2 → ℕ} (inb) (w : S16x128.Idx → Elt Ideal .f32) (L : List (View.Piece (Elt Ideal) S256x256 .f32))
    (a b : ℕ) (ho : off = ![a, b]) (r : Fin 256) (c : Fin 256) (k : Fin 16) (l : Fin 128) (hr : r.val = a + k.val) (hc : c.val = b + l.val) :
    v.read (Elt Ideal) (v.writes (Elt Ideal) f (⟨Rect.unit (s := S256x256) off S16x128.size inb, w⟩ :: L)) (ix2 r c) = w (ix2 k l) := by
  refine View.read_writes_cons_unit_of_mem v f inb w L _ (ix2 k l) ho fun x => ?_
  match x with
  | ⟨0, _⟩ => exact hr
  | ⟨1, _⟩ => exact hc

theorem half_miss (v : View sig .tc .vmem S256x256 .f32) (f : v.ty.Contents (Elt Ideal)) {off : Fin 2 → ℕ} (inb) (w : S16x128.Idx → Elt Ideal .f32) (L : List (View.Piece (Elt Ideal) S256x256 .f32))
    (a b : ℕ) (ho : off = ![a, b]) (r : Fin 256) (c : Fin 256) (h : (r.val < a ∨ a + 16 ≤ r.val) ∨ (c.val < b ∨ b + 128 ≤ c.val)) :
    v.read (Elt Ideal) (v.writes (Elt Ideal) f (⟨Rect.unit (s := S256x256) off S16x128.size inb, w⟩ :: L)) (ix2 r c)
      = v.read (Elt Ideal) (v.writes (Elt Ideal) f L) (ix2 r c) := by
  rcases h with h | h
  · exact View.read_writes_cons_unit_of_not_mem v f inb w L _ ho 0 h
  · exact View.read_writes_cons_unit_of_not_mem v f inb w L _ ho 1 h

theorem trip5c_miss  (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (c0_i32_7 c1_i32_8 : BitVec 32) (k0_t4 : Fin k0_t4_loop.trips) (v27 : BitVec 32) (X1 : BufTy.Contents (Elt Ideal) arg1.view.ty) (X2 : BufTy.Contents (Elt Ideal) arg2.view.ty) (X3 : BufTy.Contents (Elt Ideal) arg3.view.ty) (X15 : BufTy.Contents (Elt Ideal) arg15.view.ty) (X16 : BufTy.Contents (Elt Ideal) arg16.view.ty) (X18 : BufTy.Contents (Elt Ideal) arg18.view.ty) (X19 : BufTy.Contents (Elt Ideal) arg19.view.ty)
    (hw : ∀ (r : LoadRect S8192) (x), k0_chk2 (View.readAt (Elt Ideal) arg1.view r X1 x)) (k : Fin k0_t5_loop.trips)
    (f : BufTy.Contents (Elt Ideal) arg24.view.ty) (r : Fin 256) (c' : Fin 256) (h : r.val < 16 * k.val ∨ 16 * k.val + 16 ≤ r.val) :
    arg24.view.read (Elt Ideal) (arg24.view.writes (Elt Ideal) f (trip5 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 c0_i32_7 c1_i32_8 k0_t4 v27 X1 X2 X3 X15 X16 X18 X19 hw k).2.1) (ix2 r c') = arg24.view.read (Elt Ideal) f (ix2 r c') := by
  unfold trip5
  refine (half_miss _ _ _ _ _ _ _ (k0_off21_eq k) _ _ (.inl h)).trans ?_
  refine (half_miss _ _ _ _ _ _ _ (k0_off17_eq k) _ _ (.inl h)).trans ?_
  rfl

theorem trip5c_hit  (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (c0_i32_7 c1_i32_8 : BitVec 32) (k0_t4 : Fin k0_t4_loop.trips) (v27 : BitVec 32) (X1 : BufTy.Contents (Elt Ideal) arg1.view.ty) (X2 : BufTy.Contents (Elt Ideal) arg2.view.ty) (X3 : BufTy.Contents (Elt Ideal) arg3.view.ty) (X15 : BufTy.Contents (Elt Ideal) arg15.view.ty) (X16 : BufTy.Contents (Elt Ideal) arg16.view.ty) (X18 : BufTy.Contents (Elt Ideal) arg18.view.ty) (X19 : BufTy.Contents (Elt Ideal) arg19.view.ty)
    (hw : ∀ (r : LoadRect S8192) (x), k0_chk2 (View.readAt (Elt Ideal) arg1.view r X1 x)) (k : Fin k0_t5_loop.trips)
    (e : Env) (t : ℕ) (ht : t < 128) (ha0 : arg0 = BitVec.ofNat 32 t)
    (h1 : ∀ n : Fin 8192, arg1.view.read (Elt Ideal) X1 (ix1 n) = e.tab n.val)
    (h2 : ∀ (r : Fin 512) (l : Fin 128), arg2.view.read (Elt Ideal) X2 (ix2 r l) = e.hcode (512 * t + r.val) l.val)
    (h3 : ∀ (r : Fin 16) (l : Fin 128), arg3.view.read (Elt Ideal) X3 (ix2 r l) = e.hsc (16 * t + r.val) l.val)
    (hv : v27 = Scalar.muli (Scf.iv 0#32 1#32 k0_t4.val) 16#32)
    (hs : ∀ g < 8192, (IntOp.shrsi .scalar (e.tab g) 8#32).toNat = e.row g)
    (h15 : ∀ (r : Fin 1032) (l : Fin 128), r.val < 1024 → arg15.view.read (Elt Ideal) X15 (ix2 r l) = e.T r.val l.val)
    (h16 : ∀ (r : Fin 1032) (l : Fin 128), r.val < 1024 → arg16.view.read (Elt Ideal) X16 (ix2 r l) = e.T r.val (128 + l.val))
    (h18 : ∀ (r : Fin 1032) (l : Fin 128), r.val < 1024 → arg18.view.read (Elt Ideal) X18 (ix2 r l) = e.C r.val l.val)
    (h19 : ∀ (r : Fin 1032) (l : Fin 128), r.val < 1024 → arg19.view.read (Elt Ideal) X19 (ix2 r l) = e.C r.val (128 + l.val))
 (f : BufTy.Contents (Elt Ideal) arg24.view.ty) (r : Fin 256) (c' : Fin 256) (κ : Fin 16) (hr : r.val = 16 * k.val + κ.val)
    (hrow : e.row (64 * t + 16 * k0_t4.val + k.val) < 1024) :
    arg24.view.read (Elt Ideal) (arg24.view.writes (Elt Ideal) f (trip5 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 c0_i32_7 c1_i32_8 k0_t4 v27 X1 X2 X3 X15 X16 X18 X19 hw k).2.1) (ix2 r c') = e.C (e.row (64 * t + 16 * k0_t4.val + k.val)) c'.val := by
  have h4 : k0_t4.val < 4 := Nat.lt_of_lt_of_le k0_t4.isLt k0_t4_abs.2.1
  have h5 : k.val < 16 := Nat.lt_of_lt_of_le k.isLt k0_t5_abs.2.1
  have hsh := hs (64 * t + 16 * k0_t4.val + k.val) (by omega)
  have hw := word5 e t ht arg0 arg1 X1 k0_hw1 k0_t4 k ha0 h1
  rw [← hw] at hsh
  unfold trip5
  by_cases hc : c'.val < 128
  · refine (half_miss _ _ _ _ _ _ _ (k0_off21_eq k) _ _ (.inr (.inl hc))).trans ?_
    refine (half_hit _ _ _ _ _ _ _ (k0_off17_eq k) _ _ κ ⟨c'.val, hc⟩ hr (Nat.zero_add _).symm).trans ?_
    refine (pay65_apply _ _ _).trans ?_
    refine (row5 arg18 X18 _ _ _ (by omega) hsh _).trans ?_
    exact h18 _ _ hrow
  · refine (half_hit _ _ _ _ _ _ _ (k0_off21_eq k) _ _ κ ⟨c'.val - 128, by omega⟩ hr (show c'.val = 128 + (c'.val - 128) by omega)).trans ?_
    refine (pay80_apply _ _ _).trans ?_
    refine (row5 arg19 X19 _ _ _ (by omega) hsh _).trans ?_
    refine (h19 _ _ hrow).trans ?_
    show e.C _ (128 + (c'.val - 128)) = _
    congr 1; omega

end Cert.Proof.KernelIdeal

end
-- ==== Proof.Group.lean ====
module

public import proofs.«01_k».proof.Proof.Prod
public import proofs.«01_k».proof.Proof.Reads

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Spec

set_option maxRecDepth 16384

/-- The sums that a row's groups carry, of the groups before `N`. -/
def carry (e : Env) (q : ℕ) : ℕ → ℕ → ℕ → EReal
  | 0, _, _ => 0
  | N + 1, sub, l => (if e.blk N = 0 then 0 else carry e q N sub l) + (e.part q N sub l + e.part q N (8 + sub) l)

/-- Three vectors are the sums carried before group `N`. -/
def Carry (e : Env) (a : FVec Ideal S8x128 .f32 × FVec Ideal S8x128 .f32 × FVec Ideal S8x128 .f32) (N : ℕ) : Prop :=
  ∀ (sub : Fin 8) (l : Fin 128), a.1 (ix2 sub l) = carry e 0 N sub.val l.val ∧ a.2.1 (ix2 sub l) = carry e 1 N sub.val l.val ∧ a.2.2 (ix2 sub l) = carry e 2 N sub.val l.val

theorem off28_eq : ∀ (t : Fin 128) (τ : Fin k0_t4_loop.trips) (g : Fin k0_t6_loop.trips), k0_off28 (BitVec.ofNat 32 t.val) τ g 0 = 64 * t.val + 16 * τ.val + g.val := by decide +kernel
theorem off31_eq : ∀ (g : Fin k0_t6_loop.trips), k0_off31 g = ![16 * g.val, 0] := by decide +kernel
theorem off33_eq : ∀ (g : Fin k0_t6_loop.trips), k0_off33 g = ![16 * g.val + 8, 0] := by decide +kernel
theorem off29_eq : ∀ (τ : Fin k0_t4_loop.trips) (g : Fin k0_t6_loop.trips), k0_off29 τ g = ![0, 256 * τ.val + 16 * g.val, 0] := by decide +kernel
theorem off30_eq : ∀ (τ : Fin k0_t4_loop.trips) (g : Fin k0_t6_loop.trips), k0_off30 τ g = ![1, 256 * τ.val + 16 * g.val, 0] := by decide +kernel

theorem blk_zero (w : BitVec 32) : Scalar.cmpi .eq (Scalar.andi w 224#32) 0#32 = BitVec.ofBool (decide (w.toNat / 32 % 8 = 0)) := by
  show BitVec.ofBool ((w &&& 224#32) == 0#32) = _
  congr 1
  have h : w &&& 224#32 = BitVec.ofNat 32 (w.toNat / 32 % 8 * 32) := by
    have e1 : w &&& 224#32 = ((w >>> 5) &&& 7#32) <<< 5 := by
      apply BitVec.eq_of_getLsbD_eq
      intro i hi
      simp only [BitVec.getLsbD_and, BitVec.getLsbD_shiftLeft, BitVec.getLsbD_ushiftRight]
      interval_cases i <;> simp
    rw [e1]
    apply BitVec.eq_of_toNat_eq
    rw [BitVec.toNat_shiftLeft, BitVec.toNat_and, BitVec.toNat_ushiftRight, BitVec.toNat_ofNat, Nat.shiftLeft_eq, Nat.shiftRight_eq_div_pow]
    have : w.toNat / 2 ^ 5 &&& 7 % 2 ^ 32 = w.toNat / 2 ^ 5 % 8 := Nat.and_two_pow_sub_one_eq_mod _ 3
    rw [this]
    show w.toNat / 32 % 8 * 32 % 2 ^ 32 = (w.toNat / 32 % 8 * 32) % 2 ^ 32
    rfl
  rw [h]
  have h8 : w.toNat / 32 % 8 < 8 := Nat.mod_lt _ (by decide)
  generalize w.toNat / 32 % 8 = z at h8 ⊢
  interval_cases z <;> decide

theorem pay68_apply (x : Vec Ideal S1x16x128 .bf16) (y : Vec Ideal S8x128 .f32) (r : Fin 8) (l : Fin 128) : k0_pay68 (F := Ideal) x y (ix2 r l) = y (ix2 r l) * x (ix3 0 ⟨r.val, by omega⟩ l) := by
  pointwise [k0_pay68, k0_pay66]
theorem pay69_apply (x : Vec Ideal S1x16x128 .bf16) (y : Vec Ideal S8x128 .f32) (r : Fin 8) (l : Fin 128) : k0_pay69 (F := Ideal) x y (ix2 r l) = y (ix2 r l) * x (ix3 0 ⟨r.val, by omega⟩ l) := by
  pointwise [k0_pay69, k0_pay67]
theorem pay71_apply (a : FVec Ideal S8x128 .f32) (p : Prop) [Decidable p] (x : Vec Ideal S1x16x128 .bf16) (v : FVec Ideal S8x128 .f32) (y : Vec Ideal S8x128 .f32) (r : Fin 8) (l : Fin 128) :
    k0_pay71 (F := Ideal) a (BitVec.ofBool (decide p)) (k0_pay66 x) v y (ix2 r l) = (if p then 0 else a (ix2 r l)) + (v (ix2 r l) + y (ix2 r l) * x (ix3 0 ⟨8 + r.val, by omega⟩ l)) := by
  pointwise [k0_pay71, k0_pay66]
  by_cases h : p <;> simp [h, Scalar.select, broadcast]
theorem pay72_apply (a : FVec Ideal S8x128 .f32) (p : Prop) [Decidable p] (x : Vec Ideal S1x16x128 .bf16) (v : FVec Ideal S8x128 .f32) (y : Vec Ideal S8x128 .f32) (r : Fin 8) (l : Fin 128) :
    k0_pay72 (F := Ideal) a (BitVec.ofBool (decide p)) (k0_pay67 x) v y (ix2 r l) = (if p then 0 else a (ix2 r l)) + (v (ix2 r l) + y (ix2 r l) * x (ix3 0 ⟨8 + r.val, by omega⟩ l)) := by
  pointwise [k0_pay72, k0_pay67]
  by_cases h : p <;> simp [h, Scalar.select, broadcast]
theorem pay73_apply (a : FVec Ideal S8x128 .f32) (p : Prop) [Decidable p] (w : BitVec 32) (v : Vec Ideal S8x128 .f32) (y : Vec Ideal S8x128 .f32) (z : Vec Ideal S8x128 .i32) (r : Fin 8) (l : Fin 128) :
    k0_pay73 (F := Ideal) a (BitVec.ofBool (decide p)) w v y z (ix2 r l) = (if p then 0 else a (ix2 r l)) + (v (ix2 r l) + (if IntOp.cmpi .eq (z (ix2 r l)) w = 1#1 then y (ix2 r l) else 0)) := by
  pointwise [k0_pay73]
  by_cases h : p <;> simp [h, Scalar.select, broadcast]
theorem pay70_apply (w : BitVec 32) (y : Vec Ideal S8x128 .f32) (z : Vec Ideal S8x128 .i32) (r : Fin 8) (l : Fin 128) :
    k0_pay70 (F := Ideal) w y z (ix2 r l) = if IntOp.cmpi .eq (z (ix2 r l)) (Scalar.muli (Scalar.andi (Scalar.shrsi w 5#32) 7#32) 16#32) = 1#1 then y (ix2 r l) else 0 := by
  pointwise [k0_pay70]
  rfl

theorem word6 (e : Env) (t : ℕ) (ht : t < 128) (arg0 : BitVec 32) (arg1 : Memref sig .tc .smem S8192 .i32) (X1 : BufTy.Contents (Elt Ideal) arg1.view.ty) (k0_hw1 : k0_chk1 arg0) (k0_t4 : Fin k0_t4_loop.trips) (k : Fin k0_t6_loop.trips)
    (ha0 : arg0 = BitVec.ofNat 32 t) (h1 : ∀ n : Fin 8192, arg1.view.read (Elt Ideal) X1 (ix1 n) = e.tab n.val) :
    trip6.sl.r (F := Ideal) arg0 arg1 k0_hw1 k0_t4 X1 k = e.tab (64 * t + 16 * k0_t4.val + k.val) := by
  have h4 : k0_t4.val < 4 := Nat.lt_of_lt_of_le k0_t4.isLt k0_t4_abs.2.1
  have h5 : k.val < 16 := Nat.lt_of_lt_of_le k.isLt k0_t6_abs.2.1
  unfold trip6.sl.r
  refine (rd_unit (S := S8192) arg1.view X1 _ rfl _ (ix1 ⟨64 * t + 16 * k0_t4.val + k.val, by omega⟩) fun a => ?_).trans (h1 _)
  obtain rfl : a = 0 := Subsingleton.elim _ _
  have := off28_eq ⟨t, ht⟩ k0_t4 k
  rw [← ha0] at this
  show 64 * t + 16 * k0_t4.val + k.val = k0_off28 arg0 k0_t4 k 0 + 0
  rw [this]; rfl

theorem onehot6 (arg21 : Memref sig .tc .vmem S272x128 .i32) (X21 : BufTy.Contents (Elt Ideal) arg21.view.ty) (w c : BitVec 32) (inb) (n : ℕ) (m : Fin 2) (hn : w.toNat % 32 = n) (hle : n ≤ 16) (hc : c = BitVec.ofNat 32 (8 * m.val)) (r : Fin 8) (l : Fin 128) :
    arg21.view.readAt (Elt Ideal) (Rect.unit (s := S272x128) (k0_off32 w c) S8x128.size inb).toLoadRect X21 (ix2 r l) = arg21.view.read (Elt Ideal) X21 (ix2 ⟨16 * n + (8 * m.val + r.val), by omega⟩ l) := by
  refine rd_unit (S := S272x128) arg21.view X21 _ (off' := ![16 * n + 8 * m.val, 0]) ?_ _ _ fun a => ?_
  · subst hc
    have h : (w &&& 31#32).toNat = n := by
      rw [BitVec.toNat_and, ← hn]; exact Nat.and_two_pow_sub_one_eq_mod _ 5
    have : ((w &&& 31#32) * 16#32 + BitVec.ofNat 32 (8 * m.val)).toNat = 16 * n + 8 * m.val := by
      simp only [BitVec.toNat_add, BitVec.toNat_mul, BitVec.toNat_ofNat, h]
      omega
    rw [← this]; rfl
  · match a with
    | ⟨0, _⟩ => exact (Nat.add_assoc _ _ _).symm
    | ⟨1, _⟩ => exact (Nat.zero_add _).symm

theorem trip6_carry  (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (k0_t4 : Fin k0_t4_loop.trips) (arg27 arg28 arg29 : FVec Ideal S8x128 .f32) (v27 : BitVec 32) (v59 : FVec Ideal S256x768 .bf16) (X1 : BufTy.Contents (Elt Ideal) arg1.view.ty) (X20 : BufTy.Contents (Elt Ideal) arg20.view.ty) (X21 : BufTy.Contents (Elt Ideal) arg21.view.ty) (X25 : BufTy.Contents (Elt Ideal) arg25.view.ty)
    (hw3 : ∀ (r : LoadRect S8192) (x), k0_chk3 (View.readAt (Elt Ideal) arg1.view r X1 x)) (k : Fin k0_t6_loop.trips) (acc : FVec Ideal S8x128 .f32 × FVec Ideal S8x128 .f32 × FVec Ideal S8x128 .f32)
    (e : Env) (t : ℕ) (ht : t < 128) (ha0 : arg0 = BitVec.ofNat 32 t)
    (h1 : ∀ n : Fin 8192, arg1.view.read (Elt Ideal) X1 (ix1 n) = e.tab n.val)
    (h21 : ∀ (v : Fin 17) (κ : Fin 16) (l : Fin 128) (u : Fin 8), IntOp.cmpi .eq (arg21.view.read (Elt Ideal) X21 (ix2 ⟨16 * v.val + κ.val, by omega⟩ l)) (BitVec.ofNat 32 (16 * u.val)) = BitVec.ofBool (decide (κ.val < v.val ∧ l.val = 16 * u.val + κ.val)))
    (hnv : ∀ g < 8192, e.nv g ≤ 16)
    (hs : ∀ g < 8192, (IntOp.shrsi .scalar (e.tab g) 8#32).toNat = e.row g)
    (hb : ∀ g < 8192, (IntOp.andi (IntOp.shrsi .scalar (e.tab g) 5#32) 7#32).toNat = e.blk g)
    (h25 : ∀ (κ : Fin 16) (l : Fin 128) (r : Fin 256), r.val = 16 * k.val + κ.val → e.row (64 * t + 16 * k0_t4.val + k.val) < 1024 → arg25.view.read (Elt Ideal) X25 (ix2 r l) = e.S (64 * t + 16 * k0_t4.val + k.val) κ.val)
    (h20 : ∀ (κ : Fin 16) (l : Fin 128) (r : Fin 1024), r.val = 256 * k0_t4.val + 16 * k.val + κ.val → arg20.view.read (Elt Ideal) X20 (ix3 0 r l) = e.H (64 * t + 16 * k0_t4.val + k.val) κ.val l.val ∧ arg20.view.read (Elt Ideal) X20 (ix3 1 r l) = e.H (64 * t + 16 * k0_t4.val + k.val) κ.val (128 + l.val))

    (hin : e.row (64 * t + 16 * k0_t4.val + k.val) < 1024 → e.blk (64 * t + 16 * k0_t4.val + k.val) ≠ 0 → Carry e acc (64 * t + 16 * k0_t4.val + k.val)) (hrow : e.row (64 * t + 16 * k0_t4.val + k.val) < 1024) :
    Carry e (trip6 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 k0_t4 arg27 arg28 arg29 v27 v59 X1 X20 X21 X25 hw3 k acc).1 ((64 * t + 16 * k0_t4.val + k.val) + 1) := by
  have h4 : k0_t4.val < 4 := Nat.lt_of_lt_of_le k0_t4.isLt k0_t4_abs.2.1
  have h5 : k.val < 16 := Nat.lt_of_lt_of_le k.isLt k0_t6_abs.2.1
  have hw := word6 e t ht arg0 arg1 X1 k0_hw1 k0_t4 k ha0 h1
  have hG : (64 * t + 16 * k0_t4.val + k.val) < 8192 := by omega
  have hn := hnv _ hG
  have hbk := hb _ hG
  have h20' := fun κ l => h20 κ l ⟨256 * k0_t4.val + 16 * k.val + κ.val, by omega⟩ rfl
  have h25' := fun κ l => h25 κ l ⟨16 * k.val + κ.val, by omega⟩ rfl hrow
  clear h20 h25
  unfold trip6
  intro sub l
  have hcarry : ∀ q, carry e q ((64 * t + 16 * k0_t4.val + k.val) + 1) sub.val l.val = (if e.blk (64 * t + 16 * k0_t4.val + k.val) = 0 then 0 else carry e q (64 * t + 16 * k0_t4.val + k.val) sub.val l.val) + (e.part q (64 * t + 16 * k0_t4.val + k.val) sub.val l.val + e.part q (64 * t + 16 * k0_t4.val + k.val) (8 + sub.val) l.val) := fun q => rfl
  simp only [hcarry]
  have v102 : trip6.sl.v102 (F := Ideal) arg0 arg1 k0_hw1 k0_t4 X1 k = BitVec.ofBool (decide (e.blk (64 * t + 16 * k0_t4.val + k.val) = 0)) := by
    unfold trip6.sl.v102 trip6.sl.v101
    rw [hw, blk_zero]; rfl
  have y0 : ∀ inb, arg25.view.readAt (Elt Ideal) (Rect.unit (s := S256x128) (k0_off31 k) S8x128.size inb).toLoadRect X25 (ix2 sub l) = e.S (64 * t + 16 * k0_t4.val + k.val) sub.val := fun inb =>
    (rd_unit (S := S256x128) arg25.view X25 _ (off31_eq k) _ (ix2 ⟨16 * k.val + sub.val, by omega⟩ l) fun a => by
      match a with
      | ⟨0, _⟩ => rfl
      | ⟨1, _⟩ => exact (Nat.zero_add _).symm).trans (h25' ⟨sub.val, by omega⟩ l)
  have y1 : ∀ inb, arg25.view.readAt (Elt Ideal) (Rect.unit (s := S256x128) (k0_off33 k) S8x128.size inb).toLoadRect X25 (ix2 sub l) = e.S (64 * t + 16 * k0_t4.val + k.val) (8 + sub.val) := fun inb =>
    (rd_unit (S := S256x128) arg25.view X25 _ (off33_eq k) _ (ix2 ⟨16 * k.val + (8 + sub.val), by omega⟩ l) fun a => by
      match a with
      | ⟨0, _⟩ => exact (Nat.add_assoc _ _ _).symm
      | ⟨1, _⟩ => exact (Nat.zero_add _).symm).trans (h25' ⟨8 + sub.val, by omega⟩ l)
  have z0 : ∀ inb (κ : Fin 16), arg20.view.readAt (Elt Ideal) (Rect.unit (s := S6x1024x128) (k0_off29 k0_t4 k) S1x16x128.size inb).toLoadRect X20 (ix3 0 κ l) = e.H (64 * t + 16 * k0_t4.val + k.val) κ.val l.val := fun inb κ =>
    (rd_unit (S := S6x1024x128) arg20.view X20 _ (off29_eq k0_t4 k) _ (ix3 0 ⟨256 * k0_t4.val + 16 * k.val + κ.val, by omega⟩ l) fun a => by
      match a with
      | ⟨0, _⟩ => rfl
      | ⟨1, _⟩ => rfl
      | ⟨2, _⟩ => exact (Nat.zero_add _).symm).trans (h20' κ l).1
  have z1 : ∀ inb (κ : Fin 16), arg20.view.readAt (Elt Ideal) (Rect.unit (s := S6x1024x128) (k0_off30 k0_t4 k) S1x16x128.size inb).toLoadRect X20 (ix3 0 κ l) = e.H (64 * t + 16 * k0_t4.val + k.val) κ.val (128 + l.val) := fun inb κ =>
    (rd_unit (S := S6x1024x128) arg20.view X20 _ (off30_eq k0_t4 k) _ (ix3 1 ⟨256 * k0_t4.val + 16 * k.val + κ.val, by omega⟩ l) fun a => by
      match a with
      | ⟨0, _⟩ => rfl
      | ⟨1, _⟩ => rfl
      | ⟨2, _⟩ => exact (Nat.zero_add _).symm).trans (h20' κ l).2
  have cin : ∀ x y : EReal, (e.blk (64 * t + 16 * k0_t4.val + k.val) ≠ 0 → x = y) → (if e.blk (64 * t + 16 * k0_t4.val + k.val) = 0 then 0 else x) = (if e.blk (64 * t + 16 * k0_t4.val + k.val) = 0 then 0 else y) := fun x y h => by
    by_cases hz : e.blk (64 * t + 16 * k0_t4.val + k.val) = 0
    · rw [if_pos hz, if_pos hz]
    · rw [if_neg hz, if_neg hz, h hz]
  have hword : Scalar.muli (Scalar.andi (Scalar.shrsi (trip6.sl.r (F := Ideal) arg0 arg1 k0_hw1 k0_t4 X1 k) 5#32) 7#32) 16#32 = BitVec.ofNat 32 (16 * e.blk (64 * t + 16 * k0_t4.val + k.val)) := by
    rw [hw]
    apply BitVec.eq_of_toNat_eq
    show ((IntOp.andi (IntOp.shrsi .scalar (e.tab (64 * t + 16 * k0_t4.val + k.val)) 5#32) 7#32) * 16#32).toNat = _
    rw [BitVec.toNat_mul, hbk, BitVec.toNat_ofNat]
    show e.blk (64 * t + 16 * k0_t4.val + k.val) * 16 % 2 ^ 32 = _
    rw [Nat.mul_comm, BitVec.toNat_ofNat]
  have hb8 : e.blk (64 * t + 16 * k0_t4.val + k.val) < 8 := Nat.mod_lt _ (by decide)
  have oh : ∀ (c : BitVec 32) (m : Fin 2) (hc : c = BitVec.ofNat 32 (8 * m.val)) inb, IntOp.cmpi .eq (arg21.view.readAt (Elt Ideal) (Rect.unit (s := S272x128) (k0_off32 (trip6.sl.r (F := Ideal) arg0 arg1 k0_hw1 k0_t4 X1 k) c) S8x128.size inb).toLoadRect X21 (ix2 sub l)) (BitVec.ofNat 32 (16 * e.blk (64 * t + 16 * k0_t4.val + k.val)))
      = BitVec.ofBool (decide (8 * m.val + sub.val < e.nv (64 * t + 16 * k0_t4.val + k.val) ∧ l.val = 16 * e.blk (64 * t + 16 * k0_t4.val + k.val) + (8 * m.val + sub.val))) := fun c m hc inb => by
    rw [onehot6 arg21 X21 _ c inb (e.nv (64 * t + 16 * k0_t4.val + k.val)) m (by rw [hw]; rfl) hn hc sub l]
    exact h21 ⟨e.nv (64 * t + 16 * k0_t4.val + k.val), by omega⟩ ⟨8 * m.val + sub.val, by omega⟩ l ⟨e.blk (64 * t + 16 * k0_t4.val + k.val), hb8⟩
  have ob : ∀ (p : Prop) [Decidable p] (x : EReal), (if BitVec.ofBool (decide p) = 1#1 then x else 0) = if p then x else 0 := fun p _ x => by
    by_cases hp : p <;> simp [hp]
  refine ⟨?_, ?_, ?_⟩
  · refine Eq.trans (b := k0_pay71 (F := Ideal) acc.1 (trip6.sl.v102 (F := Ideal) arg0 arg1 k0_hw1 k0_t4 X1 k) (k0_pay66 _) (k0_pay68 _ _) _ (ix2 sub l)) rfl ?_
    rw [v102, pay71_apply, pay68_apply, y0, y1, z0, z0]
    exact congrArg (· + _) (cin _ _ fun hz => (hin hrow hz sub l).1)
  · refine Eq.trans (b := k0_pay72 (F := Ideal) acc.2.1 (trip6.sl.v102 (F := Ideal) arg0 arg1 k0_hw1 k0_t4 X1 k) (k0_pay67 _) (k0_pay69 _ _) _ (ix2 sub l)) rfl ?_
    rw [v102, pay72_apply, pay69_apply, y0, y1, z1, z1]
    exact congrArg (· + _) (cin _ _ fun hz => (hin hrow hz sub l).2.1)
  · refine Eq.trans (b := k0_pay73 (F := Ideal) acc.2.2 (trip6.sl.v102 (F := Ideal) arg0 arg1 k0_hw1 k0_t4 X1 k) (Scalar.muli (Scalar.andi (Scalar.shrsi (trip6.sl.r (F := Ideal) arg0 arg1 k0_hw1 k0_t4 X1 k) 5#32) 7#32) 16#32) (k0_pay70 _ _ _) _ _ (ix2 sub l)) rfl ?_
    rw [v102, pay73_apply, pay70_apply, hword]
    unfold trip6.sl.v125 trip6.sl.v142
    rw [oh 0#32 0 rfl, oh 8#32 1 rfl, ob, ob, y0, y1]
    refine congrArg₂ (· + ·) (cin _ _ fun hz => (hin hrow hz sub l).2.2) ?_
    refine congrArg₂ (· + ·) ?_ ?_
    · unfold Env.part; rw [if_neg (show ¬ (2 : ℕ) = 0 by decide), if_neg (show ¬ (2 : ℕ) = 1 by decide)]; simp
    · unfold Env.part; rw [if_neg (show ¬ (2 : ℕ) = 0 by decide), if_neg (show ¬ (2 : ℕ) = 1 by decide)]; simp

end Cert.Proof.KernelIdeal

end
-- ==== Proof.Loops.lean ====
module

public import proofs.«01_k».proof.Proof.Group

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Spec

set_option maxRecDepth 16384

theorem trips5 : k0_t5_loop.trips = 16 := by decide +kernel
theorem trips6 : k0_t6_loop.trips = 16 := by decide +kernel

/-- The planes after the feature loop. -/
theorem st5_planes  (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (c0_i32_7 c1_i32_8 : BitVec 32) (k0_t4 : Fin k0_t4_loop.trips) (v27 : BitVec 32) (X1 : BufTy.Contents (Elt Ideal) arg1.view.ty) (X2 : BufTy.Contents (Elt Ideal) arg2.view.ty) (X3 : BufTy.Contents (Elt Ideal) arg3.view.ty) (X15 : BufTy.Contents (Elt Ideal) arg15.view.ty) (X16 : BufTy.Contents (Elt Ideal) arg16.view.ty) (X18 : BufTy.Contents (Elt Ideal) arg18.view.ty) (X19 : BufTy.Contents (Elt Ideal) arg19.view.ty)
    (hw : ∀ (r : LoadRect S8192) (x), k0_chk2 (View.readAt (Elt Ideal) arg1.view r X1 x))
    (e : Env) (t : ℕ) (ht : t < 128) (ha0 : arg0 = BitVec.ofNat 32 t)
    (h1 : ∀ n : Fin 8192, arg1.view.read (Elt Ideal) X1 (ix1 n) = e.tab n.val)
    (h2 : ∀ (r : Fin 512) (l : Fin 128), arg2.view.read (Elt Ideal) X2 (ix2 r l) = e.hcode (512 * t + r.val) l.val)
    (h3 : ∀ (r : Fin 16) (l : Fin 128), arg3.view.read (Elt Ideal) X3 (ix2 r l) = e.hsc (16 * t + r.val) l.val)
    (hv : v27 = Scalar.muli (Scf.iv 0#32 1#32 k0_t4.val) 16#32)
    (hs : ∀ g < 8192, (IntOp.shrsi .scalar (e.tab g) 8#32).toNat = e.row g)
    (h15 : ∀ (r : Fin 1032) (l : Fin 128), r.val < 1024 → arg15.view.read (Elt Ideal) X15 (ix2 r l) = e.T r.val l.val)
    (h16 : ∀ (r : Fin 1032) (l : Fin 128), r.val < 1024 → arg16.view.read (Elt Ideal) X16 (ix2 r l) = e.T r.val (128 + l.val))
    (h18 : ∀ (r : Fin 1032) (l : Fin 128), r.val < 1024 → arg18.view.read (Elt Ideal) X18 (ix2 r l) = e.C r.val l.val)
    (h19 : ∀ (r : Fin 1032) (l : Fin 128), r.val < 1024 → arg19.view.read (Elt Ideal) X19 (ix2 r l) = e.C r.val (128 + l.val))
 (f : BufTy.Contents (Elt Ideal) arg20.view.ty) (q : Fin 6) (ρ : Fin 1024) (l : Fin 128) (k κ : ℕ) (hκ : κ < 16) (hρ : ρ.val = 256 * k0_t4.val + 16 * k + κ)
    (hq : q.val < 2 ∨ e.row (64 * t + 16 * k0_t4.val + k) < 1024) (n : ℕ) (hn : n ≤ 16) (hk : k < n) :
    arg20.view.read (Elt Ideal) (arg20.view.writes (Elt Ideal) f (st5 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 c0_i32_7 c1_i32_8 k0_t4 v27 X1 X2 X3 X15 X16 X18 X19 hw n).1) (ix3 q ρ l) = e.X (64 * t + 16 * k0_t4.val + k) κ (128 * q.val + l.val) := by
  induction n with
  | zero => omega
  | succ n ih =>
    rw [st5_succ (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 c0_i32_7 c1_i32_8 k0_t4 v27 X1 X2 X3 X15 X16 X18 X19 hw ⟨n, by rw [trips5]; omega⟩, View.writes_append]
    by_cases h : k = n
    · subst h
      exact trip5_hit 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 c0_i32_7 c1_i32_8 k0_t4 v27 X1 X2 X3 X15 X16 X18 X19 hw ⟨k, by rw [trips5]; omega⟩ e t ht ha0 h1 h2 h3 hv hs h15 h16 h18 h19 _ q ρ l ⟨κ, hκ⟩ hρ hq
    · rw [trip5_miss 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 c0_i32_7 c1_i32_8 k0_t4 v27 X1 X2 X3 X15 X16 X18 X19 hw ⟨n, by rw [trips5]; omega⟩ _ q ρ l (.inl (by show ρ.val < 256 * k0_t4.val + 16 * n; omega))]
      exact ih (by omega) (by omega)

/-- The target's part of the first layer after the feature loop. -/
theorem st5_part  (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (c0_i32_7 c1_i32_8 : BitVec 32) (k0_t4 : Fin k0_t4_loop.trips) (v27 : BitVec 32) (X1 : BufTy.Contents (Elt Ideal) arg1.view.ty) (X2 : BufTy.Contents (Elt Ideal) arg2.view.ty) (X3 : BufTy.Contents (Elt Ideal) arg3.view.ty) (X15 : BufTy.Contents (Elt Ideal) arg15.view.ty) (X16 : BufTy.Contents (Elt Ideal) arg16.view.ty) (X18 : BufTy.Contents (Elt Ideal) arg18.view.ty) (X19 : BufTy.Contents (Elt Ideal) arg19.view.ty)
    (hw : ∀ (r : LoadRect S8192) (x), k0_chk2 (View.readAt (Elt Ideal) arg1.view r X1 x))
    (e : Env) (t : ℕ) (ht : t < 128) (ha0 : arg0 = BitVec.ofNat 32 t)
    (h1 : ∀ n : Fin 8192, arg1.view.read (Elt Ideal) X1 (ix1 n) = e.tab n.val)
    (h2 : ∀ (r : Fin 512) (l : Fin 128), arg2.view.read (Elt Ideal) X2 (ix2 r l) = e.hcode (512 * t + r.val) l.val)
    (h3 : ∀ (r : Fin 16) (l : Fin 128), arg3.view.read (Elt Ideal) X3 (ix2 r l) = e.hsc (16 * t + r.val) l.val)
    (hv : v27 = Scalar.muli (Scf.iv 0#32 1#32 k0_t4.val) 16#32)
    (hs : ∀ g < 8192, (IntOp.shrsi .scalar (e.tab g) 8#32).toNat = e.row g)
    (h15 : ∀ (r : Fin 1032) (l : Fin 128), r.val < 1024 → arg15.view.read (Elt Ideal) X15 (ix2 r l) = e.T r.val l.val)
    (h16 : ∀ (r : Fin 1032) (l : Fin 128), r.val < 1024 → arg16.view.read (Elt Ideal) X16 (ix2 r l) = e.T r.val (128 + l.val))
    (h18 : ∀ (r : Fin 1032) (l : Fin 128), r.val < 1024 → arg18.view.read (Elt Ideal) X18 (ix2 r l) = e.C r.val l.val)
    (h19 : ∀ (r : Fin 1032) (l : Fin 128), r.val < 1024 → arg19.view.read (Elt Ideal) X19 (ix2 r l) = e.C r.val (128 + l.val))
 (f : BufTy.Contents (Elt Ideal) arg24.view.ty) (r c' : Fin 256) (k κ : ℕ) (hκ : κ < 16) (hr : r.val = 16 * k + κ)
    (hrow : e.row (64 * t + 16 * k0_t4.val + k) < 1024) (n : ℕ) (hn : n ≤ 16) (hk : k < n) :
    arg24.view.read (Elt Ideal) (arg24.view.writes (Elt Ideal) f (st5 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 c0_i32_7 c1_i32_8 k0_t4 v27 X1 X2 X3 X15 X16 X18 X19 hw n).2) (ix2 r c') = e.C (e.row (64 * t + 16 * k0_t4.val + k)) c'.val := by
  induction n with
  | zero => omega
  | succ n ih =>
    rw [st5_succ (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 c0_i32_7 c1_i32_8 k0_t4 v27 X1 X2 X3 X15 X16 X18 X19 hw ⟨n, by rw [trips5]; omega⟩, View.writes_append]
    by_cases h : k = n
    · subst h
      exact trip5c_hit 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 c0_i32_7 c1_i32_8 k0_t4 v27 X1 X2 X3 X15 X16 X18 X19 hw ⟨k, by rw [trips5]; omega⟩ e t ht ha0 h1 h2 h3 hv hs h15 h16 h18 h19 _ r c' ⟨κ, hκ⟩ hr hrow
    · rw [trip5c_miss 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 c0_i32_7 c1_i32_8 k0_t4 v27 X1 X2 X3 X15 X16 X18 X19 hw ⟨n, by rw [trips5]; omega⟩ _ r c' (.inl (by show r.val < 16 * n; omega))]
      exact ih (by omega) (by omega)

/-- Component `q` of the three sums. -/
def comp3 (a : FVec Ideal S8x128 .f32 × FVec Ideal S8x128 .f32 × FVec Ideal S8x128 .f32) (q : ℕ) : FVec Ideal S8x128 .f32 := if q = 0 then a.1 else if q = 1 then a.2.1 else a.2.2

theorem comp3_carry {e : Env} {a N} (h : Carry e a N) (q : Fin 3) (sub : Fin 8) (l : Fin 128) : comp3 a q.val (ix2 sub l) = carry e q.val N sub.val l.val := by
  match q with
  | 0 => exact (h sub l).1
  | 1 => exact (h sub l).2.1
  | 2 => exact (h sub l).2.2

theorem rows_hit (v : View sig .tc .vmem S3x8200x128 .f32) (f : v.ty.Contents (Elt Ideal)) {off : Fin 3 → ℕ} (inb) (w : S1x8x128.Idx → Elt Ideal .f32) (L : List (View.Piece (Elt Ideal) S3x8200x128 .f32))
    (a b : ℕ) (ho : off = ![a, b, 0]) (q : Fin 3) (ρ : Fin 8200) (l : Fin 128) (k : Fin 8) (hq : q.val = a) (hρ : ρ.val = b + k.val) :
    v.read (Elt Ideal) (v.writes (Elt Ideal) f (⟨Rect.unit (s := S3x8200x128) off S1x8x128.size inb, w⟩ :: L)) (ix3 q ρ l) = w (ix3 0 k l) := by
  refine View.read_writes_cons_unit_of_mem v f inb w L _ (ix3 (0 : Fin 1) k l) ho fun x => ?_
  match x with
  | ⟨0, _⟩ => exact hq
  | ⟨1, _⟩ => exact hρ
  | ⟨2, _⟩ => exact (Nat.zero_add _).symm

theorem rows_miss (v : View sig .tc .vmem S3x8200x128 .f32) (f : v.ty.Contents (Elt Ideal)) {off : Fin 3 → ℕ} (inb) (w : S1x8x128.Idx → Elt Ideal .f32) (L : List (View.Piece (Elt Ideal) S3x8200x128 .f32))
    (a b : ℕ) (ho : off = ![a, b, 0]) (q : Fin 3) (ρ : Fin 8200) (l : Fin 128) (h : q.val ≠ a ∨ ρ.val < b ∨ b + 8 ≤ ρ.val) :
    v.read (Elt Ideal) (v.writes (Elt Ideal) f (⟨Rect.unit (s := S3x8200x128) off S1x8x128.size inb, w⟩ :: L)) (ix3 q ρ l)
      = v.read (Elt Ideal) (v.writes (Elt Ideal) f L) (ix3 q ρ l) := by
  rcases h with h | h
  · refine View.read_writes_cons_unit_of_not_mem v f inb w L _ ho 0 ?_
    show q.val < a ∨ a + 1 ≤ q.val
    omega
  · exact View.read_writes_cons_unit_of_not_mem v f inb w L _ ho 1 h

theorem off34_eq (w : BitVec 32) (b : ℕ) (hb : b ≤ 1024) (hw : (IntOp.shrsi .scalar w 8#32).toNat = b) : k0_off34 w = ![0, 8 * b, 0] ∧ k0_off35 w = ![1, 8 * b, 0] ∧ k0_off36 w = ![2, 8 * b, 0] := by
  have : (IntOp.shrsi .scalar w 8#32 * 8#32).toNat = 8 * b := by
    rw [BitVec.toNat_mul, hw]
    show b * 8 % 2 ^ 32 = _
    omega
  rw [← this]
  exact ⟨rfl, rfl, rfl⟩

theorem pay85_apply (v : FVec Ideal S8x128 .f32) (k : Fin 8) (l : Fin 128) : k0_pay85 (F := Ideal) v (ix3 0 k l) = v (ix2 k l) := by
  pointwise [k0_pay85]
theorem pay74_eq (a) (w) (x) (v) (y) (k : Fin 8) (l : Fin 128) : k0_pay74 (F := Ideal) a w x v y (ix3 0 k l) = k0_pay71 (F := Ideal) a w x v y (ix2 k l) := by
  unfold k0_pay74
  generalize k0_pay71 (F := Ideal) a w x v y = z
  pointwise []
theorem pay75_eq (a) (w) (x) (v) (y) (k : Fin 8) (l : Fin 128) : k0_pay75 (F := Ideal) a w x v y (ix3 0 k l) = k0_pay72 (F := Ideal) a w x v y (ix2 k l) := by
  unfold k0_pay75
  generalize k0_pay72 (F := Ideal) a w x v y = z
  pointwise []

/-- What a trip of the group loop stores: inside and outside. -/
theorem trip6_hit  (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (k0_t4 : Fin k0_t4_loop.trips) (arg27 arg28 arg29 : FVec Ideal S8x128 .f32) (v27 : BitVec 32) (v59 : FVec Ideal S256x768 .bf16) (X1 : BufTy.Contents (Elt Ideal) arg1.view.ty) (X20 : BufTy.Contents (Elt Ideal) arg20.view.ty) (X21 : BufTy.Contents (Elt Ideal) arg21.view.ty) (X25 : BufTy.Contents (Elt Ideal) arg25.view.ty)
    (hw3 : ∀ (r : LoadRect S8192) (x), k0_chk3 (View.readAt (Elt Ideal) arg1.view r X1 x)) (k : Fin k0_t6_loop.trips) (acc : FVec Ideal S8x128 .f32 × FVec Ideal S8x128 .f32 × FVec Ideal S8x128 .f32) (b' : ℕ) (hb' : b' ≤ 1024) (hw : (IntOp.shrsi .scalar (trip6.sl.r (F := Ideal) arg0 arg1 k0_hw1 k0_t4 X1 k) 8#32).toNat = b')
    (f : BufTy.Contents (Elt Ideal) arg22.view.ty) (q : Fin 3) (ρ : Fin 8200) (l : Fin 128) (sub : Fin 8) (hρ : ρ.val = 8 * b' + sub.val) :
    arg22.view.read (Elt Ideal) (arg22.view.writes (Elt Ideal) f (trip6 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 k0_t4 arg27 arg28 arg29 v27 v59 X1 X20 X21 X25 hw3 k acc).2.1) (ix3 q ρ l) = comp3 (trip6 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 k0_t4 arg27 arg28 arg29 v27 v59 X1 X20 X21 X25 hw3 k acc).1 q.val (ix2 sub l) := by
  obtain ⟨o0, o1, o2⟩ := off34_eq _ b' hb' hw
  unfold trip6
  match q with
  | 2 => exact (rows_hit _ _ _ _ _ _ _ o2 2 ρ l sub rfl hρ).trans (pay85_apply _ _ _)
  | 1 => exact (rows_miss _ _ _ _ _ _ _ o2 1 ρ l (.inl (by decide))).trans ((rows_hit _ _ _ _ _ _ _ o1 1 ρ l sub rfl hρ).trans (pay75_eq _ _ _ _ _ _ _))
  | 0 => exact (rows_miss _ _ _ _ _ _ _ o2 0 ρ l (.inl (by decide))).trans ((rows_miss _ _ _ _ _ _ _ o1 0 ρ l (.inl (by decide))).trans ((rows_hit _ _ _ _ _ _ _ o0 0 ρ l sub rfl hρ).trans (pay74_eq _ _ _ _ _ _ _)))

theorem trip6_miss  (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (k0_t4 : Fin k0_t4_loop.trips) (arg27 arg28 arg29 : FVec Ideal S8x128 .f32) (v27 : BitVec 32) (v59 : FVec Ideal S256x768 .bf16) (X1 : BufTy.Contents (Elt Ideal) arg1.view.ty) (X20 : BufTy.Contents (Elt Ideal) arg20.view.ty) (X21 : BufTy.Contents (Elt Ideal) arg21.view.ty) (X25 : BufTy.Contents (Elt Ideal) arg25.view.ty)
    (hw3 : ∀ (r : LoadRect S8192) (x), k0_chk3 (View.readAt (Elt Ideal) arg1.view r X1 x)) (k : Fin k0_t6_loop.trips) (acc : FVec Ideal S8x128 .f32 × FVec Ideal S8x128 .f32 × FVec Ideal S8x128 .f32) (b' : ℕ) (hb' : b' ≤ 1024) (hw : (IntOp.shrsi .scalar (trip6.sl.r (F := Ideal) arg0 arg1 k0_hw1 k0_t4 X1 k) 8#32).toNat = b')
    (f : BufTy.Contents (Elt Ideal) arg22.view.ty) (q : Fin 3) (ρ : Fin 8200) (l : Fin 128) (h : ρ.val < 8 * b' ∨ 8 * b' + 8 ≤ ρ.val) :
    arg22.view.read (Elt Ideal) (arg22.view.writes (Elt Ideal) f (trip6 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 k0_t4 arg27 arg28 arg29 v27 v59 X1 X20 X21 X25 hw3 k acc).2.1) (ix3 q ρ l) = arg22.view.read (Elt Ideal) f (ix3 q ρ l) := by
  obtain ⟨o0, o1, o2⟩ := off34_eq _ b' hb' hw
  unfold trip6
  exact (rows_miss _ _ _ _ _ _ _ o2 q ρ l (.inr h)).trans ((rows_miss _ _ _ _ _ _ _ o1 q ρ l (.inr h)).trans (rows_miss _ _ _ _ _ _ _ o0 q ρ l (.inr h)))

/-- The rows of the sums, of the groups before `N`: each row at the last of its groups. -/
def Accs (e : Env) (R : Fin 3 → Fin 8200 → Fin 128 → EReal) (N : ℕ) : Prop :=
  ∀ g < N, e.row g < 1024 → (∀ g', g < g' → g' < N → e.row g' ≠ e.row g) →
    ∀ (q : Fin 3) (sub : Fin 8) (l : Fin 128) (ρ : Fin 8200), ρ.val = 8 * e.row g + sub.val → R q ρ l = carry e q.val (g + 1) sub.val l.val

/-- Before group `N`: what is carried, and what the rows hold. -/
def GInv (e : Env) (a : FVec Ideal S8x128 .f32 × FVec Ideal S8x128 .f32 × FVec Ideal S8x128 .f32) (R : Fin 3 → Fin 8200 → Fin 128 → EReal) (N : ℕ) : Prop :=
  (N < 8192 → e.row N < 1024 → e.blk N ≠ 0 → Carry e a N) ∧ Accs e R N

theorem GInv.step {e : Env} {a a' R R' N} (hN : N < 8192) (h : GInv e a R N) (hsame : ∀ g, g + 1 < 8192 → e.blk (g + 1) ≠ 0 → e.row (g + 1) = e.row g)
    (hc : (e.row N < 1024 → e.blk N ≠ 0 → Carry e a N) → e.row N < 1024 → Carry e a' (N + 1))
    (hhit : ∀ (q : Fin 3) (sub : Fin 8) (l : Fin 128) (ρ : Fin 8200), ρ.val = 8 * e.row N + sub.val → R' q ρ l = comp3 a' q.val (ix2 sub l))
    (hmiss : ∀ (q : Fin 3) (l : Fin 128) (ρ : Fin 8200), ρ.val < 8 * e.row N ∨ 8 * e.row N + 8 ≤ ρ.val → R' q ρ l = R q ρ l) :
    GInv e a' R' (N + 1) := by
  have hc' := hc (h.1 hN)
  refine ⟨fun hN1 hr hb => hc' (by rw [← hsame N hN1 hb]; exact hr), fun g hg hr hl q sub l ρ hρ => ?_⟩
  by_cases hgN : g = N
  · subst hgN
    rw [hhit q sub l ρ hρ, comp3_carry (hc' hr)]
  · have hne : e.row N ≠ e.row g := hl N (by omega) (by omega)
    rw [hmiss q l ρ (by have := sub.isLt; omega)]
    exact h.2 g (by omega) hr (fun g' h1 h2 => hl g' h1 (by omega)) q sub l ρ hρ

/-- The group loop, trip by trip. -/
theorem st6_inv  (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (k0_t4 : Fin k0_t4_loop.trips) (arg27 arg28 arg29 : FVec Ideal S8x128 .f32) (v27 : BitVec 32) (v59 : FVec Ideal S256x768 .bf16) (X1 : BufTy.Contents (Elt Ideal) arg1.view.ty) (X20 : BufTy.Contents (Elt Ideal) arg20.view.ty) (X21 : BufTy.Contents (Elt Ideal) arg21.view.ty) (X25 : BufTy.Contents (Elt Ideal) arg25.view.ty)
    (hw3 : ∀ (r : LoadRect S8192) (x), k0_chk3 (View.readAt (Elt Ideal) arg1.view r X1 x))
    (e : Env) (t : ℕ) (ht : t < 128) (ha0 : arg0 = BitVec.ofNat 32 t)
    (h1 : ∀ n : Fin 8192, arg1.view.read (Elt Ideal) X1 (ix1 n) = e.tab n.val)
    (h21 : ∀ (v : Fin 17) (κ : Fin 16) (l : Fin 128) (u : Fin 8), IntOp.cmpi .eq (arg21.view.read (Elt Ideal) X21 (ix2 ⟨16 * v.val + κ.val, by omega⟩ l)) (BitVec.ofNat 32 (16 * u.val)) = BitVec.ofBool (decide (κ.val < v.val ∧ l.val = 16 * u.val + κ.val)))
    (hnv : ∀ g < 8192, e.nv g ≤ 16)
    (hs : ∀ g < 8192, (IntOp.shrsi .scalar (e.tab g) 8#32).toNat = e.row g)
    (hb : ∀ g < 8192, (IntOp.andi (IntOp.shrsi .scalar (e.tab g) 5#32) 7#32).toNat = e.blk g)

    (h25 : ∀ (r : Fin 256) (l : Fin 128), e.row (64 * t + 16 * k0_t4.val + r.val / 16) < 1024 → arg25.view.read (Elt Ideal) X25 (ix2 r l) = e.S (64 * t + 16 * k0_t4.val + r.val / 16) (r.val % 16))
    (h20 : ∀ (r : Fin 1024) (l : Fin 128) (k κ : ℕ), k < 16 → κ < 16 → r.val = 256 * k0_t4.val + 16 * k + κ → arg20.view.read (Elt Ideal) X20 (ix3 0 r l) = e.H (64 * t + 16 * k0_t4.val + k) κ l.val ∧ arg20.view.read (Elt Ideal) X20 (ix3 1 r l) = e.H (64 * t + 16 * k0_t4.val + k) κ (128 + l.val))
 (hrl : ∀ g < 8192, e.row g ≤ 1024) (hsame : ∀ g, g + 1 < 8192 → e.blk (g + 1) ≠ 0 → e.row (g + 1) = e.row g)
    (a₀ : FVec Ideal S8x128 .f32 × FVec Ideal S8x128 .f32 × FVec Ideal S8x128 .f32) (f : BufTy.Contents (Elt Ideal) arg22.view.ty)
    (h0 : GInv e a₀ (fun q ρ l => arg22.view.read (Elt Ideal) f (ix3 q ρ l)) (64 * t + 16 * k0_t4.val)) (n : ℕ) (hn : n ≤ 16) :
    GInv e (st6 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 k0_t4 arg27 arg28 arg29 v27 v59 X1 X20 X21 X25 hw3 a₀ n).1 (fun q ρ l => arg22.view.read (Elt Ideal) (arg22.view.writes (Elt Ideal) f (st6 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 k0_t4 arg27 arg28 arg29 v27 v59 X1 X20 X21 X25 hw3 a₀ n).2) (ix3 q ρ l)) (64 * t + 16 * k0_t4.val + n) := by
  induction n with
  | zero => exact h0
  | succ n ih =>
    have h4 : k0_t4.val < 4 := Nat.lt_of_lt_of_le k0_t4.isLt k0_t4_abs.2.1
    have hG : 64 * t + 16 * k0_t4.val + n < 8192 := by omega
    have hw : (IntOp.shrsi .scalar (trip6.sl.r (F := Ideal) arg0 arg1 k0_hw1 k0_t4 X1 ⟨n, by rw [trips6]; omega⟩) 8#32).toNat = e.row (64 * t + 16 * k0_t4.val + n) := by
      rw [word6 e t ht arg0 arg1 X1 k0_hw1 k0_t4 ⟨n, by rw [trips6]; omega⟩ ha0 h1]
      exact hs _ hG
    rw [st6_succ (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 k0_t4 arg27 arg28 arg29 v27 v59 X1 X20 X21 X25 hw3 a₀ ⟨n, by rw [trips6]; omega⟩, View.writes_append]
    refine GInv.step hG (ih (by omega)) hsame (fun hin hr => ?_) (fun q sub l ρ hρ => ?_) (fun q l ρ hρ => ?_)
    · refine trip6_carry 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 k0_t4 arg27 arg28 arg29 v27 v59 X1 X20 X21 X25 hw3 ⟨n, by rw [trips6]; omega⟩ _ e t ht ha0 h1 h21 hnv hs hb (fun κ l r hr' hrow => ?_) (fun κ l r hr' => ?_) hin hr
      · have e1 : r.val / 16 = n := by have := κ.isLt; replace hr' : r.val = 16 * n + κ.val := hr'; omega
        have e2 : r.val % 16 = κ.val := by have := κ.isLt; replace hr' : r.val = 16 * n + κ.val := hr'; omega
        have := h25 r l (by rw [e1]; exact hrow)
        rw [e1, e2] at this
        exact this
      · exact h20 r l n κ.val (by omega) κ.isLt hr'
    · exact trip6_hit 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 k0_t4 arg27 arg28 arg29 v27 v59 X1 X20 X21 X25 hw3 ⟨n, by rw [trips6]; omega⟩ _ _ (hrl _ hG) hw _ q ρ l sub hρ
    · exact trip6_miss 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 k0_t4 arg27 arg28 arg29 v27 v59 X1 X20 X21 X25 hw3 ⟨n, by rw [trips6]; omega⟩ _ _ (hrl _ hG) hw _ q ρ l hρ

end Cert.Proof.KernelIdeal

end
-- ==== Proof.TileRead.lean ====
module

public import proofs.«01_k».proof.Proof.Loops

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Spec

set_option maxRecDepth 16384

/-- A whole load reads the contents. -/
theorem rd_full {sp : Space} {S : Shape} {el : EltTy} (v : View sig .tc sp S el) (f : v.ty.Contents (Elt Ideal)) {off : Fin S.rank → ℕ} (inb : ∀ a, off a + S.size a ≤ S.size a) :
    v.readAt (Elt Ideal) (Rect.unit (s := S) off S.size inb).toLoadRect f = v.read (Elt Ideal) f :=
  funext fun x => rd_unit (S := S) v f inb rfl x x fun a => by have := inb a; omega

/-- One feature plane of a tile. -/
theorem plane_rd (v : View sig .tc .vmem S6x1024x128 .bf16) (f : v.ty.Contents (Elt Ideal)) {off : Fin 3 → ℕ} (inb) (a : Fin 6) (b : ℕ) (hb : b ≤ 768) (ho : off = ![a.val, b, 0]) (r : Fin 256) (l : Fin 128) :
    v.readAt (Elt Ideal) (Rect.unit (s := S6x1024x128) off S1x256x128.size inb).toLoadRect f (ix3 0 r l) = v.read (Elt Ideal) f (ix3 a ⟨b + r.val, by omega⟩ l) :=
  rd_unit (S := S6x1024x128) v f inb ho _ _ fun x => by
    match x with
    | ⟨0, _⟩ => rfl
    | ⟨1, _⟩ => rfl
    | ⟨2, _⟩ => exact (Nat.zero_add _).symm

theorem out_hit (v : View sig .tc .vmem S256x128 .f32) (f : v.ty.Contents (Elt Ideal)) (i1 i0) (w1 w0 : S128x128.Idx → Elt Ideal .f32) (r : Fin 256) (l : Fin 128) :
    v.read (Elt Ideal) (v.writes (Elt Ideal) f [⟨Rect.unit (s := S256x128) ![128, 0] S128x128.size i1, w1⟩, ⟨Rect.unit (s := S256x128) ![0, 0] S128x128.size i0, w0⟩]) (ix2 r l)
      = if h : r.val < 128 then w0 (ix2 ⟨r.val, h⟩ l) else w1 (ix2 ⟨r.val - 128, by omega⟩ l) := by
  by_cases h : r.val < 128
  · rw [dif_pos h]
    refine (View.read_writes_cons_unit_of_not_mem v f i1 w1 _ _ rfl 0 (.inl h)).trans ?_
    refine View.read_writes_cons_unit_of_mem v f i0 w0 _ _ (ix2 ⟨r.val, h⟩ l) rfl fun x => ?_
    match x with
    | ⟨0, _⟩ => exact (Nat.zero_add _).symm
    | ⟨1, _⟩ => exact (Nat.zero_add _).symm
  · rw [dif_neg h]
    refine View.read_writes_cons_unit_of_mem v f i1 w1 _ _ (ix2 ⟨r.val - 128, by omega⟩ l) rfl fun x => ?_
    match x with
    | ⟨0, _⟩ => show r.val = 128 + (r.val - 128); omega
    | ⟨1, _⟩ => exact (Nat.zero_add _).symm

theorem trip4_inv  (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (X1 : BufTy.Contents (Elt Ideal) arg1.view.ty) (X2 : BufTy.Contents (Elt Ideal) arg2.view.ty) (X3 : BufTy.Contents (Elt Ideal) arg3.view.ty) (X7 : BufTy.Contents (Elt Ideal) arg7.view.ty) (X8 : BufTy.Contents (Elt Ideal) arg8.view.ty) (X9 : BufTy.Contents (Elt Ideal) arg9.view.ty) (X11 : BufTy.Contents (Elt Ideal) arg11.view.ty) (X12 : BufTy.Contents (Elt Ideal) arg12.view.ty) (X15 : BufTy.Contents (Elt Ideal) arg15.view.ty) (X16 : BufTy.Contents (Elt Ideal) arg16.view.ty) (X18 : BufTy.Contents (Elt Ideal) arg18.view.ty) (X19 : BufTy.Contents (Elt Ideal) arg19.view.ty) (X21 : BufTy.Contents (Elt Ideal) arg21.view.ty)
    (hw : ∀ (r : LoadRect S8192) (x), k0_chk2 (View.readAt (Elt Ideal) arg1.view r X1 x)) (hw3 : ∀ (r : LoadRect S8192) (x), k0_chk3 (View.readAt (Elt Ideal) arg1.view r X1 x)) (k : Fin k0_t4_loop.trips) (acc : FVec Ideal S8x128 .f32 × FVec Ideal S8x128 .f32 × FVec Ideal S8x128 .f32) (g20 : BufTy.Contents (Elt Ideal) arg20.view.ty) (g22 : BufTy.Contents (Elt Ideal) arg22.view.ty) (g24 : BufTy.Contents (Elt Ideal) arg24.view.ty) (g25 : BufTy.Contents (Elt Ideal) arg25.view.ty)
    (e : Env) (t : ℕ) (ht : t < 128) (ha0 : arg0 = BitVec.ofNat 32 t)
    (h1 : ∀ n : Fin 8192, arg1.view.read (Elt Ideal) X1 (ix1 n) = e.tab n.val)
    (h2 : ∀ (r : Fin 512) (l : Fin 128), arg2.view.read (Elt Ideal) X2 (ix2 r l) = e.hcode (512 * t + r.val) l.val)
    (h3 : ∀ (r : Fin 16) (l : Fin 128), arg3.view.read (Elt Ideal) X3 (ix2 r l) = e.hsc (16 * t + r.val) l.val)
    (h7 : ∀ (f : Fin 768) (c : Fin 256), arg7.view.read (Elt Ideal) X7 (ix2 f c) = e.w1 f.val c.val)
    (h8 : ∀ (f : Fin 256) (c : Fin 128), arg8.view.read (Elt Ideal) X8 (ix2 f c) = e.w2 f.val c.val)
    (h9 : ∀ f c : Fin 256, arg9.view.read (Elt Ideal) X9 (ix2 f c) = if f.val / 128 = c.val / 128 then e.w3 (f.val % 128) else 0)
    (h11 : ∀ f : Fin 256, arg11.view.read (Elt Ideal) X11 (ix2 0 f) = e.a1 f.val)
    (h12 : ∀ f : Fin 128, arg12.view.read (Elt Ideal) X12 (ix2 0 f) = e.a2 f.val)
    (h15 : ∀ (r : Fin 1032) (l : Fin 128), r.val < 1024 → arg15.view.read (Elt Ideal) X15 (ix2 r l) = e.T r.val l.val)
    (h16 : ∀ (r : Fin 1032) (l : Fin 128), r.val < 1024 → arg16.view.read (Elt Ideal) X16 (ix2 r l) = e.T r.val (128 + l.val))
    (h18 : ∀ (r : Fin 1032) (l : Fin 128), r.val < 1024 → arg18.view.read (Elt Ideal) X18 (ix2 r l) = e.C r.val l.val)
    (h19 : ∀ (r : Fin 1032) (l : Fin 128), r.val < 1024 → arg19.view.read (Elt Ideal) X19 (ix2 r l) = e.C r.val (128 + l.val))
    (h21 : ∀ (v : Fin 17) (κ : Fin 16) (l : Fin 128) (u : Fin 8), IntOp.cmpi .eq (arg21.view.read (Elt Ideal) X21 (ix2 ⟨16 * v.val + κ.val, by omega⟩ l)) (BitVec.ofNat 32 (16 * u.val)) = BitVec.ofBool (decide (κ.val < v.val ∧ l.val = 16 * u.val + κ.val)))
    (hnv : ∀ g < 8192, e.nv g ≤ 16)
    (hs : ∀ g < 8192, (IntOp.shrsi .scalar (e.tab g) 8#32).toNat = e.row g)
    (hb : ∀ g < 8192, (IntOp.andi (IntOp.shrsi .scalar (e.tab g) 5#32) 7#32).toNat = e.blk g)
    (hrl : ∀ g < 8192, e.row g ≤ 1024) (hsame : ∀ g, g + 1 < 8192 → e.blk (g + 1) ≠ 0 → e.row (g + 1) = e.row g)

    (h0 : GInv e acc (fun q ρ l => arg22.view.read (Elt Ideal) g22 (ix3 q ρ l)) (64 * t + 16 * k.val)) :
    GInv e (trip4 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 X15 X16 X18 X19 X21 hw hw3 k acc g20 g22 g24 g25).1 (fun q ρ l => arg22.view.read (Elt Ideal) (trip4 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 X15 X16 X18 X19 X21 hw hw3 k acc g20 g22 g24 g25).2.2.1 (ix3 q ρ l)) (64 * t + 16 * k.val + 16) := by
  have h4 : k.val < 4 := Nat.lt_of_lt_of_le k.isLt k0_t4_abs.2.1
  have e16 : 64 * t + 16 * k.val + 16 = 64 * t + 16 * k.val + k0_t6_loop.trips := by rw [trips6]
  rw [e16]
  have hp : ∀ (q : Fin 6) (r : Fin 1024) (l : Fin 128) (k' κ : ℕ), k' < 16 → κ < 16 → r.val = 256 * k.val + 16 * k' + κ → (q.val < 2 ∨ e.row (64 * t + 16 * k.val + k') < 1024) →
      arg20.view.read (Elt Ideal) (arg20.view.writes (Elt Ideal) g20 (st5 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 0#32 1#32 k (trip4.sl.v27 k) X1 X2 X3 X15 X16 X18 X19 hw (Scf.trips k0_t5_loop.lb k0_t5_loop.ub k0_t5_loop.st)).1) (ix3 q r l)
        = e.X (64 * t + 16 * k.val + k') κ (128 * q.val + l.val) := fun q r l k' κ hk hκ hr hq =>
    st5_planes 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 0#32 1#32 k (trip4.sl.v27 k) X1 X2 X3 X15 X16 X18 X19 hw e t ht ha0 h1 h2 h3 rfl hs h15 h16 h18 h19 g20 q r l k' κ hκ hr hq _ (le_of_eq trips5) (lt_of_lt_of_eq hk trips5.symm)
  have hx : ∀ (r : Fin 256), e.row (64 * t + 16 * k.val + r.val / 16) < 1024 → ∀ f : Fin 768,
      trip4.sl.r (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X15 X16 X18 X19 hw k g20 (ix2 r f) = e.X (64 * t + 16 * k.val + r.val / 16) (r.val % 16) f.val := fun r hrow f => by
    unfold trip4.sl.r
    refine (pay81_apply ![trip4.sl.v32 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X15 X16 X18 X19 hw k g20, trip4.sl.v37 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X15 X16 X18 X19 hw k g20, trip4.sl.v42 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X15 X16 X18 X19 hw k g20, trip4.sl.v47 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X15 X16 X18 X19 hw k g20, trip4.sl.v52 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X15 X16 X18 X19 hw k g20, trip4.sl.v57 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X15 X16 X18 X19 hw k g20] r f).trans ?_
    have hh := fun q => hp q ⟨256 * k.val + r.val, by omega⟩ ⟨f.val % 128, Nat.mod_lt _ (by decide)⟩ (r.val / 16) (r.val % 16) (by omega) (by omega) (by show 256 * k.val + r.val = _; omega) (.inr hrow)
    have hf : 128 * (f.val / 128) + f.val % 128 = f.val := by omega
    have hv : ∀ q : Fin 6, ![trip4.sl.v32 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X15 X16 X18 X19 hw k g20, trip4.sl.v37 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X15 X16 X18 X19 hw k g20, trip4.sl.v42 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X15 X16 X18 X19 hw k g20, trip4.sl.v47 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X15 X16 X18 X19 hw k g20, trip4.sl.v52 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X15 X16 X18 X19 hw k g20, trip4.sl.v57 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X15 X16 X18 X19 hw k g20] q (ix3 0 r ⟨f.val % 128, Nat.mod_lt _ (by decide)⟩) = e.X (64 * t + 16 * k.val + r.val / 16) (r.val % 16) (128 * q.val + f.val % 128) := fun q => by
      match q with
      | ⟨0, _⟩ => exact (plane_rd _ _ _ 0 _ (by omega) (k0_off22_eq k) r _).trans (hh 0)
      | ⟨1, _⟩ => exact (plane_rd _ _ _ 1 _ (by omega) (k0_off23_eq k) r _).trans (hh 1)
      | ⟨2, _⟩ => exact (plane_rd _ _ _ 2 _ (by omega) (k0_off24_eq k) r _).trans (hh 2)
      | ⟨3, _⟩ => exact (plane_rd _ _ _ 3 _ (by omega) (k0_off25_eq k) r _).trans (hh 3)
      | ⟨4, _⟩ => exact (plane_rd _ _ _ 4 _ (by omega) (k0_off26_eq k) r _).trans (hh 4)
      | ⟨5, _⟩ => exact (plane_rd _ _ _ 5 _ (by omega) (k0_off27_eq k) r _).trans (hh 5)
    exact (hv ⟨f.val / 128, by omega⟩).trans (congrArg _ hf)
  have hc : ∀ (r : Fin 256), e.row (64 * t + 16 * k.val + r.val / 16) < 1024 → ∀ f : Fin 256,
      trip4.sl.v62 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X15 X16 X18 X19 hw k g24 (ix2 r f) = e.C (e.row (64 * t + 16 * k.val + r.val / 16)) f.val := fun r hrow f => by
    unfold trip4.sl.v62
    rw [rd_full (S := S256x256)]
    exact st5_part 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 0#32 1#32 k (trip4.sl.v27 k) X1 X2 X3 X15 X16 X18 X19 hw e t ht ha0 h1 h2 h3 rfl hs h15 h16 h18 h19 g24 r f (r.val / 16) (r.val % 16) (by omega) (by omega) hrow _ (le_of_eq trips5) (lt_of_lt_of_eq (by omega) trips5.symm)
  have r7 : ∀ inb (f : Fin 768) (c : Fin 256), arg7.view.readAt (Elt Ideal) (Rect.unit (s := S768x256) ![0, 0] S768x256.size inb).toLoadRect X7 (ix2 f c) = e.w1 f.val c.val := fun inb f c => by rw [rd_full (S := S768x256)]; exact h7 f c
  have r8 : ∀ inb (f : Fin 256) (c : Fin 128), arg8.view.readAt (Elt Ideal) (Rect.unit (s := S256x128) ![0, 0] S256x128.size inb).toLoadRect X8 (ix2 f c) = e.w2 f.val c.val := fun inb f c => by rw [rd_full (S := S256x128)]; exact h8 f c
  have r9 : ∀ inb (f c : Fin 256), arg9.view.readAt (Elt Ideal) (Rect.unit (s := S256x256) ![0, 0] S256x256.size inb).toLoadRect X9 (ix2 f c) = if f.val / 128 = c.val / 128 then e.w3 (f.val % 128) else 0 := fun inb f c => by rw [rd_full (S := S256x256)]; exact h9 f c
  have r11 : ∀ inb (f : Fin 256), arg11.view.readAt (Elt Ideal) (Rect.unit (s := S1x256) ![0, 0] S1x256.size inb).toLoadRect X11 (ix2 0 f) = e.a1 f.val := fun inb f => by rw [rd_full (S := S1x256)]; exact h11 f
  have r12 : ∀ inb (f : Fin 128), arg12.view.readAt (Elt Ideal) (Rect.unit (s := S1x128) ![0, 0] S1x128.size inb).toLoadRect X12 (ix2 0 f) = e.a2 f.val := fun inb f => by rw [rd_full (S := S1x128)]; exact h12 f
  unfold trip4
  refine st6_inv _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ e t ht ha0 h1 h21 hnv hs hb (fun r l hrow => ?_) (fun r l κ' κ hk hκ hr => ?_) hrl hsame _ _ h0 _ (le_of_eq trips6)
  · refine (out_hit _ _ _ _ _ _ r l).trans ?_
    by_cases h : r.val < 128
    · rw [dif_pos h]
      exact pay83_apply _ _ _ _ _ _ _ e _ _ ⟨r.val, h⟩ l (hx r hrow) (hc r hrow) (r7 _) (r11 _) (r8 _) (r12 _) (r9 _)
    · rw [dif_neg h]
      have er : r = ⟨128 + (⟨r.val - 128, by omega⟩ : Fin 128).val, by show 128 + (r.val - 128) < 256; omega⟩ := Fin.ext (by show r.val = 128 + (r.val - 128); omega)
      exact pay84_apply _ _ _ _ _ _ _ e _ _ ⟨r.val - 128, by omega⟩ l (fun f => (congrArg (fun z => trip4.sl.r (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X15 X16 X18 X19 hw k g20 (ix2 z f)) er.symm).trans (hx r hrow f)) (fun f => (congrArg (fun z => trip4.sl.v62 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X15 X16 X18 X19 hw k g24 (ix2 z f)) er.symm).trans (hc r hrow f)) (r7 _) (r11 _) (r8 _) (r12 _) (r9 _)
  · have a0 := hp 0 r l κ' κ hk hκ hr (.inl (by decide))
    have a1 := hp 1 r l κ' κ hk hκ hr (.inl (by decide))
    have hl := l.isLt
    refine ⟨a0.trans ?_, a1.trans ?_⟩
    · unfold Env.X
      rw [if_pos (by show 128 * 0 + l.val < 256; omega)]
      exact congrArg _ (by show 128 * 0 + l.val = l.val; omega)
    · unfold Env.X
      rw [if_pos (by show 128 * 1 + l.val < 256; omega)]
      rfl

end Cert.Proof.KernelIdeal

end
-- ==== Proof.Tables.lean ====
module

public import proofs.«01_k».proof.Proof.TileRead

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Spec

set_option maxRecDepth 16384
set_option maxHeartbeats 1000000
variable {𝒱 : Variants} {c : Dev nD} {bd : Option 𝒱.V} {b : grid0.Bounds} {i : grid0.Static} {arg0 : BitVec 32} {arg1 : Memref sig .tc .smem S8192 .i32} {harg1 : arg1.IsWhole} {arg2 : Memref sig .tc .vmem S512x128 .i32} {harg2 : arg2.IsWhole} {arg3 : Memref sig .tc .vmem S16x128 .i32} {harg3 : arg3.IsWhole} {arg4 : Memref sig .tc .vmem S512x128 .i32} {harg4 : arg4.IsWhole} {arg5 : Memref sig .tc .vmem S16x128 .i32} {harg5 : arg5.IsWhole} {arg6 : Memref sig .tc .vmem S256x256 .bf16} {harg6 : arg6.IsWhole} {arg7 : Memref sig .tc .vmem S768x256 .bf16} {harg7 : arg7.IsWhole} {arg8 : Memref sig .tc .vmem S256x128 .bf16} {harg8 : arg8.IsWhole} {arg9 : Memref sig .tc .vmem S256x256 .bf16} {harg9 : arg9.IsWhole} {arg10 : Memref sig .tc .vmem S1x256 .f32} {harg10 : arg10.IsWhole} {arg11 : Memref sig .tc .vmem S1x256 .f32} {harg11 : arg11.IsWhole} {arg12 : Memref sig .tc .vmem S1x128 .f32} {harg12 : arg12.IsWhole} {arg13 : Memref sig .tc .vmem S1024x256 .bf16} {harg13 : arg13.IsWhole} {arg14 : Memref sig .tc .vmem S1024x128 .f32} {harg14 : arg14.IsWhole} {arg15 : Memref sig .tc .vmem S1032x128 .bf16} {harg15 : arg15.IsWhole} {arg16 : Memref sig .tc .vmem S1032x128 .bf16} {harg16 : arg16.IsWhole} {arg17 : Memref sig .tc .vmem S2x1024x128 .bf16} {harg17 : arg17.IsWhole} {arg18 : Memref sig .tc .vmem S1032x128 .f32} {harg18 : arg18.IsWhole} {arg19 : Memref sig .tc .vmem S1032x128 .f32} {harg19 : arg19.IsWhole} {arg20 : Memref sig .tc .vmem S6x1024x128 .bf16} {harg20 : arg20.IsWhole} {arg21 : Memref sig .tc .vmem S272x128 .i32} {harg21 : arg21.IsWhole} {arg22 : Memref sig .tc .vmem S3x8200x128 .f32} {harg22 : arg22.IsWhole} {arg23 : Memref sig .tc .vmem S3x8x128 .f32} {harg23 : arg23.IsWhole} {arg24 : Memref sig .tc .vmem S256x256 .f32} {harg24 : arg24.IsWhole} {arg25 : Memref sig .tc .vmem S256x128 .f32} {harg25 : arg25.IsWhole}

theorem trips1 : k0_t1_loop.trips = 17 := by decide +kernel
theorem trips2 : k0_t2_loop.trips = 16 := by decide +kernel
theorem trips3 : k0_t3_loop.trips = 4 := by decide +kernel

theorem at2 {R n h : ℕ} {ρ : Fin R} {l : Fin n} {k : Fin h} {b : ℕ} (hρ : ρ.val = b + k.val) : ∀ x : Fin 2, (ix2 ρ l x).val = (![b, 0] : Fin 2 → ℕ) x + (ix2 k l x).val
  | ⟨0, _⟩ => hρ
  | ⟨1, _⟩ => (Nat.zero_add _).symm

theorem at3 {Q R n h : ℕ} {q : Fin Q} {ρ : Fin R} {l : Fin n} {k : Fin h} {a b : ℕ} (hq : q.val = a) (hρ : ρ.val = b + k.val) : ∀ x : Fin 3, (ix3 q ρ l x).val = (![a, b, 0] : Fin 3 → ℕ) x + (ix3 (0 : Fin 1) k l x).val
  | ⟨0, _⟩ => hq
  | ⟨1, _⟩ => hρ
  | ⟨2, _⟩ => (Nat.zero_add _).symm

/-! ### The positions' table -/

/-- The word at a row and a lane of the block of `v`. -/
def ohw (v κ l : ℕ) : BitVec 32 :=
  Scalar.select (IntOp.cmpi .slt (BitVec.ofNat 32 κ) (BitVec.ofNat 32 v)) (IntOp.subi (BitVec.ofNat 32 l) (BitVec.ofNat 32 κ)) 4294967295#32

theorem oh_lt : ∀ (v : Fin 17) (κ : Fin 16), IntOp.cmpi .slt (BitVec.ofNat 32 κ.val) (BitVec.ofNat 32 v.val) = BitVec.ofBool (decide (κ.val < v.val)) := by decide +kernel
theorem oh_eq : ∀ (κ : Fin 16) (l : Fin 128) (u : Fin 8), IntOp.cmpi .eq (IntOp.subi (BitVec.ofNat 32 l.val) (BitVec.ofNat 32 κ.val)) (BitVec.ofNat 32 (16 * u.val)) = BitVec.ofBool (decide (l.val = 16 * u.val + κ.val)) := by decide +kernel
theorem oh_no : ∀ u : Fin 8, IntOp.cmpi .eq 4294967295#32 (BitVec.ofNat 32 (16 * u.val)) = 0#1 := by decide +kernel

theorem ohw_eq (v : Fin 17) (κ : Fin 16) (l : Fin 128) (u : Fin 8) :
    IntOp.cmpi .eq (ohw v.val κ.val l.val) (BitVec.ofNat 32 (16 * u.val)) = BitVec.ofBool (decide (κ.val < v.val ∧ l.val = 16 * u.val + κ.val)) := by
  unfold ohw
  rw [oh_lt]
  by_cases h : κ.val < v.val
  · simp only [h, decide_true, true_and]; exact oh_eq κ l u
  · simp only [h, decide_false, false_and]; exact oh_no u

theorem iv1 : ∀ k : Fin 17, Scalar.addi 0#32 (Scalar.muli (Scf.iv 0#32 1#32 k.val) 1#32) = BitVec.ofNat 32 k.val := by decide +kernel
theorem sub0 : ∀ k : Fin 8, IntOp.addi (BitVec.ofNat 32 k.val) 0#32 = BitVec.ofNat 32 k.val := by decide +kernel
theorem sub8 : ∀ k : Fin 8, IntOp.addi (BitVec.ofNat 32 k.val) 8#32 = BitVec.ofNat 32 (8 + k.val) := by decide +kernel

theorem pay2_apply (k : Fin k0_t1_loop.trips) (κ : Fin 8) (l : Fin 128) : k0_pay2 k (ix2 κ l) = ohw k.val κ.val l.val := by
  have e := iv1 ⟨k.val, lt_of_lt_of_eq k.isLt trips1⟩
  have e' := sub0 κ
  unfold ohw
  rw [← e', ← e]
  pointwise [k0_pay2]

theorem pay3_apply (k : Fin k0_t1_loop.trips) (κ : Fin 8) (l : Fin 128) : k0_pay3 k (ix2 κ l) = ohw k.val (8 + κ.val) l.val := by
  have e := iv1 ⟨k.val, lt_of_lt_of_eq k.isLt trips1⟩
  have e' := sub8 κ
  unfold ohw
  rw [← e', ← e]
  pointwise [k0_pay3]

theorem trip1_hit (f : BufTy.Contents (Elt Ideal) arg21.view.ty) (k : Fin k0_t1_loop.trips) (κ : Fin 16) (l : Fin 128) (ρ : Fin 272) (hρ : ρ.val = 16 * k.val + κ.val) :
    arg21.view.read (Elt Ideal) (arg21.view.writes (Elt Ideal) f (tripL_k0_t1 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k)) (ix2 ρ l) = ohw k.val κ.val l.val := by
  unfold tripL_k0_t1 trip_k0_t1
  by_cases h : κ.val < 8
  · refine (View.read_writes_cons_unit_of_not_mem _ _ _ _ _ _ (k0_off1_eq k 1) 0 (.inl (by show ρ.val < 16 * k.val + 8 * 1; omega))).trans ?_
    refine (View.read_writes_cons_unit_of_mem _ _ _ _ _ _ (ix2 (⟨κ.val, h⟩ : Fin 8) l) (k0_off1_eq k 0) ?_).trans ?_
    · intro a
      have ha : ∀ x : Fin 2, (ix2 ρ l x).val = (![16 * k.val + 8 * (0 : Fin 2).val, 0] : Fin 2 → ℕ) x + (ix2 (⟨κ.val, h⟩ : Fin 8) l x).val := at2 (by show ρ.val = 16 * k.val + 8 * 0 + κ.val; omega)
      exact ha a
    · exact pay2_apply k _ l
  · refine (View.read_writes_cons_unit_of_mem _ _ _ _ _ _ (ix2 (⟨κ.val - 8, by omega⟩ : Fin 8) l) (k0_off1_eq k 1) ?_).trans ?_
    · intro a
      have ha : ∀ x : Fin 2, (ix2 ρ l x).val = (![16 * k.val + 8 * (1 : Fin 2).val, 0] : Fin 2 → ℕ) x + (ix2 (⟨κ.val - 8, by omega⟩ : Fin 8) l x).val := at2 (by show ρ.val = 16 * k.val + 8 * 1 + (κ.val - 8); omega)
      exact ha a
    refine (pay3_apply k _ l).trans ?_
    exact congrArg (ohw k.val · l.val) (by show 8 + (κ.val - 8) = κ.val; omega)

theorem trip1_miss (f : BufTy.Contents (Elt Ideal) arg21.view.ty) (k : Fin k0_t1_loop.trips) (l : Fin 128) (ρ : Fin 272) (hρ : ρ.val < 16 * k.val) :
    arg21.view.read (Elt Ideal) (arg21.view.writes (Elt Ideal) f (tripL_k0_t1 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k)) (ix2 ρ l) = arg21.view.read (Elt Ideal) f (ix2 ρ l) := by
  unfold tripL_k0_t1 trip_k0_t1
  refine (View.read_writes_cons_unit_of_not_mem _ _ _ _ _ _ (k0_off1_eq k 1) 0 (.inl (by show ρ.val < 16 * k.val + 8 * 1; omega))).trans ?_
  exact View.read_writes_cons_unit_of_not_mem _ _ _ _ _ _ (k0_off1_eq k 0) 0 (.inl (by show ρ.val < 16 * k.val + 8 * 0; omega))

theorem t1_read (f : BufTy.Contents (Elt Ideal) arg21.view.ty) (n : ℕ) (hn : n ≤ 17) (v κ : ℕ) (hv : v < n) (hκ : κ < 16) (l : Fin 128) (ρ : Fin 272) (hρ : ρ.val = 16 * v + κ) :
    arg21.view.read (Elt Ideal) (arg21.view.writes (Elt Ideal) f (pb_k0_t1 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 n)) (ix2 ρ l) = ohw v κ l.val := by
  induction n with
  | zero => omega
  | succ n ih =>
    have hk : n < k0_t1_loop.trips := by rw [trips1]; omega
    have hs : pb_k0_t1 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (n + 1) = _ := pb_k0_t1_succ (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 ⟨n, hk⟩
    rw [hs, View.writes_append]
    by_cases h : v < n
    · exact (trip1_miss _ ⟨n, hk⟩ l ρ (by show ρ.val < 16 * n; omega)).trans (ih (by omega) h)
    · obtain rfl : v = n := by omega
      exact trip1_hit _ ⟨v, hk⟩ ⟨κ, hκ⟩ l ρ hρ

/-! ### The targets' tables -/

/-- The lower and upper half of sixteen targets, from their words. -/
def dlo (x : Vec Ideal S8x128 .i32) (v : IVec S1x128 32) (q : Fin 4) (k : Fin 16) (l : Fin 128) : EReal :=
  byteAt (x (ix2 ⟨k.val / 4, by omega⟩ l)) (k.val % 4) * halfAt (v (ix2 0 ⟨32 * q.val + 4 * (k.val / 2) + l.val / 64, by omega⟩)) (k.val % 2)
def dhi (x : Vec Ideal S8x128 .i32) (v : IVec S1x128 32) (q : Fin 4) (k : Fin 16) (l : Fin 128) : EReal :=
  byteAt (x (ix2 ⟨4 + k.val / 4, by omega⟩ l)) (k.val % 4) * halfAt (v (ix2 0 ⟨32 * q.val + 4 * (k.val / 2) + 2 + l.val / 64, by omega⟩)) (k.val % 2)

theorem sc2 (w : FVec Ideal S16x128 .bf16) (h) (k : Fin 16) (l : Fin 128) : shapeCast S16x128 w h (ix2 k l) = w (ix2 k l) := by pointwise []
theorem sc3 (w : FVec Ideal S16x128 .bf16) (h) (k : Fin 16) (l : Fin 128) : shapeCast S1x16x128 w h (ix3 0 k l) = w (ix2 k l) := by pointwise []

theorem dlo0 (x : Vec Ideal S8x128 .i32) (v : IVec S1x128 32) (k : Fin 16) (l : Fin 128) : k0_pay21 (F := Ideal) v x (ix2 k l) = dlo x v 0 k l := by
  unfold k0_pay21 k0_pay19
  refine (deq_lo _ _ _ _ _ k l).trans (congrArg _ (congrArg (halfAt · _) ((gather_row v _ _ _).trans (congrArg (fun i => v (ix2 0 i)) (Fin.ext ?_)))))
  have e := gpick_eq 0 0 ⟨k.val / 2, by omega⟩ l
  pointwise [k0_pay39, k0_pay48, k0_pay22, k0_pay23, trip_k0_t2.sl.v64, trip_k0_t2.sl.v213]
  exact e.trans (by show 32 * 0 + 4 * (k.val / 2) + 2 * 0 + l.val / 64 = _; omega)

theorem dlo1 (x : Vec Ideal S8x128 .i32) (v : IVec S1x128 32) (k : Fin 16) (l : Fin 128) : k0_pay31 (F := Ideal) v x (ix2 k l) = dlo x v 1 k l := by
  unfold k0_pay31 k0_pay29
  refine (deq_lo _ _ _ _ _ k l).trans (congrArg _ (congrArg (halfAt · _) ((gather_row v _ _ _).trans (congrArg (fun i => v (ix2 0 i)) (Fin.ext ?_)))))
  have e := gpick_eq 1 0 ⟨k.val / 2, by omega⟩ l
  pointwise [k0_pay39, k0_pay48, k0_pay22, k0_pay23, trip_k0_t2.sl.v64, trip_k0_t2.sl.v213]
  exact e

theorem dlo2 (x : Vec Ideal S8x128 .i32) (v : IVec S1x128 32) (k : Fin 16) (l : Fin 128) : k0_pay40 (F := Ideal) (k0_pay37 (F := Ideal) x) (k0_pay38 (F := Ideal) v) trip_k0_t2.sl.v64 k0_pay39 0#32 (ix2 k l) = dlo x v 2 k l := by
  unfold k0_pay40 k0_pay37
  refine (deq_lo _ _ _ _ _ k l).trans (congrArg _ (congrArg (halfAt · _) ((gather_row v _ _ _).trans (congrArg (fun i => v (ix2 0 i)) (Fin.ext ?_)))))
  have e := gpick_eq 2 0 ⟨k.val / 2, by omega⟩ l
  pointwise [k0_pay39, k0_pay48, k0_pay22, k0_pay23, trip_k0_t2.sl.v64, trip_k0_t2.sl.v213]
  exact e

theorem dlo3 (x : Vec Ideal S8x128 .i32) (v : IVec S1x128 32) (k : Fin 16) (l : Fin 128) : k0_pay49 (F := Ideal) (k0_pay46 (F := Ideal) x) (k0_pay47 (F := Ideal) v) k0_pay48 (ix2 k l) = dlo x v 3 k l := by
  unfold k0_pay49 k0_pay46
  refine (deq_lo _ _ _ _ _ k l).trans (congrArg _ (congrArg (halfAt · _) ((gather_row v _ _ _).trans (congrArg (fun i => v (ix2 0 i)) (Fin.ext ?_)))))
  have e := gpick_eq 3 0 ⟨k.val / 2, by omega⟩ l
  pointwise [k0_pay39, k0_pay48, k0_pay22, k0_pay23, trip_k0_t2.sl.v64, trip_k0_t2.sl.v213]
  exact e

theorem dhi0 (x : Vec Ideal S8x128 .i32) (v : IVec S1x128 32) (k : Fin 16) (l : Fin 128) : k0_pay24 (F := Ideal) (k0_pay19 (F := Ideal) x) (k0_pay20 (F := Ideal) v) trip_k0_t2.sl.v64 k0_pay22 k0_pay23 (ix2 k l) = dhi x v 0 k l := by
  unfold k0_pay24 k0_pay19
  refine (deq_hi _ _ _ _ _ k l).trans (congrArg _ (congrArg (halfAt · _) ((gather_row v _ _ _).trans (congrArg (fun i => v (ix2 0 i)) (Fin.ext ?_)))))
  have e := gpick_eq 0 1 ⟨k.val / 2, by omega⟩ l
  pointwise [k0_pay39, k0_pay48, k0_pay22, k0_pay23, trip_k0_t2.sl.v64, trip_k0_t2.sl.v213]
  exact e.trans (by show 32 * 0 + 4 * (k.val / 2) + 2 * 1 + l.val / 64 = _; omega)

theorem dhi1 (x : Vec Ideal S8x128 .i32) (v : IVec S1x128 32) (k : Fin 16) (l : Fin 128) : k0_pay32 (F := Ideal) v x (ix2 k l) = dhi x v 1 k l := by
  unfold k0_pay32 k0_pay29
  refine (deq_hi _ _ _ _ _ k l).trans (congrArg _ (congrArg (halfAt · _) ((gather_row v _ _ _).trans (congrArg (fun i => v (ix2 0 i)) (Fin.ext ?_)))))
  have e := gpick_eq 1 1 ⟨k.val / 2, by omega⟩ l
  pointwise [k0_pay39, k0_pay48, k0_pay22, k0_pay23, trip_k0_t2.sl.v64, trip_k0_t2.sl.v213]
  exact e

theorem dhi2 (x : Vec Ideal S8x128 .i32) (v : IVec S1x128 32) (k : Fin 16) (l : Fin 128) : k0_pay41 (F := Ideal) (k0_pay37 (F := Ideal) x) (k0_pay38 (F := Ideal) v) trip_k0_t2.sl.v213 trip_k0_t2.sl.v64 (ix2 k l) = dhi x v 2 k l := by
  unfold k0_pay41 k0_pay37
  refine (deq_hi _ _ _ _ _ k l).trans (congrArg _ (congrArg (halfAt · _) ((gather_row v _ _ _).trans (congrArg (fun i => v (ix2 0 i)) (Fin.ext ?_)))))
  have e := gpick_eq 2 1 ⟨k.val / 2, by omega⟩ l
  pointwise [k0_pay39, k0_pay48, k0_pay22, k0_pay23, trip_k0_t2.sl.v64, trip_k0_t2.sl.v213]
  exact e

theorem dhi3 (x : Vec Ideal S8x128 .i32) (v : IVec S1x128 32) (k : Fin 16) (l : Fin 128) : k0_pay50 (F := Ideal) (k0_pay46 (F := Ideal) x) (k0_pay47 (F := Ideal) v) trip_k0_t2.sl.v213 trip_k0_t2.sl.v64 (ix2 k l) = dhi x v 3 k l := by
  unfold k0_pay50 k0_pay46
  refine (deq_hi _ _ _ _ _ k l).trans (congrArg _ (congrArg (halfAt · _) ((gather_row v _ _ _).trans (congrArg (fun i => v (ix2 0 i)) (Fin.ext ?_)))))
  have e := gpick_eq 3 1 ⟨k.val / 2, by omega⟩ l
  pointwise [k0_pay39, k0_pay48, k0_pay22, k0_pay23, trip_k0_t2.sl.v64, trip_k0_t2.sl.v213]
  exact e

section
variable (e : Env) {X4 : BufTy.Contents (Elt Ideal) arg4.view.ty} {X5 : BufTy.Contents (Elt Ideal) arg5.view.ty}
  (h4 : ∀ (r : Fin 512) (l : Fin 128), arg4.view.read (Elt Ideal) X4 (ix2 r l) = e.tcode r.val l.val)
  (h5 : ∀ (r : Fin 16) (l : Fin 128), arg5.view.read (Elt Ideal) X5 (ix2 r l) = e.tsc r.val l.val)
include h4 h5

theorem code_rd (k : Fin k0_t2_loop.trips) (j : Fin 4) {off : Fin 2 → ℕ} (inb) (ho : off = ![32 * k.val + 8 * j.val, 0]) (r : Fin 8) (l : Fin 128) :
    arg4.view.readAt (Elt Ideal) (Rect.unit (s := S512x128) off S8x128.size inb).toLoadRect X4 (ix2 r l) = e.tcode (32 * k.val + 8 * j.val + r.val) l.val := by
  have hk : k.val < 16 := lt_of_lt_of_eq k.isLt trips2
  exact (rd_unit (S := S512x128) arg4.view X4 inb ho (ix2 r l) (ix2 ⟨32 * k.val + 8 * j.val + r.val, by omega⟩ l) (at2 rfl)).trans (h4 _ _)

theorem sc_rd (k : Fin k0_t2_loop.trips) {off : Fin 2 → ℕ} (inb) (ho : off = ![k.val, 0]) (l : Fin 128) :
    arg5.view.readAt (Elt Ideal) (Rect.unit (s := S16x128) off S1x128.size inb).toLoadRect X5 (ix2 0 l) = e.tsc k.val l.val := by
  have hk : k.val < 16 := lt_of_lt_of_eq k.isLt trips2
  exact (rd_unit (S := S16x128) arg5.view X5 inb ho (ix2 (0 : Fin 1) l) (ix2 ⟨k.val, hk⟩ l) (at2 rfl)).trans (h5 _ _)

theorem lo_T (k : Fin k0_t2_loop.trips) (j : Fin 4) {o4 o5 : Fin 2 → ℕ} (i4 i5) (ho4 : o4 = ![32 * k.val + 8 * j.val, 0]) (ho5 : o5 = ![k.val, 0]) (κ : Fin 16) (l : Fin 128) :
    dlo (arg4.view.readAt (Elt Ideal) (Rect.unit (s := S512x128) o4 S8x128.size i4).toLoadRect X4) (arg5.view.readAt (Elt Ideal) (Rect.unit (s := S16x128) o5 S1x128.size i5).toLoadRect X5) j κ l
      = e.T (64 * k.val + 16 * j.val + κ.val) l.val := by
  unfold dlo Env.T
  refine congrArg₂ (· * ·) (congrArg₂ byteAt ((code_rd e h4 h5 k j i4 ho4 _ _).trans (congrArg₂ e.tcode ?_ ?_)) ?_) (congrArg₂ halfAt ((sc_rd e h4 h5 k i5 ho5 _).trans (congrArg₂ e.tsc ?_ ?_)) ?_) <;> (try simp only []) <;> omega

theorem hi_T (k : Fin k0_t2_loop.trips) (j : Fin 4) {o4 o5 : Fin 2 → ℕ} (i4 i5) (ho4 : o4 = ![32 * k.val + 8 * j.val, 0]) (ho5 : o5 = ![k.val, 0]) (κ : Fin 16) (l : Fin 128) :
    dhi (arg4.view.readAt (Elt Ideal) (Rect.unit (s := S512x128) o4 S8x128.size i4).toLoadRect X4) (arg5.view.readAt (Elt Ideal) (Rect.unit (s := S16x128) o5 S1x128.size i5).toLoadRect X5) j κ l
      = e.T (64 * k.val + 16 * j.val + κ.val) (128 + l.val) := by
  unfold dhi Env.T
  refine congrArg₂ (· * ·) (congrArg₂ byteAt ((code_rd e h4 h5 k j i4 ho4 _ _).trans (congrArg₂ e.tcode ?_ ?_)) ?_) (congrArg₂ halfAt ((sc_rd e h4 h5 k i5 ho5 _).trans (congrArg₂ e.tsc ?_ ?_)) ?_) <;> (try simp only []) <;> omega

theorem trip2_miss15 (f : BufTy.Contents (Elt Ideal) arg15.view.ty) (k : Fin k0_t2_loop.trips) (l : Fin 128) (ρ : Fin 1032) (hρ : ρ.val < 64 * k.val) :
    arg15.view.read (Elt Ideal) (arg15.view.writes (Elt Ideal) f (tripL_k0_t2 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X4 X5 k).1) (ix2 ρ l) = arg15.view.read (Elt Ideal) f (ix2 ρ l) := by
  unfold tripL_k0_t2 trip_k0_t2
  exact (View.read_writes_cons_unit_of_not_mem _ _ _ _ _ _ (k0_off5_eq k 3) 0 (.inl (by show ρ.val < 64 * k.val + 16 * 3; omega))).trans <| (View.read_writes_cons_unit_of_not_mem _ _ _ _ _ _ (k0_off5_eq k 2) 0 (.inl (by show ρ.val < 64 * k.val + 16 * 2; omega))).trans <| (View.read_writes_cons_unit_of_not_mem _ _ _ _ _ _ (k0_off5_eq k 1) 0 (.inl (by show ρ.val < 64 * k.val + 16 * 1; omega))).trans <| (View.read_writes_cons_unit_of_not_mem _ _ _ _ _ _ (k0_off5_eq k 0) 0 (.inl (by show ρ.val < 64 * k.val + 16 * 0; omega))).trans <| rfl

theorem trip2_hit15 (f : BufTy.Contents (Elt Ideal) arg15.view.ty) (k : Fin k0_t2_loop.trips) (j : Fin 4) (κ : Fin 16) (l : Fin 128) (ρ : Fin 1032) (hρ : ρ.val = 64 * k.val + 16 * j.val + κ.val) :
    arg15.view.read (Elt Ideal) (arg15.view.writes (Elt Ideal) f (tripL_k0_t2 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X4 X5 k).1) (ix2 ρ l) = e.T (64 * k.val + 16 * j.val + κ.val) l.val := by
  unfold tripL_k0_t2 trip_k0_t2
  match j, hρ with
  | 0, hρ =>
    refine (View.read_writes_cons_unit_of_not_mem _ _ _ _ _ _ (k0_off5_eq k 3) 0 (.inl (by show ρ.val < 64 * k.val + 16 * 3; have hρ' : ρ.val = 64 * k.val + 16 * 0 + κ.val := hρ; omega))).trans <| (View.read_writes_cons_unit_of_not_mem _ _ _ _ _ _ (k0_off5_eq k 2) 0 (.inl (by show ρ.val < 64 * k.val + 16 * 2; have hρ' : ρ.val = 64 * k.val + 16 * 0 + κ.val := hρ; omega))).trans <| (View.read_writes_cons_unit_of_not_mem _ _ _ _ _ _ (k0_off5_eq k 1) 0 (.inl (by show ρ.val < 64 * k.val + 16 * 1; have hρ' : ρ.val = 64 * k.val + 16 * 0 + κ.val := hρ; omega))).trans <| ?_
    refine (View.read_writes_cons_unit_of_mem _ _ _ _ _ _ (ix2 κ l) (k0_off5_eq k 0) ?_).trans ?_
    · exact fun a => (show ∀ x : Fin 2, (ix2 ρ l x).val = (![64 * k.val + 16 * (0 : Fin 4).val, 0] : Fin 2 → ℕ) x + (ix2 κ l x).val from at2 hρ) a
    unfold k0_pay26
    refine (sc2 _ _ κ l).trans ?_
    refine (dlo0 _ _ κ l).trans ?_
    exact lo_T e h4 h5 k 0 _ _ (k0_off3_eq k 0) (k0_off2_eq k) κ l
  | 1, hρ =>
    refine (View.read_writes_cons_unit_of_not_mem _ _ _ _ _ _ (k0_off5_eq k 3) 0 (.inl (by show ρ.val < 64 * k.val + 16 * 3; have hρ' : ρ.val = 64 * k.val + 16 * 1 + κ.val := hρ; omega))).trans <| (View.read_writes_cons_unit_of_not_mem _ _ _ _ _ _ (k0_off5_eq k 2) 0 (.inl (by show ρ.val < 64 * k.val + 16 * 2; have hρ' : ρ.val = 64 * k.val + 16 * 1 + κ.val := hρ; omega))).trans <| ?_
    refine (View.read_writes_cons_unit_of_mem _ _ _ _ _ _ (ix2 κ l) (k0_off5_eq k 1) ?_).trans ?_
    · exact fun a => (show ∀ x : Fin 2, (ix2 ρ l x).val = (![64 * k.val + 16 * (1 : Fin 4).val, 0] : Fin 2 → ℕ) x + (ix2 κ l x).val from at2 hρ) a
    unfold k0_pay34
    refine (sc2 _ _ κ l).trans ?_
    refine (dlo1 _ _ κ l).trans ?_
    exact lo_T e h4 h5 k 1 _ _ (k0_off3_eq k 1) (k0_off2_eq k) κ l
  | 2, hρ =>
    refine (View.read_writes_cons_unit_of_not_mem _ _ _ _ _ _ (k0_off5_eq k 3) 0 (.inl (by show ρ.val < 64 * k.val + 16 * 3; have hρ' : ρ.val = 64 * k.val + 16 * 2 + κ.val := hρ; omega))).trans <| ?_
    refine (View.read_writes_cons_unit_of_mem _ _ _ _ _ _ (ix2 κ l) (k0_off5_eq k 2) ?_).trans ?_
    · exact fun a => (show ∀ x : Fin 2, (ix2 ρ l x).val = (![64 * k.val + 16 * (2 : Fin 4).val, 0] : Fin 2 → ℕ) x + (ix2 κ l x).val from at2 hρ) a
    unfold k0_pay43
    refine (sc2 _ _ κ l).trans ?_
    refine (dlo2 _ _ κ l).trans ?_
    exact lo_T e h4 h5 k 2 _ _ (k0_off3_eq k 2) (k0_off2_eq k) κ l
  | 3, hρ =>
    refine  ?_
    refine (View.read_writes_cons_unit_of_mem _ _ _ _ _ _ (ix2 κ l) (k0_off5_eq k 3) ?_).trans ?_
    · exact fun a => (show ∀ x : Fin 2, (ix2 ρ l x).val = (![64 * k.val + 16 * (3 : Fin 4).val, 0] : Fin 2 → ℕ) x + (ix2 κ l x).val from at2 hρ) a
    unfold k0_pay52
    refine (sc2 _ _ κ l).trans ?_
    refine (dlo3 _ _ κ l).trans ?_
    exact lo_T e h4 h5 k 3 _ _ (k0_off3_eq k 3) (k0_off2_eq k) κ l

theorem t2_read15 (f : BufTy.Contents (Elt Ideal) arg15.view.ty) (n : ℕ) (hn : n ≤ 16) (ρ : Fin 1032) (hρ : ρ.val < 64 * n) (l : Fin 128) :
    arg15.view.read (Elt Ideal) (arg15.view.writes (Elt Ideal) f (pb_k0_t2 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X4 X5 n).1) (ix2 ρ l) = e.T ρ.val l.val := by
  induction n with
  | zero => omega
  | succ n ih =>
    have hk : n < k0_t2_loop.trips := by rw [trips2]; omega
    have hs : pb_k0_t2 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X4 X5 (n + 1) = _ := pb_k0_t2_succ (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X4 X5 ⟨n, hk⟩
    rw [hs, View.writes_append]
    by_cases h : ρ.val < 64 * n
    · exact (trip2_miss15 e h4 h5 _ ⟨n, hk⟩ l ρ h).trans (ih (by omega) h)
    · have er : ρ.val = 64 * n + 16 * ((ρ.val - 64 * n) / 16) + (ρ.val - 64 * n) % 16 := by omega
      exact (trip2_hit15 e h4 h5 _ ⟨n, hk⟩ ⟨(ρ.val - 64 * n) / 16, by omega⟩ ⟨(ρ.val - 64 * n) % 16, Nat.mod_lt _ (by decide)⟩ l ρ er).trans (congrArg (e.T · l.val) er.symm)

theorem trip2_miss16 (f : BufTy.Contents (Elt Ideal) arg16.view.ty) (k : Fin k0_t2_loop.trips) (l : Fin 128) (ρ : Fin 1032) (hρ : ρ.val < 64 * k.val) :
    arg16.view.read (Elt Ideal) (arg16.view.writes (Elt Ideal) f (tripL_k0_t2 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X4 X5 k).2.1) (ix2 ρ l) = arg16.view.read (Elt Ideal) f (ix2 ρ l) := by
  unfold tripL_k0_t2 trip_k0_t2
  exact (View.read_writes_cons_unit_of_not_mem _ _ _ _ _ _ (k0_off5_eq k 3) 0 (.inl (by show ρ.val < 64 * k.val + 16 * 3; omega))).trans <| (View.read_writes_cons_unit_of_not_mem _ _ _ _ _ _ (k0_off5_eq k 2) 0 (.inl (by show ρ.val < 64 * k.val + 16 * 2; omega))).trans <| (View.read_writes_cons_unit_of_not_mem _ _ _ _ _ _ (k0_off5_eq k 1) 0 (.inl (by show ρ.val < 64 * k.val + 16 * 1; omega))).trans <| (View.read_writes_cons_unit_of_not_mem _ _ _ _ _ _ (k0_off5_eq k 0) 0 (.inl (by show ρ.val < 64 * k.val + 16 * 0; omega))).trans <| rfl

theorem trip2_hit16 (f : BufTy.Contents (Elt Ideal) arg16.view.ty) (k : Fin k0_t2_loop.trips) (j : Fin 4) (κ : Fin 16) (l : Fin 128) (ρ : Fin 1032) (hρ : ρ.val = 64 * k.val + 16 * j.val + κ.val) :
    arg16.view.read (Elt Ideal) (arg16.view.writes (Elt Ideal) f (tripL_k0_t2 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X4 X5 k).2.1) (ix2 ρ l) = e.T (64 * k.val + 16 * j.val + κ.val) (128 + l.val) := by
  unfold tripL_k0_t2 trip_k0_t2
  match j, hρ with
  | 0, hρ =>
    refine (View.read_writes_cons_unit_of_not_mem _ _ _ _ _ _ (k0_off5_eq k 3) 0 (.inl (by show ρ.val < 64 * k.val + 16 * 3; have hρ' : ρ.val = 64 * k.val + 16 * 0 + κ.val := hρ; omega))).trans <| (View.read_writes_cons_unit_of_not_mem _ _ _ _ _ _ (k0_off5_eq k 2) 0 (.inl (by show ρ.val < 64 * k.val + 16 * 2; have hρ' : ρ.val = 64 * k.val + 16 * 0 + κ.val := hρ; omega))).trans <| (View.read_writes_cons_unit_of_not_mem _ _ _ _ _ _ (k0_off5_eq k 1) 0 (.inl (by show ρ.val < 64 * k.val + 16 * 1; have hρ' : ρ.val = 64 * k.val + 16 * 0 + κ.val := hρ; omega))).trans <| ?_
    refine (View.read_writes_cons_unit_of_mem _ _ _ _ _ _ (ix2 κ l) (k0_off5_eq k 0) ?_).trans ?_
    · exact fun a => (show ∀ x : Fin 2, (ix2 ρ l x).val = (![64 * k.val + 16 * (0 : Fin 4).val, 0] : Fin 2 → ℕ) x + (ix2 κ l x).val from at2 hρ) a
    unfold k0_pay28
    refine (sc2 _ _ κ l).trans ?_
    refine (dhi0 _ _ κ l).trans ?_
    exact hi_T e h4 h5 k 0 _ _ (k0_off3_eq k 0) (k0_off2_eq k) κ l
  | 1, hρ =>
    refine (View.read_writes_cons_unit_of_not_mem _ _ _ _ _ _ (k0_off5_eq k 3) 0 (.inl (by show ρ.val < 64 * k.val + 16 * 3; have hρ' : ρ.val = 64 * k.val + 16 * 1 + κ.val := hρ; omega))).trans <| (View.read_writes_cons_unit_of_not_mem _ _ _ _ _ _ (k0_off5_eq k 2) 0 (.inl (by show ρ.val < 64 * k.val + 16 * 2; have hρ' : ρ.val = 64 * k.val + 16 * 1 + κ.val := hρ; omega))).trans <| ?_
    refine (View.read_writes_cons_unit_of_mem _ _ _ _ _ _ (ix2 κ l) (k0_off5_eq k 1) ?_).trans ?_
    · exact fun a => (show ∀ x : Fin 2, (ix2 ρ l x).val = (![64 * k.val + 16 * (1 : Fin 4).val, 0] : Fin 2 → ℕ) x + (ix2 κ l x).val from at2 hρ) a
    unfold k0_pay36
    refine (sc2 _ _ κ l).trans ?_
    refine (dhi1 _ _ κ l).trans ?_
    exact hi_T e h4 h5 k 1 _ _ (k0_off3_eq k 1) (k0_off2_eq k) κ l
  | 2, hρ =>
    refine (View.read_writes_cons_unit_of_not_mem _ _ _ _ _ _ (k0_off5_eq k 3) 0 (.inl (by show ρ.val < 64 * k.val + 16 * 3; have hρ' : ρ.val = 64 * k.val + 16 * 2 + κ.val := hρ; omega))).trans <| ?_
    refine (View.read_writes_cons_unit_of_mem _ _ _ _ _ _ (ix2 κ l) (k0_off5_eq k 2) ?_).trans ?_
    · exact fun a => (show ∀ x : Fin 2, (ix2 ρ l x).val = (![64 * k.val + 16 * (2 : Fin 4).val, 0] : Fin 2 → ℕ) x + (ix2 κ l x).val from at2 hρ) a
    unfold k0_pay45
    refine (sc2 _ _ κ l).trans ?_
    refine (dhi2 _ _ κ l).trans ?_
    exact hi_T e h4 h5 k 2 _ _ (k0_off3_eq k 2) (k0_off2_eq k) κ l
  | 3, hρ =>
    refine  ?_
    refine (View.read_writes_cons_unit_of_mem _ _ _ _ _ _ (ix2 κ l) (k0_off5_eq k 3) ?_).trans ?_
    · exact fun a => (show ∀ x : Fin 2, (ix2 ρ l x).val = (![64 * k.val + 16 * (3 : Fin 4).val, 0] : Fin 2 → ℕ) x + (ix2 κ l x).val from at2 hρ) a
    unfold k0_pay4
    refine (sc2 _ _ κ l).trans ?_
    refine (dhi3 _ _ κ l).trans ?_
    exact hi_T e h4 h5 k 3 _ _ (k0_off3_eq k 3) (k0_off2_eq k) κ l

theorem t2_read16 (f : BufTy.Contents (Elt Ideal) arg16.view.ty) (n : ℕ) (hn : n ≤ 16) (ρ : Fin 1032) (hρ : ρ.val < 64 * n) (l : Fin 128) :
    arg16.view.read (Elt Ideal) (arg16.view.writes (Elt Ideal) f (pb_k0_t2 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X4 X5 n).2.1) (ix2 ρ l) = e.T ρ.val (128 + l.val) := by
  induction n with
  | zero => omega
  | succ n ih =>
    have hk : n < k0_t2_loop.trips := by rw [trips2]; omega
    have hs : pb_k0_t2 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X4 X5 (n + 1) = _ := pb_k0_t2_succ (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X4 X5 ⟨n, hk⟩
    rw [hs, View.writes_append]
    by_cases h : ρ.val < 64 * n
    · exact (trip2_miss16 e h4 h5 _ ⟨n, hk⟩ l ρ h).trans (ih (by omega) h)
    · have er : ρ.val = 64 * n + 16 * ((ρ.val - 64 * n) / 16) + (ρ.val - 64 * n) % 16 := by omega
      exact (trip2_hit16 e h4 h5 _ ⟨n, hk⟩ ⟨(ρ.val - 64 * n) / 16, by omega⟩ ⟨(ρ.val - 64 * n) % 16, Nat.mod_lt _ (by decide)⟩ l ρ er).trans (congrArg (e.T · (128 + l.val)) er.symm)

theorem trip2_miss17 (f : BufTy.Contents (Elt Ideal) arg17.view.ty) (k : Fin k0_t2_loop.trips) (q : Fin 2) (l : Fin 128) (ρ : Fin 1024) (hρ : ρ.val < 64 * k.val) :
    arg17.view.read (Elt Ideal) (arg17.view.writes (Elt Ideal) f (tripL_k0_t2 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X4 X5 k).2.2) (ix3 q ρ l) = arg17.view.read (Elt Ideal) f (ix3 q ρ l) := by
  unfold tripL_k0_t2 trip_k0_t2
  exact (View.read_writes_cons_unit_of_not_mem _ _ _ _ _ _ (k0_off6_eq k 3) 1 (.inl (by show ρ.val < 64 * k.val + 16 * 3; omega))).trans <| (View.read_writes_cons_unit_of_not_mem _ _ _ _ _ _ (k0_off4_eq k 3) 1 (.inl (by show ρ.val < 64 * k.val + 16 * 3; omega))).trans <| (View.read_writes_cons_unit_of_not_mem _ _ _ _ _ _ (k0_off6_eq k 2) 1 (.inl (by show ρ.val < 64 * k.val + 16 * 2; omega))).trans <| (View.read_writes_cons_unit_of_not_mem _ _ _ _ _ _ (k0_off4_eq k 2) 1 (.inl (by show ρ.val < 64 * k.val + 16 * 2; omega))).trans <| (View.read_writes_cons_unit_of_not_mem _ _ _ _ _ _ (k0_off6_eq k 1) 1 (.inl (by show ρ.val < 64 * k.val + 16 * 1; omega))).trans <| (View.read_writes_cons_unit_of_not_mem _ _ _ _ _ _ (k0_off4_eq k 1) 1 (.inl (by show ρ.val < 64 * k.val + 16 * 1; omega))).trans <| (View.read_writes_cons_unit_of_not_mem _ _ _ _ _ _ (k0_off6_eq k 0) 1 (.inl (by show ρ.val < 64 * k.val + 16 * 0; omega))).trans <| (View.read_writes_cons_unit_of_not_mem _ _ _ _ _ _ (k0_off4_eq k 0) 1 (.inl (by show ρ.val < 64 * k.val + 16 * 0; omega))).trans <| rfl

theorem trip2_hit17 (f : BufTy.Contents (Elt Ideal) arg17.view.ty) (k : Fin k0_t2_loop.trips) (q : Fin 2) (j : Fin 4) (κ : Fin 16) (l : Fin 128) (ρ : Fin 1024) (hρ : ρ.val = 64 * k.val + 16 * j.val + κ.val) :
    arg17.view.read (Elt Ideal) (arg17.view.writes (Elt Ideal) f (tripL_k0_t2 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X4 X5 k).2.2) (ix3 q ρ l) = e.T (64 * k.val + 16 * j.val + κ.val) (128 * q.val + l.val) := by
  unfold tripL_k0_t2 trip_k0_t2
  match q, j, hρ with
  | 0, 0, hρ =>
    refine (View.read_writes_cons_unit_of_not_mem _ _ _ _ _ _ (k0_off6_eq k 3) 0 (by show 0 < 1 ∨ 1 + 1 ≤ 0; omega)).trans <| (View.read_writes_cons_unit_of_not_mem _ _ _ _ _ _ (k0_off4_eq k 3) 1 (.inl (by show ρ.val < 64 * k.val + 16 * 3; have hρ' : ρ.val = 64 * k.val + 16 * 0 + κ.val := hρ; omega))).trans <| (View.read_writes_cons_unit_of_not_mem _ _ _ _ _ _ (k0_off6_eq k 2) 0 (by show 0 < 1 ∨ 1 + 1 ≤ 0; omega)).trans <| (View.read_writes_cons_unit_of_not_mem _ _ _ _ _ _ (k0_off4_eq k 2) 1 (.inl (by show ρ.val < 64 * k.val + 16 * 2; have hρ' : ρ.val = 64 * k.val + 16 * 0 + κ.val := hρ; omega))).trans <| (View.read_writes_cons_unit_of_not_mem _ _ _ _ _ _ (k0_off6_eq k 1) 0 (by show 0 < 1 ∨ 1 + 1 ≤ 0; omega)).trans <| (View.read_writes_cons_unit_of_not_mem _ _ _ _ _ _ (k0_off4_eq k 1) 1 (.inl (by show ρ.val < 64 * k.val + 16 * 1; have hρ' : ρ.val = 64 * k.val + 16 * 0 + κ.val := hρ; omega))).trans <| (View.read_writes_cons_unit_of_not_mem _ _ _ _ _ _ (k0_off6_eq k 0) 0 (by show 0 < 1 ∨ 1 + 1 ≤ 0; omega)).trans <| ?_
    refine (View.read_writes_cons_unit_of_mem _ _ _ _ _ _ (ix3 (0 : Fin 1) κ l) (k0_off4_eq k 0) ?_).trans ?_
    · exact fun a => (show ∀ x : Fin 3, (ix3 (0 : Fin 2) ρ l x).val = (![0, 64 * k.val + 16 * (0 : Fin 4).val, 0] : Fin 3 → ℕ) x + (ix3 (0 : Fin 1) κ l x).val from at3 rfl hρ) a
    unfold k0_pay25
    refine (sc3 _ _ κ l).trans ?_
    refine (dlo0 _ _ κ l).trans ?_
    exact (lo_T e h4 h5 k 0 _ _ (k0_off3_eq k 0) (k0_off2_eq k) κ l).trans (congrArg (e.T _) (by show l.val = 128 * 0 + l.val; omega))
  | 0, 1, hρ =>
    refine (View.read_writes_cons_unit_of_not_mem _ _ _ _ _ _ (k0_off6_eq k 3) 0 (by show 0 < 1 ∨ 1 + 1 ≤ 0; omega)).trans <| (View.read_writes_cons_unit_of_not_mem _ _ _ _ _ _ (k0_off4_eq k 3) 1 (.inl (by show ρ.val < 64 * k.val + 16 * 3; have hρ' : ρ.val = 64 * k.val + 16 * 1 + κ.val := hρ; omega))).trans <| (View.read_writes_cons_unit_of_not_mem _ _ _ _ _ _ (k0_off6_eq k 2) 0 (by show 0 < 1 ∨ 1 + 1 ≤ 0; omega)).trans <| (View.read_writes_cons_unit_of_not_mem _ _ _ _ _ _ (k0_off4_eq k 2) 1 (.inl (by show ρ.val < 64 * k.val + 16 * 2; have hρ' : ρ.val = 64 * k.val + 16 * 1 + κ.val := hρ; omega))).trans <| (View.read_writes_cons_unit_of_not_mem _ _ _ _ _ _ (k0_off6_eq k 1) 0 (by show 0 < 1 ∨ 1 + 1 ≤ 0; omega)).trans <| ?_
    refine (View.read_writes_cons_unit_of_mem _ _ _ _ _ _ (ix3 (0 : Fin 1) κ l) (k0_off4_eq k 1) ?_).trans ?_
    · exact fun a => (show ∀ x : Fin 3, (ix3 (0 : Fin 2) ρ l x).val = (![0, 64 * k.val + 16 * (1 : Fin 4).val, 0] : Fin 3 → ℕ) x + (ix3 (0 : Fin 1) κ l x).val from at3 rfl hρ) a
    unfold k0_pay33
    refine (sc3 _ _ κ l).trans ?_
    refine (dlo1 _ _ κ l).trans ?_
    exact (lo_T e h4 h5 k 1 _ _ (k0_off3_eq k 1) (k0_off2_eq k) κ l).trans (congrArg (e.T _) (by show l.val = 128 * 0 + l.val; omega))
  | 0, 2, hρ =>
    refine (View.read_writes_cons_unit_of_not_mem _ _ _ _ _ _ (k0_off6_eq k 3) 0 (by show 0 < 1 ∨ 1 + 1 ≤ 0; omega)).trans <| (View.read_writes_cons_unit_of_not_mem _ _ _ _ _ _ (k0_off4_eq k 3) 1 (.inl (by show ρ.val < 64 * k.val + 16 * 3; have hρ' : ρ.val = 64 * k.val + 16 * 2 + κ.val := hρ; omega))).trans <| (View.read_writes_cons_unit_of_not_mem _ _ _ _ _ _ (k0_off6_eq k 2) 0 (by show 0 < 1 ∨ 1 + 1 ≤ 0; omega)).trans <| ?_
    refine (View.read_writes_cons_unit_of_mem _ _ _ _ _ _ (ix3 (0 : Fin 1) κ l) (k0_off4_eq k 2) ?_).trans ?_
    · exact fun a => (show ∀ x : Fin 3, (ix3 (0 : Fin 2) ρ l x).val = (![0, 64 * k.val + 16 * (2 : Fin 4).val, 0] : Fin 3 → ℕ) x + (ix3 (0 : Fin 1) κ l x).val from at3 rfl hρ) a
    unfold k0_pay42
    refine (sc3 _ _ κ l).trans ?_
    refine (dlo2 _ _ κ l).trans ?_
    exact (lo_T e h4 h5 k 2 _ _ (k0_off3_eq k 2) (k0_off2_eq k) κ l).trans (congrArg (e.T _) (by show l.val = 128 * 0 + l.val; omega))
  | 0, 3, hρ =>
    refine (View.read_writes_cons_unit_of_not_mem _ _ _ _ _ _ (k0_off6_eq k 3) 0 (by show 0 < 1 ∨ 1 + 1 ≤ 0; omega)).trans <| ?_
    refine (View.read_writes_cons_unit_of_mem _ _ _ _ _ _ (ix3 (0 : Fin 1) κ l) (k0_off4_eq k 3) ?_).trans ?_
    · exact fun a => (show ∀ x : Fin 3, (ix3 (0 : Fin 2) ρ l x).val = (![0, 64 * k.val + 16 * (3 : Fin 4).val, 0] : Fin 3 → ℕ) x + (ix3 (0 : Fin 1) κ l x).val from at3 rfl hρ) a
    unfold k0_pay51
    refine (sc3 _ _ κ l).trans ?_
    refine (dlo3 _ _ κ l).trans ?_
    exact (lo_T e h4 h5 k 3 _ _ (k0_off3_eq k 3) (k0_off2_eq k) κ l).trans (congrArg (e.T _) (by show l.val = 128 * 0 + l.val; omega))
  | 1, 0, hρ =>
    refine (View.read_writes_cons_unit_of_not_mem _ _ _ _ _ _ (k0_off6_eq k 3) 1 (.inl (by show ρ.val < 64 * k.val + 16 * 3; have hρ' : ρ.val = 64 * k.val + 16 * 0 + κ.val := hρ; omega))).trans <| (View.read_writes_cons_unit_of_not_mem _ _ _ _ _ _ (k0_off4_eq k 3) 0 (by show 1 < 0 ∨ 0 + 1 ≤ 1; omega)).trans <| (View.read_writes_cons_unit_of_not_mem _ _ _ _ _ _ (k0_off6_eq k 2) 1 (.inl (by show ρ.val < 64 * k.val + 16 * 2; have hρ' : ρ.val = 64 * k.val + 16 * 0 + κ.val := hρ; omega))).trans <| (View.read_writes_cons_unit_of_not_mem _ _ _ _ _ _ (k0_off4_eq k 2) 0 (by show 1 < 0 ∨ 0 + 1 ≤ 1; omega)).trans <| (View.read_writes_cons_unit_of_not_mem _ _ _ _ _ _ (k0_off6_eq k 1) 1 (.inl (by show ρ.val < 64 * k.val + 16 * 1; have hρ' : ρ.val = 64 * k.val + 16 * 0 + κ.val := hρ; omega))).trans <| (View.read_writes_cons_unit_of_not_mem _ _ _ _ _ _ (k0_off4_eq k 1) 0 (by show 1 < 0 ∨ 0 + 1 ≤ 1; omega)).trans <| ?_
    refine (View.read_writes_cons_unit_of_mem _ _ _ _ _ _ (ix3 (0 : Fin 1) κ l) (k0_off6_eq k 0) ?_).trans ?_
    · exact fun a => (show ∀ x : Fin 3, (ix3 (1 : Fin 2) ρ l x).val = (![1, 64 * k.val + 16 * (0 : Fin 4).val, 0] : Fin 3 → ℕ) x + (ix3 (0 : Fin 1) κ l x).val from at3 rfl hρ) a
    unfold k0_pay27
    refine (sc3 _ _ κ l).trans ?_
    refine (dhi0 _ _ κ l).trans ?_
    exact (hi_T e h4 h5 k 0 _ _ (k0_off3_eq k 0) (k0_off2_eq k) κ l)
  | 1, 1, hρ =>
    refine (View.read_writes_cons_unit_of_not_mem _ _ _ _ _ _ (k0_off6_eq k 3) 1 (.inl (by show ρ.val < 64 * k.val + 16 * 3; have hρ' : ρ.val = 64 * k.val + 16 * 1 + κ.val := hρ; omega))).trans <| (View.read_writes_cons_unit_of_not_mem _ _ _ _ _ _ (k0_off4_eq k 3) 0 (by show 1 < 0 ∨ 0 + 1 ≤ 1; omega)).trans <| (View.read_writes_cons_unit_of_not_mem _ _ _ _ _ _ (k0_off6_eq k 2) 1 (.inl (by show ρ.val < 64 * k.val + 16 * 2; have hρ' : ρ.val = 64 * k.val + 16 * 1 + κ.val := hρ; omega))).trans <| (View.read_writes_cons_unit_of_not_mem _ _ _ _ _ _ (k0_off4_eq k 2) 0 (by show 1 < 0 ∨ 0 + 1 ≤ 1; omega)).trans <| ?_
    refine (View.read_writes_cons_unit_of_mem _ _ _ _ _ _ (ix3 (0 : Fin 1) κ l) (k0_off6_eq k 1) ?_).trans ?_
    · exact fun a => (show ∀ x : Fin 3, (ix3 (1 : Fin 2) ρ l x).val = (![1, 64 * k.val + 16 * (1 : Fin 4).val, 0] : Fin 3 → ℕ) x + (ix3 (0 : Fin 1) κ l x).val from at3 rfl hρ) a
    unfold k0_pay35
    refine (sc3 _ _ κ l).trans ?_
    refine (dhi1 _ _ κ l).trans ?_
    exact (hi_T e h4 h5 k 1 _ _ (k0_off3_eq k 1) (k0_off2_eq k) κ l)
  | 1, 2, hρ =>
    refine (View.read_writes_cons_unit_of_not_mem _ _ _ _ _ _ (k0_off6_eq k 3) 1 (.inl (by show ρ.val < 64 * k.val + 16 * 3; have hρ' : ρ.val = 64 * k.val + 16 * 2 + κ.val := hρ; omega))).trans <| (View.read_writes_cons_unit_of_not_mem _ _ _ _ _ _ (k0_off4_eq k 3) 0 (by show 1 < 0 ∨ 0 + 1 ≤ 1; omega)).trans <| ?_
    refine (View.read_writes_cons_unit_of_mem _ _ _ _ _ _ (ix3 (0 : Fin 1) κ l) (k0_off6_eq k 2) ?_).trans ?_
    · exact fun a => (show ∀ x : Fin 3, (ix3 (1 : Fin 2) ρ l x).val = (![1, 64 * k.val + 16 * (2 : Fin 4).val, 0] : Fin 3 → ℕ) x + (ix3 (0 : Fin 1) κ l x).val from at3 rfl hρ) a
    unfold k0_pay44
    refine (sc3 _ _ κ l).trans ?_
    refine (dhi2 _ _ κ l).trans ?_
    exact (hi_T e h4 h5 k 2 _ _ (k0_off3_eq k 2) (k0_off2_eq k) κ l)
  | 1, 3, hρ =>
    refine  ?_
    refine (View.read_writes_cons_unit_of_mem _ _ _ _ _ _ (ix3 (0 : Fin 1) κ l) (k0_off6_eq k 3) ?_).trans ?_
    · exact fun a => (show ∀ x : Fin 3, (ix3 (1 : Fin 2) ρ l x).val = (![1, 64 * k.val + 16 * (3 : Fin 4).val, 0] : Fin 3 → ℕ) x + (ix3 (0 : Fin 1) κ l x).val from at3 rfl hρ) a
    unfold k0_pay53
    refine (sc3 _ _ κ l).trans ?_
    refine (dhi3 _ _ κ l).trans ?_
    exact (hi_T e h4 h5 k 3 _ _ (k0_off3_eq k 3) (k0_off2_eq k) κ l)

theorem t2_read17 (f : BufTy.Contents (Elt Ideal) arg17.view.ty) (n : ℕ) (hn : n ≤ 16) (q : Fin 2) (ρ : Fin 1024) (hρ : ρ.val < 64 * n) (l : Fin 128) :
    arg17.view.read (Elt Ideal) (arg17.view.writes (Elt Ideal) f (pb_k0_t2 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X4 X5 n).2.2) (ix3 q ρ l) = e.T ρ.val (128 * q.val + l.val) := by
  induction n with
  | zero => omega
  | succ n ih =>
    have hk : n < k0_t2_loop.trips := by rw [trips2]; omega
    have hs : pb_k0_t2 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X4 X5 (n + 1) = _ := pb_k0_t2_succ (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X4 X5 ⟨n, hk⟩
    rw [hs, View.writes_append]
    by_cases h : ρ.val < 64 * n
    · exact (trip2_miss17 e h4 h5 _ ⟨n, hk⟩ q l ρ h).trans (ih (by omega) h)
    · have er : ρ.val = 64 * n + 16 * ((ρ.val - 64 * n) / 16) + (ρ.val - 64 * n) % 16 := by omega
      exact (trip2_hit17 e h4 h5 _ ⟨n, hk⟩ q ⟨(ρ.val - 64 * n) / 16, by omega⟩ ⟨(ρ.val - 64 * n) % 16, Nat.mod_lt _ (by decide)⟩ l ρ er).trans (congrArg (e.T · _) er.symm)
end

/-! ### The targets' part of the first layer -/

theorem pay9_apply (e : Env) (t0 t1 : Vec Ideal S1x256x128 .bf16) (w : Vec Ideal S256x256 .bf16) (bb : Vec Ideal S1x256 .f32) (b : ℕ) (r c : Fin 256)
    (h0 : ∀ l : Fin 128, t0 (ix3 0 r l) = e.T b l.val) (h1 : ∀ l : Fin 128, t1 (ix3 0 r l) = e.T b (128 + l.val))
    (hw : ∀ f c : Fin 256, w (ix2 f c) = e.w1t f.val c.val) (hb : ∀ c : Fin 256, bb (ix2 0 c) = e.b1 c.val) :
    k0_pay9 (F := Ideal) t0 t1 w bb (ix2 r c) = e.C b c.val := by
  pointwise [k0_pay9]
  simp only [h0, h1, hw, hb]
  unfold Env.C
  refine congrArg (· + e.b1 c.val) (Eq.trans ?_ (Finset.sum_range_add (fun f => e.T b f * e.w1t f c.val) 128 128).symm)
  simp only [Finset.sum_range]

theorem pay10_apply (t0 t1 : Vec Ideal S1x256x128 .bf16) (w : Vec Ideal S256x256 .bf16) (bb : Vec Ideal S1x256 .f32) (r : Fin 256) (l : Fin 128) :
    k0_pay10 (F := Ideal) t0 t1 w bb (ix2 r l) = k0_pay9 (F := Ideal) t0 t1 w bb (ix2 r ⟨l.val, by omega⟩) := by
  pointwise [k0_pay10]
theorem pay11_apply (t0 t1 : Vec Ideal S1x256x128 .bf16) (w : Vec Ideal S256x256 .bf16) (bb : Vec Ideal S1x256 .f32) (r : Fin 256) (l : Fin 128) :
    k0_pay11 (F := Ideal) t0 t1 w bb (ix2 r l) = k0_pay9 (F := Ideal) t0 t1 w bb (ix2 r ⟨128 + l.val, by omega⟩) := by
  pointwise [k0_pay11]

section
variable (e : Env) {X6 : BufTy.Contents (Elt Ideal) arg6.view.ty} {X10 : BufTy.Contents (Elt Ideal) arg10.view.ty} {X17 : BufTy.Contents (Elt Ideal) arg17.view.ty}
  (h6 : ∀ f c : Fin 256, arg6.view.read (Elt Ideal) X6 (ix2 f c) = e.w1t f.val c.val) (h10 : ∀ c : Fin 256, arg10.view.read (Elt Ideal) X10 (ix2 0 c) = e.b1 c.val)
  (h17 : ∀ (q : Fin 2) (ρ : Fin 1024) (l : Fin 128), arg17.view.read (Elt Ideal) X17 (ix3 q ρ l) = e.T ρ.val (128 * q.val + l.val))
include h6 h10 h17

theorem c_val (k : Fin k0_t3_loop.trips) (i7 i8 i6 i10) (r c : Fin 256) :
    k0_pay9 (F := Ideal) (arg17.view.readAt (Elt Ideal) (Rect.unit (s := S2x1024x128) (k0_off7 k) S1x256x128.size i7).toLoadRect X17) (arg17.view.readAt (Elt Ideal) (Rect.unit (s := S2x1024x128) (k0_off8 k) S1x256x128.size i8).toLoadRect X17)
      (arg6.view.readAt (Elt Ideal) (Rect.unit (s := S256x256) ![0, 0] S256x256.size i6).toLoadRect X6) (arg10.view.readAt (Elt Ideal) (Rect.unit (s := S1x256) ![0, 0] S1x256.size i10).toLoadRect X10) (ix2 r c)
      = e.C (256 * k.val + r.val) c.val := by
  have hk : k.val < 4 := lt_of_lt_of_eq k.isLt trips3
  refine pay9_apply e _ _ _ _ _ r c (fun l => ?_) (fun l => ?_) (fun f c => ?_) (fun c => ?_)
  · exact (rd_unit (S := S2x1024x128) arg17.view X17 i7 (k0_off7_eq k) (ix3 (0 : Fin 1) r l) (ix3 0 ⟨256 * k.val + r.val, by omega⟩ l) (at3 rfl rfl)).trans ((h17 _ _ _).trans (congrArg (e.T _) (by show 128 * 0 + l.val = l.val; omega)))
  · exact (rd_unit (S := S2x1024x128) arg17.view X17 i8 (k0_off8_eq k) (ix3 (0 : Fin 1) r l) (ix3 1 ⟨256 * k.val + r.val, by omega⟩ l) (at3 rfl rfl)).trans (h17 _ _ _)
  · rw [rd_full (S := S256x256)]; exact h6 f c
  · rw [rd_full (S := S1x256)]; exact h10 c

theorem t3_read18 (f : BufTy.Contents (Elt Ideal) arg18.view.ty) (n : ℕ) (hn : n ≤ 4) (ρ : Fin 1032) (hρ : ρ.val < 256 * n) (l : Fin 128) :
    arg18.view.read (Elt Ideal) (arg18.view.writes (Elt Ideal) f (pb_k0_t3 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X6 X10 X17 n).1) (ix2 ρ l) = e.C ρ.val l.val := by
  induction n with
  | zero => omega
  | succ n ih =>
    have hk : n < k0_t3_loop.trips := by rw [trips3]; omega
    have hs : pb_k0_t3 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X6 X10 X17 (n + 1) = _ := pb_k0_t3_succ (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X6 X10 X17 ⟨n, hk⟩
    rw [hs, View.writes_append]
    unfold tripL_k0_t3 trip_k0_t3
    by_cases h : ρ.val < 256 * n
    · exact (View.read_writes_cons_unit_of_not_mem _ _ _ _ _ _ (k0_off9_eq ⟨n, hk⟩) 0 (.inl h)).trans (ih (by omega) h)
    · refine (View.read_writes_cons_unit_of_mem _ _ _ _ _ _ (ix2 (⟨ρ.val - 256 * n, by omega⟩ : Fin 256) l) (k0_off9_eq ⟨n, hk⟩) (at2 (by show ρ.val = 256 * n + (ρ.val - 256 * n); omega))).trans ?_
      refine (pay10_apply _ _ _ _ _ l).trans ((c_val e h6 h10 h17 ⟨n, hk⟩ _ _ _ _ _ _).trans (congrArg (e.C · l.val) ?_))
      show 256 * n + (ρ.val - 256 * n) = ρ.val
      omega

theorem t3_read19 (f : BufTy.Contents (Elt Ideal) arg19.view.ty) (n : ℕ) (hn : n ≤ 4) (ρ : Fin 1032) (hρ : ρ.val < 256 * n) (l : Fin 128) :
    arg19.view.read (Elt Ideal) (arg19.view.writes (Elt Ideal) f (pb_k0_t3 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X6 X10 X17 n).2) (ix2 ρ l) = e.C ρ.val (128 + l.val) := by
  induction n with
  | zero => omega
  | succ n ih =>
    have hk : n < k0_t3_loop.trips := by rw [trips3]; omega
    have hs : pb_k0_t3 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X6 X10 X17 (n + 1) = _ := pb_k0_t3_succ (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X6 X10 X17 ⟨n, hk⟩
    rw [hs, View.writes_append]
    unfold tripL_k0_t3 trip_k0_t3
    by_cases h : ρ.val < 256 * n
    · exact (View.read_writes_cons_unit_of_not_mem _ _ _ _ _ _ (k0_off9_eq ⟨n, hk⟩) 0 (.inl h)).trans (ih (by omega) h)
    · refine (View.read_writes_cons_unit_of_mem _ _ _ _ _ _ (ix2 (⟨ρ.val - 256 * n, by omega⟩ : Fin 256) l) (k0_off9_eq ⟨n, hk⟩) (at2 (by show ρ.val = 256 * n + (ρ.val - 256 * n); omega))).trans ?_
      refine (pay11_apply _ _ _ _ _ l).trans ((c_val e h6 h10 h17 ⟨n, hk⟩ _ _ _ _ _ _).trans (congrArg (e.C · (128 + l.val)) ?_))
      show 256 * n + (ρ.val - 256 * n) = ρ.val
      omega

end

end Cert.Proof.KernelIdeal

end
-- ==== Proof.Last.lean ====
module

public import proofs.«01_k».proof.Proof.Tables

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Spec

set_option maxRecDepth 16384
set_option maxHeartbeats 1000000
variable {𝒱 : Variants} {c : Dev nD} {bd : Option 𝒱.V} {b : grid0.Bounds} {i : grid0.Static} {arg0 : BitVec 32} {arg1 : Memref sig .tc .smem S8192 .i32} {harg1 : arg1.IsWhole} {arg2 : Memref sig .tc .vmem S512x128 .i32} {harg2 : arg2.IsWhole} {arg3 : Memref sig .tc .vmem S16x128 .i32} {harg3 : arg3.IsWhole} {arg4 : Memref sig .tc .vmem S512x128 .i32} {harg4 : arg4.IsWhole} {arg5 : Memref sig .tc .vmem S16x128 .i32} {harg5 : arg5.IsWhole} {arg6 : Memref sig .tc .vmem S256x256 .bf16} {harg6 : arg6.IsWhole} {arg7 : Memref sig .tc .vmem S768x256 .bf16} {harg7 : arg7.IsWhole} {arg8 : Memref sig .tc .vmem S256x128 .bf16} {harg8 : arg8.IsWhole} {arg9 : Memref sig .tc .vmem S256x256 .bf16} {harg9 : arg9.IsWhole} {arg10 : Memref sig .tc .vmem S1x256 .f32} {harg10 : arg10.IsWhole} {arg11 : Memref sig .tc .vmem S1x256 .f32} {harg11 : arg11.IsWhole} {arg12 : Memref sig .tc .vmem S1x128 .f32} {harg12 : arg12.IsWhole} {arg13 : Memref sig .tc .vmem S1024x256 .bf16} {harg13 : arg13.IsWhole} {arg14 : Memref sig .tc .vmem S1024x128 .f32} {harg14 : arg14.IsWhole} {arg15 : Memref sig .tc .vmem S1032x128 .bf16} {harg15 : arg15.IsWhole} {arg16 : Memref sig .tc .vmem S1032x128 .bf16} {harg16 : arg16.IsWhole} {arg17 : Memref sig .tc .vmem S2x1024x128 .bf16} {harg17 : arg17.IsWhole} {arg18 : Memref sig .tc .vmem S1032x128 .f32} {harg18 : arg18.IsWhole} {arg19 : Memref sig .tc .vmem S1032x128 .f32} {harg19 : arg19.IsWhole} {arg20 : Memref sig .tc .vmem S6x1024x128 .bf16} {harg20 : arg20.IsWhole} {arg21 : Memref sig .tc .vmem S272x128 .i32} {harg21 : arg21.IsWhole} {arg22 : Memref sig .tc .vmem S3x8200x128 .f32} {harg22 : arg22.IsWhole} {arg23 : Memref sig .tc .vmem S3x8x128 .f32} {harg23 : arg23.IsWhole} {arg24 : Memref sig .tc .vmem S256x256 .f32} {harg24 : arg24.IsWhole} {arg25 : Memref sig .tc .vmem S256x128 .f32} {harg25 : arg25.IsWhole}

theorem trips7 : k0_t7_loop.trips = 64 := by decide +kernel

/-- A load of eight rows, every eighth. -/
theorem ld8 (X22 : BufTy.Contents (Elt Ideal) arg22.view.ty) {off : Fin 3 → ℕ} (inb) (p : Fin 3) (b : ℕ) (ho : off = ![p.val, b, 0]) (x : Fin 8) (l : Fin 128) (ρ : Fin 8200) (hρ : ρ.val = b + 8 * x.val) :
    View.readAt (Elt Ideal) arg22.view { off := off, size := ![1, 8, 128], stride := ![1, 8, 1], inb := inb } X22 (ix3 (0 : Fin 1) x l) = arg22.view.read (Elt Ideal) X22 (ix3 p ρ l) := by
  subst ho
  refine congrArg (arg22.view.read (Elt Ideal) X22) (funext fun a => Fin.ext ?_)
  match a with
  | ⟨0, _⟩ => show p.val + 1 * 0 = p.val; omega
  | ⟨1, _⟩ => show b + 8 * x.val = ρ.val; omega
  | ⟨2, _⟩ => show 0 + 1 * l.val = l.val; omega

/-- The sum of the eight rows of a result's row. -/
def lsum (R : Fin 3 → Fin 8200 → Fin 128 → EReal) (q : Fin 3) (r : Fin 1024) (l : Fin 128) : EReal :=
  ∑ s : Fin 8, R q ⟨8 * r.val + s.val, by omega⟩ l

theorem tree8 (f : Fin 8 → EReal) : f 0 + f 1 + (f 2 + f 3) + (f 4 + f 5 + (f 6 + f 7)) = ∑ s : Fin 8, f s := by
  rw [Fin.sum_univ_eight]; simp only [add_assoc]

theorem half_0_0 (X22 : BufTy.Contents (Elt Ideal) arg22.view.ty) (k : Fin k0_t7_loop.trips) (x : Fin 8) (l : Fin 128) (r : Fin 1024) (hr : r.val = 16 * k.val + 8 * 0 + x.val) :
    trip_k0_t7.sl.r (F := Ideal) arg22 X22 k (ix2 x l) = lsum (fun q ρ l => arg22.view.read (Elt Ideal) X22 (ix3 q ρ l)) 0 r l := by
  have hk : k.val < 64 := lt_of_lt_of_eq k.isLt trips7
  rw [show r = ⟨16 * k.val + 8 * 0 + x.val, by omega⟩ from Fin.ext hr]
  pointwise [trip_k0_t7.sl.r, trip_k0_t7.sl.r_1, trip_k0_t7.sl.r_2, trip_k0_t7.sl.r_3, trip_k0_t7.sl.r_4, trip_k0_t7.sl.r_5, trip_k0_t7.sl.r_6, trip_k0_t7.sl.r_7, trip_k0_t7.sl.r_8, trip_k0_t7.sl.r_9, trip_k0_t7.sl.r_10, trip_k0_t7.sl.r_11, trip_k0_t7.sl.r_12, trip_k0_t7.sl.r_13, trip_k0_t7.sl.r_14, trip_k0_t7.sl.r_15, trip_k0_t7.sl.r_16, trip_k0_t7.sl.r_17, trip_k0_t7.sl.r_18, trip_k0_t7.sl.r_19, trip_k0_t7.sl.r_20, trip_k0_t7.sl.r_21, trip_k0_t7.sl.r_22, trip_k0_t7.sl.r_23, trip_k0_t7.sl.r_24, trip_k0_t7.sl.r_25, trip_k0_t7.sl.r_26, trip_k0_t7.sl.r_27, trip_k0_t7.sl.r_28, trip_k0_t7.sl.v37, trip_k0_t7.sl.v41, trip_k0_t7.sl.v45, trip_k0_t7.sl.v49, trip_k0_t7.sl.v53, trip_k0_t7.sl.v57, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118]
  refine Eq.trans ?_ (tree8 _)
  exact (congrArg₂ (· + ·) (congrArg₂ (· + ·) (congrArg₂ (· + ·) (ld8 X22 _ 0 (128 * k.val + 64 * 0 + 0) (k0_off37_eq k 0 0) x l ⟨8 * (16 * k.val + 8 * 0 + x.val) + 0, by omega⟩ (by show 8 * (16 * k.val + 8 * 0 + x.val) + 0 = 128 * k.val + 64 * 0 + 0 + 8 * x.val; omega)) (ld8 X22 _ 0 (128 * k.val + 64 * 0 + 1) (k0_off37_eq k 0 1) x l ⟨8 * (16 * k.val + 8 * 0 + x.val) + 1, by omega⟩ (by show 8 * (16 * k.val + 8 * 0 + x.val) + 1 = 128 * k.val + 64 * 0 + 1 + 8 * x.val; omega))) (congrArg₂ (· + ·) (ld8 X22 _ 0 (128 * k.val + 64 * 0 + 2) (k0_off37_eq k 0 2) x l ⟨8 * (16 * k.val + 8 * 0 + x.val) + 2, by omega⟩ (by show 8 * (16 * k.val + 8 * 0 + x.val) + 2 = 128 * k.val + 64 * 0 + 2 + 8 * x.val; omega)) (ld8 X22 _ 0 (128 * k.val + 64 * 0 + 3) (k0_off37_eq k 0 3) x l ⟨8 * (16 * k.val + 8 * 0 + x.val) + 3, by omega⟩ (by show 8 * (16 * k.val + 8 * 0 + x.val) + 3 = 128 * k.val + 64 * 0 + 3 + 8 * x.val; omega)))) (congrArg₂ (· + ·) (congrArg₂ (· + ·) (ld8 X22 _ 0 (128 * k.val + 64 * 0 + 4) (k0_off37_eq k 0 4) x l ⟨8 * (16 * k.val + 8 * 0 + x.val) + 4, by omega⟩ (by show 8 * (16 * k.val + 8 * 0 + x.val) + 4 = 128 * k.val + 64 * 0 + 4 + 8 * x.val; omega)) (ld8 X22 _ 0 (128 * k.val + 64 * 0 + 5) (k0_off37_eq k 0 5) x l ⟨8 * (16 * k.val + 8 * 0 + x.val) + 5, by omega⟩ (by show 8 * (16 * k.val + 8 * 0 + x.val) + 5 = 128 * k.val + 64 * 0 + 5 + 8 * x.val; omega))) (congrArg₂ (· + ·) (ld8 X22 _ 0 (128 * k.val + 64 * 0 + 6) (k0_off37_eq k 0 6) x l ⟨8 * (16 * k.val + 8 * 0 + x.val) + 6, by omega⟩ (by show 8 * (16 * k.val + 8 * 0 + x.val) + 6 = 128 * k.val + 64 * 0 + 6 + 8 * x.val; omega)) (ld8 X22 _ 0 (128 * k.val + 64 * 0 + 7) (k0_off37_eq k 0 7) x l ⟨8 * (16 * k.val + 8 * 0 + x.val) + 7, by omega⟩ (by show 8 * (16 * k.val + 8 * 0 + x.val) + 7 = 128 * k.val + 64 * 0 + 7 + 8 * x.val; omega)))))

theorem half_0_1 (X22 : BufTy.Contents (Elt Ideal) arg22.view.ty) (k : Fin k0_t7_loop.trips) (x : Fin 8) (l : Fin 128) (r : Fin 1024) (hr : r.val = 16 * k.val + 8 * 1 + x.val) :
    trip_k0_t7.sl.r_19 (F := Ideal) arg22 X22 k (ix2 x l) = lsum (fun q ρ l => arg22.view.read (Elt Ideal) X22 (ix3 q ρ l)) 0 r l := by
  have hk : k.val < 64 := lt_of_lt_of_eq k.isLt trips7
  rw [show r = ⟨16 * k.val + 8 * 1 + x.val, by omega⟩ from Fin.ext hr]
  pointwise [trip_k0_t7.sl.r, trip_k0_t7.sl.r_1, trip_k0_t7.sl.r_2, trip_k0_t7.sl.r_3, trip_k0_t7.sl.r_4, trip_k0_t7.sl.r_5, trip_k0_t7.sl.r_6, trip_k0_t7.sl.r_7, trip_k0_t7.sl.r_8, trip_k0_t7.sl.r_9, trip_k0_t7.sl.r_10, trip_k0_t7.sl.r_11, trip_k0_t7.sl.r_12, trip_k0_t7.sl.r_13, trip_k0_t7.sl.r_14, trip_k0_t7.sl.r_15, trip_k0_t7.sl.r_16, trip_k0_t7.sl.r_17, trip_k0_t7.sl.r_18, trip_k0_t7.sl.r_19, trip_k0_t7.sl.r_20, trip_k0_t7.sl.r_21, trip_k0_t7.sl.r_22, trip_k0_t7.sl.r_23, trip_k0_t7.sl.r_24, trip_k0_t7.sl.r_25, trip_k0_t7.sl.r_26, trip_k0_t7.sl.r_27, trip_k0_t7.sl.r_28, trip_k0_t7.sl.v37, trip_k0_t7.sl.v41, trip_k0_t7.sl.v45, trip_k0_t7.sl.v49, trip_k0_t7.sl.v53, trip_k0_t7.sl.v57, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118]
  refine Eq.trans ?_ (tree8 _)
  exact (congrArg₂ (· + ·) (congrArg₂ (· + ·) (congrArg₂ (· + ·) (ld8 X22 _ 0 (128 * k.val + 64 * 1 + 0) (k0_off37_eq k 1 0) x l ⟨8 * (16 * k.val + 8 * 1 + x.val) + 0, by omega⟩ (by show 8 * (16 * k.val + 8 * 1 + x.val) + 0 = 128 * k.val + 64 * 1 + 0 + 8 * x.val; omega)) (ld8 X22 _ 0 (128 * k.val + 64 * 1 + 1) (k0_off37_eq k 1 1) x l ⟨8 * (16 * k.val + 8 * 1 + x.val) + 1, by omega⟩ (by show 8 * (16 * k.val + 8 * 1 + x.val) + 1 = 128 * k.val + 64 * 1 + 1 + 8 * x.val; omega))) (congrArg₂ (· + ·) (ld8 X22 _ 0 (128 * k.val + 64 * 1 + 2) (k0_off37_eq k 1 2) x l ⟨8 * (16 * k.val + 8 * 1 + x.val) + 2, by omega⟩ (by show 8 * (16 * k.val + 8 * 1 + x.val) + 2 = 128 * k.val + 64 * 1 + 2 + 8 * x.val; omega)) (ld8 X22 _ 0 (128 * k.val + 64 * 1 + 3) (k0_off37_eq k 1 3) x l ⟨8 * (16 * k.val + 8 * 1 + x.val) + 3, by omega⟩ (by show 8 * (16 * k.val + 8 * 1 + x.val) + 3 = 128 * k.val + 64 * 1 + 3 + 8 * x.val; omega)))) (congrArg₂ (· + ·) (congrArg₂ (· + ·) (ld8 X22 _ 0 (128 * k.val + 64 * 1 + 4) (k0_off37_eq k 1 4) x l ⟨8 * (16 * k.val + 8 * 1 + x.val) + 4, by omega⟩ (by show 8 * (16 * k.val + 8 * 1 + x.val) + 4 = 128 * k.val + 64 * 1 + 4 + 8 * x.val; omega)) (ld8 X22 _ 0 (128 * k.val + 64 * 1 + 5) (k0_off37_eq k 1 5) x l ⟨8 * (16 * k.val + 8 * 1 + x.val) + 5, by omega⟩ (by show 8 * (16 * k.val + 8 * 1 + x.val) + 5 = 128 * k.val + 64 * 1 + 5 + 8 * x.val; omega))) (congrArg₂ (· + ·) (ld8 X22 _ 0 (128 * k.val + 64 * 1 + 6) (k0_off37_eq k 1 6) x l ⟨8 * (16 * k.val + 8 * 1 + x.val) + 6, by omega⟩ (by show 8 * (16 * k.val + 8 * 1 + x.val) + 6 = 128 * k.val + 64 * 1 + 6 + 8 * x.val; omega)) (ld8 X22 _ 0 (128 * k.val + 64 * 1 + 7) (k0_off37_eq k 1 7) x l ⟨8 * (16 * k.val + 8 * 1 + x.val) + 7, by omega⟩ (by show 8 * (16 * k.val + 8 * 1 + x.val) + 7 = 128 * k.val + 64 * 1 + 7 + 8 * x.val; omega)))))

theorem half_1_0 (X22 : BufTy.Contents (Elt Ideal) arg22.view.ty) (k : Fin k0_t7_loop.trips) (x : Fin 8) (l : Fin 128) (r : Fin 1024) (hr : r.val = 16 * k.val + 8 * 0 + x.val) :
    trip_k0_t7.sl.r_7 (F := Ideal) arg22 X22 k (ix2 x l) = lsum (fun q ρ l => arg22.view.read (Elt Ideal) X22 (ix3 q ρ l)) 1 r l := by
  have hk : k.val < 64 := lt_of_lt_of_eq k.isLt trips7
  rw [show r = ⟨16 * k.val + 8 * 0 + x.val, by omega⟩ from Fin.ext hr]
  pointwise [trip_k0_t7.sl.r, trip_k0_t7.sl.r_1, trip_k0_t7.sl.r_2, trip_k0_t7.sl.r_3, trip_k0_t7.sl.r_4, trip_k0_t7.sl.r_5, trip_k0_t7.sl.r_6, trip_k0_t7.sl.r_7, trip_k0_t7.sl.r_8, trip_k0_t7.sl.r_9, trip_k0_t7.sl.r_10, trip_k0_t7.sl.r_11, trip_k0_t7.sl.r_12, trip_k0_t7.sl.r_13, trip_k0_t7.sl.r_14, trip_k0_t7.sl.r_15, trip_k0_t7.sl.r_16, trip_k0_t7.sl.r_17, trip_k0_t7.sl.r_18, trip_k0_t7.sl.r_19, trip_k0_t7.sl.r_20, trip_k0_t7.sl.r_21, trip_k0_t7.sl.r_22, trip_k0_t7.sl.r_23, trip_k0_t7.sl.r_24, trip_k0_t7.sl.r_25, trip_k0_t7.sl.r_26, trip_k0_t7.sl.r_27, trip_k0_t7.sl.r_28, trip_k0_t7.sl.v37, trip_k0_t7.sl.v41, trip_k0_t7.sl.v45, trip_k0_t7.sl.v49, trip_k0_t7.sl.v53, trip_k0_t7.sl.v57, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118]
  refine Eq.trans ?_ (tree8 _)
  exact (congrArg₂ (· + ·) (congrArg₂ (· + ·) (congrArg₂ (· + ·) (ld8 X22 _ 1 (128 * k.val + 64 * 0 + 0) (k0_off38_eq k 0 0) x l ⟨8 * (16 * k.val + 8 * 0 + x.val) + 0, by omega⟩ (by show 8 * (16 * k.val + 8 * 0 + x.val) + 0 = 128 * k.val + 64 * 0 + 0 + 8 * x.val; omega)) (ld8 X22 _ 1 (128 * k.val + 64 * 0 + 1) (k0_off38_eq k 0 1) x l ⟨8 * (16 * k.val + 8 * 0 + x.val) + 1, by omega⟩ (by show 8 * (16 * k.val + 8 * 0 + x.val) + 1 = 128 * k.val + 64 * 0 + 1 + 8 * x.val; omega))) (congrArg₂ (· + ·) (ld8 X22 _ 1 (128 * k.val + 64 * 0 + 2) (k0_off38_eq k 0 2) x l ⟨8 * (16 * k.val + 8 * 0 + x.val) + 2, by omega⟩ (by show 8 * (16 * k.val + 8 * 0 + x.val) + 2 = 128 * k.val + 64 * 0 + 2 + 8 * x.val; omega)) (ld8 X22 _ 1 (128 * k.val + 64 * 0 + 3) (k0_off38_eq k 0 3) x l ⟨8 * (16 * k.val + 8 * 0 + x.val) + 3, by omega⟩ (by show 8 * (16 * k.val + 8 * 0 + x.val) + 3 = 128 * k.val + 64 * 0 + 3 + 8 * x.val; omega)))) (congrArg₂ (· + ·) (congrArg₂ (· + ·) (ld8 X22 _ 1 (128 * k.val + 64 * 0 + 4) (k0_off38_eq k 0 4) x l ⟨8 * (16 * k.val + 8 * 0 + x.val) + 4, by omega⟩ (by show 8 * (16 * k.val + 8 * 0 + x.val) + 4 = 128 * k.val + 64 * 0 + 4 + 8 * x.val; omega)) (ld8 X22 _ 1 (128 * k.val + 64 * 0 + 5) (k0_off38_eq k 0 5) x l ⟨8 * (16 * k.val + 8 * 0 + x.val) + 5, by omega⟩ (by show 8 * (16 * k.val + 8 * 0 + x.val) + 5 = 128 * k.val + 64 * 0 + 5 + 8 * x.val; omega))) (congrArg₂ (· + ·) (ld8 X22 _ 1 (128 * k.val + 64 * 0 + 6) (k0_off38_eq k 0 6) x l ⟨8 * (16 * k.val + 8 * 0 + x.val) + 6, by omega⟩ (by show 8 * (16 * k.val + 8 * 0 + x.val) + 6 = 128 * k.val + 64 * 0 + 6 + 8 * x.val; omega)) (ld8 X22 _ 1 (128 * k.val + 64 * 0 + 7) (k0_off38_eq k 0 7) x l ⟨8 * (16 * k.val + 8 * 0 + x.val) + 7, by omega⟩ (by show 8 * (16 * k.val + 8 * 0 + x.val) + 7 = 128 * k.val + 64 * 0 + 7 + 8 * x.val; omega)))))

theorem half_1_1 (X22 : BufTy.Contents (Elt Ideal) arg22.view.ty) (k : Fin k0_t7_loop.trips) (x : Fin 8) (l : Fin 128) (r : Fin 1024) (hr : r.val = 16 * k.val + 8 * 1 + x.val) :
    trip_k0_t7.sl.r_24 (F := Ideal) arg22 X22 k (ix2 x l) = lsum (fun q ρ l => arg22.view.read (Elt Ideal) X22 (ix3 q ρ l)) 1 r l := by
  have hk : k.val < 64 := lt_of_lt_of_eq k.isLt trips7
  rw [show r = ⟨16 * k.val + 8 * 1 + x.val, by omega⟩ from Fin.ext hr]
  pointwise [trip_k0_t7.sl.r, trip_k0_t7.sl.r_1, trip_k0_t7.sl.r_2, trip_k0_t7.sl.r_3, trip_k0_t7.sl.r_4, trip_k0_t7.sl.r_5, trip_k0_t7.sl.r_6, trip_k0_t7.sl.r_7, trip_k0_t7.sl.r_8, trip_k0_t7.sl.r_9, trip_k0_t7.sl.r_10, trip_k0_t7.sl.r_11, trip_k0_t7.sl.r_12, trip_k0_t7.sl.r_13, trip_k0_t7.sl.r_14, trip_k0_t7.sl.r_15, trip_k0_t7.sl.r_16, trip_k0_t7.sl.r_17, trip_k0_t7.sl.r_18, trip_k0_t7.sl.r_19, trip_k0_t7.sl.r_20, trip_k0_t7.sl.r_21, trip_k0_t7.sl.r_22, trip_k0_t7.sl.r_23, trip_k0_t7.sl.r_24, trip_k0_t7.sl.r_25, trip_k0_t7.sl.r_26, trip_k0_t7.sl.r_27, trip_k0_t7.sl.r_28, trip_k0_t7.sl.v37, trip_k0_t7.sl.v41, trip_k0_t7.sl.v45, trip_k0_t7.sl.v49, trip_k0_t7.sl.v53, trip_k0_t7.sl.v57, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118]
  refine Eq.trans ?_ (tree8 _)
  exact (congrArg₂ (· + ·) (congrArg₂ (· + ·) (congrArg₂ (· + ·) (ld8 X22 _ 1 (128 * k.val + 64 * 1 + 0) (k0_off38_eq k 1 0) x l ⟨8 * (16 * k.val + 8 * 1 + x.val) + 0, by omega⟩ (by show 8 * (16 * k.val + 8 * 1 + x.val) + 0 = 128 * k.val + 64 * 1 + 0 + 8 * x.val; omega)) (ld8 X22 _ 1 (128 * k.val + 64 * 1 + 1) (k0_off38_eq k 1 1) x l ⟨8 * (16 * k.val + 8 * 1 + x.val) + 1, by omega⟩ (by show 8 * (16 * k.val + 8 * 1 + x.val) + 1 = 128 * k.val + 64 * 1 + 1 + 8 * x.val; omega))) (congrArg₂ (· + ·) (ld8 X22 _ 1 (128 * k.val + 64 * 1 + 2) (k0_off38_eq k 1 2) x l ⟨8 * (16 * k.val + 8 * 1 + x.val) + 2, by omega⟩ (by show 8 * (16 * k.val + 8 * 1 + x.val) + 2 = 128 * k.val + 64 * 1 + 2 + 8 * x.val; omega)) (ld8 X22 _ 1 (128 * k.val + 64 * 1 + 3) (k0_off38_eq k 1 3) x l ⟨8 * (16 * k.val + 8 * 1 + x.val) + 3, by omega⟩ (by show 8 * (16 * k.val + 8 * 1 + x.val) + 3 = 128 * k.val + 64 * 1 + 3 + 8 * x.val; omega)))) (congrArg₂ (· + ·) (congrArg₂ (· + ·) (ld8 X22 _ 1 (128 * k.val + 64 * 1 + 4) (k0_off38_eq k 1 4) x l ⟨8 * (16 * k.val + 8 * 1 + x.val) + 4, by omega⟩ (by show 8 * (16 * k.val + 8 * 1 + x.val) + 4 = 128 * k.val + 64 * 1 + 4 + 8 * x.val; omega)) (ld8 X22 _ 1 (128 * k.val + 64 * 1 + 5) (k0_off38_eq k 1 5) x l ⟨8 * (16 * k.val + 8 * 1 + x.val) + 5, by omega⟩ (by show 8 * (16 * k.val + 8 * 1 + x.val) + 5 = 128 * k.val + 64 * 1 + 5 + 8 * x.val; omega))) (congrArg₂ (· + ·) (ld8 X22 _ 1 (128 * k.val + 64 * 1 + 6) (k0_off38_eq k 1 6) x l ⟨8 * (16 * k.val + 8 * 1 + x.val) + 6, by omega⟩ (by show 8 * (16 * k.val + 8 * 1 + x.val) + 6 = 128 * k.val + 64 * 1 + 6 + 8 * x.val; omega)) (ld8 X22 _ 1 (128 * k.val + 64 * 1 + 7) (k0_off38_eq k 1 7) x l ⟨8 * (16 * k.val + 8 * 1 + x.val) + 7, by omega⟩ (by show 8 * (16 * k.val + 8 * 1 + x.val) + 7 = 128 * k.val + 64 * 1 + 7 + 8 * x.val; omega)))))

theorem half_2_0 (X22 : BufTy.Contents (Elt Ideal) arg22.view.ty) (k : Fin k0_t7_loop.trips) (x : Fin 8) (l : Fin 128) (r : Fin 1024) (hr : r.val = 16 * k.val + 8 * 0 + x.val) :
    trip_k0_t7.sl.r_14 (F := Ideal) arg22 X22 k (ix2 x l) = lsum (fun q ρ l => arg22.view.read (Elt Ideal) X22 (ix3 q ρ l)) 2 r l := by
  have hk : k.val < 64 := lt_of_lt_of_eq k.isLt trips7
  rw [show r = ⟨16 * k.val + 8 * 0 + x.val, by omega⟩ from Fin.ext hr]
  pointwise [trip_k0_t7.sl.r, trip_k0_t7.sl.r_1, trip_k0_t7.sl.r_2, trip_k0_t7.sl.r_3, trip_k0_t7.sl.r_4, trip_k0_t7.sl.r_5, trip_k0_t7.sl.r_6, trip_k0_t7.sl.r_7, trip_k0_t7.sl.r_8, trip_k0_t7.sl.r_9, trip_k0_t7.sl.r_10, trip_k0_t7.sl.r_11, trip_k0_t7.sl.r_12, trip_k0_t7.sl.r_13, trip_k0_t7.sl.r_14, trip_k0_t7.sl.r_15, trip_k0_t7.sl.r_16, trip_k0_t7.sl.r_17, trip_k0_t7.sl.r_18, trip_k0_t7.sl.r_19, trip_k0_t7.sl.r_20, trip_k0_t7.sl.r_21, trip_k0_t7.sl.r_22, trip_k0_t7.sl.r_23, trip_k0_t7.sl.r_24, trip_k0_t7.sl.r_25, trip_k0_t7.sl.r_26, trip_k0_t7.sl.r_27, trip_k0_t7.sl.r_28, trip_k0_t7.sl.v37, trip_k0_t7.sl.v41, trip_k0_t7.sl.v45, trip_k0_t7.sl.v49, trip_k0_t7.sl.v53, trip_k0_t7.sl.v57, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118]
  refine Eq.trans ?_ (tree8 _)
  exact (congrArg₂ (· + ·) (congrArg₂ (· + ·) (congrArg₂ (· + ·) (ld8 X22 _ 2 (128 * k.val + 64 * 0 + 0) (k0_off39_eq k 0 0) x l ⟨8 * (16 * k.val + 8 * 0 + x.val) + 0, by omega⟩ (by show 8 * (16 * k.val + 8 * 0 + x.val) + 0 = 128 * k.val + 64 * 0 + 0 + 8 * x.val; omega)) (ld8 X22 _ 2 (128 * k.val + 64 * 0 + 1) (k0_off39_eq k 0 1) x l ⟨8 * (16 * k.val + 8 * 0 + x.val) + 1, by omega⟩ (by show 8 * (16 * k.val + 8 * 0 + x.val) + 1 = 128 * k.val + 64 * 0 + 1 + 8 * x.val; omega))) (congrArg₂ (· + ·) (ld8 X22 _ 2 (128 * k.val + 64 * 0 + 2) (k0_off39_eq k 0 2) x l ⟨8 * (16 * k.val + 8 * 0 + x.val) + 2, by omega⟩ (by show 8 * (16 * k.val + 8 * 0 + x.val) + 2 = 128 * k.val + 64 * 0 + 2 + 8 * x.val; omega)) (ld8 X22 _ 2 (128 * k.val + 64 * 0 + 3) (k0_off39_eq k 0 3) x l ⟨8 * (16 * k.val + 8 * 0 + x.val) + 3, by omega⟩ (by show 8 * (16 * k.val + 8 * 0 + x.val) + 3 = 128 * k.val + 64 * 0 + 3 + 8 * x.val; omega)))) (congrArg₂ (· + ·) (congrArg₂ (· + ·) (ld8 X22 _ 2 (128 * k.val + 64 * 0 + 4) (k0_off39_eq k 0 4) x l ⟨8 * (16 * k.val + 8 * 0 + x.val) + 4, by omega⟩ (by show 8 * (16 * k.val + 8 * 0 + x.val) + 4 = 128 * k.val + 64 * 0 + 4 + 8 * x.val; omega)) (ld8 X22 _ 2 (128 * k.val + 64 * 0 + 5) (k0_off39_eq k 0 5) x l ⟨8 * (16 * k.val + 8 * 0 + x.val) + 5, by omega⟩ (by show 8 * (16 * k.val + 8 * 0 + x.val) + 5 = 128 * k.val + 64 * 0 + 5 + 8 * x.val; omega))) (congrArg₂ (· + ·) (ld8 X22 _ 2 (128 * k.val + 64 * 0 + 6) (k0_off39_eq k 0 6) x l ⟨8 * (16 * k.val + 8 * 0 + x.val) + 6, by omega⟩ (by show 8 * (16 * k.val + 8 * 0 + x.val) + 6 = 128 * k.val + 64 * 0 + 6 + 8 * x.val; omega)) (ld8 X22 _ 2 (128 * k.val + 64 * 0 + 7) (k0_off39_eq k 0 7) x l ⟨8 * (16 * k.val + 8 * 0 + x.val) + 7, by omega⟩ (by show 8 * (16 * k.val + 8 * 0 + x.val) + 7 = 128 * k.val + 64 * 0 + 7 + 8 * x.val; omega)))))

theorem half_2_1 (X22 : BufTy.Contents (Elt Ideal) arg22.view.ty) (k : Fin k0_t7_loop.trips) (x : Fin 8) (l : Fin 128) (r : Fin 1024) (hr : r.val = 16 * k.val + 8 * 1 + x.val) :
    trip_k0_t7.sl.r_28 (F := Ideal) arg22 X22 k (ix2 x l) = lsum (fun q ρ l => arg22.view.read (Elt Ideal) X22 (ix3 q ρ l)) 2 r l := by
  have hk : k.val < 64 := lt_of_lt_of_eq k.isLt trips7
  rw [show r = ⟨16 * k.val + 8 * 1 + x.val, by omega⟩ from Fin.ext hr]
  pointwise [trip_k0_t7.sl.r, trip_k0_t7.sl.r_1, trip_k0_t7.sl.r_2, trip_k0_t7.sl.r_3, trip_k0_t7.sl.r_4, trip_k0_t7.sl.r_5, trip_k0_t7.sl.r_6, trip_k0_t7.sl.r_7, trip_k0_t7.sl.r_8, trip_k0_t7.sl.r_9, trip_k0_t7.sl.r_10, trip_k0_t7.sl.r_11, trip_k0_t7.sl.r_12, trip_k0_t7.sl.r_13, trip_k0_t7.sl.r_14, trip_k0_t7.sl.r_15, trip_k0_t7.sl.r_16, trip_k0_t7.sl.r_17, trip_k0_t7.sl.r_18, trip_k0_t7.sl.r_19, trip_k0_t7.sl.r_20, trip_k0_t7.sl.r_21, trip_k0_t7.sl.r_22, trip_k0_t7.sl.r_23, trip_k0_t7.sl.r_24, trip_k0_t7.sl.r_25, trip_k0_t7.sl.r_26, trip_k0_t7.sl.r_27, trip_k0_t7.sl.r_28, trip_k0_t7.sl.v37, trip_k0_t7.sl.v41, trip_k0_t7.sl.v45, trip_k0_t7.sl.v49, trip_k0_t7.sl.v53, trip_k0_t7.sl.v57, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118]
  refine Eq.trans ?_ (tree8 _)
  exact (congrArg₂ (· + ·) (congrArg₂ (· + ·) (congrArg₂ (· + ·) (ld8 X22 _ 2 (128 * k.val + 64 * 1 + 0) (k0_off39_eq k 1 0) x l ⟨8 * (16 * k.val + 8 * 1 + x.val) + 0, by omega⟩ (by show 8 * (16 * k.val + 8 * 1 + x.val) + 0 = 128 * k.val + 64 * 1 + 0 + 8 * x.val; omega)) (ld8 X22 _ 2 (128 * k.val + 64 * 1 + 1) (k0_off39_eq k 1 1) x l ⟨8 * (16 * k.val + 8 * 1 + x.val) + 1, by omega⟩ (by show 8 * (16 * k.val + 8 * 1 + x.val) + 1 = 128 * k.val + 64 * 1 + 1 + 8 * x.val; omega))) (congrArg₂ (· + ·) (ld8 X22 _ 2 (128 * k.val + 64 * 1 + 2) (k0_off39_eq k 1 2) x l ⟨8 * (16 * k.val + 8 * 1 + x.val) + 2, by omega⟩ (by show 8 * (16 * k.val + 8 * 1 + x.val) + 2 = 128 * k.val + 64 * 1 + 2 + 8 * x.val; omega)) (ld8 X22 _ 2 (128 * k.val + 64 * 1 + 3) (k0_off39_eq k 1 3) x l ⟨8 * (16 * k.val + 8 * 1 + x.val) + 3, by omega⟩ (by show 8 * (16 * k.val + 8 * 1 + x.val) + 3 = 128 * k.val + 64 * 1 + 3 + 8 * x.val; omega)))) (congrArg₂ (· + ·) (congrArg₂ (· + ·) (ld8 X22 _ 2 (128 * k.val + 64 * 1 + 4) (k0_off39_eq k 1 4) x l ⟨8 * (16 * k.val + 8 * 1 + x.val) + 4, by omega⟩ (by show 8 * (16 * k.val + 8 * 1 + x.val) + 4 = 128 * k.val + 64 * 1 + 4 + 8 * x.val; omega)) (ld8 X22 _ 2 (128 * k.val + 64 * 1 + 5) (k0_off39_eq k 1 5) x l ⟨8 * (16 * k.val + 8 * 1 + x.val) + 5, by omega⟩ (by show 8 * (16 * k.val + 8 * 1 + x.val) + 5 = 128 * k.val + 64 * 1 + 5 + 8 * x.val; omega))) (congrArg₂ (· + ·) (ld8 X22 _ 2 (128 * k.val + 64 * 1 + 6) (k0_off39_eq k 1 6) x l ⟨8 * (16 * k.val + 8 * 1 + x.val) + 6, by omega⟩ (by show 8 * (16 * k.val + 8 * 1 + x.val) + 6 = 128 * k.val + 64 * 1 + 6 + 8 * x.val; omega)) (ld8 X22 _ 2 (128 * k.val + 64 * 1 + 7) (k0_off39_eq k 1 7) x l ⟨8 * (16 * k.val + 8 * 1 + x.val) + 7, by omega⟩ (by show 8 * (16 * k.val + 8 * 1 + x.val) + 7 = 128 * k.val + 64 * 1 + 7 + 8 * x.val; omega)))))

theorem pay119_lo (a b : FVec Ideal S8x128 .f32) (x : Fin 8) (l : Fin 128) (ρ : Fin 16) (hρ : ρ.val = x.val) : k0_pay119 (F := Ideal) a b (ix2 ρ l) = a (ix2 x l) := by
  rw [show ρ = ⟨x.val, by omega⟩ from Fin.ext hρ]
  pointwise [k0_pay119]
theorem pay119_hi (a b : FVec Ideal S8x128 .f32) (x : Fin 8) (l : Fin 128) (ρ : Fin 16) (hρ : ρ.val = 8 + x.val) : k0_pay119 (F := Ideal) a b (ix2 ρ l) = b (ix2 x l) := by
  rw [show ρ = ⟨8 + x.val, by omega⟩ from Fin.ext hρ]
  pointwise [k0_pay119]

theorem pay120_lo (a b : FVec Ideal S8x128 .f32) (x : Fin 8) (l : Fin 128) (ρ : Fin 16) (hρ : ρ.val = x.val) : k0_pay120 (F := Ideal) a b (ix2 ρ l) = a (ix2 x l) := by
  rw [show ρ = ⟨x.val, by omega⟩ from Fin.ext hρ]
  pointwise [k0_pay120]
theorem pay120_hi (a b : FVec Ideal S8x128 .f32) (x : Fin 8) (l : Fin 128) (ρ : Fin 16) (hρ : ρ.val = 8 + x.val) : k0_pay120 (F := Ideal) a b (ix2 ρ l) = b (ix2 x l) := by
  rw [show ρ = ⟨8 + x.val, by omega⟩ from Fin.ext hρ]
  pointwise [k0_pay120]

theorem pay18_lo (a b : FVec Ideal S8x128 .f32) (x : Fin 8) (l : Fin 128) (ρ : Fin 16) (hρ : ρ.val = x.val) : k0_pay18 (F := Ideal) a b (ix2 ρ l) = a (ix2 x l) := by
  rw [show ρ = ⟨x.val, by omega⟩ from Fin.ext hρ]
  pointwise [k0_pay18]
theorem pay18_hi (a b : FVec Ideal S8x128 .f32) (x : Fin 8) (l : Fin 128) (ρ : Fin 16) (hρ : ρ.val = 8 + x.val) : k0_pay18 (F := Ideal) a b (ix2 ρ l) = b (ix2 x l) := by
  rw [show ρ = ⟨8 + x.val, by omega⟩ from Fin.ext hρ]
  pointwise [k0_pay18]

theorem t7_read14 (X22 : BufTy.Contents (Elt Ideal) arg22.view.ty) (f : BufTy.Contents (Elt Ideal) arg14.view.ty) (n : ℕ) (hn : n ≤ 64) (r : Fin 1024) (hr : r.val < 16 * n) (l : Fin 128) :
    arg14.view.read (Elt Ideal) (arg14.view.writes (Elt Ideal) f (pb_k0_t7 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X22 n).2) (ix2 r l) = lsum (fun q ρ l => arg22.view.read (Elt Ideal) X22 (ix3 q ρ l)) 2 r l := by
  induction n with
  | zero => omega
  | succ n ih =>
    have hk : n < k0_t7_loop.trips := by rw [trips7]; omega
    have hs : pb_k0_t7 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X22 (n + 1) = _ := pb_k0_t7_succ (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X22 ⟨n, hk⟩
    rw [hs, View.writes_append]
    unfold tripL_k0_t7 trip_k0_t7
    by_cases h : r.val < 16 * n
    · exact (View.read_writes_cons_unit_of_not_mem _ _ _ _ _ _ (k0_off42_eq ⟨n, hk⟩) 0 (.inl h)).trans (ih (by omega) h)
    · have hrn : 16 * n ≤ r.val := by omega
      let ρ : Fin 16 := ⟨r.val - 16 * n, by omega⟩
      refine (View.read_writes_cons_unit_of_mem _ _ _ _ _ _ (ix2 ρ l) (k0_off42_eq ⟨n, hk⟩) ?_).trans ?_
      · intro a
        have ha : ∀ x : Fin 2, (ix2 r l x).val = (![16 * n, 0] : Fin 2 → ℕ) x + (ix2 ρ l x).val := at2 (by show r.val = 16 * n + (r.val - 16 * n); omega)
        exact ha a
      by_cases hx : ρ.val < 8
      · exact (pay18_lo _ _ ⟨ρ.val, hx⟩ l ρ rfl).trans (half_2_0 X22 ⟨n, hk⟩ ⟨ρ.val, hx⟩ l r (by show r.val = 16 * n + 8 * 0 + (r.val - 16 * n); omega))
      · exact (pay18_hi _ _ ⟨ρ.val - 8, by omega⟩ l ρ (by show ρ.val = 8 + (ρ.val - 8); omega)).trans (half_2_1 X22 ⟨n, hk⟩ ⟨ρ.val - 8, by omega⟩ l r (by show r.val = 16 * n + 8 * 1 + (ρ.val - 8); have : ρ.val = r.val - 16 * n := rfl; omega))

theorem t7_read13 (X22 : BufTy.Contents (Elt Ideal) arg22.view.ty) (f : BufTy.Contents (Elt Ideal) arg13.view.ty) (n : ℕ) (hn : n ≤ 64) (r : Fin 1024) (hr : r.val < 16 * n) (col : Fin 256) :
    arg13.view.read (Elt Ideal) (arg13.view.writes (Elt Ideal) f (pb_k0_t7 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X22 n).1) (ix2 r col) = lsum (fun q ρ l => arg22.view.read (Elt Ideal) X22 (ix3 q ρ l)) ⟨col.val / 128, by omega⟩ r ⟨col.val % 128, Nat.mod_lt _ (by decide)⟩ := by
  induction n with
  | zero => omega
  | succ n ih =>
    have hk : n < k0_t7_loop.trips := by rw [trips7]; omega
    have hs : pb_k0_t7 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X22 (n + 1) = _ := pb_k0_t7_succ (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X22 ⟨n, hk⟩
    rw [hs, View.writes_append]
    unfold tripL_k0_t7 trip_k0_t7
    by_cases h : r.val < 16 * n
    · exact (View.read_writes_cons_unit_of_not_mem _ _ _ _ _ _ (k0_off41_eq ⟨n, hk⟩) 0 (.inl h)).trans <| (View.read_writes_cons_unit_of_not_mem _ _ _ _ _ _ (k0_off40_eq ⟨n, hk⟩) 0 (.inl h)).trans (ih (by omega) h)
    · have hrn : 16 * n ≤ r.val := by omega
      let ρ : Fin 16 := ⟨r.val - 16 * n, by omega⟩
      by_cases hc : col.val < 128
      · refine (View.read_writes_cons_unit_of_not_mem _ _ _ _ _ _ (k0_off41_eq ⟨n, hk⟩) 1 (.inl hc)).trans ?_
        have eq : (⟨col.val / 128, by omega⟩ : Fin 3) = 0 := Fin.ext (by show col.val / 128 = 0; omega)
        have el : (⟨col.val % 128, Nat.mod_lt _ (by decide)⟩ : Fin 128) = ⟨col.val, hc⟩ := Fin.ext (by show col.val % 128 = col.val; omega)
        rw [eq, el]
        refine (View.read_writes_cons_unit_of_mem _ _ _ _ _ _ (ix2 ρ (⟨col.val, hc⟩ : Fin 128)) (k0_off40_eq ⟨n, hk⟩) ?_).trans ?_
        · intro a
          have ha : ∀ x : Fin 2, (ix2 r col x).val = (![16 * n, 0] : Fin 2 → ℕ) x + (ix2 ρ (⟨col.val, hc⟩ : Fin 128) x).val := fun x => match x with
            | ⟨0, _⟩ => show r.val = 16 * n + (r.val - 16 * n) by omega
            | ⟨1, _⟩ => show col.val = 0 + col.val by omega
          exact ha a
        by_cases hx : ρ.val < 8
        · exact (pay119_lo _ _ ⟨ρ.val, hx⟩ ⟨col.val, hc⟩ ρ rfl).trans (half_0_0 X22 ⟨n, hk⟩ ⟨ρ.val, hx⟩ ⟨col.val, hc⟩ r (by show r.val = 16 * n + 8 * 0 + (r.val - 16 * n); omega))
        · exact (pay119_hi _ _ ⟨ρ.val - 8, by omega⟩ ⟨col.val, hc⟩ ρ (by show ρ.val = 8 + (ρ.val - 8); omega)).trans (half_0_1 X22 ⟨n, hk⟩ ⟨ρ.val - 8, by omega⟩ ⟨col.val, hc⟩ r (by show r.val = 16 * n + 8 * 1 + (ρ.val - 8); have : ρ.val = r.val - 16 * n := rfl; omega))
      · have eq : (⟨col.val / 128, by omega⟩ : Fin 3) = 1 := Fin.ext (by show col.val / 128 = 1; omega)
        have el : (⟨col.val % 128, Nat.mod_lt _ (by decide)⟩ : Fin 128) = ⟨col.val - 128, by omega⟩ := Fin.ext (by show col.val % 128 = col.val - 128; omega)
        rw [eq, el]
        refine (View.read_writes_cons_unit_of_mem _ _ _ _ _ _ (ix2 ρ (⟨col.val - 128, by omega⟩ : Fin 128)) (k0_off41_eq ⟨n, hk⟩) ?_).trans ?_
        · intro a
          have ha : ∀ x : Fin 2, (ix2 r col x).val = (![16 * n, 128] : Fin 2 → ℕ) x + (ix2 ρ (⟨col.val - 128, by omega⟩ : Fin 128) x).val := fun x => match x with
            | ⟨0, _⟩ => show r.val = 16 * n + (r.val - 16 * n) by omega
            | ⟨1, _⟩ => show col.val = 128 + (col.val - 128) by omega
          exact ha a
        by_cases hx : ρ.val < 8
        · exact (pay120_lo _ _ ⟨ρ.val, hx⟩ ⟨col.val - 128, by omega⟩ ρ rfl).trans (half_1_0 X22 ⟨n, hk⟩ ⟨ρ.val, hx⟩ ⟨col.val - 128, by omega⟩ r (by show r.val = 16 * n + 8 * 0 + (r.val - 16 * n); omega))
        · exact (pay120_hi _ _ ⟨ρ.val - 8, by omega⟩ ⟨col.val - 128, by omega⟩ ρ (by show ρ.val = 8 + (ρ.val - 8); omega)).trans (half_1_1 X22 ⟨n, hk⟩ ⟨ρ.val - 8, by omega⟩ ⟨col.val - 128, by omega⟩ r (by show r.val = 16 * n + 8 * 1 + (ρ.val - 8); have : ρ.val = r.val - 16 * n := rfl; omega))

end Cert.Proof.KernelIdeal

end
-- ==== Proof.Tiles.lean ====
module

public import proofs.«01_k».proof.Proof.TileRead

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Spec

theorem trips4 : k0_t4_loop.trips = 4 := by decide +kernel

/-- The groups of the first `n` tiles of a step. -/
theorem st4_inv  (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (X1 : BufTy.Contents (Elt Ideal) arg1.view.ty) (X2 : BufTy.Contents (Elt Ideal) arg2.view.ty) (X3 : BufTy.Contents (Elt Ideal) arg3.view.ty) (X7 : BufTy.Contents (Elt Ideal) arg7.view.ty) (X8 : BufTy.Contents (Elt Ideal) arg8.view.ty) (X9 : BufTy.Contents (Elt Ideal) arg9.view.ty) (X11 : BufTy.Contents (Elt Ideal) arg11.view.ty) (X12 : BufTy.Contents (Elt Ideal) arg12.view.ty) (X15 : BufTy.Contents (Elt Ideal) arg15.view.ty) (X16 : BufTy.Contents (Elt Ideal) arg16.view.ty) (X18 : BufTy.Contents (Elt Ideal) arg18.view.ty) (X19 : BufTy.Contents (Elt Ideal) arg19.view.ty) (X21 : BufTy.Contents (Elt Ideal) arg21.view.ty)
    (hw : ∀ (r : LoadRect S8192) (x), k0_chk2 (View.readAt (Elt Ideal) arg1.view r X1 x)) (hw3 : ∀ (r : LoadRect S8192) (x), k0_chk3 (View.readAt (Elt Ideal) arg1.view r X1 x)) (a₀ : FVec Ideal S8x128 .f32 × FVec Ideal S8x128 .f32 × FVec Ideal S8x128 .f32) (g20 : BufTy.Contents (Elt Ideal) arg20.view.ty) (g22 : BufTy.Contents (Elt Ideal) arg22.view.ty) (g24 : BufTy.Contents (Elt Ideal) arg24.view.ty) (g25 : BufTy.Contents (Elt Ideal) arg25.view.ty)
    (e : Env) (t : ℕ) (ht : t < 128) (ha0 : arg0 = BitVec.ofNat 32 t)
    (h1 : ∀ n : Fin 8192, arg1.view.read (Elt Ideal) X1 (ix1 n) = e.tab n.val)
    (h2 : ∀ (r : Fin 512) (l : Fin 128), arg2.view.read (Elt Ideal) X2 (ix2 r l) = e.hcode (512 * t + r.val) l.val)
    (h3 : ∀ (r : Fin 16) (l : Fin 128), arg3.view.read (Elt Ideal) X3 (ix2 r l) = e.hsc (16 * t + r.val) l.val)
    (h7 : ∀ (f : Fin 768) (c : Fin 256), arg7.view.read (Elt Ideal) X7 (ix2 f c) = e.w1 f.val c.val)
    (h8 : ∀ (f : Fin 256) (c : Fin 128), arg8.view.read (Elt Ideal) X8 (ix2 f c) = e.w2 f.val c.val)
    (h9 : ∀ f c : Fin 256, arg9.view.read (Elt Ideal) X9 (ix2 f c) = if f.val / 128 = c.val / 128 then e.w3 (f.val % 128) else 0)
    (h11 : ∀ f : Fin 256, arg11.view.read (Elt Ideal) X11 (ix2 0 f) = e.a1 f.val)
    (h12 : ∀ f : Fin 128, arg12.view.read (Elt Ideal) X12 (ix2 0 f) = e.a2 f.val)
    (h15 : ∀ (r : Fin 1032) (l : Fin 128), r.val < 1024 → arg15.view.read (Elt Ideal) X15 (ix2 r l) = e.T r.val l.val)
    (h16 : ∀ (r : Fin 1032) (l : Fin 128), r.val < 1024 → arg16.view.read (Elt Ideal) X16 (ix2 r l) = e.T r.val (128 + l.val))
    (h18 : ∀ (r : Fin 1032) (l : Fin 128), r.val < 1024 → arg18.view.read (Elt Ideal) X18 (ix2 r l) = e.C r.val l.val)
    (h19 : ∀ (r : Fin 1032) (l : Fin 128), r.val < 1024 → arg19.view.read (Elt Ideal) X19 (ix2 r l) = e.C r.val (128 + l.val))
    (h21 : ∀ (v : Fin 17) (κ : Fin 16) (l : Fin 128) (u : Fin 8), IntOp.cmpi .eq (arg21.view.read (Elt Ideal) X21 (ix2 ⟨16 * v.val + κ.val, by omega⟩ l)) (BitVec.ofNat 32 (16 * u.val)) = BitVec.ofBool (decide (κ.val < v.val ∧ l.val = 16 * u.val + κ.val)))
    (hnv : ∀ g < 8192, e.nv g ≤ 16)
    (hs : ∀ g < 8192, (IntOp.shrsi .scalar (e.tab g) 8#32).toNat = e.row g)
    (hb : ∀ g < 8192, (IntOp.andi (IntOp.shrsi .scalar (e.tab g) 5#32) 7#32).toNat = e.blk g)
    (hrl : ∀ g < 8192, e.row g ≤ 1024) (hsame : ∀ g, g + 1 < 8192 → e.blk (g + 1) ≠ 0 → e.row (g + 1) = e.row g)

    (h0 : GInv e a₀ (fun q ρ l => arg22.view.read (Elt Ideal) g22 (ix3 q ρ l)) (64 * t)) (n : ℕ) (hn : n ≤ 4) :
    GInv e (st4 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 X15 X16 X18 X19 X21 hw hw3 a₀ g20 g22 g24 g25 n).1 (fun q ρ l => arg22.view.read (Elt Ideal) (st4 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 X15 X16 X18 X19 X21 hw hw3 a₀ g20 g22 g24 g25 n).2.2.1 (ix3 q ρ l)) (64 * t + 16 * n) := by
  induction n with
  | zero => exact h0
  | succ n ih =>
    have hk : n < k0_t4_loop.trips := by rw [trips4]; omega
    have hst := st4_succ (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 X15 X16 X18 X19 X21 hw hw3 a₀ g20 g22 g24 g25 ⟨n, hk⟩
    rw [show st4 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 X15 X16 X18 X19 X21 hw hw3 a₀ g20 g22 g24 g25 (n + 1) = _ from hst]
    exact trip4_inv 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 X15 X16 X18 X19 X21 hw hw3 ⟨n, hk⟩ _ _ _ _ _ e t ht ha0 h1 h2 h3 h7 h8 h9 h11 h12 h15 h16 h18 h19 h21 hnv hs hb hrl hsame (ih (by omega))

/-- The groups of a step. -/
theorem st4_all  (𝒱 : Variants) (c : Dev nD) (bd : Option 𝒱.V) (b : grid0.Bounds) (i : grid0.Static) (arg0 : BitVec 32) (arg1 : Memref sig .tc .smem S8192 .i32) (harg1 : arg1.IsWhole) (arg2 : Memref sig .tc .vmem S512x128 .i32) (harg2 : arg2.IsWhole) (arg3 : Memref sig .tc .vmem S16x128 .i32) (harg3 : arg3.IsWhole) (arg4 : Memref sig .tc .vmem S512x128 .i32) (harg4 : arg4.IsWhole) (arg5 : Memref sig .tc .vmem S16x128 .i32) (harg5 : arg5.IsWhole) (arg6 : Memref sig .tc .vmem S256x256 .bf16) (harg6 : arg6.IsWhole) (arg7 : Memref sig .tc .vmem S768x256 .bf16) (harg7 : arg7.IsWhole) (arg8 : Memref sig .tc .vmem S256x128 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1024x256 .bf16) (harg13 : arg13.IsWhole) (arg14 : Memref sig .tc .vmem S1024x128 .f32) (harg14 : arg14.IsWhole) (arg15 : Memref sig .tc .vmem S1032x128 .bf16) (harg15 : arg15.IsWhole) (arg16 : Memref sig .tc .vmem S1032x128 .bf16) (harg16 : arg16.IsWhole) (arg17 : Memref sig .tc .vmem S2x1024x128 .bf16) (harg17 : arg17.IsWhole) (arg18 : Memref sig .tc .vmem S1032x128 .f32) (harg18 : arg18.IsWhole) (arg19 : Memref sig .tc .vmem S1032x128 .f32) (harg19 : arg19.IsWhole) (arg20 : Memref sig .tc .vmem S6x1024x128 .bf16) (harg20 : arg20.IsWhole) (arg21 : Memref sig .tc .vmem S272x128 .i32) (harg21 : arg21.IsWhole) (arg22 : Memref sig .tc .vmem S3x8200x128 .f32) (harg22 : arg22.IsWhole) (arg23 : Memref sig .tc .vmem S3x8x128 .f32) (harg23 : arg23.IsWhole) (arg24 : Memref sig .tc .vmem S256x256 .f32) (harg24 : arg24.IsWhole) (arg25 : Memref sig .tc .vmem S256x128 .f32) (harg25 : arg25.IsWhole) (k0_hw1 : k0_chk1 arg0) (X1 : BufTy.Contents (Elt Ideal) arg1.view.ty) (X2 : BufTy.Contents (Elt Ideal) arg2.view.ty) (X3 : BufTy.Contents (Elt Ideal) arg3.view.ty) (X7 : BufTy.Contents (Elt Ideal) arg7.view.ty) (X8 : BufTy.Contents (Elt Ideal) arg8.view.ty) (X9 : BufTy.Contents (Elt Ideal) arg9.view.ty) (X11 : BufTy.Contents (Elt Ideal) arg11.view.ty) (X12 : BufTy.Contents (Elt Ideal) arg12.view.ty) (X15 : BufTy.Contents (Elt Ideal) arg15.view.ty) (X16 : BufTy.Contents (Elt Ideal) arg16.view.ty) (X18 : BufTy.Contents (Elt Ideal) arg18.view.ty) (X19 : BufTy.Contents (Elt Ideal) arg19.view.ty) (X21 : BufTy.Contents (Elt Ideal) arg21.view.ty)
    (hw : ∀ (r : LoadRect S8192) (x), k0_chk2 (View.readAt (Elt Ideal) arg1.view r X1 x)) (hw3 : ∀ (r : LoadRect S8192) (x), k0_chk3 (View.readAt (Elt Ideal) arg1.view r X1 x)) (a₀ : FVec Ideal S8x128 .f32 × FVec Ideal S8x128 .f32 × FVec Ideal S8x128 .f32) (g20 : BufTy.Contents (Elt Ideal) arg20.view.ty) (g22 : BufTy.Contents (Elt Ideal) arg22.view.ty) (g24 : BufTy.Contents (Elt Ideal) arg24.view.ty) (g25 : BufTy.Contents (Elt Ideal) arg25.view.ty)
    (e : Env) (t : ℕ) (ht : t < 128) (ha0 : arg0 = BitVec.ofNat 32 t)
    (h1 : ∀ n : Fin 8192, arg1.view.read (Elt Ideal) X1 (ix1 n) = e.tab n.val)
    (h2 : ∀ (r : Fin 512) (l : Fin 128), arg2.view.read (Elt Ideal) X2 (ix2 r l) = e.hcode (512 * t + r.val) l.val)
    (h3 : ∀ (r : Fin 16) (l : Fin 128), arg3.view.read (Elt Ideal) X3 (ix2 r l) = e.hsc (16 * t + r.val) l.val)
    (h7 : ∀ (f : Fin 768) (c : Fin 256), arg7.view.read (Elt Ideal) X7 (ix2 f c) = e.w1 f.val c.val)
    (h8 : ∀ (f : Fin 256) (c : Fin 128), arg8.view.read (Elt Ideal) X8 (ix2 f c) = e.w2 f.val c.val)
    (h9 : ∀ f c : Fin 256, arg9.view.read (Elt Ideal) X9 (ix2 f c) = if f.val / 128 = c.val / 128 then e.w3 (f.val % 128) else 0)
    (h11 : ∀ f : Fin 256, arg11.view.read (Elt Ideal) X11 (ix2 0 f) = e.a1 f.val)
    (h12 : ∀ f : Fin 128, arg12.view.read (Elt Ideal) X12 (ix2 0 f) = e.a2 f.val)
    (h15 : ∀ (r : Fin 1032) (l : Fin 128), r.val < 1024 → arg15.view.read (Elt Ideal) X15 (ix2 r l) = e.T r.val l.val)
    (h16 : ∀ (r : Fin 1032) (l : Fin 128), r.val < 1024 → arg16.view.read (Elt Ideal) X16 (ix2 r l) = e.T r.val (128 + l.val))
    (h18 : ∀ (r : Fin 1032) (l : Fin 128), r.val < 1024 → arg18.view.read (Elt Ideal) X18 (ix2 r l) = e.C r.val l.val)
    (h19 : ∀ (r : Fin 1032) (l : Fin 128), r.val < 1024 → arg19.view.read (Elt Ideal) X19 (ix2 r l) = e.C r.val (128 + l.val))
    (h21 : ∀ (v : Fin 17) (κ : Fin 16) (l : Fin 128) (u : Fin 8), IntOp.cmpi .eq (arg21.view.read (Elt Ideal) X21 (ix2 ⟨16 * v.val + κ.val, by omega⟩ l)) (BitVec.ofNat 32 (16 * u.val)) = BitVec.ofBool (decide (κ.val < v.val ∧ l.val = 16 * u.val + κ.val)))
    (hnv : ∀ g < 8192, e.nv g ≤ 16)
    (hs : ∀ g < 8192, (IntOp.shrsi .scalar (e.tab g) 8#32).toNat = e.row g)
    (hb : ∀ g < 8192, (IntOp.andi (IntOp.shrsi .scalar (e.tab g) 5#32) 7#32).toNat = e.blk g)
    (hrl : ∀ g < 8192, e.row g ≤ 1024) (hsame : ∀ g, g + 1 < 8192 → e.blk (g + 1) ≠ 0 → e.row (g + 1) = e.row g)

    (h0 : GInv e a₀ (fun q ρ l => arg22.view.read (Elt Ideal) g22 (ix3 q ρ l)) (64 * t)) :
    GInv e (st4 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 X15 X16 X18 X19 X21 hw hw3 a₀ g20 g22 g24 g25 (Scf.trips k0_t4_loop.lb k0_t4_loop.ub k0_t4_loop.st)).1 (fun q ρ l => arg22.view.read (Elt Ideal) (st4 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 X15 X16 X18 X19 X21 hw hw3 a₀ g20 g22 g24 g25 (Scf.trips k0_t4_loop.lb k0_t4_loop.ub k0_t4_loop.st)).2.2.1 (ix3 q ρ l)) (64 * (t + 1)) := by
  have e4 : Scf.trips k0_t4_loop.lb k0_t4_loop.ub k0_t4_loop.st = 4 := trips4
  rw [e4, show 64 * (t + 1) = 64 * t + 16 * 4 by omega]
  exact st4_inv 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 X15 X16 X18 X19 X21 hw hw3 a₀ g20 g22 g24 g25 e t ht ha0 h1 h2 h3 h7 h8 h9 h11 h12 h15 h16 h18 h19 h21 hnv hs hb hrl hsame h0 4 (le_refl 4)

end Cert.Proof.KernelIdeal

end
-- ==== Proof.Comb.lean ====
module

public import proofs.«01_k».proof.Proof.Loops

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Spec

/-- What the first `N` groups add to row `b`. -/
def total (e : Env) (q b N l : ℕ) : EReal := ∑ g ∈ Finset.range N, if e.row g = b then ∑ κ ∈ Finset.range 16, e.part q g κ l else 0

theorem part16 (f : ℕ → EReal) : ∑ κ ∈ Finset.range 16, f κ = ∑ s : Fin 8, (f s.val + f (8 + s.val)) := by
  refine (Finset.sum_range_add f 8 8).trans ?_
  simp only [Finset.sum_range, Finset.sum_add_distrib]

section
variable {e : Env} {nt : ℕ} (h : e.InOrder nt)
include h

theorem row_step (g : ℕ) (hg : g + 1 < 8192) : e.row (g + 1) = e.row g ∨ e.row (g + 1) = min (e.row g + 1) 1024 := by
  by_cases hb : e.blk (g + 1) = 0
  · exact .inr (h.next g hg hb)
  · exact .inl (h.same g hg hb)

theorem row_mono (N : ℕ) (hN : N < 8192) : ∀ g ≤ N, e.row g ≤ e.row N := by
  induction N with
  | zero => intro g hg; obtain rfl : g = 0 := by omega
            exact le_refl _
  | succ N ih =>
    intro g hg
    rcases Nat.lt_or_ge N g with hlt | hle
    · obtain rfl : g = N + 1 := by omega
      exact le_refl _
    · have a := ih (by omega) g hle
      have r := h.row_le N (by omega)
      rcases row_step h N hN with hr | hr <;> omega

theorem row_hit (N : ℕ) (hN : N < 8192) : ∀ b ≤ e.row N, ∃ g ≤ N, e.row g = b := by
  induction N with
  | zero => intro b hb; have := h.row0; exact ⟨0, le_refl _, by omega⟩
  | succ N ih =>
    intro b hb
    by_cases hN' : b ≤ e.row N
    · obtain ⟨g, hg, hr⟩ := ih (by omega) b hN'
      exact ⟨g, by omega, hr⟩
    · exact ⟨N + 1, le_refl _, by rcases row_step h N hN with hr | hr <;> omega⟩

theorem carry_total (q l N : ℕ) (hN : N < 8192) (hr : e.row N < 1024) : ∑ s : Fin 8, carry e q (N + 1) s.val l = total e q (e.row N) (N + 1) l := by
  induction N with
  | zero =>
    unfold total
    simp only [carry, h.first0, if_true, zero_add, Finset.sum_range_one]
    exact (part16 fun κ => e.part q 0 κ l).symm
  | succ N ih =>
    unfold total
    rw [Finset.sum_range_succ, if_pos rfl, part16]
    by_cases hb : e.blk (N + 1) = 0
    · have hx := h.next N hN hb
      have z : ∑ g ∈ Finset.range (N + 1), (if e.row g = e.row (N + 1) then ∑ κ ∈ Finset.range 16, e.part q g κ l else 0) = 0 :=
        Finset.sum_eq_zero fun g hg => if_neg (by
          have := row_mono h N (by omega) g (by have := Finset.mem_range.1 hg; omega)
          omega)
      rw [z, zero_add]
      refine Finset.sum_congr rfl fun s _ => ?_
      show (if e.blk (N + 1) = 0 then (0 : EReal) else carry e q (N + 1) s.val l) + _ = _
      rw [if_pos hb, zero_add]
    · have hx := h.same N hN hb
      have i := ih (by omega) (by omega)
      rw [hx]
      refine Eq.trans ?_ (congrArg (· + ∑ s : Fin 8, (e.part q (N + 1) s.val l + e.part q (N + 1) (8 + s.val) l)) i)
      refine Eq.trans ?_ Finset.sum_add_distrib
      refine Finset.sum_congr rfl fun s _ => ?_
      show (if e.blk (N + 1) = 0 then (0 : EReal) else carry e q (N + 1) s.val l) + _ = _
      rw [if_neg hb]

/-- A row's accumulators after its last group hold all that its groups add. -/
theorem accs_total {R : Fin 3 → Fin 8200 → Fin 128 → EReal} (ha : Accs e R (64 * nt)) (q : Fin 3) (b : Fin 1024) (l : Fin 128) :
    ∑ s : Fin 8, R q ⟨8 * b.val + s.val, by omega⟩ l = total e q.val b.val (64 * nt) l.val := by
  have hp := h.nt_pos
  have hl := h.nt_le
  have hb : b.val ≤ e.row (64 * nt - 1) := by have := h.all; omega
  obtain ⟨g0, hg0, hr0⟩ := row_hit h (64 * nt - 1) (by omega) b.val hb
  have hg := Nat.findGreatest_spec (P := fun g => e.row g = b.val) hg0 hr0
  have hgl := Nat.findGreatest_le (P := fun g => e.row g = b.val) (64 * nt - 1)
  have hgm : ∀ g', Nat.findGreatest (fun g => e.row g = b.val) (64 * nt - 1) < g' → g' ≤ 64 * nt - 1 → ¬ e.row g' = b.val := fun g' h1 h2 => Nat.findGreatest_is_greatest (P := fun g => e.row g = b.val) h1 h2
  generalize Nat.findGreatest (fun g => e.row g = b.val) (64 * nt - 1) = g at hg hgl hgm
  have hg : e.row g = b.val := hg
  refine Eq.trans (Finset.sum_congr rfl fun s _ => ha g (by omega) (by omega) (fun g' h1 h2 => by rw [hg]; exact hgm g' h1 (by omega)) q s l _ (by rw [hg])) ?_
  refine (carry_total h q.val l.val g (by omega) (by omega)).trans ?_
  rw [hg]
  unfold total
  refine Finset.sum_subset (Finset.range_subset_range.2 (by omega)) fun g' h1 h2 => if_neg ?_
  have h1 := Finset.mem_range.1 h1
  have h2 : ¬ g' < g + 1 := fun hh => h2 (Finset.mem_range.2 hh)
  exact hgm g' (by omega) (by omega)
end

end Cert.Proof.KernelIdeal

end
-- ==== Proof.StepVal.lean ====
module

public import proofs.«01_k».proof.Proof.Last
public import proofs.«01_k».proof.Proof.Tiles
public import proofs.«01_k».proof.Proof.Comb
public import proofs.«01_k».proof.Proof.Step

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Spec

set_option maxRecDepth 16384
set_option maxHeartbeats 2000000

/-- The tables of the first step. -/
structure Tabs (e : Env) (r15 r16 r18 r19 : Fin 1032 → Fin 128 → EReal) (r21 : Fin 272 → Fin 128 → BitVec 32) : Prop where
  h15 : ∀ (r : Fin 1032) (l : Fin 128), r.val < 1024 → r15 r l = e.T r.val l.val
  h16 : ∀ (r : Fin 1032) (l : Fin 128), r.val < 1024 → r16 r l = e.T r.val (128 + l.val)
  h18 : ∀ (r : Fin 1032) (l : Fin 128), r.val < 1024 → r18 r l = e.C r.val l.val
  h19 : ∀ (r : Fin 1032) (l : Fin 128), r.val < 1024 → r19 r l = e.C r.val (128 + l.val)
  h21 : ∀ (v : Fin 17) (κ : Fin 16) (l : Fin 128) (u : Fin 8), IntOp.cmpi .eq (r21 ⟨16 * v.val + κ.val, by omega⟩ l) (BitVec.ofNat 32 (16 * u.val)) = BitVec.ofBool (decide (κ.val < v.val ∧ l.val = 16 * u.val + κ.val))

/-- Between steps: what the carried rows hold, and what the rows hold. -/
def SInv (e : Env) (r23 : Fin 3 → Fin 8 → Fin 128 → EReal) (R : Fin 3 → Fin 8200 → Fin 128 → EReal) (N : ℕ) : Prop :=
  (N < 8192 → e.row N < 1024 → e.blk N ≠ 0 → ∀ (q : Fin 3) (sub : Fin 8) (l : Fin 128), r23 q sub l = carry e q.val N sub.val l.val) ∧ Accs e R N

variable {𝒱 : Variants} {c : Dev nD} {bd : Option 𝒱.V} {b : grid0.Bounds} {i : grid0.Static} {arg0 : BitVec 32} {arg1 : Memref sig .tc .smem S8192 .i32} {harg1 : arg1.IsWhole} {arg2 : Memref sig .tc .vmem S512x128 .i32} {harg2 : arg2.IsWhole} {arg3 : Memref sig .tc .vmem S16x128 .i32} {harg3 : arg3.IsWhole} {arg4 : Memref sig .tc .vmem S512x128 .i32} {harg4 : arg4.IsWhole} {arg5 : Memref sig .tc .vmem S16x128 .i32} {harg5 : arg5.IsWhole} {arg6 : Memref sig .tc .vmem S256x256 .bf16} {harg6 : arg6.IsWhole} {arg7 : Memref sig .tc .vmem S768x256 .bf16} {harg7 : arg7.IsWhole} {arg8 : Memref sig .tc .vmem S256x128 .bf16} {harg8 : arg8.IsWhole} {arg9 : Memref sig .tc .vmem S256x256 .bf16} {harg9 : arg9.IsWhole} {arg10 : Memref sig .tc .vmem S1x256 .f32} {harg10 : arg10.IsWhole} {arg11 : Memref sig .tc .vmem S1x256 .f32} {harg11 : arg11.IsWhole} {arg12 : Memref sig .tc .vmem S1x128 .f32} {harg12 : arg12.IsWhole} {arg13 : Memref sig .tc .vmem S1024x256 .bf16} {harg13 : arg13.IsWhole} {arg14 : Memref sig .tc .vmem S1024x128 .f32} {harg14 : arg14.IsWhole} {arg15 : Memref sig .tc .vmem S1032x128 .bf16} {harg15 : arg15.IsWhole} {arg16 : Memref sig .tc .vmem S1032x128 .bf16} {harg16 : arg16.IsWhole} {arg17 : Memref sig .tc .vmem S2x1024x128 .bf16} {harg17 : arg17.IsWhole} {arg18 : Memref sig .tc .vmem S1032x128 .f32} {harg18 : arg18.IsWhole} {arg19 : Memref sig .tc .vmem S1032x128 .f32} {harg19 : arg19.IsWhole} {arg20 : Memref sig .tc .vmem S6x1024x128 .bf16} {harg20 : arg20.IsWhole} {arg21 : Memref sig .tc .vmem S272x128 .i32} {harg21 : arg21.IsWhole} {arg22 : Memref sig .tc .vmem S3x8200x128 .f32} {harg22 : arg22.IsWhole} {arg23 : Memref sig .tc .vmem S3x8x128 .f32} {harg23 : arg23.IsWhole} {arg24 : Memref sig .tc .vmem S256x256 .f32} {harg24 : arg24.IsWhole} {arg25 : Memref sig .tc .vmem S256x128 .f32} {harg25 : arg25.IsWhole}

theorem pay12_apply (v : Vec Ideal S1x8x128 .f32) (sub : Fin 8) (l : Fin 128) : k0_pay12 (F := Ideal) v (ix2 sub l) = v (ix3 0 sub l) := by pointwise [k0_pay12]
theorem pay15_apply (v : FVec Ideal S8x128 .f32) (sub : Fin 8) (l : Fin 128) : k0_pay15 (F := Ideal) v (ix3 0 sub l) = v (ix2 sub l) := by pointwise [k0_pay15]

theorem pay13_apply (v : Vec Ideal S1x8x128 .f32) (sub : Fin 8) (l : Fin 128) : k0_pay13 (F := Ideal) v (ix2 sub l) = v (ix3 0 sub l) := by pointwise [k0_pay13]
theorem pay16_apply (v : FVec Ideal S8x128 .f32) (sub : Fin 8) (l : Fin 128) : k0_pay16 (F := Ideal) v (ix3 0 sub l) = v (ix2 sub l) := by pointwise [k0_pay16]

theorem pay14_apply (v : Vec Ideal S1x8x128 .f32) (sub : Fin 8) (l : Fin 128) : k0_pay14 (F := Ideal) v (ix2 sub l) = v (ix3 0 sub l) := by pointwise [k0_pay14]
theorem pay17_apply (v : FVec Ideal S8x128 .f32) (sub : Fin 8) (l : Fin 128) : k0_pay17 (F := Ideal) v (ix3 0 sub l) = v (ix2 sub l) := by pointwise [k0_pay17]

theorem toG (e : Env) (g23 : BufTy.Contents (Elt Ideal) arg23.view.ty) (R : Fin 3 → Fin 8200 → Fin 128 → EReal) (N : ℕ) (i0 i1 i2) (h : SInv e (fun q ρ l => arg23.view.read (Elt Ideal) g23 (ix3 q ρ l)) R N) :
    GInv e (k0_pay12 (F := Ideal) (arg23.view.readAt (Elt Ideal) (Rect.unit (s := S3x8x128) ![0, 0, 0] S1x8x128.size i0).toLoadRect g23), k0_pay13 (F := Ideal) (arg23.view.readAt (Elt Ideal) (Rect.unit (s := S3x8x128) ![1, 0, 0] S1x8x128.size i1).toLoadRect g23), k0_pay14 (F := Ideal) (arg23.view.readAt (Elt Ideal) (Rect.unit (s := S3x8x128) ![2, 0, 0] S1x8x128.size i2).toLoadRect g23)) R N := by
  refine ⟨fun hN hr hb => fun sub l => ⟨?_, ?_, ?_⟩, h.2⟩
  · exact (pay12_apply _ sub l).trans ((rd_unit (S := S3x8x128) arg23.view g23 i0 rfl (ix3 (0 : Fin 1) sub l) (ix3 0 sub l) (at3 rfl (Nat.zero_add _).symm)).trans (h.1 hN hr hb 0 sub l))
  · exact (pay13_apply _ sub l).trans ((rd_unit (S := S3x8x128) arg23.view g23 i1 rfl (ix3 (0 : Fin 1) sub l) (ix3 1 sub l) (at3 rfl (Nat.zero_add _).symm)).trans (h.1 hN hr hb 1 sub l))
  · exact (pay14_apply _ sub l).trans ((rd_unit (S := S3x8x128) arg23.view g23 i2 rfl (ix3 (0 : Fin 1) sub l) (ix3 2 sub l) (at3 rfl (Nat.zero_add _).symm)).trans (h.1 hN hr hb 2 sub l))

theorem G0 {e : Env} {nt : ℕ} (hI : e.InOrder nt) (a : FVec Ideal S8x128 .f32 × FVec Ideal S8x128 .f32 × FVec Ideal S8x128 .f32) (R : Fin 3 → Fin 8200 → Fin 128 → EReal) : GInv e a R (64 * 0) :=
  ⟨fun _ _ hb => absurd hI.first0 hb, fun g hg => absurd hg (Nat.not_lt_zero _)⟩

theorem out23 (f : BufTy.Contents (Elt Ideal) arg23.view.ty) (a : FVec Ideal S8x128 .f32 × FVec Ideal S8x128 .f32 × FVec Ideal S8x128 .f32) (i0 i1 i2) (L : List (View.Piece (Elt Ideal) S3x8x128 .f32)) (q : Fin 3) (sub : Fin 8) (l : Fin 128) :
    arg23.view.read (Elt Ideal) (arg23.view.writes (Elt Ideal) f (⟨Rect.unit (s := S3x8x128) ![2, 0, 0] S1x8x128.size i2, k0_pay17 (F := Ideal) a.2.2⟩ :: ⟨Rect.unit (s := S3x8x128) ![1, 0, 0] S1x8x128.size i1, k0_pay16 (F := Ideal) a.2.1⟩ :: ⟨Rect.unit (s := S3x8x128) ![0, 0, 0] S1x8x128.size i0, k0_pay15 (F := Ideal) a.1⟩ :: L)) (ix3 q sub l) = comp3 a q.val (ix2 sub l) := by
  match q with
  | 0 =>
    refine (View.read_writes_cons_unit_of_not_mem _ _ _ _ _ _ rfl 0 (by show 0 < 2 ∨ 2 + 1 ≤ 0; omega)).trans ?_
    refine (View.read_writes_cons_unit_of_not_mem _ _ _ _ _ _ rfl 0 (by show 0 < 1 ∨ 1 + 1 ≤ 0; omega)).trans ?_
    refine (View.read_writes_cons_unit_of_mem _ _ _ _ _ _ (ix3 (0 : Fin 1) sub l) rfl ?_).trans ?_
    · exact fun x => (show ∀ x : Fin 3, (ix3 (0 : Fin 3) sub l x).val = (![0, 0, 0] : Fin 3 → ℕ) x + (ix3 (0 : Fin 1) sub l x).val from at3 rfl (Nat.zero_add _).symm) x
    · exact pay15_apply _ sub l
  | 1 =>
    refine (View.read_writes_cons_unit_of_not_mem _ _ _ _ _ _ rfl 0 (by show 1 < 2 ∨ 2 + 1 ≤ 1; omega)).trans ?_
    refine (View.read_writes_cons_unit_of_mem _ _ _ _ _ _ (ix3 (0 : Fin 1) sub l) rfl ?_).trans ?_
    · exact fun x => (show ∀ x : Fin 3, (ix3 (1 : Fin 3) sub l x).val = (![1, 0, 0] : Fin 3 → ℕ) x + (ix3 (0 : Fin 1) sub l x).val from at3 rfl (Nat.zero_add _).symm) x
    · exact pay16_apply _ sub l
  | 2 =>
    refine (View.read_writes_cons_unit_of_mem _ _ _ _ _ _ (ix3 (0 : Fin 1) sub l) rfl ?_).trans ?_
    · exact fun x => (show ∀ x : Fin 3, (ix3 (2 : Fin 3) sub l x).val = (![2, 0, 0] : Fin 3 → ℕ) x + (ix3 (0 : Fin 1) sub l x).val from at3 rfl (Nat.zero_add _).symm) x
    · exact pay17_apply _ sub l

theorem toS {e : Env} (f : BufTy.Contents (Elt Ideal) arg23.view.ty) (a : FVec Ideal S8x128 .f32 × FVec Ideal S8x128 .f32 × FVec Ideal S8x128 .f32) (R : Fin 3 → Fin 8200 → Fin 128 → EReal) (N : ℕ) (i0 i1 i2) (L : List (View.Piece (Elt Ideal) S3x8x128 .f32)) (h : GInv e a R N) :
    SInv e (fun q ρ l => arg23.view.read (Elt Ideal) (arg23.view.writes (Elt Ideal) f (⟨Rect.unit (s := S3x8x128) ![2, 0, 0] S1x8x128.size i2, k0_pay17 (F := Ideal) a.2.2⟩ :: ⟨Rect.unit (s := S3x8x128) ![1, 0, 0] S1x8x128.size i1, k0_pay16 (F := Ideal) a.2.1⟩ :: ⟨Rect.unit (s := S3x8x128) ![0, 0, 0] S1x8x128.size i0, k0_pay15 (F := Ideal) a.1⟩ :: L)) (ix3 q ρ l)) R N :=
  ⟨fun hN hr hb q sub l => (out23 f a i0 i1 i2 L q sub l).trans (comp3_carry (h.1 hN hr hb) q sub l), h.2⟩

/-- What a step leaves. -/
def StepPost (e : Env) (t : ℕ) (last : Prop) (r13 : S1024x256.Idx → EReal) (r14 : S1024x128.Idx → EReal) (r15 r16 r18 r19 : Fin 1032 → Fin 128 → EReal) (r21 : Fin 272 → Fin 128 → BitVec 32)
    (R : Fin 3 → Fin 8200 → Fin 128 → EReal) (r23 : Fin 3 → Fin 8 → Fin 128 → EReal) : Prop :=
  Tabs e r15 r16 r18 r19 r21 ∧ SInv e r23 R (64 * (t + 1)) ∧ (last →
    (∀ (r : Fin 1024) (col : Fin 256), r13 (ix2 r col) = lsum R ⟨col.val / 128, by omega⟩ r ⟨col.val % 128, Nat.mod_lt _ (by decide)⟩) ∧ ∀ (r : Fin 1024) (l : Fin 128), r14 (ix2 r l) = lsum R 2 r l)

theorem tabs0 (e : Env) (X4 : BufTy.Contents (Elt Ideal) arg4.view.ty) (X5 : BufTy.Contents (Elt Ideal) arg5.view.ty) (X6 : BufTy.Contents (Elt Ideal) arg6.view.ty) (X10 : BufTy.Contents (Elt Ideal) arg10.view.ty) (g15 : BufTy.Contents (Elt Ideal) arg15.view.ty) (g16 : BufTy.Contents (Elt Ideal) arg16.view.ty) (g17 : BufTy.Contents (Elt Ideal) arg17.view.ty) (g18 : BufTy.Contents (Elt Ideal) arg18.view.ty) (g19 : BufTy.Contents (Elt Ideal) arg19.view.ty) (g21 : BufTy.Contents (Elt Ideal) arg21.view.ty)
    (h4 : ∀ (r : Fin 512) (l : Fin 128), arg4.view.read (Elt Ideal) X4 (ix2 r l) = e.tcode r.val l.val)
    (h5 : ∀ (r : Fin 16) (l : Fin 128), arg5.view.read (Elt Ideal) X5 (ix2 r l) = e.tsc r.val l.val)
    (h6 : ∀ f c : Fin 256, arg6.view.read (Elt Ideal) X6 (ix2 f c) = e.w1t f.val c.val) (h10 : ∀ c : Fin 256, arg10.view.read (Elt Ideal) X10 (ix2 0 c) = e.b1 c.val)

    (i15 i16 i18 i19) (n1 n2 n3 : ℕ) (e1 : n1 = 17) (e2 : n2 = 16) (e3 : n3 = 4) :
    Tabs e (fun r l => arg15.view.read (Elt Ideal) (arg15.view.writes (Elt Ideal) g15 (⟨Rect.unit (s := S1032x128) ![1024, 0] S8x128.size i15, k0_pay5 (F := Ideal)⟩ :: (pb_k0_t2 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X4 X5 n2).1)) (ix2 r l))
      (fun r l => arg16.view.read (Elt Ideal) (arg16.view.writes (Elt Ideal) g16 (⟨Rect.unit (s := S1032x128) ![1024, 0] S8x128.size i16, k0_pay6 (F := Ideal)⟩ :: (pb_k0_t2 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X4 X5 n2).2.1)) (ix2 r l))
      (fun r l => arg18.view.read (Elt Ideal) (arg18.view.writes (Elt Ideal) g18 ((pb_k0_t3 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X6 X10 (arg17.view.writes (Elt Ideal) g17 (pb_k0_t2 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X4 X5 n2).2.2) n3).1 ++ [⟨Rect.unit (s := S1032x128) ![1024, 0] S8x128.size i18, k0_pay7 (F := Ideal)⟩])) (ix2 r l))
      (fun r l => arg19.view.read (Elt Ideal) (arg19.view.writes (Elt Ideal) g19 ((pb_k0_t3 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X6 X10 (arg17.view.writes (Elt Ideal) g17 (pb_k0_t2 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X4 X5 n2).2.2) n3).2 ++ [⟨Rect.unit (s := S1032x128) ![1024, 0] S8x128.size i19, k0_pay8 (F := Ideal)⟩])) (ix2 r l))
      (fun r l => arg21.view.read (Elt Ideal) (arg21.view.writes (Elt Ideal) g21 (pb_k0_t1 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 n1)) (ix2 r l)) := by
  subst e1 e2 e3
  have h17 : ∀ (q : Fin 2) (ρ : Fin 1024) (l : Fin 128), arg17.view.read (Elt Ideal) (arg17.view.writes (Elt Ideal) g17 (pb_k0_t2 (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X4 X5 16).2.2) (ix3 q ρ l) = e.T ρ.val (128 * q.val + l.val) :=
    fun q ρ l => t2_read17 e h4 h5 g17 16 (le_refl _) q ρ (by have := ρ.isLt; omega) l
  refine ⟨fun r l hr => ?_, fun r l hr => ?_, fun r l hr => ?_, fun r l hr => ?_, fun v κ l u => ?_⟩
  · refine (View.read_writes_cons_unit_of_not_mem _ _ _ _ _ _ rfl 0 (.inl hr)).trans ?_
    exact t2_read15 e h4 h5 g15 16 (le_refl _) r (by omega) l
  · refine (View.read_writes_cons_unit_of_not_mem _ _ _ _ _ _ rfl 0 (.inl hr)).trans ?_
    exact t2_read16 e h4 h5 g16 16 (le_refl _) r (by omega) l
  · show arg18.view.read (Elt Ideal) _ (ix2 r l) = _
    rw [View.writes_append]
    exact t3_read18 e h6 h10 h17 _ 4 (le_refl _) r (by omega) l
  · show arg19.view.read (Elt Ideal) _ (ix2 r l) = _
    rw [View.writes_append]
    exact t3_read19 e h6 h10 h17 _ 4 (le_refl _) r (by omega) l
  · show IntOp.cmpi .eq (arg21.view.read (Elt Ideal) _ (ix2 _ l)) _ = _
    rw [t1_read g21 17 (le_refl _) v.val κ.val v.isLt κ.isLt l ⟨16 * v.val + κ.val, by omega⟩ rfl]
    exact ohw_eq v κ l u

theorem bodyNN_post (k0_hw1 : k0_chk1 arg0) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (g13 : BufTy.Contents (Elt Ideal) arg13.view.ty) (g14 : BufTy.Contents (Elt Ideal) arg14.view.ty) (g15 : BufTy.Contents (Elt Ideal) arg15.view.ty) (g16 : BufTy.Contents (Elt Ideal) arg16.view.ty) (g17 : BufTy.Contents (Elt Ideal) arg17.view.ty) (g18 : BufTy.Contents (Elt Ideal) arg18.view.ty) (g19 : BufTy.Contents (Elt Ideal) arg19.view.ty) (g20 : BufTy.Contents (Elt Ideal) arg20.view.ty) (g21 : BufTy.Contents (Elt Ideal) arg21.view.ty) (g22 : BufTy.Contents (Elt Ideal) arg22.view.ty) (g23 : BufTy.Contents (Elt Ideal) arg23.view.ty) (g24 : BufTy.Contents (Elt Ideal) arg24.view.ty) (g25 : BufTy.Contents (Elt Ideal) arg25.view.ty) (hw : ∀ (r : LoadRect S8192) (x), k0_chk2 (View.readAt (Elt Ideal) arg1.view r X1 x)) (hw3 : ∀ (r : LoadRect S8192) (x), k0_chk3 (View.readAt (Elt Ideal) arg1.view r X1 x)) (c1 : ¬ (Scalar.cmpi .ne (Scalar.extui (Scalar.cmpi .eq arg0 0#32)) 0#32 = 1#1)) (c2 : ¬ (k0_cond2 arg0 (BitVec.ofNat 32 (b 0)) = 1#1))
    (e : Env) (t : ℕ) (nt : ℕ) (hI : e.InOrder nt) (ht : t < 128) (ha0 : arg0 = BitVec.ofNat 32 t)
    (hb : ∀ g < 8192, (IntOp.andi (IntOp.shrsi .scalar (e.tab g) 5#32) 7#32).toNat = e.blk g)
    (h1 : ∀ n : Fin 8192, arg1.view.read (Elt Ideal) X1 (ix1 n) = e.tab n.val)
    (h2 : ∀ (r : Fin 512) (l : Fin 128), arg2.view.read (Elt Ideal) X2 (ix2 r l) = e.hcode (512 * t + r.val) l.val)
    (h3 : ∀ (r : Fin 16) (l : Fin 128), arg3.view.read (Elt Ideal) X3 (ix2 r l) = e.hsc (16 * t + r.val) l.val)
    (h7 : ∀ (f : Fin 768) (c : Fin 256), arg7.view.read (Elt Ideal) X7 (ix2 f c) = e.w1 f.val c.val)
    (h8 : ∀ (f : Fin 256) (c : Fin 128), arg8.view.read (Elt Ideal) X8 (ix2 f c) = e.w2 f.val c.val)
    (h9 : ∀ f c : Fin 256, arg9.view.read (Elt Ideal) X9 (ix2 f c) = if f.val / 128 = c.val / 128 then e.w3 (f.val % 128) else 0)
    (h11 : ∀ f : Fin 256, arg11.view.read (Elt Ideal) X11 (ix2 0 f) = e.a1 f.val)
    (h12 : ∀ f : Fin 128, arg12.view.read (Elt Ideal) X12 (ix2 0 f) = e.a2 f.val)
    (hT : Tabs e (fun r l => arg15.view.read (Elt Ideal) g15 (ix2 r l)) (fun r l => arg16.view.read (Elt Ideal) g16 (ix2 r l)) (fun r l => arg18.view.read (Elt Ideal) g18 (ix2 r l)) (fun r l => arg19.view.read (Elt Ideal) g19 (ix2 r l)) (fun r l => arg21.view.read (Elt Ideal) g21 (ix2 r l))) (hS : SInv e (fun q ρ l => arg23.view.read (Elt Ideal) g23 (ix3 q ρ l)) (fun q ρ l => arg22.view.read (Elt Ideal) g22 (ix3 q ρ l)) (64 * t)) :
    StepPost e t (k0_cond2 arg0 (BitVec.ofNat 32 (b 0)) = 1#1) (arg13.view.read (Elt Ideal) ((bodyNN (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).1)) (arg14.view.read (Elt Ideal) ((bodyNN (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.1)) (fun r l => arg15.view.read (Elt Ideal) ((bodyNN (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.1) (ix2 r l)) (fun r l => arg16.view.read (Elt Ideal) ((bodyNN (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.2.1) (ix2 r l)) (fun r l => arg18.view.read (Elt Ideal) ((bodyNN (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.2.2.2.1) (ix2 r l)) (fun r l => arg19.view.read (Elt Ideal) ((bodyNN (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.2.2.2.2.1) (ix2 r l)) (fun r l => arg21.view.read (Elt Ideal) ((bodyNN (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.2.2.2.2.2.2.1) (ix2 r l)) (fun q ρ l => arg22.view.read (Elt Ideal) ((bodyNN (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.2.2.2.2.2.2.2.1) (ix3 q ρ l)) (fun q ρ l => arg23.view.read (Elt Ideal) ((bodyNN (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.2.2.2.2.2.2.2.2.1) (ix3 q ρ l)) := by
  unfold bodyNN
  refine ⟨hT, toS _ _ _ _ _ _ _ _ (st4_all 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 _ _ _ _ _ hw hw3 _ _ _ _ _ e _ ht ha0 h1 h2 h3 h7 h8 h9 h11 h12 hT.h15 hT.h16 hT.h18 hT.h19 hT.h21 hI.nv_le hI.shr hb hI.row_le hI.same (toG e g23 _ _ _ _ _ hS)), ?_⟩
  exact fun hl => absurd hl c2

theorem bodyNL_post (k0_hw1 : k0_chk1 arg0) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (g13 : BufTy.Contents (Elt Ideal) arg13.view.ty) (g14 : BufTy.Contents (Elt Ideal) arg14.view.ty) (g15 : BufTy.Contents (Elt Ideal) arg15.view.ty) (g16 : BufTy.Contents (Elt Ideal) arg16.view.ty) (g17 : BufTy.Contents (Elt Ideal) arg17.view.ty) (g18 : BufTy.Contents (Elt Ideal) arg18.view.ty) (g19 : BufTy.Contents (Elt Ideal) arg19.view.ty) (g20 : BufTy.Contents (Elt Ideal) arg20.view.ty) (g21 : BufTy.Contents (Elt Ideal) arg21.view.ty) (g22 : BufTy.Contents (Elt Ideal) arg22.view.ty) (g23 : BufTy.Contents (Elt Ideal) arg23.view.ty) (g24 : BufTy.Contents (Elt Ideal) arg24.view.ty) (g25 : BufTy.Contents (Elt Ideal) arg25.view.ty) (hw : ∀ (r : LoadRect S8192) (x), k0_chk2 (View.readAt (Elt Ideal) arg1.view r X1 x)) (hw3 : ∀ (r : LoadRect S8192) (x), k0_chk3 (View.readAt (Elt Ideal) arg1.view r X1 x)) (c1 : ¬ (Scalar.cmpi .ne (Scalar.extui (Scalar.cmpi .eq arg0 0#32)) 0#32 = 1#1)) (c2 : (k0_cond2 arg0 (BitVec.ofNat 32 (b 0)) = 1#1))
    (e : Env) (t : ℕ) (nt : ℕ) (hI : e.InOrder nt) (ht : t < 128) (ha0 : arg0 = BitVec.ofNat 32 t)
    (hb : ∀ g < 8192, (IntOp.andi (IntOp.shrsi .scalar (e.tab g) 5#32) 7#32).toNat = e.blk g)
    (h1 : ∀ n : Fin 8192, arg1.view.read (Elt Ideal) X1 (ix1 n) = e.tab n.val)
    (h2 : ∀ (r : Fin 512) (l : Fin 128), arg2.view.read (Elt Ideal) X2 (ix2 r l) = e.hcode (512 * t + r.val) l.val)
    (h3 : ∀ (r : Fin 16) (l : Fin 128), arg3.view.read (Elt Ideal) X3 (ix2 r l) = e.hsc (16 * t + r.val) l.val)
    (h7 : ∀ (f : Fin 768) (c : Fin 256), arg7.view.read (Elt Ideal) X7 (ix2 f c) = e.w1 f.val c.val)
    (h8 : ∀ (f : Fin 256) (c : Fin 128), arg8.view.read (Elt Ideal) X8 (ix2 f c) = e.w2 f.val c.val)
    (h9 : ∀ f c : Fin 256, arg9.view.read (Elt Ideal) X9 (ix2 f c) = if f.val / 128 = c.val / 128 then e.w3 (f.val % 128) else 0)
    (h11 : ∀ f : Fin 256, arg11.view.read (Elt Ideal) X11 (ix2 0 f) = e.a1 f.val)
    (h12 : ∀ f : Fin 128, arg12.view.read (Elt Ideal) X12 (ix2 0 f) = e.a2 f.val)
    (hT : Tabs e (fun r l => arg15.view.read (Elt Ideal) g15 (ix2 r l)) (fun r l => arg16.view.read (Elt Ideal) g16 (ix2 r l)) (fun r l => arg18.view.read (Elt Ideal) g18 (ix2 r l)) (fun r l => arg19.view.read (Elt Ideal) g19 (ix2 r l)) (fun r l => arg21.view.read (Elt Ideal) g21 (ix2 r l))) (hS : SInv e (fun q ρ l => arg23.view.read (Elt Ideal) g23 (ix3 q ρ l)) (fun q ρ l => arg22.view.read (Elt Ideal) g22 (ix3 q ρ l)) (64 * t)) :
    StepPost e t (k0_cond2 arg0 (BitVec.ofNat 32 (b 0)) = 1#1) (arg13.view.read (Elt Ideal) ((bodyNL (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).1)) (arg14.view.read (Elt Ideal) ((bodyNL (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.1)) (fun r l => arg15.view.read (Elt Ideal) ((bodyNL (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.1) (ix2 r l)) (fun r l => arg16.view.read (Elt Ideal) ((bodyNL (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.2.1) (ix2 r l)) (fun r l => arg18.view.read (Elt Ideal) ((bodyNL (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.2.2.2.1) (ix2 r l)) (fun r l => arg19.view.read (Elt Ideal) ((bodyNL (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.2.2.2.2.1) (ix2 r l)) (fun r l => arg21.view.read (Elt Ideal) ((bodyNL (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.2.2.2.2.2.2.1) (ix2 r l)) (fun q ρ l => arg22.view.read (Elt Ideal) ((bodyNL (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.2.2.2.2.2.2.2.1) (ix3 q ρ l)) (fun q ρ l => arg23.view.read (Elt Ideal) ((bodyNL (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.2.2.2.2.2.2.2.2.1) (ix3 q ρ l)) := by
  unfold bodyNL
  refine ⟨hT, toS _ _ _ _ _ _ _ _ (st4_all 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 _ _ _ _ _ hw hw3 _ _ _ _ _ e _ ht ha0 h1 h2 h3 h7 h8 h9 h11 h12 hT.h15 hT.h16 hT.h18 hT.h19 hT.h21 hI.nv_le hI.shr hb hI.row_le hI.same (toG e g23 _ _ _ _ _ hS)), ?_⟩
  exact fun _ => ⟨fun r col => t7_read13 _ _ _ (le_of_eq trips7) r (by have := r.isLt; have := trips7; show r.val < 16 * k0_t7_loop.trips; omega) col, fun r l => t7_read14 _ _ _ (le_of_eq trips7) r (by have := r.isLt; have := trips7; show r.val < 16 * k0_t7_loop.trips; omega) l⟩

theorem bodyFN_post (k0_hw1 : k0_chk1 arg0) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (g13 : BufTy.Contents (Elt Ideal) arg13.view.ty) (g14 : BufTy.Contents (Elt Ideal) arg14.view.ty) (g15 : BufTy.Contents (Elt Ideal) arg15.view.ty) (g16 : BufTy.Contents (Elt Ideal) arg16.view.ty) (g17 : BufTy.Contents (Elt Ideal) arg17.view.ty) (g18 : BufTy.Contents (Elt Ideal) arg18.view.ty) (g19 : BufTy.Contents (Elt Ideal) arg19.view.ty) (g20 : BufTy.Contents (Elt Ideal) arg20.view.ty) (g21 : BufTy.Contents (Elt Ideal) arg21.view.ty) (g22 : BufTy.Contents (Elt Ideal) arg22.view.ty) (g23 : BufTy.Contents (Elt Ideal) arg23.view.ty) (g24 : BufTy.Contents (Elt Ideal) arg24.view.ty) (g25 : BufTy.Contents (Elt Ideal) arg25.view.ty) (hw : ∀ (r : LoadRect S8192) (x), k0_chk2 (View.readAt (Elt Ideal) arg1.view r X1 x)) (hw3 : ∀ (r : LoadRect S8192) (x), k0_chk3 (View.readAt (Elt Ideal) arg1.view r X1 x)) (c1 : (Scalar.cmpi .ne (Scalar.extui (Scalar.cmpi .eq arg0 0#32)) 0#32 = 1#1)) (c2 : ¬ (k0_cond2 arg0 (BitVec.ofNat 32 (b 0)) = 1#1))
    (e : Env) (t : ℕ) (nt : ℕ) (hI : e.InOrder nt) (ht : t < 128) (ha0 : arg0 = BitVec.ofNat 32 t)
    (hb : ∀ g < 8192, (IntOp.andi (IntOp.shrsi .scalar (e.tab g) 5#32) 7#32).toNat = e.blk g)
    (h1 : ∀ n : Fin 8192, arg1.view.read (Elt Ideal) X1 (ix1 n) = e.tab n.val)
    (h2 : ∀ (r : Fin 512) (l : Fin 128), arg2.view.read (Elt Ideal) X2 (ix2 r l) = e.hcode (512 * t + r.val) l.val)
    (h3 : ∀ (r : Fin 16) (l : Fin 128), arg3.view.read (Elt Ideal) X3 (ix2 r l) = e.hsc (16 * t + r.val) l.val)
    (h7 : ∀ (f : Fin 768) (c : Fin 256), arg7.view.read (Elt Ideal) X7 (ix2 f c) = e.w1 f.val c.val)
    (h8 : ∀ (f : Fin 256) (c : Fin 128), arg8.view.read (Elt Ideal) X8 (ix2 f c) = e.w2 f.val c.val)
    (h9 : ∀ f c : Fin 256, arg9.view.read (Elt Ideal) X9 (ix2 f c) = if f.val / 128 = c.val / 128 then e.w3 (f.val % 128) else 0)
    (h11 : ∀ f : Fin 256, arg11.view.read (Elt Ideal) X11 (ix2 0 f) = e.a1 f.val)
    (h12 : ∀ f : Fin 128, arg12.view.read (Elt Ideal) X12 (ix2 0 f) = e.a2 f.val)
    (ht0 : t = 0)
    (h4 : ∀ (r : Fin 512) (l : Fin 128), arg4.view.read (Elt Ideal) X4 (ix2 r l) = e.tcode r.val l.val)
    (h5 : ∀ (r : Fin 16) (l : Fin 128), arg5.view.read (Elt Ideal) X5 (ix2 r l) = e.tsc r.val l.val)
    (h6 : ∀ f c : Fin 256, arg6.view.read (Elt Ideal) X6 (ix2 f c) = e.w1t f.val c.val) (h10 : ∀ c : Fin 256, arg10.view.read (Elt Ideal) X10 (ix2 0 c) = e.b1 c.val)
 :
    StepPost e t (k0_cond2 arg0 (BitVec.ofNat 32 (b 0)) = 1#1) (arg13.view.read (Elt Ideal) ((bodyFN (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).1)) (arg14.view.read (Elt Ideal) ((bodyFN (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.1)) (fun r l => arg15.view.read (Elt Ideal) ((bodyFN (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.1) (ix2 r l)) (fun r l => arg16.view.read (Elt Ideal) ((bodyFN (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.2.1) (ix2 r l)) (fun r l => arg18.view.read (Elt Ideal) ((bodyFN (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.2.2.2.1) (ix2 r l)) (fun r l => arg19.view.read (Elt Ideal) ((bodyFN (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.2.2.2.2.1) (ix2 r l)) (fun r l => arg21.view.read (Elt Ideal) ((bodyFN (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.2.2.2.2.2.2.1) (ix2 r l)) (fun q ρ l => arg22.view.read (Elt Ideal) ((bodyFN (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.2.2.2.2.2.2.2.1) (ix3 q ρ l)) (fun q ρ l => arg23.view.read (Elt Ideal) ((bodyFN (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.2.2.2.2.2.2.2.2.1) (ix3 q ρ l)) := by
  subst ht0
  unfold bodyFN
  have hT := tabs0 (𝒱 := 𝒱) (c := c) (bd := bd) (b := b) (i := i) (arg0 := arg0) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (arg18 := arg18) (harg18 := harg18) (arg19 := arg19) (harg19 := harg19) (arg20 := arg20) (harg20 := harg20) (arg21 := arg21) (harg21 := harg21) (arg22 := arg22) (harg22 := harg22) (arg23 := arg23) (harg23 := harg23) (arg24 := arg24) (harg24 := harg24) (arg25 := arg25) (harg25 := harg25) e X4 X5 X6 X10 g15 g16 g17 g18 g19 g21 h4 h5 h6 h10 (by decide) (by decide) (by decide) (by decide) _ _ _ trips1 trips2 trips3
  refine ⟨hT, toS _ _ _ _ _ _ _ _ (st4_all 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 _ _ _ _ _ hw hw3 _ _ _ _ _ e _ ht ha0 h1 h2 h3 h7 h8 h9 h11 h12 hT.h15 hT.h16 hT.h18 hT.h19 hT.h21 hI.nv_le hI.shr hb hI.row_le hI.same (G0 hI _ _)), ?_⟩
  exact fun hl => absurd hl c2

theorem bodyFL_post (k0_hw1 : k0_chk1 arg0) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (g13 : BufTy.Contents (Elt Ideal) arg13.view.ty) (g14 : BufTy.Contents (Elt Ideal) arg14.view.ty) (g15 : BufTy.Contents (Elt Ideal) arg15.view.ty) (g16 : BufTy.Contents (Elt Ideal) arg16.view.ty) (g17 : BufTy.Contents (Elt Ideal) arg17.view.ty) (g18 : BufTy.Contents (Elt Ideal) arg18.view.ty) (g19 : BufTy.Contents (Elt Ideal) arg19.view.ty) (g20 : BufTy.Contents (Elt Ideal) arg20.view.ty) (g21 : BufTy.Contents (Elt Ideal) arg21.view.ty) (g22 : BufTy.Contents (Elt Ideal) arg22.view.ty) (g23 : BufTy.Contents (Elt Ideal) arg23.view.ty) (g24 : BufTy.Contents (Elt Ideal) arg24.view.ty) (g25 : BufTy.Contents (Elt Ideal) arg25.view.ty) (hw : ∀ (r : LoadRect S8192) (x), k0_chk2 (View.readAt (Elt Ideal) arg1.view r X1 x)) (hw3 : ∀ (r : LoadRect S8192) (x), k0_chk3 (View.readAt (Elt Ideal) arg1.view r X1 x)) (c1 : (Scalar.cmpi .ne (Scalar.extui (Scalar.cmpi .eq arg0 0#32)) 0#32 = 1#1)) (c2 : (k0_cond2 arg0 (BitVec.ofNat 32 (b 0)) = 1#1))
    (e : Env) (t : ℕ) (nt : ℕ) (hI : e.InOrder nt) (ht : t < 128) (ha0 : arg0 = BitVec.ofNat 32 t)
    (hb : ∀ g < 8192, (IntOp.andi (IntOp.shrsi .scalar (e.tab g) 5#32) 7#32).toNat = e.blk g)
    (h1 : ∀ n : Fin 8192, arg1.view.read (Elt Ideal) X1 (ix1 n) = e.tab n.val)
    (h2 : ∀ (r : Fin 512) (l : Fin 128), arg2.view.read (Elt Ideal) X2 (ix2 r l) = e.hcode (512 * t + r.val) l.val)
    (h3 : ∀ (r : Fin 16) (l : Fin 128), arg3.view.read (Elt Ideal) X3 (ix2 r l) = e.hsc (16 * t + r.val) l.val)
    (h7 : ∀ (f : Fin 768) (c : Fin 256), arg7.view.read (Elt Ideal) X7 (ix2 f c) = e.w1 f.val c.val)
    (h8 : ∀ (f : Fin 256) (c : Fin 128), arg8.view.read (Elt Ideal) X8 (ix2 f c) = e.w2 f.val c.val)
    (h9 : ∀ f c : Fin 256, arg9.view.read (Elt Ideal) X9 (ix2 f c) = if f.val / 128 = c.val / 128 then e.w3 (f.val % 128) else 0)
    (h11 : ∀ f : Fin 256, arg11.view.read (Elt Ideal) X11 (ix2 0 f) = e.a1 f.val)
    (h12 : ∀ f : Fin 128, arg12.view.read (Elt Ideal) X12 (ix2 0 f) = e.a2 f.val)
    (ht0 : t = 0)
    (h4 : ∀ (r : Fin 512) (l : Fin 128), arg4.view.read (Elt Ideal) X4 (ix2 r l) = e.tcode r.val l.val)
    (h5 : ∀ (r : Fin 16) (l : Fin 128), arg5.view.read (Elt Ideal) X5 (ix2 r l) = e.tsc r.val l.val)
    (h6 : ∀ f c : Fin 256, arg6.view.read (Elt Ideal) X6 (ix2 f c) = e.w1t f.val c.val) (h10 : ∀ c : Fin 256, arg10.view.read (Elt Ideal) X10 (ix2 0 c) = e.b1 c.val)
 :
    StepPost e t (k0_cond2 arg0 (BitVec.ofNat 32 (b 0)) = 1#1) (arg13.view.read (Elt Ideal) ((bodyFL (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).1)) (arg14.view.read (Elt Ideal) ((bodyFL (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.1)) (fun r l => arg15.view.read (Elt Ideal) ((bodyFL (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.1) (ix2 r l)) (fun r l => arg16.view.read (Elt Ideal) ((bodyFL (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.2.1) (ix2 r l)) (fun r l => arg18.view.read (Elt Ideal) ((bodyFL (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.2.2.2.1) (ix2 r l)) (fun r l => arg19.view.read (Elt Ideal) ((bodyFL (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.2.2.2.2.1) (ix2 r l)) (fun r l => arg21.view.read (Elt Ideal) ((bodyFL (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.2.2.2.2.2.2.1) (ix2 r l)) (fun q ρ l => arg22.view.read (Elt Ideal) ((bodyFL (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.2.2.2.2.2.2.2.1) (ix3 q ρ l)) (fun q ρ l => arg23.view.read (Elt Ideal) ((bodyFL (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 c1 c2).2.2.2.2.2.2.2.2.2.2.1) (ix3 q ρ l)) := by
  subst ht0
  unfold bodyFL
  have hT := tabs0 (𝒱 := 𝒱) (c := c) (bd := bd) (b := b) (i := i) (arg0 := arg0) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (arg18 := arg18) (harg18 := harg18) (arg19 := arg19) (harg19 := harg19) (arg20 := arg20) (harg20 := harg20) (arg21 := arg21) (harg21 := harg21) (arg22 := arg22) (harg22 := harg22) (arg23 := arg23) (harg23 := harg23) (arg24 := arg24) (harg24 := harg24) (arg25 := arg25) (harg25 := harg25) e X4 X5 X6 X10 g15 g16 g17 g18 g19 g21 h4 h5 h6 h10 (by decide) (by decide) (by decide) (by decide) _ _ _ trips1 trips2 trips3
  refine ⟨hT, toS _ _ _ _ _ _ _ _ (st4_all 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X7 X8 X9 X11 X12 _ _ _ _ _ hw hw3 _ _ _ _ _ e _ ht ha0 h1 h2 h3 h7 h8 h9 h11 h12 hT.h15 hT.h16 hT.h18 hT.h19 hT.h21 hI.nv_le hI.shr hb hI.row_le hI.same (G0 hI _ _)), ?_⟩
  exact fun _ => ⟨fun r col => t7_read13 _ _ _ (le_of_eq trips7) r (by have := r.isLt; have := trips7; show r.val < 16 * k0_t7_loop.trips; omega) col, fun r l => t7_read14 _ _ _ (le_of_eq trips7) r (by have := r.isLt; have := trips7; show r.val < 16 * k0_t7_loop.trips; omega) l⟩

end Cert.Proof.KernelIdeal

end
-- ==== Proof.Steps.lean ====
module

public import proofs.«01_k».proof.Proof.StepVal

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Spec

set_option maxRecDepth 16384
set_option maxHeartbeats 2000000
variable {𝒱 : Variants} {c : Dev nD} {bd : Option 𝒱.V} {b : grid0.Bounds} {i : grid0.Static} {arg0 : BitVec 32} {arg1 : Memref sig .tc .smem S8192 .i32} {harg1 : arg1.IsWhole} {arg2 : Memref sig .tc .vmem S512x128 .i32} {harg2 : arg2.IsWhole} {arg3 : Memref sig .tc .vmem S16x128 .i32} {harg3 : arg3.IsWhole} {arg4 : Memref sig .tc .vmem S512x128 .i32} {harg4 : arg4.IsWhole} {arg5 : Memref sig .tc .vmem S16x128 .i32} {harg5 : arg5.IsWhole} {arg6 : Memref sig .tc .vmem S256x256 .bf16} {harg6 : arg6.IsWhole} {arg7 : Memref sig .tc .vmem S768x256 .bf16} {harg7 : arg7.IsWhole} {arg8 : Memref sig .tc .vmem S256x128 .bf16} {harg8 : arg8.IsWhole} {arg9 : Memref sig .tc .vmem S256x256 .bf16} {harg9 : arg9.IsWhole} {arg10 : Memref sig .tc .vmem S1x256 .f32} {harg10 : arg10.IsWhole} {arg11 : Memref sig .tc .vmem S1x256 .f32} {harg11 : arg11.IsWhole} {arg12 : Memref sig .tc .vmem S1x128 .f32} {harg12 : arg12.IsWhole} {arg13 : Memref sig .tc .vmem S1024x256 .bf16} {harg13 : arg13.IsWhole} {arg14 : Memref sig .tc .vmem S1024x128 .f32} {harg14 : arg14.IsWhole} {arg15 : Memref sig .tc .vmem S1032x128 .bf16} {harg15 : arg15.IsWhole} {arg16 : Memref sig .tc .vmem S1032x128 .bf16} {harg16 : arg16.IsWhole} {arg17 : Memref sig .tc .vmem S2x1024x128 .bf16} {harg17 : arg17.IsWhole} {arg18 : Memref sig .tc .vmem S1032x128 .f32} {harg18 : arg18.IsWhole} {arg19 : Memref sig .tc .vmem S1032x128 .f32} {harg19 : arg19.IsWhole} {arg20 : Memref sig .tc .vmem S6x1024x128 .bf16} {harg20 : arg20.IsWhole} {arg21 : Memref sig .tc .vmem S272x128 .i32} {harg21 : arg21.IsWhole} {arg22 : Memref sig .tc .vmem S3x8200x128 .f32} {harg22 : arg22.IsWhole} {arg23 : Memref sig .tc .vmem S3x8x128 .f32} {harg23 : arg23.IsWhole} {arg24 : Memref sig .tc .vmem S256x256 .f32} {harg24 : arg24.IsWhole} {arg25 : Memref sig .tc .vmem S256x128 .f32} {harg25 : arg25.IsWhole}

theorem cond1_iff : ∀ t : Fin 128, (Scalar.cmpi .ne (Scalar.extui (Scalar.cmpi .eq (BitVec.ofNat 32 t.val) 0#32)) 0#32 = 1#1) ↔ t.val = 0 := by decide
theorem cond2_of : ∀ t : Fin 128, k0_cond2 (BitVec.ofNat 32 t.val) (BitVec.ofNat 32 (t.val + 1)) = 1#1 := by decide

/-- A step, whichever of its branches it takes. -/
theorem posts (k0_hw1 : k0_chk1 arg0) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (g13 : BufTy.Contents (Elt Ideal) arg13.view.ty) (g14 : BufTy.Contents (Elt Ideal) arg14.view.ty) (g15 : BufTy.Contents (Elt Ideal) arg15.view.ty) (g16 : BufTy.Contents (Elt Ideal) arg16.view.ty) (g17 : BufTy.Contents (Elt Ideal) arg17.view.ty) (g18 : BufTy.Contents (Elt Ideal) arg18.view.ty) (g19 : BufTy.Contents (Elt Ideal) arg19.view.ty) (g20 : BufTy.Contents (Elt Ideal) arg20.view.ty) (g21 : BufTy.Contents (Elt Ideal) arg21.view.ty) (g22 : BufTy.Contents (Elt Ideal) arg22.view.ty) (g23 : BufTy.Contents (Elt Ideal) arg23.view.ty) (g24 : BufTy.Contents (Elt Ideal) arg24.view.ty) (g25 : BufTy.Contents (Elt Ideal) arg25.view.ty) (hw : ∀ (r : LoadRect S8192) (x), k0_chk2 (View.readAt (Elt Ideal) arg1.view r X1 x)) (hw3 : ∀ (r : LoadRect S8192) (x), k0_chk3 (View.readAt (Elt Ideal) arg1.view r X1 x))
    (e : Env) (t : ℕ) (nt : ℕ) (hI : e.InOrder nt) (ht : t < 128) (ha0 : arg0 = BitVec.ofNat 32 t)
    (hb : ∀ g < 8192, (IntOp.andi (IntOp.shrsi .scalar (e.tab g) 5#32) 7#32).toNat = e.blk g)
    (h1 : ∀ n : Fin 8192, arg1.view.read (Elt Ideal) X1 (ix1 n) = e.tab n.val)
    (h2 : ∀ (r : Fin 512) (l : Fin 128), arg2.view.read (Elt Ideal) X2 (ix2 r l) = e.hcode (512 * t + r.val) l.val)
    (h3 : ∀ (r : Fin 16) (l : Fin 128), arg3.view.read (Elt Ideal) X3 (ix2 r l) = e.hsc (16 * t + r.val) l.val)
    (h7 : ∀ (f : Fin 768) (c : Fin 256), arg7.view.read (Elt Ideal) X7 (ix2 f c) = e.w1 f.val c.val)
    (h8 : ∀ (f : Fin 256) (c : Fin 128), arg8.view.read (Elt Ideal) X8 (ix2 f c) = e.w2 f.val c.val)
    (h9 : ∀ f c : Fin 256, arg9.view.read (Elt Ideal) X9 (ix2 f c) = if f.val / 128 = c.val / 128 then e.w3 (f.val % 128) else 0)
    (h11 : ∀ f : Fin 256, arg11.view.read (Elt Ideal) X11 (ix2 0 f) = e.a1 f.val)
    (h12 : ∀ f : Fin 128, arg12.view.read (Elt Ideal) X12 (ix2 0 f) = e.a2 f.val)
    (h4 : ∀ (r : Fin 512) (l : Fin 128), arg4.view.read (Elt Ideal) X4 (ix2 r l) = e.tcode r.val l.val)
    (h5 : ∀ (r : Fin 16) (l : Fin 128), arg5.view.read (Elt Ideal) X5 (ix2 r l) = e.tsc r.val l.val)
    (h6 : ∀ f c : Fin 256, arg6.view.read (Elt Ideal) X6 (ix2 f c) = e.w1t f.val c.val) (h10 : ∀ c : Fin 256, arg10.view.read (Elt Ideal) X10 (ix2 0 c) = e.b1 c.val)
    (hN : t ≠ 0 → Tabs e (fun r l => arg15.view.read (Elt Ideal) g15 (ix2 r l)) (fun r l => arg16.view.read (Elt Ideal) g16 (ix2 r l)) (fun r l => arg18.view.read (Elt Ideal) g18 (ix2 r l)) (fun r l => arg19.view.read (Elt Ideal) g19 (ix2 r l)) (fun r l => arg21.view.read (Elt Ideal) g21 (ix2 r l)) ∧ SInv e (fun q ρ l => arg23.view.read (Elt Ideal) g23 (ix3 q ρ l)) (fun q ρ l => arg22.view.read (Elt Ideal) g22 (ix3 q ρ l)) (64 * t))
    (Post : BufTy.Contents (Elt Ideal) arg13.view.ty → BufTy.Contents (Elt Ideal) arg14.view.ty → BufTy.Contents (Elt Ideal) arg15.view.ty → BufTy.Contents (Elt Ideal) arg16.view.ty → BufTy.Contents (Elt Ideal) arg17.view.ty → BufTy.Contents (Elt Ideal) arg18.view.ty → BufTy.Contents (Elt Ideal) arg19.view.ty → BufTy.Contents (Elt Ideal) arg20.view.ty → BufTy.Contents (Elt Ideal) arg21.view.ty → BufTy.Contents (Elt Ideal) arg22.view.ty → BufTy.Contents (Elt Ideal) arg23.view.ty → BufTy.Contents (Elt Ideal) arg24.view.ty → BufTy.Contents (Elt Ideal) arg25.view.ty → Prop)
    (hPost : ∀ (o13 : BufTy.Contents (Elt Ideal) arg13.view.ty) (o14 : BufTy.Contents (Elt Ideal) arg14.view.ty) (o15 : BufTy.Contents (Elt Ideal) arg15.view.ty) (o16 : BufTy.Contents (Elt Ideal) arg16.view.ty) (o17 : BufTy.Contents (Elt Ideal) arg17.view.ty) (o18 : BufTy.Contents (Elt Ideal) arg18.view.ty) (o19 : BufTy.Contents (Elt Ideal) arg19.view.ty) (o20 : BufTy.Contents (Elt Ideal) arg20.view.ty) (o21 : BufTy.Contents (Elt Ideal) arg21.view.ty) (o22 : BufTy.Contents (Elt Ideal) arg22.view.ty) (o23 : BufTy.Contents (Elt Ideal) arg23.view.ty) (o24 : BufTy.Contents (Elt Ideal) arg24.view.ty) (o25 : BufTy.Contents (Elt Ideal) arg25.view.ty), StepPost e t (k0_cond2 arg0 (BitVec.ofNat 32 (b 0)) = 1#1) (arg13.view.read (Elt Ideal) o13) (arg14.view.read (Elt Ideal) o14) (fun r l => arg15.view.read (Elt Ideal) o15 (ix2 r l)) (fun r l => arg16.view.read (Elt Ideal) o16 (ix2 r l)) (fun r l => arg18.view.read (Elt Ideal) o18 (ix2 r l)) (fun r l => arg19.view.read (Elt Ideal) o19 (ix2 r l)) (fun r l => arg21.view.read (Elt Ideal) o21 (ix2 r l)) (fun q ρ l => arg22.view.read (Elt Ideal) o22 (ix3 q ρ l)) (fun q ρ l => arg23.view.read (Elt Ideal) o23 (ix3 q ρ l)) → Post o13 o14 o15 o16 o17 o18 o19 o20 o21 o22 o23 o24 o25) :
    BodyPosts (F := Ideal) 𝒱 c bd b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_hw1 X1 X2 X3 X4 X5 X6 X7 X8 X9 X10 X11 X12 g13 g14 g15 g16 g17 g18 g19 g20 g21 g22 g23 g24 g25 hw hw3 Post := by
  have hc : (Scalar.cmpi .ne (Scalar.extui (Scalar.cmpi .eq arg0 0#32)) 0#32 = 1#1) ↔ t = 0 := by subst ha0; exact cond1_iff ⟨t, ht⟩
  have hT := fun (c1 : ¬ (Scalar.cmpi .ne (Scalar.extui (Scalar.cmpi .eq arg0 0#32)) 0#32 = 1#1)) => (hN (fun h => c1 (hc.2 h))).1
  have hS := fun (c1 : ¬ (Scalar.cmpi .ne (Scalar.extui (Scalar.cmpi .eq arg0 0#32)) 0#32 = 1#1)) => (hN (fun h => c1 (hc.2 h))).2
  exact ⟨fun c1 c2 => hPost _ _ _ _ _ _ _ _ _ _ _ _ _ (bodyFL_post k0_hw1 X1 X2 X3 X4 X5 X6 X7 X8 X9 X10 X11 X12 g13 g14 g15 g16 g17 g18 g19 g20 g21 g22 g23 g24 g25 hw hw3 c1 c2 e t nt hI ht ha0 hb h1 h2 h3 h7 h8 h9 h11 h12 (hc.1 c1) h4 h5 h6 h10),
    fun c1 c2 => hPost _ _ _ _ _ _ _ _ _ _ _ _ _ (bodyFN_post k0_hw1 X1 X2 X3 X4 X5 X6 X7 X8 X9 X10 X11 X12 g13 g14 g15 g16 g17 g18 g19 g20 g21 g22 g23 g24 g25 hw hw3 c1 c2 e t nt hI ht ha0 hb h1 h2 h3 h7 h8 h9 h11 h12 (hc.1 c1) h4 h5 h6 h10),
    fun c1 c2 => hPost _ _ _ _ _ _ _ _ _ _ _ _ _ (bodyNL_post k0_hw1 X1 X2 X3 X4 X5 X6 X7 X8 X9 X10 X11 X12 g13 g14 g15 g16 g17 g18 g19 g20 g21 g22 g23 g24 g25 hw hw3 c1 c2 e t nt hI ht ha0 hb h1 h2 h3 h7 h8 h9 h11 h12 (hT c1) (hS c1)),
    fun c1 c2 => hPost _ _ _ _ _ _ _ _ _ _ _ _ _ (bodyNN_post k0_hw1 X1 X2 X3 X4 X5 X6 X7 X8 X9 X10 X11 X12 g13 g14 g15 g16 g17 g18 g19 g20 g21 g22 g23 g24 g25 hw hw3 c1 c2 e t nt hI ht ha0 hb h1 h2 h3 h7 h8 h9 h11 h12 (hT c1) (hS c1))⟩

end Cert.Proof.KernelIdeal

end
-- ==== Proof.Words.lean ====
/- The group descriptors in order, from the precondition. -/
module

public import proofs.«01_k».proof.Proof.Spec
public import proofs.«01_k».proof.Proof.PreFacts

@[expose] public section

namespace Cert.Proof.Spec

open Idealize.ShloMosaic Idealize.ShloMosaic.StableHlo.Predicate
open Cert.Pre_groups_in_order

theorem shrsi8 (w : BitVec 32) (k : ℕ) (hk : k < 32) (u) : IntOp.shrsi u w (BitVec.ofNat 32 k) = w.sshiftRight k := by
  have h : (BitVec.ofNat 32 k).toNat = k := by rw [BitVec.toNat_ofNat]; omega
  unfold IntOp.shrsi
  rw [if_pos (by omega), BitVec.sshiftRight', h]

theorem nonneg_of_shr (w : BitVec 32) (h0 : IntOp.cmpi .sge (w.sshiftRight 8) 0#32 = 1#1) : w.toNat < 2 ^ 31 := by
  simp only [IntOp.cmpi, ofBool_eq_one_iff, BitVec.sle, decide_eq_true_eq, BitVec.toInt_sshiftRight, Int.shiftRight_eq_div_pow] at h0
  have h2 := BitVec.toInt_eq_toNat_cond w
  have := w.isLt
  have h3 : (0#32).toInt = 0 := by decide
  rw [h3] at h0
  split at h2 <;> omega

theorem shr_toNat (w : BitVec 32) (k : ℕ) (h : w.toNat < 2 ^ 31) : (w.sshiftRight k).toNat = w.toNat / 2 ^ k := by
  have hm : w.msb = false := by
    rw [BitVec.msb_eq_decide]
    exact decide_eq_false (by omega)
  rw [BitVec.sshiftRight_eq_of_msb_false hm, BitVec.toNat_ushiftRight, Nat.shiftRight_eq_div_pow]

theorem and224 (w : BitVec 32) : w &&& 224#32 = 0#32 ↔ w.toNat / 32 % 8 = 0 := by
  have hd : (w &&& 224#32).toNat / 2 ^ 5 = w.toNat / 32 % 8 := by
    rw [BitVec.toNat_and, ← Nat.shiftRight_eq_div_pow, Nat.shiftRight_and_distrib, Nat.shiftRight_eq_div_pow]
    exact Nat.and_two_pow_sub_one_eq_mod _ 3
  have hm : (w &&& 224#32).toNat % 2 ^ 5 = 0 := by
    rw [BitVec.toNat_and, Nat.and_mod_two_pow]
    exact Nat.and_zero _
  constructor
  · intro h
    rw [h] at hd
    exact hd.symm
  · intro h
    apply BitVec.eq_of_toNat_eq
    rw [BitVec.toNat_ofNat]
    omega

theorem prev_succ (a : IVec S8192 32) (z : IVec S1 32) (g : ℕ) (hg : g + 1 < 8192) (h1 h2) :
    concatenate S8192 0 [⟨S1, z⟩, ⟨S8191, extractStridedSlice S8191 ![0] a h1⟩] h2 (ix1 ⟨g + 1, hg⟩) = a (ix1 ⟨g, by omega⟩) := by
  pointwise []
  rw [dif_neg (by omega)]
  rfl

theorem prev_zero (a : IVec S8192 32) (z : IVec S1 32) (h1 h2) :
    concatenate S8192 0 [⟨S1, z⟩, ⟨S8191, extractStridedSlice S8191 ![0] a h1⟩] h2 (ix1 ⟨0, by decide⟩) = z (ix1 0) := by
  pointwise []

/-- The facts at a group, with the group before it. -/
theorem pre_raw {F : FTy → Type} [FloatOps F] (a0 : IVec S8192 32) (a1 : IVec S66048x128 32) (a2 : IVec S2064x128 32) (a3 : IVec S66048x128 32) (a4 : IVec S2064x128 32) (a5 : IVec S_ 32)
    (a6 : FVec F S256x256 .bf16) (a7 : FVec F S768x256 .bf16) (a8 : FVec F S256x128 .bf16) (a9 : FVec F S128 .bf16) (a10 a11 : FVec F S1x256 .f32) (a12 : FVec F S1x128 .f32)
    (h : fn (F := F) a0 a1 a2 a3 a4 a5 a6 a7 a8 a9 a10 a11 a12 = fun _ => 1#1) (g : ℕ) (hg : g < 8192) :
    ∃ p : BitVec 32, (∀ h : 1 ≤ g, p = (a0 (ix1 ⟨g - 1, by omega⟩)).sshiftRight 8) ∧ (g = 0 → p = 4294967295#32)
    ∧ IntOp.cmpi .sge ((a0 (ix1 ⟨g, hg⟩)).sshiftRight 8) 0#32 = 1#1
    ∧ IntOp.cmpi .eq ((a0 (ix1 ⟨g, hg⟩)).sshiftRight 8) (Scalar.select (IntOp.cmpi .eq (a0 (ix1 ⟨g, hg⟩) &&& 224#32) 0#32) (IntOp.minsi (p + 1#32) 1024#32) p) = 1#1
    ∧ IntOp.ori (~~~ IntOp.cmpi .eq (BitVec.ofNat 32 g) ((a5 fun a => a.elim0) * 64#32 - 1#32)) (IntOp.cmpi .sge ((a0 (ix1 ⟨g, hg⟩)).sshiftRight 8) 1023#32) = 1#1 := by
  have e := congrFun h (ix1 ⟨g, hg⟩)
  simp only [fn, fn_part1, fn_part2, fn_where, andi, ori, noti, cmpi, select, minsi, addi, muli, subi, iotaInDim, constantI, broadcastInDim, Host.shrsi] at e
  simp only [andi_one, shrsi8 _ 8 (by decide)] at e
  have hS : ∀ f : S_.Idx, f = fun a => a.elim0 := fun f => funext fun a => a.elim0
  rw [hS (fun a : Fin 0 => _)] at e
  obtain ⟨⟨⟨⟨-, e4⟩, -⟩, e6⟩, e7⟩ := e
  refine ⟨_, ?_, ?_, e4, e6, e7⟩
  · intro h1
    obtain ⟨k, rfl⟩ : ∃ k, g = k + 1 := ⟨g - 1, by omega⟩
    exact prev_succ _ _ _ _ _ _
  · rintro rfl
    exact prev_zero _ _ _ _

/-- The precondition puts the descriptors in order. -/
theorem inOrder_of {F : FTy → Type} [FloatOps F] (a0 : IVec S8192 32) (a1 : IVec S66048x128 32) (a2 : IVec S2064x128 32) (a3 : IVec S66048x128 32) (a4 : IVec S2064x128 32) (a5 : IVec S_ 32)
    (a6 : FVec F S256x256 .bf16) (a7 : FVec F S768x256 .bf16) (a8 : FVec F S256x128 .bf16) (a9 : FVec F S128 .bf16) (a10 a11 : FVec F S1x256 .f32) (a12 : FVec F S1x128 .f32)
    (h : fn (F := F) a0 a1 a2 a3 a4 a5 a6 a7 a8 a9 a10 a11 a12 = fun _ => 1#1) (e : Env) (he : ∀ g (hg : g < 8192), e.tab g = a0 (ix1 ⟨g, hg⟩)) :
    e.InOrder (a5 fun a => a.elim0).toNat ∧ (∀ g < 8192, (IntOp.andi (IntOp.shrsi .scalar (e.tab g) 5#32) 7#32).toNat = e.blk g) ∧ ∀ g < 8192, (e.tab g).toNat < 2 ^ 31 := by
  have hn := (pre_facts _ _ _ _ _ _ _ _ _ _ _ _ _ h (ix1 0)).1
  have hp : ∀ g, g < 8192 → (e.tab g).toNat < 2 ^ 31 := fun g hg => by
    obtain ⟨p, -, -, h4, -⟩ := pre_raw _ _ _ _ _ _ _ _ _ _ _ _ _ h g hg
    rw [he g hg]; exact nonneg_of_shr _ h4
  have hrow : ∀ g, g < 8192 → ((e.tab g).sshiftRight 8).toNat = e.row g := fun g hg => shr_toNat _ 8 (hp g hg)
  have hle : ∀ g, g < 8192 → e.row g ≤ 1024 := fun g hg => by
    have := (pre_facts _ _ _ _ _ _ _ _ _ _ _ _ _ h (ix1 ⟨g, hg⟩)).2.2
    rw [← he g hg, shrsi8 _ 8 (by decide)] at this
    rw [← hrow g hg]; exact this
  have hmin : ∀ p : BitVec 32, p.toNat ≤ 1024 → (IntOp.minsi (p + 1#32) 1024#32).toNat = min (p.toNat + 1) 1024 := fun p hp => by
    have h1 : (p + 1#32).toNat = p.toNat + 1 := by rw [BitVec.toNat_add]; simp; omega
    have h2 := BitVec.toInt_eq_toNat_cond (p + 1#32)
    have h3 : (1024#32).toInt = 1024 := by decide
    unfold IntOp.minsi
    rw [BitVec.slt, h3]
    split <;> rename_i hc <;> simp only [decide_eq_true_eq] at hc
    · rw [h1] at h2 ⊢; split at h2 <;> omega
    · rw [h1] at h2; rw [BitVec.toNat_ofNat]; split at h2 <;> omega
  have hrec : ∀ g (hg : g < 8192), ∃ p : BitVec 32, (1 ≤ g → p = (e.tab (g - 1)).sshiftRight 8) ∧ (g = 0 → p = 4294967295#32)
      ∧ (e.blk g = 0 → (e.tab g).sshiftRight 8 = IntOp.minsi (p + 1#32) 1024#32) ∧ (e.blk g ≠ 0 → (e.tab g).sshiftRight 8 = p) := fun g hg => by
    obtain ⟨p, h1, h2, -, h6, -⟩ := pre_raw _ _ _ _ _ _ _ _ _ _ _ _ _ h g hg
    rw [← he g hg] at h6
    simp only [IntOp.cmpi, ofBool_eq_one_iff, beq_iff_eq] at h6
    refine ⟨p, fun hh => (h1 hh).trans (by rw [he (g - 1) (by omega)]), h2, fun hb => ?_, fun hb => ?_⟩
    · rw [h6, (and224 _).2 hb]; rfl
    · have hne : ¬ (e.tab g &&& 224#32 = 0#32) := fun hh => hb ((and224 _).1 hh)
      rw [h6, beq_eq_false_iff_ne.2 hne]; rfl
  have hf0 : e.blk 0 = 0 := by
    by_contra hb
    obtain ⟨p, -, h2, -, h4⟩ := hrec 0 (by decide)
    have := hle 0 (by decide)
    rw [← hrow 0 (by decide), h4 hb, h2 rfl] at this
    exact absurd this (by decide)
  have hand : ∀ g, g < 8192 → (IntOp.andi (IntOp.shrsi .scalar (e.tab g) 5#32) 7#32).toNat = e.blk g := fun g hg => by
    rw [shrsi8 _ 5 (by decide)]
    show ((e.tab g).sshiftRight 5 &&& 7#32).toNat = _
    rw [BitVec.toNat_and, shr_toNat _ 5 (hp g hg)]
    exact Nat.and_two_pow_sub_one_eq_mod _ 3
  refine ⟨⟨hn.1, fun g hg => ?_, hn.2, hle, fun g hg => ?_, hf0, ?_, fun g hg hb => ?_, fun g hg hb => ?_, ?_⟩, hand, hp⟩
  · rw [shrsi8 _ 8 (by decide)]; exact hrow g hg
  · have := (pre_facts _ _ _ _ _ _ _ _ _ _ _ _ _ h (ix1 ⟨g, hg⟩)).2.1
    rw [← he g hg, BitVec.toNat_and] at this
    exact (Nat.and_two_pow_sub_one_eq_mod _ 5).symm.trans_le this
  · obtain ⟨p, -, h2, h3, -⟩ := hrec 0 (by decide)
    rw [← hrow 0 (by decide), h3 hf0, h2 rfl]; decide
  · obtain ⟨p, h1, -, h3, -⟩ := hrec (g + 1) hg
    have h1 := h1 (by omega)
    rw [Nat.add_sub_cancel] at h1
    have hg' : p.toNat = e.row g := by rw [h1]; exact hrow g (by omega)
    rw [← hrow (g + 1) hg, h3 hb, hmin p (by rw [hg']; exact hle g (by omega)), hg']
  · obtain ⟨p, h1, -, -, h4⟩ := hrec (g + 1) hg
    have h1 := h1 (by omega)
    rw [Nat.add_sub_cancel] at h1
    rw [← hrow (g + 1) hg, h4 hb, h1]; exact hrow g (by omega)
  · have hg : 64 * (a5 fun a => a.elim0).toNat - 1 < 8192 := by omega
    obtain ⟨p, -, -, h4, -, h7⟩ := pre_raw _ _ _ _ _ _ _ _ _ _ _ _ _ h _ hg
    rw [← he _ hg] at h7 h4
    have heq : IntOp.cmpi .eq (BitVec.ofNat 32 (64 * (a5 fun a => a.elim0).toNat - 1)) ((a5 fun a => a.elim0) * 64#32 - 1#32) = 1#1 := by
      simp only [IntOp.cmpi, ofBool_eq_one_iff, beq_iff_eq]
      apply BitVec.eq_of_toNat_eq
      rw [BitVec.toNat_ofNat, BitVec.toNat_sub, BitVec.toNat_mul]
      have e1 : (64#32).toNat = 64 := rfl
      have e2 : (1#32).toNat = 1 := rfl
      rw [e1, e2]
      obtain ⟨q1, q2⟩ := hn
      generalize (a5 fun a => a.elim0).toNat = n at q1 q2 ⊢
      show (64 * n - 1) % 4294967296 = (4294967295 + n * 64 % 4294967296) % 4294967296
      omega
    rw [heq, ori_one] at h7
    rcases h7 with h7 | h7
    · exact absurd h7 (by decide)
    · rw [← hrow _ hg]
      have hb : (e.tab (64 * (a5 fun a => a.elim0).toNat - 1)).sshiftRight 8 = BitVec.ofNat 32 (e.row (64 * (a5 fun a => a.elim0).toNat - 1)) := by
        apply BitVec.eq_of_toNat_eq
        rw [hrow _ hg, BitVec.toNat_ofNat]
        have := hle _ hg
        omega
      exact (sge_iff_toNat (a := (e.tab (64 * (a5 fun a => a.elim0).toNat - 1)).sshiftRight 8) (b := 1023#32) (by rw [hrow _ hg]; have := hle _ hg; omega) (by decide)).1 h7

end Cert.Proof.Spec
-- ==== Proof.RefTok.lean ====
/- The reference's tokens, own groups and target features, read at an index. -/
module

public import proofs.«01_k».proof.Proof.Words
public import proofs.«01_k».proof.Proof.Gen.ReferenceIdeal
public import proofs.«01_k».proof.Proof.Gen.ReferenceIdeal.Run
public import proofs.«01_k».proof.Proof.Gen.ReferenceIdeal.Read

@[expose] public section

set_option maxRecDepth 16384

noncomputable section

namespace Cert.Proof.Ref

open Idealize.ShloMosaic Idealize.ShloMosaic.StableHlo.Predicate
open Cert.ReferenceIdeal Cert.ReferenceIdeal.Gen Cert.ReferenceIdeal.Read Cert.Proof.Spec

/-- An array at indices in ℕ. -/
def nat1 {α : Type} {n : ℕ} (z : α) (x : (⟨1, ![n]⟩ : Shape).Idx → α) (i : ℕ) : α := if h : i < n then x (ix1 ⟨i, h⟩) else z
def nat2 {α : Type} {n k : ℕ} (z : α) (x : (⟨2, ![n, k]⟩ : Shape).Idx → α) (i j : ℕ) : α := if h : i < n ∧ j < k then x (ix2 ⟨i, h.1⟩ ⟨j, h.2⟩) else z

theorem nat1_at {α : Type} {n : ℕ} (z : α) (x : (⟨1, ![n]⟩ : Shape).Idx → α) (i : Fin n) : nat1 z x i.val = x (ix1 i) := dif_pos i.isLt
theorem nat2_at {α : Type} {n k : ℕ} (z : α) (x : (⟨2, ![n, k]⟩ : Shape).Idx → α) (i : Fin n) (j : Fin k) : nat2 z x i.val j.val = x (ix2 i j) := dif_pos ⟨i.isLt, j.isLt⟩
theorem nat2_of {α : Type} {n k : ℕ} (z : α) (x : (⟨2, ![n, k]⟩ : Shape).Idx → α) (i j : ℕ) (p : Fin n) (q : Fin k) (hp : p.val = i) (hq : q.val = j) : nat2 z x i j = x (ix2 p q) := by
  subst hp hq; exact nat2_at z x p q

/-- The arguments. -/
def envOf (x0 : (⟨S8192, .i32⟩ : BufTy).Contents (Elt Ideal)) (x1 : (⟨S66048x128, .i32⟩ : BufTy).Contents (Elt Ideal)) (x2 : (⟨S2064x128, .i32⟩ : BufTy).Contents (Elt Ideal)) (x3 : (⟨S66048x128, .i32⟩ : BufTy).Contents (Elt Ideal)) (x4 : (⟨S2064x128, .i32⟩ : BufTy).Contents (Elt Ideal)) (x6 : (⟨S256x256, .bf16⟩ : BufTy).Contents (Elt Ideal)) (x7 : (⟨S768x256, .bf16⟩ : BufTy).Contents (Elt Ideal)) (x8 : (⟨S256x128, .bf16⟩ : BufTy).Contents (Elt Ideal)) (x9 : (⟨S128, .bf16⟩ : BufTy).Contents (Elt Ideal)) (x10 : (⟨S1x256, .f32⟩ : BufTy).Contents (Elt Ideal)) (x11 : (⟨S1x256, .f32⟩ : BufTy).Contents (Elt Ideal)) (x12 : (⟨S1x128, .f32⟩ : BufTy).Contents (Elt Ideal)) : Env where
  tab := nat1 0#32 x0
  hcode := nat2 0#32 x1
  hsc := nat2 0#32 x2
  tcode r l := nat2 0#32 x3 (65536 + r) l
  tsc r l := nat2 0#32 x4 (2048 + r) l
  w1t := nat2 0 x6
  w1 := nat2 0 x7
  w2 := nat2 0 x8
  w3 := nat1 0 x9
  b1 := nat2 0 x10 0
  a1 := nat2 0 x11 0
  a2 := nat2 0 x12 0

theorem eq1 {a0 : ℕ} (i : (⟨1, ![a0]⟩ : Shape).Idx) (p : Fin a0) (h0 : (i 0).val = p.val) : i = ix1 p := by
  funext x; match x with | ⟨0, _⟩ => exact Fin.ext h0
theorem eq2 {a0 a1 : ℕ} (i : (⟨2, ![a0, a1]⟩ : Shape).Idx) (p : Fin a0) (q : Fin a1) (h0 : (i 0).val = p.val) (h1 : (i 1).val = q.val) : i = ix2 p q := by
  funext x; match x with | ⟨0, _⟩ => exact Fin.ext h0 | ⟨1, _⟩ => exact Fin.ext h1
theorem eq3 {a0 a1 a2 : ℕ} (i : (⟨3, ![a0, a1, a2]⟩ : Shape).Idx) (p : Fin a0) (q : Fin a1) (r : Fin a2) (h0 : (i 0).val = p.val) (h1 : (i 1).val = q.val) (h2 : (i 2).val = r.val) : i = ix3 p q r := by
  funext x; match x with | ⟨0, _⟩ => exact Fin.ext h0 | ⟨1, _⟩ => exact Fin.ext h1 | ⟨2, _⟩ => exact Fin.ext h2
theorem eq4 {a0 a1 a2 a3 : ℕ} (i : (⟨4, ![a0, a1, a2, a3]⟩ : Shape).Idx) (p : Fin a0) (q : Fin a1) (r : Fin a2) (s : Fin a3) (h0 : (i 0).val = p.val) (h1 : (i 1).val = q.val) (h2 : (i 2).val = r.val) (h3 : (i 3).val = s.val) : i = ix4 p q r s := by
  funext x; match x with | ⟨0, _⟩ => exact Fin.ext h0 | ⟨1, _⟩ => exact Fin.ext h1 | ⟨2, _⟩ => exact Fin.ext h2 | ⟨3, _⟩ => exact Fin.ext h3
theorem eq5 {a0 a1 a2 a3 a4 : ℕ} (i : (⟨5, ![a0, a1, a2, a3, a4]⟩ : Shape).Idx) (p : Fin a0) (q : Fin a1) (r : Fin a2) (s : Fin a3) (t : Fin a4) (h0 : (i 0).val = p.val) (h1 : (i 1).val = q.val) (h2 : (i 2).val = r.val) (h3 : (i 3).val = s.val) (h4 : (i 4).val = t.val) : i = ix5 p q r s t := by
  funext x; match x with | ⟨0, _⟩ => exact Fin.ext h0 | ⟨1, _⟩ => exact Fin.ext h1 | ⟨2, _⟩ => exact Fin.ext h2 | ⟨3, _⟩ => exact Fin.ext h3 | ⟨4, _⟩ => exact Fin.ext h4

/-- A byte of a word by two shifts. -/
theorem byte_of (w : BitVec 32) (j : Fin 4) :
    FloatOps.truncf (F := Ideal) .bf16 bitsLt_bf16_f32 (FloatOps.sitofp .f32 (IntOp.shrsi .host (IntOp.shli .host w (IntOp.subi 24#32 (IntOp.muli 8#32 (BitVec.ofNat 32 j.val)))) 24#32)) = byteAt w j.val := by
  have h1 : ∀ j : Fin 4, (IntOp.subi 24#32 (IntOp.muli 8#32 (BitVec.ofNat 32 j.val))).toNat = 24 - 8 * j.val := by decide
  have h : IntOp.shrsi .host (IntOp.shli .host w (IntOp.subi 24#32 (IntOp.muli 8#32 (BitVec.ofNat 32 j.val)))) 24#32 = (w.extractLsb' (8 * j.val) 8).signExtend 32 := by
    rw [shrsi8 _ 24 (by decide)]
    unfold IntOp.shli
    rw [if_pos (by rw [h1]; omega), BitVec.shiftLeft_eq', h1]
    have := j.isLt
    apply BitVec.eq_of_getLsbD_eq
    intro i hi
    rw [BitVec.getLsbD_sshiftRight, BitVec.getLsbD_signExtend, BitVec.getLsbD_extractLsb', BitVec.msb_eq_getLsbD_last, BitVec.msb_eq_getLsbD_last, BitVec.getLsbD_shiftLeft, BitVec.getLsbD_shiftLeft, BitVec.getLsbD_extractLsb']
    have e1 : ¬ (32 ≤ i) := by omega
    by_cases h8 : i < 8
    · simp [hi, h8, e1, show 24 + i < 32 by omega, show ¬ (24 + i < 24 - 8 * j.val) by omega, show 24 + i - (24 - 8 * j.val) = 8 * j.val + i by omega]
    · simp [hi, h8, e1, show ¬ (24 + i < 32) by omega, show ¬ (31 < 24 - 8 * j.val) by omega, show 31 - (24 - 8 * j.val) = 8 * j.val + 7 by omega]
  rw [h]
  show ((BitVec.toInt _ : ℝ) : EReal) = ((BitVec.toInt _ : ℝ) : EReal)
  rw [BitVec.toInt_signExtend_of_le (by decide)]

/-- The activation. -/
theorem act_of (z a : EReal) : Scalar.select (FloatOps.cmpf (F := Ideal) (φ := .f32) .oge z (Ideal.ofBits .f32 0#32)) z (FloatOps.mulf (F := Ideal) (φ := .f32) a z) = act z a := by
  rw [Ideal.ofBits_zero]
  show Scalar.select (BitVec.ofBool (decide (0 ≤ z))) z (a * z) = _
  unfold act
  by_cases h : 0 ≤ z <;> simp [h, Scalar.select]

variable (x0 : (⟨S8192, .i32⟩ : BufTy).Contents (Elt Ideal)) (x1 : (⟨S66048x128, .i32⟩ : BufTy).Contents (Elt Ideal)) (x2 : (⟨S2064x128, .i32⟩ : BufTy).Contents (Elt Ideal)) (x3 : (⟨S66048x128, .i32⟩ : BufTy).Contents (Elt Ideal)) (x4 : (⟨S2064x128, .i32⟩ : BufTy).Contents (Elt Ideal)) (x5 : (⟨S_, .i32⟩ : BufTy).Contents (Elt Ideal)) (x6 : (⟨S256x256, .bf16⟩ : BufTy).Contents (Elt Ideal)) (x7 : (⟨S768x256, .bf16⟩ : BufTy).Contents (Elt Ideal)) (x8 : (⟨S256x128, .bf16⟩ : BufTy).Contents (Elt Ideal)) (x9 : (⟨S128, .bf16⟩ : BufTy).Contents (Elt Ideal)) (x10 : (⟨S1x256, .f32⟩ : BufTy).Contents (Elt Ideal)) (x11 : (⟨S1x256, .f32⟩ : BufTy).Contents (Elt Ideal)) (x12 : (⟨S1x128, .f32⟩ : BufTy).Contents (Elt Ideal))

theorem hist_code (g : Fin 8192) (k : Fin 16) (p : Fin 2) (l : Fin 128) : val_main_v39 (F := Ideal) x1 (ix4 g k p l) = byteAt (x1 (ix2 ⟨8 * g.val + 4 * p.val + k.val / 4, by omega⟩ l)) (k.val % 4) := by
  rw [val_main_v39_apply, eq4 (idx_main_v39 (ix4 g k p l)) g p k l rfl rfl rfl rfl, val_main_v38_apply,
    eq5 (idx_main_v38 (ix4 g p k l)) g p ⟨k.val / 4, by omega⟩ ⟨k.val % 4, by omega⟩ l (by show (((g.val * 2 + p.val) * 16 + k.val) * 128 + l.val) / 4096 = g.val; omega) (by show (((g.val * 2 + p.val) * 16 + k.val) * 128 + l.val) / 2048 % 2 = p.val; omega)
      (by show (((g.val * 2 + p.val) * 16 + k.val) * 128 + l.val) / 512 % 4 = k.val / 4; omega) (by show (((g.val * 2 + p.val) * 16 + k.val) * 128 + l.val) / 128 % 4 = k.val % 4; omega) (by show (((g.val * 2 + p.val) * 16 + k.val) * 128 + l.val) % 128 = l.val; omega),
    val_main_v37_apply, val_main_v36_apply, val_main_v35_apply, val_main_v33_apply, val_main_v31_apply, eq5 (idx_main_v31 (ix5 g p ⟨k.val / 4, by omega⟩ ⟨k.val % 4, by omega⟩ l)) g p ⟨k.val / 4, by omega⟩ 0 l rfl rfl rfl rfl rfl,
    val_main_v27_apply, eq2 (idx_main_v27 (ix5 g p ⟨k.val / 4, by omega⟩ 0 l)) ⟨8 * g.val + 4 * p.val + k.val / 4, by omega⟩ l (by show ((((g.val * 2 + p.val) * 4 + k.val / 4) * 1 + 0) * 128 + l.val) / 128 = 8 * g.val + 4 * p.val + k.val / 4; omega) (by show ((((g.val * 2 + p.val) * 4 + k.val / 4) * 1 + 0) * 128 + l.val) % 128 = l.val; omega),
    val_main_v22_apply, eq2 (idx_main_v22 (ix2 ⟨8 * g.val + 4 * p.val + k.val / 4, by omega⟩ l)) ⟨8 * g.val + 4 * p.val + k.val / 4, by omega⟩ l (by rfl) rfl,
    val_main_v34_apply, val_main_c_6_apply, val_main_v32_apply, val_main_v30_apply, val_main_v29_apply, val_main_v28_apply, val_main_c_5_apply, val_main_v26_apply, val_main_v25_apply, val_main_c_4_apply, val_main_v24_apply]
  exact byte_of _ ⟨k.val % 4, by omega⟩

theorem hist_scale (g : Fin 8192) (k : Fin 16) (p q : Fin 2) : val_main_v43 (F := Ideal) x2 (ix4 g k p q) = halfAt (x2 (ix2 ⟨g.val / 4, by omega⟩ ⟨32 * (g.val % 4) + 4 * (k.val / 2) + 2 * p.val + q.val, by omega⟩)) (k.val % 2) := by
  rw [val_main_v43_apply, eq5 (idx_main_v43 (ix4 g k p q)) g ⟨k.val / 2, by omega⟩ ⟨k.val % 2, by omega⟩ p q (by show (((g.val * 16 + k.val) * 2 + p.val) * 2 + q.val) / 64 = g.val; omega) (by show (((g.val * 16 + k.val) * 2 + p.val) * 2 + q.val) / 8 % 8 = k.val / 2; omega)
      (by show (((g.val * 16 + k.val) * 2 + p.val) * 2 + q.val) / 4 % 2 = k.val % 2; omega) (by show (((g.val * 16 + k.val) * 2 + p.val) * 2 + q.val) / 2 % 2 = p.val; omega) (by show (((g.val * 16 + k.val) * 2 + p.val) * 2 + q.val) % 2 = q.val; omega),
    val_main_v42_apply, eq5 (idx_main_v42 (ix5 g ⟨k.val / 2, by omega⟩ ⟨k.val % 2, by omega⟩ p q)) g ⟨k.val / 2, by omega⟩ p q ⟨k.val % 2, by omega⟩ rfl rfl rfl rfl rfl]
  have hd : val_main_v40 (F := Ideal) x2 (ix4 g ⟨k.val / 2, by omega⟩ p q) = x2 (ix2 ⟨g.val / 4, by omega⟩ ⟨32 * (g.val % 4) + 4 * (k.val / 2) + 2 * p.val + q.val, by omega⟩) := by
    rw [val_main_v40_apply, eq2 (idx_main_v40 (ix4 g ⟨k.val / 2, by omega⟩ p q)) ⟨g.val / 4, by omega⟩ ⟨32 * (g.val % 4) + 4 * (k.val / 2) + 2 * p.val + q.val, by omega⟩ (by show (((g.val * 8 + k.val / 2) * 2 + p.val) * 2 + q.val) / 128 = g.val / 4; omega) (by show (((g.val * 8 + k.val / 2) * 2 + p.val) * 2 + q.val) % 128 = 32 * (g.val % 4) + 4 * (k.val / 2) + 2 * p.val + q.val; omega),
      val_main_v23_apply, eq2 (idx_main_v23 (ix2 ⟨g.val / 4, by omega⟩ ⟨32 * (g.val % 4) + 4 * (k.val / 2) + 2 * p.val + q.val, by omega⟩)) ⟨g.val / 4, by omega⟩ ⟨32 * (g.val % 4) + 4 * (k.val / 2) + 2 * p.val + q.val, by omega⟩ rfl rfl]
  refine (congrArg (fun i => Ideal.ofBits .bf16 ((val_main_v40 (F := Ideal) x2 i).extractLsb' (k.val % 2 * 16) 16)) (eq4 (splits_S8192x8x2x2_w32_S8192x8x2x2x2_w16.drop (ix5 g ⟨k.val / 2, by omega⟩ p q ⟨k.val % 2, by omega⟩)) g ⟨k.val / 2, by omega⟩ p q rfl rfl rfl rfl)).trans ?_
  show Ideal.ofBits .bf16 ((val_main_v40 (F := Ideal) x2 _).extractLsb' (k.val % 2 * 16) 16) = _
  rw [hd]
  unfold halfAt
  rw [Nat.mul_comm]

theorem targ_code (g : Fin 64) (k : Fin 16) (p : Fin 2) (l : Fin 128) : val_main_v70 (F := Ideal) x3 (ix4 g k p l) = byteAt (x3 (ix2 ⟨65536 + 8 * g.val + 4 * p.val + k.val / 4, by omega⟩ l)) (k.val % 4) := by
  rw [val_main_v70_apply, eq4 (idx_main_v70 (ix4 g k p l)) g p k l rfl rfl rfl rfl, val_main_v69_apply,
    eq5 (idx_main_v69 (ix4 g p k l)) g p ⟨k.val / 4, by omega⟩ ⟨k.val % 4, by omega⟩ l (by show (((g.val * 2 + p.val) * 16 + k.val) * 128 + l.val) / 4096 = g.val; omega) (by show (((g.val * 2 + p.val) * 16 + k.val) * 128 + l.val) / 2048 % 2 = p.val; omega)
      (by show (((g.val * 2 + p.val) * 16 + k.val) * 128 + l.val) / 512 % 4 = k.val / 4; omega) (by show (((g.val * 2 + p.val) * 16 + k.val) * 128 + l.val) / 128 % 4 = k.val % 4; omega) (by show (((g.val * 2 + p.val) * 16 + k.val) * 128 + l.val) % 128 = l.val; omega),
    val_main_v68_apply, val_main_v67_apply, val_main_v66_apply, val_main_v64_apply, val_main_v62_apply, eq5 (idx_main_v62 (ix5 g p ⟨k.val / 4, by omega⟩ ⟨k.val % 4, by omega⟩ l)) g p ⟨k.val / 4, by omega⟩ 0 l rfl rfl rfl rfl rfl,
    val_main_v58_apply, eq2 (idx_main_v58 (ix5 g p ⟨k.val / 4, by omega⟩ 0 l)) ⟨8 * g.val + 4 * p.val + k.val / 4, by omega⟩ l (by show ((((g.val * 2 + p.val) * 4 + k.val / 4) * 1 + 0) * 128 + l.val) / 128 = 8 * g.val + 4 * p.val + k.val / 4; omega) (by show ((((g.val * 2 + p.val) * 4 + k.val / 4) * 1 + 0) * 128 + l.val) % 128 = l.val; omega),
    val_main_v53_apply, eq2 (idx_main_v53 (ix2 ⟨8 * g.val + 4 * p.val + k.val / 4, by omega⟩ l)) ⟨65536 + 8 * g.val + 4 * p.val + k.val / 4, by omega⟩ l (by show 65536 + (8 * g.val + 4 * p.val + k.val / 4) = 65536 + 8 * g.val + 4 * p.val + k.val / 4; omega) rfl,
    val_main_v65_apply, val_main_c_10_apply, val_main_v63_apply, val_main_v61_apply, val_main_v60_apply, val_main_v59_apply, val_main_c_9_apply, val_main_v57_apply, val_main_v56_apply, val_main_c_8_apply, val_main_v55_apply]
  exact byte_of _ ⟨k.val % 4, by omega⟩

theorem targ_scale (g : Fin 64) (k : Fin 16) (p q : Fin 2) : val_main_v74 (F := Ideal) x4 (ix4 g k p q) = halfAt (x4 (ix2 ⟨2048 + g.val / 4, by omega⟩ ⟨32 * (g.val % 4) + 4 * (k.val / 2) + 2 * p.val + q.val, by omega⟩)) (k.val % 2) := by
  rw [val_main_v74_apply, eq5 (idx_main_v74 (ix4 g k p q)) g ⟨k.val / 2, by omega⟩ ⟨k.val % 2, by omega⟩ p q (by show (((g.val * 16 + k.val) * 2 + p.val) * 2 + q.val) / 64 = g.val; omega) (by show (((g.val * 16 + k.val) * 2 + p.val) * 2 + q.val) / 8 % 8 = k.val / 2; omega)
      (by show (((g.val * 16 + k.val) * 2 + p.val) * 2 + q.val) / 4 % 2 = k.val % 2; omega) (by show (((g.val * 16 + k.val) * 2 + p.val) * 2 + q.val) / 2 % 2 = p.val; omega) (by show (((g.val * 16 + k.val) * 2 + p.val) * 2 + q.val) % 2 = q.val; omega),
    val_main_v73_apply, eq5 (idx_main_v73 (ix5 g ⟨k.val / 2, by omega⟩ ⟨k.val % 2, by omega⟩ p q)) g ⟨k.val / 2, by omega⟩ p q ⟨k.val % 2, by omega⟩ rfl rfl rfl rfl rfl]
  have hd : val_main_v71 (F := Ideal) x4 (ix4 g ⟨k.val / 2, by omega⟩ p q) = x4 (ix2 ⟨2048 + g.val / 4, by omega⟩ ⟨32 * (g.val % 4) + 4 * (k.val / 2) + 2 * p.val + q.val, by omega⟩) := by
    rw [val_main_v71_apply, eq2 (idx_main_v71 (ix4 g ⟨k.val / 2, by omega⟩ p q)) ⟨g.val / 4, by omega⟩ ⟨32 * (g.val % 4) + 4 * (k.val / 2) + 2 * p.val + q.val, by omega⟩ (by show (((g.val * 8 + k.val / 2) * 2 + p.val) * 2 + q.val) / 128 = g.val / 4; omega) (by show (((g.val * 8 + k.val / 2) * 2 + p.val) * 2 + q.val) % 128 = 32 * (g.val % 4) + 4 * (k.val / 2) + 2 * p.val + q.val; omega),
      val_main_v54_apply, eq2 (idx_main_v54 (ix2 ⟨g.val / 4, by omega⟩ ⟨32 * (g.val % 4) + 4 * (k.val / 2) + 2 * p.val + q.val, by omega⟩)) ⟨2048 + g.val / 4, by omega⟩ ⟨32 * (g.val % 4) + 4 * (k.val / 2) + 2 * p.val + q.val, by omega⟩ rfl rfl]
  refine (congrArg (fun i => Ideal.ofBits .bf16 ((val_main_v71 (F := Ideal) x4 i).extractLsb' (k.val % 2 * 16) 16)) (eq4 (splits_S64x8x2x2_w32_S64x8x2x2x2_w16.drop (ix5 g ⟨k.val / 2, by omega⟩ p q ⟨k.val % 2, by omega⟩)) g ⟨k.val / 2, by omega⟩ p q rfl rfl rfl rfl)).trans ?_
  show Ideal.ofBits .bf16 ((val_main_v71 (F := Ideal) x4 _).extractLsb' (k.val % 2 * 16) 16) = _
  rw [hd]
  unfold halfAt
  rw [Nat.mul_comm]

theorem tab_at (g : Fin 8192) : (envOf x0 x1 x2 x3 x4 x6 x7 x8 x9 x10 x11 x12).tab g.val = x0 (ix1 g) := nat1_at _ _ g

theorem nv_at (g : Fin 8192) : (IntOp.andi (x0 (ix1 g)) 31#32).toNat = (envOf x0 x1 x2 x3 x4 x6 x7 x8 x9 x10 x11 x12).nv g.val := by
  show ((x0 (ix1 g)) &&& 31#32).toNat = (nat1 0#32 x0 g.val).toNat % 32
  rw [nat1_at, BitVec.toNat_and]; exact Nat.and_two_pow_sub_one_eq_mod _ 5

theorem gt_zero (w : BitVec 32) (h : w.toNat < 2 ^ 31) : IntOp.cmpi .sgt w 0#32 = BitVec.ofBool (decide (0 < w.toNat)) := by
  have h2 := BitVec.toInt_eq_toNat_cond w
  rw [if_pos (by omega)] at h2
  unfold IntOp.cmpi
  simp only [BitVec.slt, h2]
  congr 1
  simp

/-- A token of the history. -/
theorem H_at (g : Fin 8192) (k : Fin 16) (c : Fin 256) : val_main_v52 (F := Ideal) x0 x1 x2 (ix3 g k c) = (envOf x0 x1 x2 x3 x4 x6 x7 x8 x9 x10 x11 x12).H g.val k.val c.val := by
  have hc : val_main_v48 (F := Ideal) x1 (ix3 g k c) = byteAt (nat2 0#32 x1 (8 * g.val + 4 * (c.val / 128) + k.val / 4) (c.val % 128)) (k.val % 4) := by
    rw [val_main_v48_apply, eq4 (idx_main_v48 (ix3 g k c)) g k ⟨c.val / 128, by omega⟩ ⟨c.val % 128, by omega⟩ (by show ((g.val * 16 + k.val) * 256 + c.val) / 4096 = g.val; omega) (by show ((g.val * 16 + k.val) * 256 + c.val) / 256 % 16 = k.val; omega)
      (by show ((g.val * 16 + k.val) * 256 + c.val) / 128 % 2 = c.val / 128; omega) (by show ((g.val * 16 + k.val) * 256 + c.val) % 128 = c.val % 128; omega), hist_code]
    exact congrArg (byteAt · _) (nat2_of _ _ _ _ ⟨8 * g.val + 4 * (c.val / 128) + k.val / 4, by omega⟩ ⟨c.val % 128, by omega⟩ rfl rfl).symm
  have hs : val_main_v51 (F := Ideal) x0 x2 (ix3 g k c) = if 0 < (envOf x0 x1 x2 x3 x4 x6 x7 x8 x9 x10 x11 x12).nv g.val then halfAt (nat2 0#32 x2 (g.val / 4) (32 * (g.val % 4) + 4 * (k.val / 2) + c.val / 64)) (k.val % 2) else 0 := by
    rw [val_main_v51_apply, eq5 (idx_main_v51 (ix3 g k c)) g k ⟨c.val / 128, by omega⟩ ⟨c.val / 64 % 2, by omega⟩ ⟨c.val % 64, by omega⟩ (by show ((g.val * 16 + k.val) * 256 + c.val) / 4096 = g.val; omega) (by show ((g.val * 16 + k.val) * 256 + c.val) / 256 % 16 = k.val; omega)
      (by show ((g.val * 16 + k.val) * 256 + c.val) / 128 % 2 = c.val / 128; omega) (by show ((g.val * 16 + k.val) * 256 + c.val) / 64 % 2 = c.val / 64 % 2; omega) (by show ((g.val * 16 + k.val) * 256 + c.val) % 64 = c.val % 64; omega),
      val_main_v50_apply, eq5 (idx_main_v50 _) g k ⟨c.val / 128, by omega⟩ ⟨c.val / 64 % 2, by omega⟩ 0 rfl rfl rfl rfl rfl, val_main_v49_apply, eq4 (idx_main_v49 _) g k ⟨c.val / 128, by omega⟩ ⟨c.val / 64 % 2, by omega⟩ rfl rfl rfl rfl, val_main_v47_apply, hist_scale,
      val_main_call0_v0_apply, eq4 (idx_main_call0_v0 _) g 0 0 0 rfl rfl rfl rfl, val_main_v46_apply, eq1 (idx_main_v46 _) g rfl, val_main_v45_apply, val_main_v7_apply, val_main_v6_apply, val_main_c_2_apply, val_main_v44_apply, val_main_c_7_apply, gt_zero _ (by rw [nv_at x0 x1 x2 x3 x4 x6 x7 x8 x9 x10 x11 x12]; unfold Env.nv; omega), nv_at x0 x1 x2 x3 x4 x6 x7 x8 x9 x10 x11 x12,
      val_main_call0_v1_apply]
    have hz : ∀ i, val_main_cst (F := Ideal) i = 0 := fun i => by
      show Ideal.ofBits .bf16 0#16 = 0
      exact Ideal.ofBits_zero .bf16
    rw [hz, nat2_of _ _ (g.val / 4) (32 * (g.val % 4) + 4 * (k.val / 2) + c.val / 64) ⟨g.val / 4, by omega⟩ ⟨32 * (g.val % 4) + 4 * (k.val / 2) + 2 * (c.val / 128) + c.val / 64 % 2, by omega⟩ rfl (by show 32 * (g.val % 4) + 4 * (k.val / 2) + 2 * (c.val / 128) + c.val / 64 % 2 = _; omega)]
    by_cases hp : 0 < (envOf x0 x1 x2 x3 x4 x6 x7 x8 x9 x10 x11 x12).nv g.val <;> simp [hp, Scalar.select]
  rw [val_main_v52_apply, hc, hs]
  rfl

/-- The features of a target. -/
theorem T_at (b : Fin 1024) (c : Fin 256) : val_main_v80 (F := Ideal) x3 x4 (ix2 b c) = (envOf x0 x1 x2 x3 x4 x6 x7 x8 x9 x10 x11 x12).T b.val c.val := by
  rw [val_main_v80_apply, eq3 (idx_main_v80 (ix2 b c)) ⟨b.val / 16, by omega⟩ ⟨b.val % 16, by omega⟩ c (by show (b.val * 256 + c.val) / 4096 = b.val / 16; omega) (by show (b.val * 256 + c.val) / 256 % 16 = b.val % 16; omega) (by show (b.val * 256 + c.val) % 256 = c.val; omega), val_main_v79_apply]
  have hc : val_main_v75 (F := Ideal) x3 (ix3 ⟨b.val / 16, by omega⟩ ⟨b.val % 16, by omega⟩ c) = byteAt (nat2 0#32 x3 (65536 + (8 * (b.val / 16) + 4 * (c.val / 128) + b.val % 16 / 4)) (c.val % 128)) (b.val % 4) := by
    rw [val_main_v75_apply, eq4 (idx_main_v75 _) ⟨b.val / 16, by omega⟩ ⟨b.val % 16, by omega⟩ ⟨c.val / 128, by omega⟩ ⟨c.val % 128, by omega⟩ (by show ((b.val / 16 * 16 + b.val % 16) * 256 + c.val) / 4096 = b.val / 16; omega) (by show ((b.val / 16 * 16 + b.val % 16) * 256 + c.val) / 256 % 16 = b.val % 16; omega)
      (by show ((b.val / 16 * 16 + b.val % 16) * 256 + c.val) / 128 % 2 = c.val / 128; omega) (by show ((b.val / 16 * 16 + b.val % 16) * 256 + c.val) % 128 = c.val % 128; omega), targ_code]
    refine congrArg₂ byteAt (nat2_of _ _ _ _ ⟨65536 + 8 * (b.val / 16) + 4 * (c.val / 128) + b.val % 16 / 4, by omega⟩ ⟨c.val % 128, by omega⟩ (by show 65536 + 8 * (b.val / 16) + 4 * (c.val / 128) + b.val % 16 / 4 = _; omega) rfl).symm (by show b.val % 16 % 4 = _; omega)
  have hs : val_main_v78 (F := Ideal) x4 (ix3 ⟨b.val / 16, by omega⟩ ⟨b.val % 16, by omega⟩ c) = halfAt (nat2 0#32 x4 (2048 + b.val / 16 / 4) (32 * (b.val / 16 % 4) + 4 * (b.val % 16 / 2) + c.val / 64)) (b.val % 2) := by
    rw [val_main_v78_apply, eq5 (idx_main_v78 _) ⟨b.val / 16, by omega⟩ ⟨b.val % 16, by omega⟩ ⟨c.val / 128, by omega⟩ ⟨c.val / 64 % 2, by omega⟩ ⟨c.val % 64, by omega⟩ (by show ((b.val / 16 * 16 + b.val % 16) * 256 + c.val) / 4096 = b.val / 16; omega) (by show ((b.val / 16 * 16 + b.val % 16) * 256 + c.val) / 256 % 16 = b.val % 16; omega)
      (by show ((b.val / 16 * 16 + b.val % 16) * 256 + c.val) / 128 % 2 = c.val / 128; omega) (by show ((b.val / 16 * 16 + b.val % 16) * 256 + c.val) / 64 % 2 = c.val / 64 % 2; omega) (by show ((b.val / 16 * 16 + b.val % 16) * 256 + c.val) % 64 = c.val % 64; omega),
      val_main_v77_apply, eq5 (idx_main_v77 _) ⟨b.val / 16, by omega⟩ ⟨b.val % 16, by omega⟩ ⟨c.val / 128, by omega⟩ ⟨c.val / 64 % 2, by omega⟩ 0 rfl rfl rfl rfl rfl, val_main_v76_apply, eq4 (idx_main_v76 _) ⟨b.val / 16, by omega⟩ ⟨b.val % 16, by omega⟩ ⟨c.val / 128, by omega⟩ ⟨c.val / 64 % 2, by omega⟩ rfl rfl rfl rfl, targ_scale]
    refine congrArg₂ halfAt (nat2_of _ _ _ _ ⟨2048 + b.val / 16 / 4, by omega⟩ ⟨32 * (b.val / 16 % 4) + 4 * (b.val % 16 / 2) + 2 * (c.val / 128) + c.val / 64 % 2, by omega⟩ rfl (by show 32 * (b.val / 16 % 4) + 4 * (b.val % 16 / 2) + 2 * (c.val / 128) + c.val / 64 % 2 = _; omega)).symm (by show b.val % 16 % 2 = _; omega)
  rw [hc, hs]
  rfl

/-- A target's part of the first layer. -/
theorem C_at (b : Fin 1024) (c : Fin 256) : val_main_v83 (F := Ideal) x3 x4 x6 x10 (ix2 b c) = (envOf x0 x1 x2 x3 x4 x6 x7 x8 x9 x10 x11 x12).C b.val c.val := by
  rw [val_main_v83_apply, val_main_v81_apply, val_main_v82_apply, eq2 (idx_main_v82 _) 0 c rfl rfl]
  refine congrArg₂ (· + ·) ?_ (nat2_at (n := 1) 0 x10 0 c).symm
  rw [← Fin.sum_univ_eq_sum_range (fun f => (envOf x0 x1 x2 x3 x4 x6 x7 x8 x9 x10 x11 x12).T b.val f * (envOf x0 x1 x2 x3 x4 x6 x7 x8 x9 x10 x11 x12).w1t f c.val) 256]
  refine Finset.sum_congr rfl fun f _ => ?_
  rw [eq2 (lidx_main_v81 _ f) b f rfl rfl, eq2 (ridx_main_v81 _ f) f c rfl rfl, T_at x0 x1 x2 x3 x4 x6 x7 x8 x9 x10 x11 x12]
  exact congrArg _ (nat2_at (0 : EReal) x6 f c).symm

end Cert.Proof.Ref

end
-- ==== Proof.Windows.lean ====
module

public import proofs.«01_k».proof.Proof.Frame
public import proofs.«01_k».proof.Proof.RefTok
public import Idealize.ShloMosaic.Lib.Pipeline.ArrRel
public import Idealize.ShloMosaic.Lib.Pipeline.ValueKit

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Spec Cert.Proof.Ref

set_option maxRecDepth 16384
set_option maxHeartbeats 2000000

/-- What an input window's buffer holds at a point: the block fetched. -/
theorem finds_input {nD : ℕ} {τ : Topo} {sig : RefSig} {Val : EltTy → Type} [∀ e, Nonempty (Val e)] {Λ : Labels} {Ix : Type} [DecidableEq Ix] {Name : Type} [DecidableEq Name] {U : Type} [URA U] {Lvl : Type}
    {cfg : Pipeline.Cfg sig Λ} {c : Dev nD} (rd : Pipeline.RDat τ Val Ix Name U Lvl cfg c) (w : Fin cfg.W) (hin : (cfg.win w).isOut = false)
    (hclip : ∀ i i', (cfg.win w).clip i = (cfg.win w).clip i') (haft : ∀ t Y X, rd.after w t Y X → X = Y) (n : ℕ) :
    ∀ (t : Fin cfg.N), t.val = n → ∀ X, rd.Finds w t X → ∃ d, X = rd.fetched w t d := by
  induction n with
  | zero =>
    intro t ht X h
    refine (rd.finds_of_fetch ?_ X).1 h
    simp [Pipeline.Window.fetch, hin, ht]
  | succ n ih =>
    intro t ht X h
    by_cases hf : (cfg.win w).fetch t = true
    · exact (rd.finds_of_fetch hf X).1 h
    · have hf' : (cfg.win w).fetch t = false := by simpa using hf
      have hix : (cfg.win w).index t = (cfg.win w).index ⟨t.val - 1, Nat.lt_of_le_of_lt (Nat.sub_le _ _) t.isLt⟩ := by
        by_contra hne
        apply hf
        unfold Pipeline.Window.fetch
        rw [hin]
        simp only [Bool.not_false, Bool.true_and, Bool.or_eq_true, decide_eq_true_eq]
        exact .inr ⟨by omega, hne⟩
      rcases (rd.finds_of_pos hf' (by omega) X).1 h with hfl | ⟨Y, hY, hYX⟩
      · unfold Pipeline.Window.flush at hfl
        rw [hin] at hfl
        exact absurd hfl (by simp)
      · obtain rfl := haft _ _ _ hYX
        obtain ⟨d, hd⟩ := ih ⟨t.val - 1, Nat.lt_of_le_of_lt (Nat.sub_le _ _) t.isLt⟩ (by show t.val - 1 = n; omega) _ hY
        exact ⟨d, hd.trans (rd.fetched_congr w hix (hclip _ _) d).symm⟩

section
variable (m : (ℓ : Loc nD τ sig) → Buf (Elt Ideal) ℓ) (hpre : PreAt m)

/-- How many tiles. -/
abbrev ntl : ℕ := (pf₀ m 0 fun a => a.elim0).toNat

theorem N_eq : (cfgA (adm m hpre)).N = ntl m := by
  show (List.ofFn (cfgA (adm m hpre)).grid.bound).prod = _
  show (List.ofFn fun a : Fin 1 => (cfgA (adm m hpre)).grid.bound a).prod = _
  rw [List.ofFn_succ, List.ofFn_zero, List.prod_cons, List.prod_nil, Nat.mul_one]
  rfl

theorem coord_eq (t : Fin (cfgA (adm m hpre)).N) : ((cfgA (adm m hpre)).grid.coords t 0).val = t.val := by
  rw [Pipeline.Grid.coords_val t 0 (S := 1) (B := ntl m) rfl rfl, Nat.div_one]
  exact Nat.mod_eq_of_lt (t.isLt.trans_eq (N_eq m hpre))

theorem t_lt (t : Fin (cfgA (adm m hpre)).N) : t.val < 128 :=
  (t.isLt.trans_eq (N_eq m hpre)).trans_le (n_bounds m hpre).2

variable (aft : (w : Fin 13) → Fin (cfgA (adm m hpre)).N → (Y X : ((cfgA (adm m hpre)).win w).block.Idx → Elt Ideal ((cfgA (adm m hpre)).win w).elt) → Prop) (Inv : ℕ → Scr Ideal → Prop) (c : Dev nD)
  (haft : ∀ w : Fin 13, w.val < 11 → ∀ t Y X, aft w t Y X → X = Y) (t : Fin (cfgA (adm m hpre)).N)

include haft in
theorem win_0 (Y) (h : (rdat (adm m hpre) (V₀ m) aft Inv c).Finds 0 t Y) (i : Fin 512) (j : Fin 128) : Y (ix2 i j) = V₀ m c main_arg1 (ix2 ⟨512 * t.val + i.val, (show 512 * t.val + i.val < 66048 by have := t_lt m hpre t; omega)⟩ j) := by
  obtain ⟨d, rfl⟩ := finds_input _ 0 rfl (fun _ _ => rfl) (haft 0 (by decide)) _ t rfl Y h
  show V₀ m c main_arg1 (((cfgA (adm m hpre)).win 0).rect t |>.emb (ix2 i j)) = _
  refine congrArg (V₀ m c main_arg1) (eq2 _ _ _ ?_ ?_)
  · show (BitVec.ofNat 32 ((cfgA (adm m hpre)).grid.coords t 0).val).toNat * 512 + 1 * i.val = 512 * t.val + i.val
    rw [coord_eq, BitVec.toNat_ofNat, Nat.mod_eq_of_lt (by have := t_lt m hpre t; omega)]
    omega
  · show 0 * 128 + 1 * j.val = j.val; omega

include haft in
theorem win_1 (Y) (h : (rdat (adm m hpre) (V₀ m) aft Inv c).Finds 1 t Y) (i : Fin 16) (j : Fin 128) : Y (ix2 i j) = V₀ m c main_arg2 (ix2 ⟨16 * t.val + i.val, (show 16 * t.val + i.val < 2064 by have := t_lt m hpre t; omega)⟩ j) := by
  obtain ⟨d, rfl⟩ := finds_input _ 1 rfl (fun _ _ => rfl) (haft 1 (by decide)) _ t rfl Y h
  show V₀ m c main_arg2 (((cfgA (adm m hpre)).win 1).rect t |>.emb (ix2 i j)) = _
  refine congrArg (V₀ m c main_arg2) (eq2 _ _ _ ?_ ?_)
  · show (BitVec.ofNat 32 ((cfgA (adm m hpre)).grid.coords t 0).val).toNat * 16 + 1 * i.val = 16 * t.val + i.val
    rw [coord_eq, BitVec.toNat_ofNat, Nat.mod_eq_of_lt (by have := t_lt m hpre t; omega)]
    omega
  · show 0 * 128 + 1 * j.val = j.val; omega

include haft in
theorem win_2 (Y) (h : (rdat (adm m hpre) (V₀ m) aft Inv c).Finds 2 t Y) (i : Fin 512) (j : Fin 128) : Y (ix2 i j) = V₀ m c main_arg3 (ix2 ⟨65536 + i.val, (by omega)⟩ j) := by
  obtain ⟨d, rfl⟩ := finds_input _ 2 rfl (fun _ _ => rfl) (haft 2 (by decide)) _ t rfl Y h
  show V₀ m c main_arg3 (((cfgA (adm m hpre)).win 2).rect t |>.emb (ix2 i j)) = _
  refine congrArg (V₀ m c main_arg3) (eq2 _ _ _ ?_ ?_)
  · show 128 * 512 + 1 * i.val = 65536 + i.val; omega
  · show 0 * 128 + 1 * j.val = j.val; omega

include haft in
theorem win_3 (Y) (h : (rdat (adm m hpre) (V₀ m) aft Inv c).Finds 3 t Y) (i : Fin 16) (j : Fin 128) : Y (ix2 i j) = V₀ m c main_arg4 (ix2 ⟨2048 + i.val, (by omega)⟩ j) := by
  obtain ⟨d, rfl⟩ := finds_input _ 3 rfl (fun _ _ => rfl) (haft 3 (by decide)) _ t rfl Y h
  show V₀ m c main_arg4 (((cfgA (adm m hpre)).win 3).rect t |>.emb (ix2 i j)) = _
  refine congrArg (V₀ m c main_arg4) (eq2 _ _ _ ?_ ?_)
  · show 128 * 16 + 1 * i.val = 2048 + i.val; omega
  · show 0 * 128 + 1 * j.val = j.val; omega

include haft in
theorem win_4 (Y) (h : (rdat (adm m hpre) (V₀ m) aft Inv c).Finds 4 t Y) (i : Fin 256) (j : Fin 256) : Y (ix2 i j) = V₀ m c main_arg6 (ix2 i j) := by
  obtain ⟨d, rfl⟩ := finds_input _ 4 rfl (fun _ _ => rfl) (haft 4 (by decide)) _ t rfl Y h
  show V₀ m c main_arg6 (((cfgA (adm m hpre)).win 4).rect t |>.emb (ix2 i j)) = _
  refine congrArg (V₀ m c main_arg6) (eq2 _ _ _ ?_ ?_)
  · show 0 * 256 + 1 * i.val = i.val; omega
  · show 0 * 256 + 1 * j.val = j.val; omega

include haft in
theorem win_5 (Y) (h : (rdat (adm m hpre) (V₀ m) aft Inv c).Finds 5 t Y) (i : Fin 768) (j : Fin 256) : Y (ix2 i j) = V₀ m c main_arg7 (ix2 i j) := by
  obtain ⟨d, rfl⟩ := finds_input _ 5 rfl (fun _ _ => rfl) (haft 5 (by decide)) _ t rfl Y h
  show V₀ m c main_arg7 (((cfgA (adm m hpre)).win 5).rect t |>.emb (ix2 i j)) = _
  refine congrArg (V₀ m c main_arg7) (eq2 _ _ _ ?_ ?_)
  · show 0 * 768 + 1 * i.val = i.val; omega
  · show 0 * 256 + 1 * j.val = j.val; omega

include haft in
theorem win_6 (Y) (h : (rdat (adm m hpre) (V₀ m) aft Inv c).Finds 6 t Y) (i : Fin 256) (j : Fin 128) : Y (ix2 i j) = V₀ m c main_arg8 (ix2 i j) := by
  obtain ⟨d, rfl⟩ := finds_input _ 6 rfl (fun _ _ => rfl) (haft 6 (by decide)) _ t rfl Y h
  show V₀ m c main_arg8 (((cfgA (adm m hpre)).win 6).rect t |>.emb (ix2 i j)) = _
  refine congrArg (V₀ m c main_arg8) (eq2 _ _ _ ?_ ?_)
  · show 0 * 256 + 1 * i.val = i.val; omega
  · show 0 * 128 + 1 * j.val = j.val; omega

include haft in
theorem win_7 (Y) (h : (rdat (adm m hpre) (V₀ m) aft Inv c).Finds 7 t Y) (i : Fin 256) (j : Fin 256) : Y (ix2 i j) = V₀ m c main_v5 (ix2 i j) := by
  obtain ⟨d, rfl⟩ := finds_input _ 7 rfl (fun _ _ => rfl) (haft 7 (by decide)) _ t rfl Y h
  show V₀ m c main_v5 (((cfgA (adm m hpre)).win 7).rect t |>.emb (ix2 i j)) = _
  refine congrArg (V₀ m c main_v5) (eq2 _ _ _ ?_ ?_)
  · show 0 * 256 + 1 * i.val = i.val; omega
  · show 0 * 256 + 1 * j.val = j.val; omega

include haft in
theorem win_8 (Y) (h : (rdat (adm m hpre) (V₀ m) aft Inv c).Finds 8 t Y) (i : Fin 1) (j : Fin 256) : Y (ix2 i j) = V₀ m c main_arg10 (ix2 i j) := by
  obtain ⟨d, rfl⟩ := finds_input _ 8 rfl (fun _ _ => rfl) (haft 8 (by decide)) _ t rfl Y h
  show V₀ m c main_arg10 (((cfgA (adm m hpre)).win 8).rect t |>.emb (ix2 i j)) = _
  refine congrArg (V₀ m c main_arg10) (eq2 _ _ _ ?_ ?_)
  · show 0 * 1 + 1 * i.val = i.val; omega
  · show 0 * 256 + 1 * j.val = j.val; omega

include haft in
theorem win_9 (Y) (h : (rdat (adm m hpre) (V₀ m) aft Inv c).Finds 9 t Y) (i : Fin 1) (j : Fin 256) : Y (ix2 i j) = V₀ m c main_arg11 (ix2 i j) := by
  obtain ⟨d, rfl⟩ := finds_input _ 9 rfl (fun _ _ => rfl) (haft 9 (by decide)) _ t rfl Y h
  show V₀ m c main_arg11 (((cfgA (adm m hpre)).win 9).rect t |>.emb (ix2 i j)) = _
  refine congrArg (V₀ m c main_arg11) (eq2 _ _ _ ?_ ?_)
  · show 0 * 1 + 1 * i.val = i.val; omega
  · show 0 * 256 + 1 * j.val = j.val; omega

include haft in
theorem win_10 (Y) (h : (rdat (adm m hpre) (V₀ m) aft Inv c).Finds 10 t Y) (i : Fin 1) (j : Fin 128) : Y (ix2 i j) = V₀ m c main_arg12 (ix2 i j) := by
  obtain ⟨d, rfl⟩ := finds_input _ 10 rfl (fun _ _ => rfl) (haft 10 (by decide)) _ t rfl Y h
  show V₀ m c main_arg12 (((cfgA (adm m hpre)).win 10).rect t |>.emb (ix2 i j)) = _
  refine congrArg (V₀ m c main_arg12) (eq2 _ _ _ ?_ ?_)
  · show 0 * 1 + 1 * i.val = i.val; omega
  · show 0 * 128 + 1 * j.val = j.val; omega

end

end Cert.Proof.KernelIdeal

end
-- ==== Proof.RefOut.lean ====
/- The reference's results, read at an index. -/
module

public import proofs.«01_k».proof.Proof.RefTok
public import proofs.«01_k».proof.Proof.Comb

@[expose] public section

set_option maxRecDepth 16384

noncomputable section

namespace Cert.Proof.Ref

open Idealize.ShloMosaic Idealize.ShloMosaic.StableHlo.Predicate
open Cert.ReferenceIdeal Cert.ReferenceIdeal.Gen Cert.ReferenceIdeal.Read Cert.Proof.Spec

theorem slt_small (i n : ℕ) (hi : i < 2 ^ 31) (hn : n < 2 ^ 31) : IntOp.cmpi .slt (BitVec.ofNat 32 i) (BitVec.ofNat 32 n) = BitVec.ofBool (decide (i < n)) := by
  unfold IntOp.cmpi
  simp only [BitVec.slt, toInt_ofNat_small i hi, toInt_ofNat_small n hn, Nat.cast_lt]

theorem eq_small (i n : ℕ) (hi : i < 2 ^ 32) (hn : n < 2 ^ 32) : IntOp.cmpi .eq (BitVec.ofNat 32 i) (BitVec.ofNat 32 n) = BitVec.ofBool (decide (i = n)) := by
  unfold IntOp.cmpi
  congr 1
  by_cases h : i = n
  · simp [h]
  · have : ¬ (BitVec.ofNat 32 i = BitVec.ofNat 32 n) := fun hh => h (by
      have := congrArg BitVec.toNat hh
      rw [BitVec.toNat_ofNat, BitVec.toNat_ofNat] at this
      omega)
    rw [decide_eq_false h]; exact beq_eq_false_iff_ne.2 this

theorem own_val (p q : Prop) [Decidable p] [Decidable q] (z : EReal) :
    FloatOps.uitofp (F := Ideal) .f32 (IntOp.andi (BitVec.ofBool (decide p)) (BitVec.ofBool (decide q))) * z = if p ∧ q then z else 0 := by
  have h1 : FloatOps.uitofp (F := Ideal) .f32 1#1 = (1 : EReal) := by
    show ((((1#1 : BitVec 1).toNat : ℝ)) : EReal) = 1
    simp
  have h0 : FloatOps.uitofp (F := Ideal) .f32 0#1 = (0 : EReal) := by
    show ((((0#1 : BitVec 1).toNat : ℝ)) : EReal) = 0
    simp
  by_cases hp : p
  · by_cases hq : q
    · rw [decide_eq_true hp, decide_eq_true hq, if_pos ⟨hp, hq⟩, show IntOp.andi (BitVec.ofBool true) (BitVec.ofBool true) = 1#1 by decide, h1, one_mul]
    · rw [decide_eq_true hp, decide_eq_false hq, if_neg (fun h => hq h.2), show IntOp.andi (BitVec.ofBool true) (BitVec.ofBool false) = 0#1 by decide, h0, zero_mul]
  · rw [decide_eq_false hp, if_neg (fun h => hp h.1), show ∀ b : BitVec 1, IntOp.andi (BitVec.ofBool false) b = 0#1 by decide, h0, zero_mul]

variable (x0 : (⟨S8192, .i32⟩ : BufTy).Contents (Elt Ideal)) (x1 : (⟨S66048x128, .i32⟩ : BufTy).Contents (Elt Ideal)) (x2 : (⟨S2064x128, .i32⟩ : BufTy).Contents (Elt Ideal)) (x3 : (⟨S66048x128, .i32⟩ : BufTy).Contents (Elt Ideal)) (x4 : (⟨S2064x128, .i32⟩ : BufTy).Contents (Elt Ideal)) (x5 : (⟨S_, .i32⟩ : BufTy).Contents (Elt Ideal)) (x6 : (⟨S256x256, .bf16⟩ : BufTy).Contents (Elt Ideal)) (x7 : (⟨S768x256, .bf16⟩ : BufTy).Contents (Elt Ideal)) (x8 : (⟨S256x128, .bf16⟩ : BufTy).Contents (Elt Ideal)) (x9 : (⟨S128, .bf16⟩ : BufTy).Contents (Elt Ideal)) (x10 : (⟨S1x256, .f32⟩ : BufTy).Contents (Elt Ideal)) (x11 : (⟨S1x256, .f32⟩ : BufTy).Contents (Elt Ideal)) (x12 : (⟨S1x128, .f32⟩ : BufTy).Contents (Elt Ideal))
variable (nt : ℕ) (hI : (envOf x0 x1 x2 x3 x4 x6 x7 x8 x9 x10 x11 x12).InOrder nt) (hb : ∀ g < 8192, (IntOp.andi (IntOp.shrsi .scalar ((envOf x0 x1 x2 x3 x4 x6 x7 x8 x9 x10 x11 x12).tab g) 5#32) 7#32).toNat = (envOf x0 x1 x2 x3 x4 x6 x7 x8 x9 x10 x11 x12).blk g) (hn : x5 (fun a => a.elim0) = BitVec.ofNat 32 nt)

include hI hn in
/-- Whose group it is. -/
theorem own_at (g : Fin 8192) (b : Fin 1024) (z : EReal) : val_main_v21 (F := Ideal) x0 x5 (ix2 g b) * z = if (envOf x0 x1 x2 x3 x4 x6 x7 x8 x9 x10 x11 x12).row g.val = b.val ∧ g.val < 64 * nt then z else 0 := by
  have hr : val_main_v1 (F := Ideal) x0 (ix1 g) = BitVec.ofNat 32 ((envOf x0 x1 x2 x3 x4 x6 x7 x8 x9 x10 x11 x12).row g.val) := by
    apply BitVec.eq_of_toNat_eq
    have h2 := hI.shr g.val g.isLt
    have h3 := hI.row_le g.val g.isLt
    rw [shrsi8 _ 8 (by decide), tab_at x0 x1 x2 x3 x4 x6 x7 x8 x9 x10 x11 x12] at h2
    rw [val_main_v1_apply, val_main_v0_apply, val_main_c_apply, shrsi8 _ 8 (by decide), h2, BitVec.toNat_ofNat]
    omega
  have hm : val_main_v15 (F := Ideal) x5 (fun a => a.elim0) = BitVec.ofNat 32 (64 * nt) := by
    rw [val_main_v15_apply, val_main_c_3_apply, hn]
    apply BitVec.eq_of_toNat_eq
    have := hI.nt_le
    show (64#32 * BitVec.ofNat 32 nt).toNat = _
    simp only [BitVec.toNat_mul, BitVec.toNat_ofNat]
    omega
  have h1 := hI.nt_le
  have h3 := hI.row_le g.val g.isLt
  rw [val_main_v21_apply, val_main_v20_apply, val_main_v13_apply, val_main_v11_apply, eq2 (idx_main_v11 _) g 0 rfl rfl, val_main_v8_apply, eq1 (idx_main_v8 _) g rfl, hr, val_main_v12_apply, eq2 (idx_main_v12 _) 0 b rfl rfl, val_main_v10_apply, val_main_v9_apply,
    val_main_v19_apply, eq2 (idx_main_v19 _) g 0 rfl rfl, val_main_v18_apply, eq1 (idx_main_v18 _) g rfl, val_main_v17_apply, val_main_v14_apply, val_main_v16_apply, hm]
  show FloatOps.uitofp (F := Ideal) .f32 (IntOp.andi (IntOp.cmpi .eq (BitVec.ofNat 32 _) (BitVec.ofNat 32 b.val)) (IntOp.cmpi .slt (BitVec.ofNat 32 g.val) (BitVec.ofNat 32 (64 * nt)))) * z = _
  rw [eq_small _ _ (by omega) (by omega), slt_small _ _ (by omega) (by omega)]
  exact own_val _ _ z

include hI hn in
/-- A sum over the rows is the group's own. -/
theorem own_sum (g : Fin 8192) (hg : g.val < 64 * nt) (hr : (envOf x0 x1 x2 x3 x4 x6 x7 x8 x9 x10 x11 x12).row g.val < 1024) (z : Fin 1024 → EReal) :
    (∑ b : Fin 1024, val_main_v21 (F := Ideal) x0 x5 (ix2 g b) * z b) = z ⟨(envOf x0 x1 x2 x3 x4 x6 x7 x8 x9 x10 x11 x12).row g.val, hr⟩ := by
  rw [Finset.sum_eq_single ⟨(envOf x0 x1 x2 x3 x4 x6 x7 x8 x9 x10 x11 x12).row g.val, hr⟩]
  · rw [own_at x0 x1 x2 x3 x4 x5 x6 x7 x8 x9 x10 x11 x12 nt hI hn, if_pos ⟨rfl, hg⟩]
  · intro b _ hne
    rw [own_at x0 x1 x2 x3 x4 x5 x6 x7 x8 x9 x10 x11 x12 nt hI hn, if_neg (fun h => hne (Fin.ext h.1.symm))]
  · exact fun h => absurd (Finset.mem_univ _) h

variable (g : Fin 8192) (hg : g.val < 64 * nt) (hr : (envOf x0 x1 x2 x3 x4 x6 x7 x8 x9 x10 x11 x12).row g.val < 1024)

include hI hn hg hr in
theorem tg_at (k : Fin 16) (c : Fin 256) : val_main_v89 (F := Ideal) x0 x3 x4 x5 (ix3 g k c) = (envOf x0 x1 x2 x3 x4 x6 x7 x8 x9 x10 x11 x12).T ((envOf x0 x1 x2 x3 x4 x6 x7 x8 x9 x10 x11 x12).row g.val) c.val := by
  rw [val_main_v89_apply, eq3 (idx_main_v89 _) g 0 c rfl rfl rfl, val_main_v88_apply, eq2 (idx_main_v88 _) g c rfl rfl, val_main_v86_apply]
  show val_main_v85 (F := Ideal) x0 x3 x4 x5 (ix2 g c) = _
  rw [val_main_v85_apply]
  refine (Finset.sum_congr rfl fun b _ => ?_).trans (own_sum x0 x1 x2 x3 x4 x5 x6 x7 x8 x9 x10 x11 x12 nt hI hn g hg hr (fun b => (envOf x0 x1 x2 x3 x4 x6 x7 x8 x9 x10 x11 x12).T b.val c.val))
  rw [eq2 (lidx_main_v85 _ b) g b rfl rfl, eq2 (ridx_main_v85 _ b) b c rfl rfl, T_at x0 x1 x2 x3 x4 x6 x7 x8 x9 x10 x11 x12]
  rfl

include hI hn hg hr in
theorem cg_at (k : Fin 16) (c : Fin 256) : val_main_v95 (F := Ideal) x0 x3 x4 x5 x6 x10 (ix3 g k c) = (envOf x0 x1 x2 x3 x4 x6 x7 x8 x9 x10 x11 x12).C ((envOf x0 x1 x2 x3 x4 x6 x7 x8 x9 x10 x11 x12).row g.val) c.val := by
  rw [val_main_v95_apply, eq3 (idx_main_v95 _) g 0 c rfl rfl rfl, val_main_v94_apply, eq2 (idx_main_v94 _) g c rfl rfl, val_main_v87_apply]
  refine (Finset.sum_congr rfl fun b _ => ?_).trans (own_sum x0 x1 x2 x3 x4 x5 x6 x7 x8 x9 x10 x11 x12 nt hI hn g hg hr (fun b => (envOf x0 x1 x2 x3 x4 x6 x7 x8 x9 x10 x11 x12).C b.val c.val))
  rw [eq2 (lidx_main_v87 _ b) g b rfl rfl, eq2 (ridx_main_v87 _ b) b c rfl rfl, C_at x0 x1 x2 x3 x4 x6 x7 x8 x9 x10 x11 x12]

include hI hn hg hr in
theorem X_at (k : Fin 16) (f : Fin 768) : val_main_v92 (F := Ideal) x0 x1 x2 x3 x4 x5 (ix3 g k f) = (envOf x0 x1 x2 x3 x4 x6 x7 x8 x9 x10 x11 x12).X g.val k.val f.val := by
  have hcat : val_main_v92 (F := Ideal) x0 x1 x2 x3 x4 x5 (ix3 g k f) = if h : f.val < 256 then val_main_v52 (F := Ideal) x0 x1 x2 (ix3 g k ⟨f.val, h⟩) else if h' : f.val - 256 < 256 then val_main_v90 (F := Ideal) x0 x1 x2 x3 x4 x5 (ix3 g k ⟨f.val - 256, h'⟩) else val_main_v91 (F := Ideal) x0 x1 x2 x3 x4 x5 (ix3 g k ⟨f.val - 256 - 256, by omega⟩) := by
    unfold val_main_v92
    generalize val_main_v52 (F := Ideal) x0 x1 x2 = y0
    generalize val_main_v90 (F := Ideal) x0 x1 x2 x3 x4 x5 = y1
    generalize val_main_v91 (F := Ideal) x0 x1 x2 x3 x4 x5 = y2
    pointwise []
  rw [hcat]
  unfold Env.X
  by_cases h : f.val < 256
  · rw [dif_pos h, if_pos h]
    exact H_at x0 x1 x2 x3 x4 x6 x7 x8 x9 x10 x11 x12 g k ⟨f.val, h⟩
  · rw [dif_neg h, if_neg h]
    by_cases h' : f.val < 512
    · rw [dif_pos (by omega), if_pos h', val_main_v90_apply, tg_at x0 x1 x2 x3 x4 x5 x6 x7 x8 x9 x10 x11 x12 nt hI hn g hg hr, H_at x0 x1 x2 x3 x4 x6 x7 x8 x9 x10 x11 x12]
      rfl
    · rw [dif_neg (by omega), if_neg h', val_main_v91_apply, tg_at x0 x1 x2 x3 x4 x5 x6 x7 x8 x9 x10 x11 x12 nt hI hn g hg hr, H_at x0 x1 x2 x3 x4 x6 x7 x8 x9 x10 x11 x12]
      show (envOf x0 x1 x2 x3 x4 x6 x7 x8 x9 x10 x11 x12).H g.val k.val (f.val - 256 - 256) * (envOf x0 x1 x2 x3 x4 x6 x7 x8 x9 x10 x11 x12).T _ (f.val - 256 - 256) = _
      rw [show f.val - 256 - 256 = f.val - 512 by omega]

include hI hn hg hr in
theorem Y1_at (k : Fin 16) (c : Fin 256) : val_main_v103 (F := Ideal) x0 x1 x2 x3 x4 x5 x6 x7 x10 x11 (ix3 g k c) = (envOf x0 x1 x2 x3 x4 x6 x7 x8 x9 x10 x11 x12).Y1 g.val k.val c.val := by
  have hz : val_main_v96 (F := Ideal) x0 x1 x2 x3 x4 x5 x6 x7 x10 (ix3 g k c) = (∑ f ∈ Finset.range 768, (envOf x0 x1 x2 x3 x4 x6 x7 x8 x9 x10 x11 x12).X g.val k.val f * (envOf x0 x1 x2 x3 x4 x6 x7 x8 x9 x10 x11 x12).w1 f c.val) + (envOf x0 x1 x2 x3 x4 x6 x7 x8 x9 x10 x11 x12).C ((envOf x0 x1 x2 x3 x4 x6 x7 x8 x9 x10 x11 x12).row g.val) c.val := by
    rw [val_main_v96_apply, val_main_v93_apply, cg_at x0 x1 x2 x3 x4 x5 x6 x7 x8 x9 x10 x11 x12 nt hI hn g hg hr]
    refine congrArg (· + _) ?_
    rw [← Fin.sum_univ_eq_sum_range (fun f => (envOf x0 x1 x2 x3 x4 x6 x7 x8 x9 x10 x11 x12).X g.val k.val f * (envOf x0 x1 x2 x3 x4 x6 x7 x8 x9 x10 x11 x12).w1 f c.val) 768]
    refine Finset.sum_congr rfl fun f _ => ?_
    rw [eq3 (lidx_main_v93 _ f) g k f rfl rfl rfl, eq2 (ridx_main_v93 _ f) f c rfl rfl, X_at x0 x1 x2 x3 x4 x5 x6 x7 x8 x9 x10 x11 x12 nt hI hn g hg hr]
    exact congrArg _ (nat2_at (0 : EReal) x7 f c).symm
  rw [val_main_v103_apply, val_main_v102_apply, val_main_v98_apply, val_main_v101_apply, hz, val_main_v97_apply, val_main_cst_11_apply, val_main_v100_apply, eq3 (idx_main_v100 _) 0 0 c rfl rfl rfl, val_main_v99_apply, eq2 (idx_main_v99 _) 0 c rfl rfl]
  refine (act_of _ _).trans ?_
  unfold Env.Y1
  exact congrArg (act _) (nat2_at (n := 1) (0 : EReal) x11 0 c).symm

include hI hn hg hr in
theorem Y2_at (k : Fin 16) (c : Fin 128) : val_main_v111 (F := Ideal) x0 x1 x2 x3 x4 x5 x6 x7 x8 x10 x11 x12 (ix3 g k c) = (envOf x0 x1 x2 x3 x4 x6 x7 x8 x9 x10 x11 x12).Y2 g.val k.val c.val := by
  have hz : val_main_v104 (F := Ideal) x0 x1 x2 x3 x4 x5 x6 x7 x8 x10 x11 (ix3 g k c) = ∑ f ∈ Finset.range 256, (envOf x0 x1 x2 x3 x4 x6 x7 x8 x9 x10 x11 x12).Y1 g.val k.val f * (envOf x0 x1 x2 x3 x4 x6 x7 x8 x9 x10 x11 x12).w2 f c.val := by
    rw [val_main_v104_apply, ← Fin.sum_univ_eq_sum_range (fun f => (envOf x0 x1 x2 x3 x4 x6 x7 x8 x9 x10 x11 x12).Y1 g.val k.val f * (envOf x0 x1 x2 x3 x4 x6 x7 x8 x9 x10 x11 x12).w2 f c.val) 256]
    refine Finset.sum_congr rfl fun f _ => ?_
    rw [eq3 (lidx_main_v104 _ f) g k f rfl rfl rfl, eq2 (ridx_main_v104 _ f) f c rfl rfl, Y1_at x0 x1 x2 x3 x4 x5 x6 x7 x8 x9 x10 x11 x12 nt hI hn g hg hr]
    exact congrArg _ (nat2_at (0 : EReal) x8 f c).symm
  rw [val_main_v111_apply, val_main_v110_apply, val_main_v106_apply, val_main_v109_apply, hz, val_main_v105_apply, val_main_cst_12_apply, val_main_v108_apply, eq3 (idx_main_v108 _) 0 0 c rfl rfl rfl, val_main_v107_apply, eq2 (idx_main_v107 _) 0 c rfl rfl]
  refine (act_of _ _).trans ?_
  unfold Env.Y2
  exact congrArg (act _) (nat2_at (n := 1) (0 : EReal) x12 0 c).symm

include hI hn hg hr in
theorem S_at (k : Fin 16) : val_main_v112 (F := Ideal) x0 x1 x2 x3 x4 x5 x6 x7 x8 x9 x10 x11 x12 (ix2 g k) = (envOf x0 x1 x2 x3 x4 x6 x7 x8 x9 x10 x11 x12).S g.val k.val := by
  unfold Env.S
  rw [val_main_v112_apply, ← Fin.sum_univ_eq_sum_range (fun f => (envOf x0 x1 x2 x3 x4 x6 x7 x8 x9 x10 x11 x12).Y2 g.val k.val f * (envOf x0 x1 x2 x3 x4 x6 x7 x8 x9 x10 x11 x12).w3 f) 128]
  refine Finset.sum_congr rfl fun f _ => ?_
  rw [eq3 (lidx_main_v112 _ f) g k f rfl rfl rfl, eq1 (ridx_main_v112 _ f) f rfl, Y2_at x0 x1 x2 x3 x4 x5 x6 x7 x8 x9 x10 x11 x12 nt hI hn g hg hr]
  exact congrArg _ (nat1_at (0 : EReal) x9 f).symm

include hI hn hg hr in
/-- What a group adds to the interest. -/
theorem part_at (c : Fin 256) : val_main_v117 (F := Ideal) x0 x1 x2 x3 x4 x5 x6 x7 x8 x9 x10 x11 x12 (ix2 g c) = ∑ κ ∈ Finset.range 16, (envOf x0 x1 x2 x3 x4 x6 x7 x8 x9 x10 x11 x12).part (c.val / 128) g.val κ (c.val % 128) := by
  have hz : val_main_cst_13 (F := Ideal) (Shape.Idx.first h_S_) = 0 := Ideal.ofBits_zero .f32
  rw [val_main_v117_apply, hz, zero_add, ← Fin.sum_univ_eq_sum_range (fun κ => (envOf x0 x1 x2 x3 x4 x6 x7 x8 x9 x10 x11 x12).part (c.val / 128) g.val κ (c.val % 128)) 16]
  refine Finset.sum_congr rfl fun k _ => ?_
  rw [eq3 (idx_main_v117 _ k) g k c rfl rfl rfl, val_main_v116_apply, val_main_v115_apply, eq3 (idx_main_v115 _) g k 0 rfl rfl rfl, val_main_v113_apply, eq2 (idx_main_v113 _) g k rfl rfl, S_at x0 x1 x2 x3 x4 x5 x6 x7 x8 x9 x10 x11 x12 nt hI hn g hg hr, val_main_v114_apply, H_at x0 x1 x2 x3 x4 x6 x7 x8 x9 x10 x11 x12]
  show (envOf x0 x1 x2 x3 x4 x6 x7 x8 x9 x10 x11 x12).S g.val k.val * (envOf x0 x1 x2 x3 x4 x6 x7 x8 x9 x10 x11 x12).H g.val k.val c.val = _
  unfold Env.part
  have := c.isLt
  by_cases h : c.val < 128
  · rw [if_pos (by omega), Nat.mod_eq_of_lt h]
  · rw [if_neg (by omega), if_pos (by omega), show 128 + c.val % 128 = c.val by omega]

include hI hb hn hg hr in
/-- What a group adds to the scores. -/
theorem score_at (l : Fin 128) : val_main_v144 (F := Ideal) x0 x1 x2 x3 x4 x5 x6 x7 x8 x9 x10 x11 x12 (ix2 g l) = ∑ κ ∈ Finset.range 16, (envOf x0 x1 x2 x3 x4 x6 x7 x8 x9 x10 x11 x12).part 2 g.val κ l.val := by
  have hz : val_main_cst_16 (F := Ideal) (Shape.Idx.first h_S_) = 0 := Ideal.ofBits_zero .f32
  have hnv : val_main_v7 (F := Ideal) x0 (ix1 g) = BitVec.ofNat 32 ((envOf x0 x1 x2 x3 x4 x6 x7 x8 x9 x10 x11 x12).nv g.val) := by
    apply BitVec.eq_of_toNat_eq
    rw [val_main_v7_apply, val_main_v6_apply, val_main_c_2_apply, nv_at x0 x1 x2 x3 x4 x6 x7 x8 x9 x10 x11 x12, BitVec.toNat_ofNat]
    unfold Env.nv; omega
  have hblk : val_main_v5 (F := Ideal) x0 (ix1 g) = BitVec.ofNat 32 ((envOf x0 x1 x2 x3 x4 x6 x7 x8 x9 x10 x11 x12).blk g.val) := by
    apply BitVec.eq_of_toNat_eq
    have h2 := hb g.val g.isLt
    rw [tab_at x0 x1 x2 x3 x4 x6 x7 x8 x9 x10 x11 x12, shrsi8 _ 5 (by decide)] at h2
    rw [val_main_v5_apply, val_main_v3_apply, val_main_v2_apply, val_main_c_0_apply, val_main_v4_apply, val_main_c_1_apply, shrsi8 _ 5 (by decide), h2, BitVec.toNat_ofNat]
    unfold Env.blk; omega
  have hblt : (envOf x0 x1 x2 x3 x4 x6 x7 x8 x9 x10 x11 x12).blk g.val < 8 := by unfold Env.blk; omega
  have hnlt : (envOf x0 x1 x2 x3 x4 x6 x7 x8 x9 x10 x11 x12).nv g.val < 32 := by unfold Env.nv; omega
  rw [val_main_v144_apply, hz, zero_add, ← Fin.sum_univ_eq_sum_range (fun κ => (envOf x0 x1 x2 x3 x4 x6 x7 x8 x9 x10 x11 x12).part 2 g.val κ l.val) 16]
  refine Finset.sum_congr rfl fun k _ => ?_
  have hk := k.isLt
  have hpos : val_main_v133 (F := Ideal) x0 (ix2 g k) = BitVec.ofNat 32 (16 * (envOf x0 x1 x2 x3 x4 x6 x7 x8 x9 x10 x11 x12).blk g.val + k.val) := by
    rw [val_main_v133_apply, val_main_v131_apply, eq2 (idx_main_v131 _) g 0 rfl rfl, val_main_v129_apply, val_main_v128_apply, val_main_c_14_apply, val_main_v127_apply, eq1 (idx_main_v127 _) g rfl, hblk, val_main_v132_apply, eq2 (idx_main_v132 _) 0 k rfl rfl, val_main_v130_apply, val_main_v120_apply]
    apply BitVec.eq_of_toNat_eq
    show (16#32 * BitVec.ofNat 32 _ + BitVec.ofNat 32 k.val).toNat = _
    simp only [BitVec.toNat_add, BitVec.toNat_mul, BitVec.toNat_ofNat]
    omega
  rw [eq3 (idx_main_v144 _ k) g k l rfl rfl rfl, val_main_v143_apply, val_main_v141_apply, val_main_v140_apply, eq3 (idx_main_v140 _) g k 0 rfl rfl rfl, val_main_v126_apply, eq2 (idx_main_v126 _) g k rfl rfl, val_main_v125_apply, val_main_v123_apply, eq2 (idx_main_v123 _) 0 k rfl rfl, val_main_v121_apply, val_main_v120_apply,
    val_main_v124_apply, eq2 (idx_main_v124 _) g 0 rfl rfl, val_main_v122_apply, eq1 (idx_main_v122 _) g rfl, hnv, val_main_v139_apply, val_main_v137_apply, eq3 (idx_main_v137 _) g k 0 rfl rfl rfl, val_main_v134_apply, eq2 (idx_main_v134 _) g k rfl rfl, hpos, val_main_v138_apply, eq3 (idx_main_v138 _) 0 0 l rfl rfl rfl, val_main_v136_apply, val_main_v135_apply,
    val_main_call3_v1_apply, eq3 (idx_main_call3_v1 _) g k 0 rfl rfl rfl, val_main_v142_apply, eq2 (idx_main_v142 _) g k rfl rfl, S_at x0 x1 x2 x3 x4 x5 x6 x7 x8 x9 x10 x11 x12 nt hI hn g hg hr, val_main_call3_v2_apply]
  have hz2 : ∀ i, val_main_call3_v0 (F := Ideal) i = 0 := fun i => Ideal.ofBits_zero .f32
  rw [hz2]
  show Scalar.select (IntOp.andi (IntOp.cmpi .slt (BitVec.ofNat 32 k.val) (BitVec.ofNat 32 _)) (IntOp.cmpi .eq (BitVec.ofNat 32 _) (BitVec.ofNat 32 l.val))) _ _ = _
  rw [slt_small _ _ (by omega) (by omega), eq_small _ _ (by omega) (by omega)]
  unfold Env.part
  rw [if_neg (by decide), if_neg (by decide)]
  by_cases h1 : k.val < (envOf x0 x1 x2 x3 x4 x6 x7 x8 x9 x10 x11 x12).nv g.val
  · by_cases h2 : l.val = 16 * (envOf x0 x1 x2 x3 x4 x6 x7 x8 x9 x10 x11 x12).blk g.val + k.val
    · rw [decide_eq_true h1, decide_eq_true h2.symm, if_pos ⟨h1, h2⟩]; rfl
    · rw [decide_eq_true h1, decide_eq_false (fun h => h2 h.symm), if_neg (fun h => h2 h.2)]; rfl
  · rw [decide_eq_false h1, if_neg (fun h => h1 h.1), show ∀ b : BitVec 1, IntOp.andi (BitVec.ofBool false) b = 0#1 by decide]; rfl

omit g in
include hI hn in
/-- The groups of a row, summed. -/
theorem rows_sum (b : Fin 1024) (q l : ℕ) (z : Fin 8192 → EReal) (hz : ∀ g : Fin 8192, g.val < 64 * nt → (envOf x0 x1 x2 x3 x4 x6 x7 x8 x9 x10 x11 x12).row g.val < 1024 → z g = ∑ κ ∈ Finset.range 16, (envOf x0 x1 x2 x3 x4 x6 x7 x8 x9 x10 x11 x12).part q g.val κ l) :
    (∑ g : Fin 8192, val_main_v21 (F := Ideal) x0 x5 (ix2 g b) * z g) = Cert.Proof.KernelIdeal.total (envOf x0 x1 x2 x3 x4 x6 x7 x8 x9 x10 x11 x12) q b.val (64 * nt) l := by
  have hle := hI.nt_le
  have h1 : ∀ g : Fin 8192, val_main_v21 (F := Ideal) x0 x5 (ix2 g b) * z g = (fun g : ℕ => if g < 64 * nt then (if (envOf x0 x1 x2 x3 x4 x6 x7 x8 x9 x10 x11 x12).row g = b.val then ∑ κ ∈ Finset.range 16, (envOf x0 x1 x2 x3 x4 x6 x7 x8 x9 x10 x11 x12).part q g κ l else 0) else 0) g.val := fun g => by
    rw [own_at x0 x1 x2 x3 x4 x5 x6 x7 x8 x9 x10 x11 x12 nt hI hn]
    by_cases hg : g.val < 64 * nt
    · by_cases hr : (envOf x0 x1 x2 x3 x4 x6 x7 x8 x9 x10 x11 x12).row g.val = b.val
      · rw [if_pos ⟨hr, hg⟩, hz g hg (by have := b.isLt; omega)]
        simp only [if_pos hg, if_pos hr]
      · rw [if_neg (fun h => hr h.1)]
        simp only [if_pos hg, if_neg hr]
    · rw [if_neg (fun h => hg h.2)]
      simp only [if_neg hg]
  rw [Finset.sum_congr rfl fun g _ => h1 g, Fin.sum_univ_eq_sum_range (fun g : ℕ => if g < 64 * nt then (if (envOf x0 x1 x2 x3 x4 x6 x7 x8 x9 x10 x11 x12).row g = b.val then ∑ κ ∈ Finset.range 16, (envOf x0 x1 x2 x3 x4 x6 x7 x8 x9 x10 x11 x12).part q g κ l else 0) else 0) 8192]
  unfold Cert.Proof.KernelIdeal.total
  rw [← Finset.sum_subset (Finset.range_mono (show 64 * nt ≤ 8192 by omega))]
  · exact Finset.sum_congr rfl fun g hg => if_pos (Finset.mem_range.1 hg)
  · exact fun g _ hg => if_neg (fun h => hg (Finset.mem_range.2 h))

omit g in
include hI hn in
theorem interest_at (b : Fin 1024) (c : Fin 256) : val_main_v119 (F := Ideal) x0 x1 x2 x3 x4 x5 x6 x7 x8 x9 x10 x11 x12 (ix2 b c) = Cert.Proof.KernelIdeal.total (envOf x0 x1 x2 x3 x4 x6 x7 x8 x9 x10 x11 x12) (c.val / 128) b.val (64 * nt) (c.val % 128) := by
  rw [val_main_v119_apply]
  show val_main_v118 (F := Ideal) x0 x1 x2 x3 x4 x5 x6 x7 x8 x9 x10 x11 x12 (ix2 b c) = _
  rw [val_main_v118_apply]
  refine (Finset.sum_congr rfl fun g _ => ?_).trans (rows_sum x0 x1 x2 x3 x4 x5 x6 x7 x8 x9 x10 x11 x12 nt hI hn b (c.val / 128) (c.val % 128) (fun g => val_main_v117 (F := Ideal) x0 x1 x2 x3 x4 x5 x6 x7 x8 x9 x10 x11 x12 (ix2 g c)) (fun g hg hr => part_at x0 x1 x2 x3 x4 x5 x6 x7 x8 x9 x10 x11 x12 nt hI hn g hg hr c))
  rw [eq2 (lidx_main_v118 _ g) g b rfl rfl, eq2 (ridx_main_v118 _ g) g c rfl rfl]

omit g in
include hI hb hn in
theorem scores_at (b : Fin 1024) (l : Fin 128) : val_main_v145 (F := Ideal) x0 x1 x2 x3 x4 x5 x6 x7 x8 x9 x10 x11 x12 (ix2 b l) = Cert.Proof.KernelIdeal.total (envOf x0 x1 x2 x3 x4 x6 x7 x8 x9 x10 x11 x12) 2 b.val (64 * nt) l.val := by
  rw [val_main_v145_apply]
  refine (Finset.sum_congr rfl fun g _ => ?_).trans (rows_sum x0 x1 x2 x3 x4 x5 x6 x7 x8 x9 x10 x11 x12 nt hI hn b 2 l.val (fun g => val_main_v144 (F := Ideal) x0 x1 x2 x3 x4 x5 x6 x7 x8 x9 x10 x11 x12 (ix2 g l)) (fun g hg hr => score_at x0 x1 x2 x3 x4 x5 x6 x7 x8 x9 x10 x11 x12 nt hI hb hn g hg hr l))
  rw [eq2 (lidx_main_v145 _ g) g b rfl rfl, eq2 (ridx_main_v145 _ g) g l rfl rfl]

end Cert.Proof.Ref

end
-- ==== Proof.Value.lean ====
module

public import proofs.«01_k».proof.Proof.Steps
public import proofs.«01_k».proof.Proof.Windows
public import proofs.«01_k».proof.Proof.Words
public import proofs.«01_k».proof.Proof.RefOut

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Spec Cert.Proof.Ref

set_option maxRecDepth 16384
set_option maxHeartbeats 4000000

section
variable (m : (ℓ : Loc nD τ sig) → Buf (Elt Ideal) ℓ) (hpre : PreAt m)

/-- The operands, by natural indices. -/
abbrev env : Env := envOf (m (((0 : Dev nD).tc : Thread nD τ).loc main_arg0)) (m (((0 : Dev nD).tc : Thread nD τ).loc main_arg1)) (m (((0 : Dev nD).tc : Thread nD τ).loc main_arg2)) (m (((0 : Dev nD).tc : Thread nD τ).loc main_arg3)) (m (((0 : Dev nD).tc : Thread nD τ).loc main_arg4)) (m (((0 : Dev nD).tc : Thread nD τ).loc main_arg6)) (m (((0 : Dev nD).tc : Thread nD τ).loc main_arg7)) (m (((0 : Dev nD).tc : Thread nD τ).loc main_arg8)) (m (((0 : Dev nD).tc : Thread nD τ).loc main_arg9)) (m (((0 : Dev nD).tc : Thread nD τ).loc main_arg10)) (m (((0 : Dev nD).tc : Thread nD τ).loc main_arg11)) (m (((0 : Dev nD).tc : Thread nD τ).loc main_arg12))

include hpre in
theorem facts_in : (env m).InOrder (ntl m) ∧ (∀ g < 8192, (IntOp.andi (IntOp.shrsi .scalar ((env m).tab g) 5#32) 7#32).toNat = (env m).blk g) ∧ ∀ g < 8192, ((env m).tab g).toNat < 2 ^ 31 := by
  have h := inOrder_of (F := Ideal) _ _ _ _ _ _ _ _ _ _ _ _ _ (hpre 0) (env m) (fun g hg => dif_pos hg)
  exact h

/-- What the points leave in the windows. -/
def aftV (w : Fin 13) (t : Fin (cfgA (adm m hpre)).N) (Y X : ((cfgA (adm m hpre)).win w).block.Idx → Elt Ideal ((cfgA (adm m hpre)).win w).elt) : Prop :=
  (w.val < 11 → X = Y)
  ∧ (∀ Z : S1024x256.Idx → EReal, w = 11 → HEq X Z → t.val + 1 = ntl m → ∀ (r : Fin 1024) (col : Fin 256), Z (ix2 r col) = total (env m) (col.val / 128) r.val (64 * ntl m) (col.val % 128))
  ∧ (∀ Z : S1024x128.Idx → EReal, w = 12 → HEq X Z → t.val + 1 = ntl m → ∀ (r : Fin 1024) (l : Fin 128), Z (ix2 r l) = total (env m) 2 r.val (64 * ntl m) l.val)

/-- What the scratch buffers hold after so many points. -/
def invV (n : ℕ) (S : Scr Ideal) : Prop :=
  1 ≤ n → Tabs (env m) (fun r l => (Memref.whole cc0_scratch0).view.read (Elt Ideal) S.s0 (ix2 r l)) (fun r l => (Memref.whole cc0_scratch1).view.read (Elt Ideal) S.s1 (ix2 r l)) (fun r l => (Memref.whole cc0_scratch3).view.read (Elt Ideal) S.s3 (ix2 r l)) (fun r l => (Memref.whole cc0_scratch4).view.read (Elt Ideal) S.s4 (ix2 r l)) (fun r l => (Memref.whole cc0_scratch6).view.read (Elt Ideal) S.s6 (ix2 r l)) ∧ SInv (env m) (fun q ρ l => (Memref.whole cc0_scratch8).view.read (Elt Ideal) S.s8 (ix3 q ρ l)) (fun q ρ l => (Memref.whole cc0_scratch7).view.read (Elt Ideal) S.s7 (ix3 q ρ l)) (64 * n)

theorem v5_at (c : Dev nD) (i j : Fin 256) : V₀ m c main_v5 (ix2 i j) = if i.val / 128 = j.val / 128 then (env m).w3 (i.val % 128) else 0 := by
  obtain rfl : c = 0 := Subsingleton.elim _ _
  have hz : FloatOps.ofBits (F := Ideal) .bf16 0x0000#16 = (0 : EReal) := Ideal.ofBits_zero .bf16
  have hw : (env m).w3 (i.val % 128) = m (0, Proc.devRef .tc main_arg9) (ix1 ⟨i.val % 128, Nat.mod_lt _ (by decide)⟩) := dif_pos (Nat.mod_lt _ (by decide))
  have hi := i.isLt
  have hj := j.isLt
  unfold V₀
  entry_read
  pointwise []
  after_results_simp
  pointwise []
  rw [hw]
  split_ifs <;> first | (exfalso; omega) | rfl | skip
  · exact congrArg (m (0, Proc.devRef .tc main_arg9)) (congrArg ix1 (Fin.ext (show i.val = i.val % 128 by omega)))
  all_goals
    refine Eq.trans ?_ (if_pos (by omega)).symm
    exact congrArg (m (0, Proc.devRef .tc main_arg9)) (congrArg ix1 (Fin.ext (show i.val - 128 = i.val % 128 by omega)))

theorem aftV_in (w : Fin 13) (hw : w.val < 11) (t Y X) (h : aftV m hpre w t Y X) : X = Y := h.1 hw

theorem aftV_refl (w : Fin 13) (hw : w.val < 11) (t Y) : aftV m hpre w t Y Y :=
  ⟨fun _ => rfl, fun _ h => absurd (congrArg Fin.val h) (by show w.val ≠ 11; omega), fun _ h => absurd (congrArg Fin.val h) (by show w.val ≠ 12; omega)⟩

theorem in_0 (t : Fin (cfgA (adm m hpre)).N) (Y) (h : (rdat (adm m hpre) (V₀ m) (aftV m hpre) (invV m) 0).Finds 0 t Y) (r : Fin 512) (l : Fin 128) : Y (ix2 r l) = (env m).hcode (512 * t.val + r.val) l.val :=
  ((win_0 m hpre _ _ 0 (aftV_in m hpre) t Y h r l).trans (congrFun (V₀_arg m 0 main_arg1 (by decide)) _)).trans (nat2_at _ (m (((0 : Dev nD).tc : Thread nD τ).loc main_arg1)) ⟨512 * t.val + r.val, by have := t_lt m hpre t; omega⟩ l).symm
theorem in_1 (t : Fin (cfgA (adm m hpre)).N) (Y) (h : (rdat (adm m hpre) (V₀ m) (aftV m hpre) (invV m) 0).Finds 1 t Y) (r : Fin 16) (l : Fin 128) : Y (ix2 r l) = (env m).hsc (16 * t.val + r.val) l.val :=
  ((win_1 m hpre _ _ 0 (aftV_in m hpre) t Y h r l).trans (congrFun (V₀_arg m 0 main_arg2 (by decide)) _)).trans (nat2_at _ (m (((0 : Dev nD).tc : Thread nD τ).loc main_arg2)) ⟨16 * t.val + r.val, by have := t_lt m hpre t; omega⟩ l).symm
theorem in_2 (t : Fin (cfgA (adm m hpre)).N) (Y) (h : (rdat (adm m hpre) (V₀ m) (aftV m hpre) (invV m) 0).Finds 2 t Y) (r : Fin 512) (l : Fin 128) : Y (ix2 r l) = (env m).tcode r.val l.val :=
  ((win_2 m hpre _ _ 0 (aftV_in m hpre) t Y h r l).trans (congrFun (V₀_arg m 0 main_arg3 (by decide)) _)).trans (nat2_at _ (m (((0 : Dev nD).tc : Thread nD τ).loc main_arg3)) ⟨65536 + r.val, by omega⟩ l).symm
theorem in_3 (t : Fin (cfgA (adm m hpre)).N) (Y) (h : (rdat (adm m hpre) (V₀ m) (aftV m hpre) (invV m) 0).Finds 3 t Y) (r : Fin 16) (l : Fin 128) : Y (ix2 r l) = (env m).tsc r.val l.val :=
  ((win_3 m hpre _ _ 0 (aftV_in m hpre) t Y h r l).trans (congrFun (V₀_arg m 0 main_arg4 (by decide)) _)).trans (nat2_at _ (m (((0 : Dev nD).tc : Thread nD τ).loc main_arg4)) ⟨2048 + r.val, by omega⟩ l).symm
theorem in_4 (t : Fin (cfgA (adm m hpre)).N) (Y) (h : (rdat (adm m hpre) (V₀ m) (aftV m hpre) (invV m) 0).Finds 4 t Y) (r : Fin 256) (l : Fin 256) : Y (ix2 r l) = (env m).w1t r.val l.val :=
  ((win_4 m hpre _ _ 0 (aftV_in m hpre) t Y h r l).trans (congrFun (V₀_arg m 0 main_arg6 (by decide)) _)).trans (nat2_at _ (m (((0 : Dev nD).tc : Thread nD τ).loc main_arg6)) r l).symm
theorem in_5 (t : Fin (cfgA (adm m hpre)).N) (Y) (h : (rdat (adm m hpre) (V₀ m) (aftV m hpre) (invV m) 0).Finds 5 t Y) (r : Fin 768) (l : Fin 256) : Y (ix2 r l) = (env m).w1 r.val l.val :=
  ((win_5 m hpre _ _ 0 (aftV_in m hpre) t Y h r l).trans (congrFun (V₀_arg m 0 main_arg7 (by decide)) _)).trans (nat2_at _ (m (((0 : Dev nD).tc : Thread nD τ).loc main_arg7)) r l).symm
theorem in_6 (t : Fin (cfgA (adm m hpre)).N) (Y) (h : (rdat (adm m hpre) (V₀ m) (aftV m hpre) (invV m) 0).Finds 6 t Y) (r : Fin 256) (l : Fin 128) : Y (ix2 r l) = (env m).w2 r.val l.val :=
  ((win_6 m hpre _ _ 0 (aftV_in m hpre) t Y h r l).trans (congrFun (V₀_arg m 0 main_arg8 (by decide)) _)).trans (nat2_at _ (m (((0 : Dev nD).tc : Thread nD τ).loc main_arg8)) r l).symm
theorem in_7 (t : Fin (cfgA (adm m hpre)).N) (Y) (h : (rdat (adm m hpre) (V₀ m) (aftV m hpre) (invV m) 0).Finds 7 t Y) (r l : Fin 256) : Y (ix2 r l) = if r.val / 128 = l.val / 128 then (env m).w3 (r.val % 128) else 0 :=
  (win_7 m hpre _ _ 0 (aftV_in m hpre) t Y h r l).trans (v5_at m 0 r l)
theorem in_8 (t : Fin (cfgA (adm m hpre)).N) (Y) (h : (rdat (adm m hpre) (V₀ m) (aftV m hpre) (invV m) 0).Finds 8 t Y) (l : Fin 256) : Y (ix2 (0 : Fin 1) l) = (env m).b1 l.val :=
  ((win_8 m hpre _ _ 0 (aftV_in m hpre) t Y h 0 l).trans (congrFun (V₀_arg m 0 main_arg10 (by decide)) _)).trans (nat2_at _ (m (((0 : Dev nD).tc : Thread nD τ).loc main_arg10)) 0 l).symm
theorem in_9 (t : Fin (cfgA (adm m hpre)).N) (Y) (h : (rdat (adm m hpre) (V₀ m) (aftV m hpre) (invV m) 0).Finds 9 t Y) (l : Fin 256) : Y (ix2 (0 : Fin 1) l) = (env m).a1 l.val :=
  ((win_9 m hpre _ _ 0 (aftV_in m hpre) t Y h 0 l).trans (congrFun (V₀_arg m 0 main_arg11 (by decide)) _)).trans (nat2_at _ (m (((0 : Dev nD).tc : Thread nD τ).loc main_arg11)) 0 l).symm
theorem in_10 (t : Fin (cfgA (adm m hpre)).N) (Y) (h : (rdat (adm m hpre) (V₀ m) (aftV m hpre) (invV m) 0).Finds 10 t Y) (l : Fin 128) : Y (ix2 (0 : Fin 1) l) = (env m).a2 l.val :=
  ((win_10 m hpre _ _ 0 (aftV_in m hpre) t Y h 0 l).trans (congrFun (V₀_arg m 0 main_arg12 (by decide)) _)).trans (nat2_at _ (m (((0 : Dev nD).tc : Thread nD τ).loc main_arg12)) 0 l).symm

/-- The body at every point, over what the points leave. -/
theorem body_ok (c : Dev nD) : (rdat (adm m hpre) (V₀ m) (aftV m hpre) (invV m) c).BodyObligation defs₀ Variants.none () Set.univ := by
  obtain rfl : c = 0 := Subsingleton.elim _ _
  obtain ⟨hI, hb, -⟩ := facts_in m hpre
  refine obligation _ _ _ _ 0 (hk2 m hpre) (hk3 m hpre) (hk1 m hpre) (aftV_refl m hpre) (fun t Y S hF hS => ?_)
  have ha0 : BitVec.ofNat 32 ((cfgA (adm m hpre)).grid.coords t 0).val = BitVec.ofNat 32 t.val := congrArg (BitVec.ofNat 32) (coord_eq m hpre t)
  have h1 : ∀ n : Fin 8192, (Memref.whole main_arg0).view.read (Elt Ideal) ((adm m hpre 0).1 1) (ix1 n) = (env m).tab n.val :=
    fun n => (congrFun (pf₀_1 m) (ix1 n)).trans (nat1_at _ (m (((0 : Dev nD).tc : Thread nD τ).loc main_arg0)) n).symm
  refine posts _ _ _ _ _ _ _ _ _ _ _ _ _ _ _ _ _ _ _ _ _ _ _ _ _ _ _ _ (env m) t.val (ntl m) hI (t_lt m hpre t) ha0 hb
    h1
    (fun r l => (congrFun (Memref.IsWhole.read_unread _ (Y 0)) (ix2 r l)).trans (in_0 m hpre t _ (hF 0) r l))
    (fun r l => (congrFun (Memref.IsWhole.read_unread _ (Y 1)) (ix2 r l)).trans (in_1 m hpre t _ (hF 1) r l))
    (fun r l => (congrFun (Memref.IsWhole.read_unread _ (Y 5)) (ix2 r l)).trans (in_5 m hpre t _ (hF 5) r l))
    (fun r l => (congrFun (Memref.IsWhole.read_unread _ (Y 6)) (ix2 r l)).trans (in_6 m hpre t _ (hF 6) r l))
    (fun r l => (congrFun (Memref.IsWhole.read_unread _ (Y 7)) (ix2 r l)).trans (in_7 m hpre t _ (hF 7) r l))
    (fun l => (congrFun (Memref.IsWhole.read_unread _ (Y 9)) (ix2 0 l)).trans (in_9 m hpre t _ (hF 9) l))
    (fun l => (congrFun (Memref.IsWhole.read_unread _ (Y 10)) (ix2 0 l)).trans (in_10 m hpre t _ (hF 10) l))
    (fun r l => (congrFun (Memref.IsWhole.read_unread _ (Y 2)) (ix2 r l)).trans (in_2 m hpre t _ (hF 2) r l))
    (fun r l => (congrFun (Memref.IsWhole.read_unread _ (Y 3)) (ix2 r l)).trans (in_3 m hpre t _ (hF 3) r l))
    (fun r l => (congrFun (Memref.IsWhole.read_unread _ (Y 4)) (ix2 r l)).trans (in_4 m hpre t _ (hF 4) r l))
    (fun l => (congrFun (Memref.IsWhole.read_unread _ (Y 8)) (ix2 0 l)).trans (in_8 m hpre t _ (hF 8) l))
    (fun h => hS (by omega)) _ (fun o13 o14 o15 o16 o17 o18 o19 o20 o21 o22 o23 o24 o25 h => ?_)
  obtain ⟨hT, hN, hL⟩ := h
  have hlast : t.val + 1 = ntl m → (k0_cond2 (BitVec.ofNat 32 ((cfgA (adm m hpre)).grid.coords t 0).val) (BitVec.ofNat 32 ((dynb0 (adm m hpre 0).1) 0)) = 1#1) := fun h => by
    rw [ha0]
    show k0_cond2 (BitVec.ofNat 32 t.val) (BitVec.ofNat 32 (ntl m)) = 1#1
    rw [← h]
    exact cond2_of ⟨t.val, t_lt m hpre t⟩
  refine ⟨⟨fun h => absurd h (by decide), fun Z _ hZ hl r col => ?_, fun _ h => absurd h (by decide)⟩, ⟨fun h => absurd h (by decide), fun _ h => absurd h (by decide), fun Z _ hZ hl r l => ?_⟩, fun _ => ⟨hT, hN⟩⟩
  · obtain rfl := eq_of_heq hZ
    refine ((hL (hlast hl)).1 r col).trans ?_
    have ha := hN.2
    rw [hl] at ha
    exact accs_total hI ha ⟨col.val / 128, by omega⟩ r ⟨col.val % 128, Nat.mod_lt _ (by decide)⟩
  · obtain rfl := eq_of_heq hZ
    refine ((hL (hlast hl)).2 r l).trans ?_
    have ha := hN.2
    rw [hl] at ha
    exact accs_total hI ha 2 r l

end

end Cert.Proof.KernelIdeal

end
-- ==== Proof.Final.lean ====
module

public import proofs.«01_k».proof.Defs
public import proofs.«01_k».proof.Proof.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_groups_in_order

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Spec Cert.Proof.Ref

set_option maxRecDepth 16384
set_option maxHeartbeats 4000000

/-- An output window of one block is written back at the last point alone. -/
theorem flush_last {sig : RefSig} {Λ : Labels} {cfg : Pipeline.Cfg sig Λ} (w : Fin cfg.W) (hout : (cfg.win w).isOut = true)
    (hix : ∀ t t', (cfg.win w).index t = (cfg.win w).index t') (t : Fin cfg.N) : (cfg.win w).flush t = true ↔ t.val + 1 = cfg.grid.N := by
  have hn : ¬ ∃ h : t.val + 1 < cfg.grid.N, (cfg.win w).index ⟨t.val + 1, h⟩ ≠ (cfg.win w).index t := fun ⟨h, hne⟩ => hne (hix _ _)
  unfold Pipeline.Window.flush
  rw [hout, decide_eq_false hn]
  simp

section
variable (m : (ℓ : Loc nD τ sig) → Buf (Elt Ideal) ℓ) (hpre : PreAt m)

/-- The last point. -/
abbrev tl : Fin (cfgA (adm m hpre)).N := ⟨ntl m - 1, by have := N_eq m hpre; have := (n_bounds m hpre).1; rw [N_eq m hpre]; exact Nat.sub_lt this Nat.one_pos⟩

include hpre in
theorem tl_succ : ntl m - 1 + 1 = ntl m := Nat.sub_add_cancel (n_bounds m hpre).1

theorem whole_11 : ((cfgA (adm m hpre)).win 11).WholeAt (tl m hpre) := by
  refine ⟨(flush_last 11 rfl (fun _ _ => rfl) _).2 ((tl_succ m hpre).trans (N_eq m hpre).symm), fun t ht => ?_, fun a => ?_⟩
  · have h1 := (flush_last 11 rfl (fun _ _ => rfl) t).1 ht
    have h2 := h1.trans (N_eq m hpre)
    exact Fin.ext (Nat.eq_sub_of_add_eq h2)
  · match a with
    | ⟨0, _⟩ => exact ⟨rfl, rfl⟩
    | ⟨1, _⟩ => exact ⟨rfl, rfl⟩

theorem whole_12 : ((cfgA (adm m hpre)).win 12).WholeAt (tl m hpre) := by
  refine ⟨(flush_last 12 rfl (fun _ _ => rfl) _).2 ((tl_succ m hpre).trans (N_eq m hpre).symm), fun t ht => ?_, fun a => ?_⟩
  · have h1 := (flush_last 12 rfl (fun _ _ => rfl) t).1 ht
    have h2 := h1.trans (N_eq m hpre)
    exact Fin.ext (Nat.eq_sub_of_add_eq h2)
  · match a with
    | ⟨0, _⟩ => exact ⟨rfl, rfl⟩
    | ⟨1, _⟩ => exact ⟨rfl, rfl⟩

theorem out_11 (r : PUnit × MemSt nD τ sig (Elt Ideal)) (h : Pipeline.RDat.FramePost (cfgA (adm m hpre)) (rdat (adm m hpre) (V₀ m) (aftV m hpre) (invV m)) (V₀ m) r) (b : Fin 1024) (col : Fin 256) :
    (r.2.mem (((0 : Dev nD).tc : Thread nD τ).loc main_v6_0) : S1024x256.Idx → EReal) (ix2 b col) = total (env m) (col.val / 128) b.val (64 * ntl m) (col.val % 128) := by
  obtain ⟨X, ⟨Y, -, hA⟩, hj⟩ := ((h 0).1 11).emb_eq_of_wholeAt (whole_11 m hpre)
  refine (hj (ix2 b col)).trans ?_
  exact hA.2.1 X rfl HEq.rfl (tl_succ m hpre) b col

theorem out_12 (r : PUnit × MemSt nD τ sig (Elt Ideal)) (h : Pipeline.RDat.FramePost (cfgA (adm m hpre)) (rdat (adm m hpre) (V₀ m) (aftV m hpre) (invV m)) (V₀ m) r) (b : Fin 1024) (col : Fin 128) :
    (r.2.mem (((0 : Dev nD).tc : Thread nD τ).loc main_v6_1) : S1024x128.Idx → EReal) (ix2 b col) = total (env m) 2 b.val (64 * ntl m) col.val := by
  obtain ⟨X, ⟨Y, -, hA⟩, hj⟩ := ((h 0).1 12).emb_eq_of_wholeAt (whole_12 m hpre)
  refine (hj (ix2 b col)).trans ?_
  exact hA.2.2 X rfl HEq.rfl (tl_succ m hpre) b col

/-- The kernel's results are the reference's. -/
theorem value_out (r : PUnit × MemSt nD τ sig (Elt Ideal)) (h : Pipeline.RDat.FramePost (cfgA (adm m hpre)) (rdat (adm m hpre) (V₀ m) (aftV m hpre) (invV m)) (V₀ m) r) (c : Dev nD) :
    r.2.mem ((c.tc : Thread nD τ).loc main_v6_0) = Cert.ReferenceIdeal.Read.val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
    ∧ r.2.mem ((c.tc : Thread nD τ).loc main_v6_1) = Cert.ReferenceIdeal.Read.val_main_v145 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  obtain rfl : c = 0 := Subsingleton.elim _ _
  obtain ⟨hI, hb, -⟩ := facts_in m hpre
  have hn : (m (((0 : Dev nD).tc : Thread nD τ).loc main_arg5)) (fun a => a.elim0) = BitVec.ofNat 32 (ntl m) := by
    refine BitVec.eq_of_toNat_eq ((BitVec.toNat_ofNat _ _).trans (Nat.mod_eq_of_lt ?_)).symm
    exact lt_of_le_of_lt (n_bounds m hpre).2 (by decide)
  constructor
  · funext j
    obtain ⟨b, col, rfl⟩ : ∃ (b : Fin 1024) (col : Fin 256), j = ix2 b col := ⟨j 0, j 1, eq2 j _ _ rfl rfl⟩
    exact (out_11 m hpre r h b col).trans (interest_at (m (((0 : Dev nD).tc : Thread nD τ).loc main_arg0)) (m (((0 : Dev nD).tc : Thread nD τ).loc main_arg1)) (m (((0 : Dev nD).tc : Thread nD τ).loc main_arg2)) (m (((0 : Dev nD).tc : Thread nD τ).loc main_arg3)) (m (((0 : Dev nD).tc : Thread nD τ).loc main_arg4)) (m (((0 : Dev nD).tc : Thread nD τ).loc main_arg5)) (m (((0 : Dev nD).tc : Thread nD τ).loc main_arg6)) (m (((0 : Dev nD).tc : Thread nD τ).loc main_arg7)) (m (((0 : Dev nD).tc : Thread nD τ).loc main_arg8)) (m (((0 : Dev nD).tc : Thread nD τ).loc main_arg9)) (m (((0 : Dev nD).tc : Thread nD τ).loc main_arg10)) (m (((0 : Dev nD).tc : Thread nD τ).loc main_arg11)) (m (((0 : Dev nD).tc : Thread nD τ).loc main_arg12)) (ntl m) hI hn b col).symm
  · funext j
    obtain ⟨b, col, rfl⟩ : ∃ (b : Fin 1024) (col : Fin 128), j = ix2 b col := ⟨j 0, j 1, eq2 j _ _ rfl rfl⟩
    exact (out_12 m hpre r h b col).trans (scores_at (m (((0 : Dev nD).tc : Thread nD τ).loc main_arg0)) (m (((0 : Dev nD).tc : Thread nD τ).loc main_arg1)) (m (((0 : Dev nD).tc : Thread nD τ).loc main_arg2)) (m (((0 : Dev nD).tc : Thread nD τ).loc main_arg3)) (m (((0 : Dev nD).tc : Thread nD τ).loc main_arg4)) (m (((0 : Dev nD).tc : Thread nD τ).loc main_arg5)) (m (((0 : Dev nD).tc : Thread nD τ).loc main_arg6)) (m (((0 : Dev nD).tc : Thread nD τ).loc main_arg7)) (m (((0 : Dev nD).tc : Thread nD τ).loc main_arg8)) (m (((0 : Dev nD).tc : Thread nD τ).loc main_arg9)) (m (((0 : Dev nD).tc : Thread nD τ).loc main_arg10)) (m (((0 : Dev nD).tc : Thread nD τ).loc main_arg11)) (m (((0 : Dev nD).tc : Thread nD τ).loc main_arg12)) (ntl m) hI hb hn b col).symm

end

local instance : Cert.KernelIdeal.Facts := Cert.KernelIdeal.Gen.facts
local instance : Cert.ReferenceIdeal.Facts := Cert.ReferenceIdeal.Gen.facts
local instance : Cert.Pre_groups_in_order.Facts := Cert.Pre_groups_in_order.Gen.facts

/-- The kernel and the reference, at the exact instance, end with equal results. -/
theorem algebraic : Cert.algebraic_KernelIdeal_ReferenceIdeal := by
  intro m g m' g' hpre hm
  refine ⟨fun c => Cert.ReferenceIdeal.Read.val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)), fun c => Cert.ReferenceIdeal.Read.val_main_v145 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)), ?_, ?_⟩
  · refine (θ_run _ _ _).mono (fun r h c => ?_) (launch m hpre g (aftV m hpre) (invV m) (fun _ h => absurd h (by decide)) (body_ok m hpre))
    have hv := value_out m hpre r h.1 c
    exact ⟨hv.1, hv.2, args_of_post m hpre _ _ r h.1 c⟩
  · refine (θ_run _ _ _).mono (fun r h c => ?_) (Cert.ReferenceIdeal.Value.run (F := Ideal) m' g')
    obtain ⟨h0, h1, ha⟩ := h c
    obtain ⟨e0, e1, e2, e3, e4, e5, e6, e7, e8, e9, e10, e11, e12⟩ := hm c
    refine ⟨h0.trans ?_, h1.trans ?_, ha⟩
    · refine (Cert.ReferenceIdeal.Read.val_main_v119_eq (F := Ideal) (StableHlo.launchContents m' c)).trans ?_
      show Cert.ReferenceIdeal.Read.val_main_v119 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = Cert.ReferenceIdeal.Read.val_main_v119 (F := Ideal) _ _ _ _ _ _ _ _ _ _ _ _ _
      rw [e0, e1, e2, e3, e4, e5, e6, e7, e8, e9, e10, e11, e12]
    · refine (Cert.ReferenceIdeal.Read.val_main_v145_eq (F := Ideal) (StableHlo.launchContents m' c)).trans ?_
      show Cert.ReferenceIdeal.Read.val_main_v145 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = Cert.ReferenceIdeal.Read.val_main_v145 (F := Ideal) _ _ _ _ _ _ _ _ _ _ _ _ _
      rw [e0, e1, e2, e3, e4, e5, e6, e7, e8, e9, e10, e11, e12]

/-- The reference runs, and leaves its arguments and the counters as they were. -/
theorem frame_ref : Cert.quiescent_ReferenceIdeal := fun m g _ =>
  (θ_run _ _ _).mono (fun r h => ⟨fun c => (h c).2.2, funext fun s => match s with | (_, .reg x) => x.elim0 | (_, .dma x) => x.elim0⟩) (Cert.ReferenceIdeal.Value.run (F := Ideal) m g)

end Cert.Proof.KernelIdeal

end
-- ==== Proof.lean ====
module

public import proofs.«01_k».proof.Defs
public import proofs.«01_k».proof.Proof.Gen.Kernel
public import proofs.«01_k».proof.Proof.Gen.KernelIdeal
public import proofs.«01_k».proof.Proof.Gen.Pre_groups_in_order
public import proofs.«01_k».proof.Proof.Gen.ReferenceIdeal
public import proofs.«01_k».proof.Proof.Machine
public import proofs.«01_k».proof.Proof.Final

@[expose] public section

noncomputable section

namespace Cert.Proof

theorem claim : Cert.Claim :=
  ⟨Cert.Kernel.Gen.facts, Cert.KernelIdeal.Gen.facts, Cert.ReferenceIdeal.Gen.facts, Cert.Pre_groups_in_order.Gen.facts,
    frame_machine, fun m g h => KernelIdeal.frame m h g, KernelIdeal.frame_ref, trivial, KernelIdeal.algebraic⟩

end Cert.Proof

end
